-- ==== Defs.lean ====
def Pre_Kernel [hPre_idx_in_grid : Cert.Pre_idx_in_grid.Facts] (m : (ℓ : Loc Cert.Kernel.nD Cert.Kernel.τ Cert.Kernel.sig) → Buf (Elt Bits) ℓ) : Prop :=
  ∀ c : Dev Cert.Kernel.nD,
    (Cert.Pre_idx_in_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_idx_in_grid : Cert.Pre_idx_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_grid [hPre_idx_in_grid : Cert.Pre_idx_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Precompute (m : (ℓ : Loc Cert.Precompute.nD Cert.Precompute.τ Cert.Precompute.sig) → Buf (Elt Bits) ℓ) : Prop :=
  True

def Pre_PrecomputeIdeal (m : (ℓ : Loc Cert.PrecomputeIdeal.nD Cert.PrecomputeIdeal.τ Cert.PrecomputeIdeal.sig) → Buf (Elt Ideal) ℓ) : Prop :=
  True

def Pre_MarchIdeal (m : (ℓ : Loc Cert.MarchIdeal.nD Cert.MarchIdeal.τ Cert.MarchIdeal.sig) → Buf (Elt Ideal) ℓ) : Prop :=
  True

def Pre_Interleave (m : (ℓ : Loc Cert.Interleave.nD Cert.Interleave.τ Cert.Interleave.sig) → Buf (Elt Bits) ℓ) : Prop :=
  True

def Pre_InterleaveIdeal (m : (ℓ : Loc Cert.InterleaveIdeal.nD Cert.InterleaveIdeal.τ Cert.InterleaveIdeal.sig) → Buf (Elt Ideal) ℓ) : Prop :=
  True

def Pre_PackIdeal (m : (ℓ : Loc Cert.PackIdeal.nD Cert.PackIdeal.τ Cert.PackIdeal.sig) → Buf (Elt Ideal) ℓ) : Prop :=
  True

def quiescent_Kernel [hKernel : Cert.Kernel.Facts] [hPre_idx_in_grid : Cert.Pre_idx_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_idx_in_grid : Cert.Pre_idx_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_idx_in_grid [hReferenceIdeal : Cert.ReferenceIdeal.Facts] [hPre_idx_in_grid : Cert.Pre_idx_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Precompute [hPrecompute : Cert.Precompute.Facts] : Prop :=
  ∀ (m : (ℓ : Loc Cert.Precompute.nD Cert.Precompute.τ Cert.Precompute.sig) → Buf (Elt Bits) ℓ) (g : Dev Cert.Precompute.nD → PrngReg), Pre_Precompute m →
    θ_run (Cert.Precompute.defs (F := Bits)) (onTc (τ := Cert.Precompute.τ) (Cert.Precompute.main (F := Bits))) ⟨m, fun _ => 0, g⟩ (fun r => (∀ c : Dev Cert.Precompute.nD,
      r.2.mem ((c.tc : Thread Cert.Precompute.nD Cert.Precompute.τ).loc Cert.Precompute.main_arg0) = m ((c.tc : Thread Cert.Precompute.nD Cert.Precompute.τ).loc Cert.Precompute.main_arg0)
      ∧ r.2.mem ((c.tc : Thread Cert.Precompute.nD Cert.Precompute.τ).loc Cert.Precompute.main_arg1) = m ((c.tc : Thread Cert.Precompute.nD Cert.Precompute.τ).loc Cert.Precompute.main_arg1)
      ∧ r.2.mem ((c.tc : Thread Cert.Precompute.nD Cert.Precompute.τ).loc Cert.Precompute.main_arg2) = m ((c.tc : Thread Cert.Precompute.nD Cert.Precompute.τ).loc Cert.Precompute.main_arg2)
      ∧ r.2.mem ((c.tc : Thread Cert.Precompute.nD Cert.Precompute.τ).loc Cert.Precompute.main_arg3) = m ((c.tc : Thread Cert.Precompute.nD Cert.Precompute.τ).loc Cert.Precompute.main_arg3))
      ∧ r.2.sem = fun _ => 0)

def quiescent_PrecomputeIdeal [hPrecomputeIdeal : Cert.PrecomputeIdeal.Facts] : Prop :=
  ∀ (m : (ℓ : Loc Cert.PrecomputeIdeal.nD Cert.PrecomputeIdeal.τ Cert.PrecomputeIdeal.sig) → Buf (Elt Ideal) ℓ) (g : Dev Cert.PrecomputeIdeal.nD → PrngReg), Pre_PrecomputeIdeal m →
    θ_run (Cert.PrecomputeIdeal.defs (F := Ideal)) (onTc (τ := Cert.PrecomputeIdeal.τ) (Cert.PrecomputeIdeal.main (F := Ideal))) ⟨m, fun _ => 0, g⟩ (fun r => (∀ c : Dev Cert.PrecomputeIdeal.nD,
      r.2.mem ((c.tc : Thread Cert.PrecomputeIdeal.nD Cert.PrecomputeIdeal.τ).loc Cert.PrecomputeIdeal.main_arg0) = m ((c.tc : Thread Cert.PrecomputeIdeal.nD Cert.PrecomputeIdeal.τ).loc Cert.PrecomputeIdeal.main_arg0)
      ∧ r.2.mem ((c.tc : Thread Cert.PrecomputeIdeal.nD Cert.PrecomputeIdeal.τ).loc Cert.PrecomputeIdeal.main_arg1) = m ((c.tc : Thread Cert.PrecomputeIdeal.nD Cert.PrecomputeIdeal.τ).loc Cert.PrecomputeIdeal.main_arg1)
      ∧ r.2.mem ((c.tc : Thread Cert.PrecomputeIdeal.nD Cert.PrecomputeIdeal.τ).loc Cert.PrecomputeIdeal.main_arg2) = m ((c.tc : Thread Cert.PrecomputeIdeal.nD Cert.PrecomputeIdeal.τ).loc Cert.PrecomputeIdeal.main_arg2)
      ∧ r.2.mem ((c.tc : Thread Cert.PrecomputeIdeal.nD Cert.PrecomputeIdeal.τ).loc Cert.PrecomputeIdeal.main_arg3) = m ((c.tc : Thread Cert.PrecomputeIdeal.nD Cert.PrecomputeIdeal.τ).loc Cert.PrecomputeIdeal.main_arg3))
      ∧ r.2.sem = fun _ => 0)

def quiescent_MarchIdeal [hMarchIdeal : Cert.MarchIdeal.Facts] : Prop :=
  ∀ (m : (ℓ : Loc Cert.MarchIdeal.nD Cert.MarchIdeal.τ Cert.MarchIdeal.sig) → Buf (Elt Ideal) ℓ) (g : Dev Cert.MarchIdeal.nD → PrngReg), Pre_MarchIdeal m →
    θ_run (Cert.MarchIdeal.defs (F := Ideal)) (onTc (τ := Cert.MarchIdeal.τ) (Cert.MarchIdeal.main (F := Ideal))) ⟨m, fun _ => 0, g⟩ (fun r => (∀ c : Dev Cert.MarchIdeal.nD,
      r.2.mem ((c.tc : Thread Cert.MarchIdeal.nD Cert.MarchIdeal.τ).loc Cert.MarchIdeal.main_arg0) = m ((c.tc : Thread Cert.MarchIdeal.nD Cert.MarchIdeal.τ).loc Cert.MarchIdeal.main_arg0)
      ∧ r.2.mem ((c.tc : Thread Cert.MarchIdeal.nD Cert.MarchIdeal.τ).loc Cert.MarchIdeal.main_arg1) = m ((c.tc : Thread Cert.MarchIdeal.nD Cert.MarchIdeal.τ).loc Cert.MarchIdeal.main_arg1)
      ∧ r.2.mem ((c.tc : Thread Cert.MarchIdeal.nD Cert.MarchIdeal.τ).loc Cert.MarchIdeal.main_arg2) = m ((c.tc : Thread Cert.MarchIdeal.nD Cert.MarchIdeal.τ).loc Cert.MarchIdeal.main_arg2)
      ∧ r.2.mem ((c.tc : Thread Cert.MarchIdeal.nD Cert.MarchIdeal.τ).loc Cert.MarchIdeal.main_arg3) = m ((c.tc : Thread Cert.MarchIdeal.nD Cert.MarchIdeal.τ).loc Cert.MarchIdeal.main_arg3))
      ∧ r.2.sem = fun _ => 0)

def quiescent_Interleave [hInterleave : Cert.Interleave.Facts] : Prop :=
  ∀ (m : (ℓ : Loc Cert.Interleave.nD Cert.Interleave.τ Cert.Interleave.sig) → Buf (Elt Bits) ℓ) (g : Dev Cert.Interleave.nD → PrngReg), Pre_Interleave m →
    θ_run (Cert.Interleave.defs (F := Bits)) (onTc (τ := Cert.Interleave.τ) (Cert.Interleave.main (F := Bits))) ⟨m, fun _ => 0, g⟩ (fun r => (∀ c : Dev Cert.Interleave.nD,
      r.2.mem ((c.tc : Thread Cert.Interleave.nD Cert.Interleave.τ).loc Cert.Interleave.main_arg0) = m ((c.tc : Thread Cert.Interleave.nD Cert.Interleave.τ).loc Cert.Interleave.main_arg0)
      ∧ r.2.mem ((c.tc : Thread Cert.Interleave.nD Cert.Interleave.τ).loc Cert.Interleave.main_arg1) = m ((c.tc : Thread Cert.Interleave.nD Cert.Interleave.τ).loc Cert.Interleave.main_arg1)
      ∧ r.2.mem ((c.tc : Thread Cert.Interleave.nD Cert.Interleave.τ).loc Cert.Interleave.main_arg2) = m ((c.tc : Thread Cert.Interleave.nD Cert.Interleave.τ).loc Cert.Interleave.main_arg2)
      ∧ r.2.mem ((c.tc : Thread Cert.Interleave.nD Cert.Interleave.τ).loc Cert.Interleave.main_arg3) = m ((c.tc : Thread Cert.Interleave.nD Cert.Interleave.τ).loc Cert.Interleave.main_arg3)
      ∧ r.2.mem ((c.tc : Thread Cert.Interleave.nD Cert.Interleave.τ).loc Cert.Interleave.main_arg4) = m ((c.tc : Thread Cert.Interleave.nD Cert.Interleave.τ).loc Cert.Interleave.main_arg4)
      ∧ r.2.mem ((c.tc : Thread Cert.Interleave.nD Cert.Interleave.τ).loc Cert.Interleave.main_arg5) = m ((c.tc : Thread Cert.Interleave.nD Cert.Interleave.τ).loc Cert.Interleave.main_arg5)
      ∧ r.2.mem ((c.tc : Thread Cert.Interleave.nD Cert.Interleave.τ).loc Cert.Interleave.main_arg6) = m ((c.tc : Thread Cert.Interleave.nD Cert.Interleave.τ).loc Cert.Interleave.main_arg6)
      ∧ r.2.mem ((c.tc : Thread Cert.Interleave.nD Cert.Interleave.τ).loc Cert.Interleave.main_arg7) = m ((c.tc : Thread Cert.Interleave.nD Cert.Interleave.τ).loc Cert.Interleave.main_arg7)
      ∧ r.2.mem ((c.tc : Thread Cert.Interleave.nD Cert.Interleave.τ).loc Cert.Interleave.main_arg8) = m ((c.tc : Thread Cert.Interleave.nD Cert.Interleave.τ).loc Cert.Interleave.main_arg8))
      ∧ r.2.sem = fun _ => 0)

def quiescent_InterleaveIdeal [hInterleaveIdeal : Cert.InterleaveIdeal.Facts] : Prop :=
  ∀ (m : (ℓ : Loc Cert.InterleaveIdeal.nD Cert.InterleaveIdeal.τ Cert.InterleaveIdeal.sig) → Buf (Elt Ideal) ℓ) (g : Dev Cert.InterleaveIdeal.nD → PrngReg), Pre_InterleaveIdeal m →
    θ_run (Cert.InterleaveIdeal.defs (F := Ideal)) (onTc (τ := Cert.InterleaveIdeal.τ) (Cert.InterleaveIdeal.main (F := Ideal))) ⟨m, fun _ => 0, g⟩ (fun r => (∀ c : Dev Cert.InterleaveIdeal.nD,
      r.2.mem ((c.tc : Thread Cert.InterleaveIdeal.nD Cert.InterleaveIdeal.τ).loc Cert.InterleaveIdeal.main_arg0) = m ((c.tc : Thread Cert.InterleaveIdeal.nD Cert.InterleaveIdeal.τ).loc Cert.InterleaveIdeal.main_arg0)
      ∧ r.2.mem ((c.tc : Thread Cert.InterleaveIdeal.nD Cert.InterleaveIdeal.τ).loc Cert.InterleaveIdeal.main_arg1) = m ((c.tc : Thread Cert.InterleaveIdeal.nD Cert.InterleaveIdeal.τ).loc Cert.InterleaveIdeal.main_arg1)
      ∧ r.2.mem ((c.tc : Thread Cert.InterleaveIdeal.nD Cert.InterleaveIdeal.τ).loc Cert.InterleaveIdeal.main_arg2) = m ((c.tc : Thread Cert.InterleaveIdeal.nD Cert.InterleaveIdeal.τ).loc Cert.InterleaveIdeal.main_arg2)
      ∧ r.2.mem ((c.tc : Thread Cert.InterleaveIdeal.nD Cert.InterleaveIdeal.τ).loc Cert.InterleaveIdeal.main_arg3) = m ((c.tc : Thread Cert.InterleaveIdeal.nD Cert.InterleaveIdeal.τ).loc Cert.InterleaveIdeal.main_arg3)
      ∧ r.2.mem ((c.tc : Thread Cert.InterleaveIdeal.nD Cert.InterleaveIdeal.τ).loc Cert.InterleaveIdeal.main_arg4) = m ((c.tc : Thread Cert.InterleaveIdeal.nD Cert.InterleaveIdeal.τ).loc Cert.InterleaveIdeal.main_arg4)
      ∧ r.2.mem ((c.tc : Thread Cert.InterleaveIdeal.nD Cert.InterleaveIdeal.τ).loc Cert.InterleaveIdeal.main_arg5) = m ((c.tc : Thread Cert.InterleaveIdeal.nD Cert.InterleaveIdeal.τ).loc Cert.InterleaveIdeal.main_arg5)
      ∧ r.2.mem ((c.tc : Thread Cert.InterleaveIdeal.nD Cert.InterleaveIdeal.τ).loc Cert.InterleaveIdeal.main_arg6) = m ((c.tc : Thread Cert.InterleaveIdeal.nD Cert.InterleaveIdeal.τ).loc Cert.InterleaveIdeal.main_arg6)
      ∧ r.2.mem ((c.tc : Thread Cert.InterleaveIdeal.nD Cert.InterleaveIdeal.τ).loc Cert.InterleaveIdeal.main_arg7) = m ((c.tc : Thread Cert.InterleaveIdeal.nD Cert.InterleaveIdeal.τ).loc Cert.InterleaveIdeal.main_arg7)
      ∧ r.2.mem ((c.tc : Thread Cert.InterleaveIdeal.nD Cert.InterleaveIdeal.τ).loc Cert.InterleaveIdeal.main_arg8) = m ((c.tc : Thread Cert.InterleaveIdeal.nD Cert.InterleaveIdeal.τ).loc Cert.InterleaveIdeal.main_arg8))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
      ∧ r.2.mem ((c.tc : Thread Cert.PackIdeal.nD Cert.PackIdeal.τ).loc Cert.PackIdeal.main_arg8) = m ((c.tc : Thread Cert.PackIdeal.nD Cert.PackIdeal.τ).loc Cert.PackIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_grid : Cert.Pre_idx_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)) (v8 : (c : Dev Cert.KernelIdeal.nD) → Buf (Elt Ideal) ((c.tc : Thread Cert.KernelIdeal.nD Cert.KernelIdeal.τ).loc Cert.KernelIdeal.main_v8)) (v9 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_v8) = v8 c
          ∧ r.2.mem ((c.tc : Thread Cert.KernelIdeal.nD Cert.KernelIdeal.τ).loc Cert.KernelIdeal.main_v2_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_v61) = v6 c
          ∧ r.2.mem ((c.tc : Thread Cert.ReferenceIdeal.nD Cert.ReferenceIdeal.τ).loc Cert.ReferenceIdeal.main_v63) = v7 c
          ∧ r.2.mem ((c.tc : Thread Cert.ReferenceIdeal.nD Cert.ReferenceIdeal.τ).loc Cert.ReferenceIdeal.main_v19) = v8 c
          ∧ r.2.mem ((c.tc : Thread Cert.ReferenceIdeal.nD Cert.ReferenceIdeal.τ).loc Cert.ReferenceIdeal.main_v12) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Precompute_PrecomputeIdeal : Prop :=
  True

def algebraic_PrecomputeIdeal_MarchIdeal [hPrecomputeIdeal : Cert.PrecomputeIdeal.Facts] [hMarchIdeal : Cert.MarchIdeal.Facts] : Prop :=
  ∀ (m : (ℓ : Loc Cert.PrecomputeIdeal.nD Cert.PrecomputeIdeal.τ Cert.PrecomputeIdeal.sig) → Buf (Elt Ideal) ℓ) (g : Dev Cert.PrecomputeIdeal.nD → PrngReg)
    (m' : (ℓ : Loc Cert.MarchIdeal.nD Cert.MarchIdeal.τ Cert.MarchIdeal.sig) → Buf (Elt Ideal) ℓ) (g' : Dev Cert.MarchIdeal.nD → PrngReg), Pre_PrecomputeIdeal m →
    (∀ c : Dev Cert.PrecomputeIdeal.nD,
      m' ((c.tc : Thread Cert.MarchIdeal.nD Cert.MarchIdeal.τ).loc Cert.MarchIdeal.main_arg0) = m ((c.tc : Thread Cert.PrecomputeIdeal.nD Cert.PrecomputeIdeal.τ).loc Cert.PrecomputeIdeal.main_arg0)
      ∧ m' ((c.tc : Thread Cert.MarchIdeal.nD Cert.MarchIdeal.τ).loc Cert.MarchIdeal.main_arg1) = m ((c.tc : Thread Cert.PrecomputeIdeal.nD Cert.PrecomputeIdeal.τ).loc Cert.PrecomputeIdeal.main_arg1)
      ∧ m' ((c.tc : Thread Cert.MarchIdeal.nD Cert.MarchIdeal.τ).loc Cert.MarchIdeal.main_arg2) = m ((c.tc : Thread Cert.PrecomputeIdeal.nD Cert.PrecomputeIdeal.τ).loc Cert.PrecomputeIdeal.main_arg2)
      ∧ m' ((c.tc : Thread Cert.MarchIdeal.nD Cert.MarchIdeal.τ).loc Cert.MarchIdeal.main_arg3) = m ((c.tc : Thread Cert.PrecomputeIdeal.nD Cert.PrecomputeIdeal.τ).loc Cert.PrecomputeIdeal.main_arg3)) →
    ∃ (v0 : (c : Dev Cert.PrecomputeIdeal.nD) → Buf (Elt Ideal) ((c.tc : Thread Cert.PrecomputeIdeal.nD Cert.PrecomputeIdeal.τ).loc Cert.PrecomputeIdeal.main_v6_0)) (v1 : (c : Dev Cert.PrecomputeIdeal.nD) → Buf (Elt Ideal) ((c.tc : Thread Cert.PrecomputeIdeal.nD Cert.PrecomputeIdeal.τ).loc Cert.PrecomputeIdeal.main_v6_1)) (v2 : (c : Dev Cert.PrecomputeIdeal.nD) → Buf (Elt Ideal) ((c.tc : Thread Cert.PrecomputeIdeal.nD Cert.PrecomputeIdeal.τ).loc Cert.PrecomputeIdeal.main_v6_2)) (v3 : (c : Dev Cert.PrecomputeIdeal.nD) → Buf (Elt Ideal) ((c.tc : Thread Cert.PrecomputeIdeal.nD Cert.PrecomputeIdeal.τ).loc Cert.PrecomputeIdeal.main_v6_3)) (v4 : (c : Dev Cert.PrecomputeIdeal.nD) → Buf (Elt Ideal) ((c.tc : Thread Cert.PrecomputeIdeal.nD Cert.PrecomputeIdeal.τ).loc Cert.PrecomputeIdeal.main_v6_4)) (v5 : (c : Dev Cert.PrecomputeIdeal.nD) → Buf (Elt Ideal) ((c.tc : Thread Cert.PrecomputeIdeal.nD Cert.PrecomputeIdeal.τ).loc Cert.PrecomputeIdeal.main_v6_5)),
      θ_run (Cert.PrecomputeIdeal.defs (F := Ideal)) (onTc (τ := Cert.PrecomputeIdeal.τ) (Cert.PrecomputeIdeal.main (F := Ideal))) ⟨m, fun _ => 0, g⟩ (fun r => ∀ c : Dev Cert.PrecomputeIdeal.nD,
          r.2.mem ((c.tc : Thread Cert.PrecomputeIdeal.nD Cert.PrecomputeIdeal.τ).loc Cert.PrecomputeIdeal.main_v6_0) = v0 c
          ∧ r.2.mem ((c.tc : Thread Cert.PrecomputeIdeal.nD Cert.PrecomputeIdeal.τ).loc Cert.PrecomputeIdeal.main_v6_1) = v1 c
          ∧ r.2.mem ((c.tc : Thread Cert.PrecomputeIdeal.nD Cert.PrecomputeIdeal.τ).loc Cert.PrecomputeIdeal.main_v6_2) = v2 c
          ∧ r.2.mem ((c.tc : Thread Cert.PrecomputeIdeal.nD Cert.PrecomputeIdeal.τ).loc Cert.PrecomputeIdeal.main_v6_3) = v3 c
          ∧ r.2.mem ((c.tc : Thread Cert.PrecomputeIdeal.nD Cert.PrecomputeIdeal.τ).loc Cert.PrecomputeIdeal.main_v6_4) = v4 c
          ∧ r.2.mem ((c.tc : Thread Cert.PrecomputeIdeal.nD Cert.PrecomputeIdeal.τ).loc Cert.PrecomputeIdeal.main_v6_5) = v5 c
          ∧ r.2.mem ((c.tc : Thread Cert.PrecomputeIdeal.nD Cert.PrecomputeIdeal.τ).loc Cert.PrecomputeIdeal.main_arg0) = m ((c.tc : Thread Cert.PrecomputeIdeal.nD Cert.PrecomputeIdeal.τ).loc Cert.PrecomputeIdeal.main_arg0)
          ∧ r.2.mem ((c.tc : Thread Cert.PrecomputeIdeal.nD Cert.PrecomputeIdeal.τ).loc Cert.PrecomputeIdeal.main_arg1) = m ((c.tc : Thread Cert.PrecomputeIdeal.nD Cert.PrecomputeIdeal.τ).loc Cert.PrecomputeIdeal.main_arg1)
          ∧ r.2.mem ((c.tc : Thread Cert.PrecomputeIdeal.nD Cert.PrecomputeIdeal.τ).loc Cert.PrecomputeIdeal.main_arg2) = m ((c.tc : Thread Cert.PrecomputeIdeal.nD Cert.PrecomputeIdeal.τ).loc Cert.PrecomputeIdeal.main_arg2)
          ∧ r.2.mem ((c.tc : Thread Cert.PrecomputeIdeal.nD Cert.PrecomputeIdeal.τ).loc Cert.PrecomputeIdeal.main_arg3) = m ((c.tc : Thread Cert.PrecomputeIdeal.nD Cert.PrecomputeIdeal.τ).loc Cert.PrecomputeIdeal.main_arg3))
      ∧ θ_run (Cert.MarchIdeal.defs (F := Ideal)) (onTc (τ := Cert.MarchIdeal.τ) (Cert.MarchIdeal.main (F := Ideal))) ⟨m', fun _ => 0, g'⟩ (fun r => ∀ c : Dev Cert.MarchIdeal.nD,
          r.2.mem ((c.tc : Thread Cert.MarchIdeal.nD Cert.MarchIdeal.τ).loc Cert.MarchIdeal.main_v101) = v0 c
          ∧ r.2.mem ((c.tc : Thread Cert.MarchIdeal.nD Cert.MarchIdeal.τ).loc Cert.MarchIdeal.main_v102) = v1 c
          ∧ r.2.mem ((c.tc : Thread Cert.MarchIdeal.nD Cert.MarchIdeal.τ).loc Cert.MarchIdeal.main_v100) = v2 c
          ∧ r.2.mem ((c.tc : Thread Cert.MarchIdeal.nD Cert.MarchIdeal.τ).loc Cert.MarchIdeal.main_v83) = v3 c
          ∧ r.2.mem ((c.tc : Thread Cert.MarchIdeal.nD Cert.MarchIdeal.τ).loc Cert.MarchIdeal.main_v97) = v4 c
          ∧ r.2.mem ((c.tc : Thread Cert.MarchIdeal.nD Cert.MarchIdeal.τ).loc Cert.MarchIdeal.main_v45) = v5 c
          ∧ r.2.mem ((c.tc : Thread Cert.MarchIdeal.nD Cert.MarchIdeal.τ).loc Cert.MarchIdeal.main_arg0) = m' ((c.tc : Thread Cert.MarchIdeal.nD Cert.MarchIdeal.τ).loc Cert.MarchIdeal.main_arg0)
          ∧ r.2.mem ((c.tc : Thread Cert.MarchIdeal.nD Cert.MarchIdeal.τ).loc Cert.MarchIdeal.main_arg1) = m' ((c.tc : Thread Cert.MarchIdeal.nD Cert.MarchIdeal.τ).loc Cert.MarchIdeal.main_arg1)
          ∧ r.2.mem ((c.tc : Thread Cert.MarchIdeal.nD Cert.MarchIdeal.τ).loc Cert.MarchIdeal.main_arg2) = m' ((c.tc : Thread Cert.MarchIdeal.nD Cert.MarchIdeal.τ).loc Cert.MarchIdeal.main_arg2)
          ∧ r.2.mem ((c.tc : Thread Cert.MarchIdeal.nD Cert.MarchIdeal.τ).loc Cert.MarchIdeal.main_arg3) = m' ((c.tc : Thread Cert.MarchIdeal.nD Cert.MarchIdeal.τ).loc Cert.MarchIdeal.main_arg3))

def preserves_Interleave_InterleaveIdeal : Prop :=
  True

def algebraic_InterleaveIdeal_PackIdeal [hInterleaveIdeal : Cert.InterleaveIdeal.Facts] [hPackIdeal : Cert.PackIdeal.Facts] : Prop :=
  ∀ (m : (ℓ : Loc Cert.InterleaveIdeal.nD Cert.InterleaveIdeal.τ Cert.InterleaveIdeal.sig) → Buf (Elt Ideal) ℓ) (g : Dev Cert.InterleaveIdeal.nD → PrngReg)
    (m' : (ℓ : Loc Cert.PackIdeal.nD Cert.PackIdeal.τ Cert.PackIdeal.sig) → Buf (Elt Ideal) ℓ) (g' : Dev Cert.PackIdeal.nD → PrngReg), Pre_InterleaveIdeal m →
    (∀ c : Dev Cert.InterleaveIdeal.nD,
      m' ((c.tc : Thread Cert.PackIdeal.nD Cert.PackIdeal.τ).loc Cert.PackIdeal.main_arg0) = m ((c.tc : Thread Cert.InterleaveIdeal.nD Cert.InterleaveIdeal.τ).loc Cert.InterleaveIdeal.main_arg0)
      ∧ m' ((c.tc : Thread Cert.PackIdeal.nD Cert.PackIdeal.τ).loc Cert.PackIdeal.main_arg1) = m ((c.tc : Thread Cert.InterleaveIdeal.nD Cert.InterleaveIdeal.τ).loc Cert.InterleaveIdeal.main_arg1)
      ∧ m' ((c.tc : Thread Cert.PackIdeal.nD Cert.PackIdeal.τ).loc Cert.PackIdeal.main_arg2) = m ((c.tc : Thread Cert.InterleaveIdeal.nD Cert.InterleaveIdeal.τ).loc Cert.InterleaveIdeal.main_arg2)
      ∧ m' ((c.tc : Thread Cert.PackIdeal.nD Cert.PackIdeal.τ).loc Cert.PackIdeal.main_arg3) = m ((c.tc : Thread Cert.InterleaveIdeal.nD Cert.InterleaveIdeal.τ).loc Cert.InterleaveIdeal.main_arg3)
      ∧ m' ((c.tc : Thread Cert.PackIdeal.nD Cert.PackIdeal.τ).loc Cert.PackIdeal.main_arg4) = m ((c.tc : Thread Cert.InterleaveIdeal.nD Cert.InterleaveIdeal.τ).loc Cert.InterleaveIdeal.main_arg4)
      ∧ m' ((c.tc : Thread Cert.PackIdeal.nD Cert.PackIdeal.τ).loc Cert.PackIdeal.main_arg5) = m ((c.tc : Thread Cert.InterleaveIdeal.nD Cert.InterleaveIdeal.τ).loc Cert.InterleaveIdeal.main_arg5)
      ∧ m' ((c.tc : Thread Cert.PackIdeal.nD Cert.PackIdeal.τ).loc Cert.PackIdeal.main_arg6) = m ((c.tc : Thread Cert.InterleaveIdeal.nD Cert.InterleaveIdeal.τ).loc Cert.InterleaveIdeal.main_arg6)
      ∧ m' ((c.tc : Thread Cert.PackIdeal.nD Cert.PackIdeal.τ).loc Cert.PackIdeal.main_arg7) = m ((c.tc : Thread Cert.InterleaveIdeal.nD Cert.InterleaveIdeal.τ).loc Cert.InterleaveIdeal.main_arg7)
      ∧ m' ((c.tc : Thread Cert.PackIdeal.nD Cert.PackIdeal.τ).loc Cert.PackIdeal.main_arg8) = m ((c.tc : Thread Cert.InterleaveIdeal.nD Cert.InterleaveIdeal.τ).loc Cert.InterleaveIdeal.main_arg8)) →
    ∃ (v0 : (c : Dev Cert.InterleaveIdeal.nD) → Buf (Elt Ideal) ((c.tc : Thread Cert.InterleaveIdeal.nD Cert.InterleaveIdeal.τ).loc Cert.InterleaveIdeal.main_v9)),
      θ_run (Cert.InterleaveIdeal.defs (F := Ideal)) (onTc (τ := Cert.InterleaveIdeal.τ) (Cert.InterleaveIdeal.main (F := Ideal))) ⟨m, fun _ => 0, g⟩ (fun r => ∀ c : Dev Cert.InterleaveIdeal.nD,
          r.2.mem ((c.tc : Thread Cert.InterleaveIdeal.nD Cert.InterleaveIdeal.τ).loc Cert.InterleaveIdeal.main_v9) = v0 c
          ∧ r.2.mem ((c.tc : Thread Cert.InterleaveIdeal.nD Cert.InterleaveIdeal.τ).loc Cert.InterleaveIdeal.main_arg0) = m ((c.tc : Thread Cert.InterleaveIdeal.nD Cert.InterleaveIdeal.τ).loc Cert.InterleaveIdeal.main_arg0)
          ∧ r.2.mem ((c.tc : Thread Cert.InterleaveIdeal.nD Cert.InterleaveIdeal.τ).loc Cert.InterleaveIdeal.main_arg1) = m ((c.tc : Thread Cert.InterleaveIdeal.nD Cert.InterleaveIdeal.τ).loc Cert.InterleaveIdeal.main_arg1)
          ∧ r.2.mem ((c.tc : Thread Cert.InterleaveIdeal.nD Cert.InterleaveIdeal.τ).loc Cert.InterleaveIdeal.main_arg2) = m ((c.tc : Thread Cert.InterleaveIdeal.nD Cert.InterleaveIdeal.τ).loc Cert.InterleaveIdeal.main_arg2)
          ∧ r.2.mem ((c.tc : Thread Cert.InterleaveIdeal.nD Cert.InterleaveIdeal.τ).loc Cert.InterleaveIdeal.main_arg3) = m ((c.tc : Thread Cert.InterleaveIdeal.nD Cert.InterleaveIdeal.τ).loc Cert.InterleaveIdeal.main_arg3)
          ∧ r.2.mem ((c.tc : Thread Cert.InterleaveIdeal.nD Cert.InterleaveIdeal.τ).loc Cert.InterleaveIdeal.main_arg4) = m ((c.tc : Thread Cert.InterleaveIdeal.nD Cert.InterleaveIdeal.τ).loc Cert.InterleaveIdeal.main_arg4)
          ∧ r.2.mem ((c.tc : Thread Cert.InterleaveIdeal.nD Cert.InterleaveIdeal.τ).loc Cert.InterleaveIdeal.main_arg5) = m ((c.tc : Thread Cert.InterleaveIdeal.nD Cert.InterleaveIdeal.τ).loc Cert.InterleaveIdeal.main_arg5)
          ∧ r.2.mem ((c.tc : Thread Cert.InterleaveIdeal.nD Cert.InterleaveIdeal.τ).loc Cert.InterleaveIdeal.main_arg6) = m ((c.tc : Thread Cert.InterleaveIdeal.nD Cert.InterleaveIdeal.τ).loc Cert.InterleaveIdeal.main_arg6)
          ∧ r.2.mem ((c.tc : Thread Cert.InterleaveIdeal.nD Cert.InterleaveIdeal.τ).loc Cert.InterleaveIdeal.main_arg7) = m ((c.tc : Thread Cert.InterleaveIdeal.nD Cert.InterleaveIdeal.τ).loc Cert.InterleaveIdeal.main_arg7)
          ∧ r.2.mem ((c.tc : Thread Cert.InterleaveIdeal.nD Cert.InterleaveIdeal.τ).loc Cert.InterleaveIdeal.main_arg8) = m ((c.tc : Thread Cert.InterleaveIdeal.nD Cert.InterleaveIdeal.τ).loc Cert.InterleaveIdeal.main_arg8))
      ∧ θ_run (Cert.PackIdeal.defs (F := Ideal)) (onTc (τ := Cert.PackIdeal.τ) (Cert.PackIdeal.main (F := Ideal))) ⟨m', fun _ => 0, g'⟩ (fun r => ∀ c : Dev Cert.PackIdeal.nD,
          r.2.mem ((c.tc : Thread Cert.PackIdeal.nD Cert.PackIdeal.τ).loc Cert.PackIdeal.main_v14) = v0 c
          ∧ r.2.mem ((c.tc : Thread Cert.PackIdeal.nD Cert.PackIdeal.τ).loc Cert.PackIdeal.main_arg0) = m' ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m' ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m' ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m' ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m' ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m' ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m' ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m' ((c.tc : Thread Cert.PackIdeal.nD Cert.PackIdeal.τ).loc Cert.PackIdeal.main_arg7)
          ∧ r.2.mem ((c.tc : Thread Cert.PackIdeal.nD Cert.PackIdeal.τ).loc Cert.PackIdeal.main_arg8) = m' ((c.tc : Thread Cert.PackIdeal.nD Cert.PackIdeal.τ).loc Cert.PackIdeal.main_arg8))

def Claim : Prop :=
  ∃ (hKernel : Cert.Kernel.Facts) (hKernelIdeal : Cert.KernelIdeal.Facts) (hReferenceIdeal : Cert.ReferenceIdeal.Facts) (hPrecompute : Cert.Precompute.Facts) (hPrecomputeIdeal : Cert.PrecomputeIdeal.Facts) (hMarchIdeal : Cert.MarchIdeal.Facts) (hInterleave : Cert.Interleave.Facts) (hInterleaveIdeal : Cert.InterleaveIdeal.Facts) (hPackIdeal : Cert.PackIdeal.Facts) (hPre_idx_in_grid : Cert.Pre_idx_in_grid.Facts),
    quiescent_Kernel (hKernel := hKernel) (hPre_idx_in_grid := hPre_idx_in_grid)
    ∧ quiescent_KernelIdeal (hKernelIdeal := hKernelIdeal) (hPre_idx_in_grid := hPre_idx_in_grid)
    ∧ quiescent_ReferenceIdeal (hReferenceIdeal := hReferenceIdeal)
    ∧ quiescent_ReferenceIdeal_pre_idx_in_grid (hReferenceIdeal := hReferenceIdeal) (hPre_idx_in_grid := hPre_idx_in_grid)
    ∧ quiescent_Precompute (hPrecompute := hPrecompute)
    ∧ quiescent_PrecomputeIdeal (hPrecomputeIdeal := hPrecomputeIdeal)
    ∧ quiescent_MarchIdeal (hMarchIdeal := hMarchIdeal)
    ∧ quiescent_Interleave (hInterleave := hInterleave)
    ∧ quiescent_InterleaveIdeal (hInterleaveIdeal := hInterleaveIdeal)
    ∧ quiescent_PackIdeal (hPackIdeal := hPackIdeal)
    ∧ preserves_Kernel_KernelIdeal
    ∧ algebraic_KernelIdeal_ReferenceIdeal (hKernelIdeal := hKernelIdeal) (hReferenceIdeal := hReferenceIdeal) (hPre_idx_in_grid := hPre_idx_in_grid)
    ∧ preserves_Precompute_PrecomputeIdeal
    ∧ algebraic_PrecomputeIdeal_MarchIdeal (hPrecomputeIdeal := hPrecomputeIdeal) (hMarchIdeal := hMarchIdeal)
    ∧ preserves_Interleave_InterleaveIdeal
    ∧ algebraic_InterleaveIdeal_PackIdeal (hInterleaveIdeal := hInterleaveIdeal) (hPackIdeal := hPackIdeal)
-- ==== Pre_idx_in_grid.lean ====
abbrev S8192x128 : Shape := ⟨2, ![8192, 128]⟩
abbrev S2097152 : Shape := ⟨1, ![2097152]⟩
abbrev S8192x8 : Shape := ⟨2, ![8192, 8]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : IVec S8192x128 32) (main_arg1 : FVec F S8192x128 .f32) (main_arg2 : FVec F S2097152 .f32) (main_arg3 : FVec F S8192x8 .f32) (main_arg4 : FVec F S8192x128 .f32) : IVec S8192x128 1 :=
  let main_c : IVec S_ 32 := constantI S_ 32 0#32
  let main_v0 : IVec S8192x128 32 := broadcastInDim S8192x128 ![] bcast_S_S8192x128 main_c
  let main_v1 : IVec S8192x128 1 := cmpi .sge main_arg0 main_v0
  let main_c_0 : IVec S_ 32 := constantI S_ 32 2097152#32
  let main_v2 : IVec S8192x128 32 := broadcastInDim S8192x128 ![] bcast_S_S8192x128 main_c_0
  let main_v3 : IVec S8192x128 1 := cmpi .slt main_arg0 main_v2
  let main_v4 : IVec S8192x128 1 := andi main_v1 main_v3
  main_v4
-- ==== Kernel.lean ====
abbrev S8192x128 : Shape := ⟨2, ![8192, 128]⟩
abbrev S2097152 : Shape := ⟨1, ![2097152]⟩
abbrev S8192x8 : Shape := ⟨2, ![8192, 8]⟩
abbrev S1048576 : Shape := ⟨1, ![1048576]⟩
abbrev S8192 : Shape := ⟨1, ![8192]⟩
abbrev S32768 : Shape := ⟨1, ![32768]⟩
abbrev S256 : Shape := ⟨1, ![256]⟩
abbrev S_ : Shape := ⟨0, ![]⟩
abbrev S16 : Shape := ⟨1, ![16]⟩
abbrev S128 : Shape := ⟨1, ![128]⟩
abbrev S65536 : Shape := ⟨1, ![65536]⟩
abbrev S2064 : Shape := ⟨1, ![2064]⟩
abbrev S1024 : Shape := ⟨1, ![1024]⟩
abbrev S1x128 : Shape := ⟨2, ![1, 128]⟩
abbrev S2048 : Shape := ⟨1, ![2048]⟩
abbrev S1 : Shape := ⟨1, ![1]⟩
abbrev S1x16 : Shape := ⟨2, ![1, 16]⟩
abbrev S8192x1 : Shape := ⟨2, ![8192, 1]⟩
abbrev S8192x2 : Shape := ⟨2, ![8192, 2]⟩

abbrev nBuf : Table → Nat
  | .hbm => 24
  | .local .scVector .vmem => 12
  | _ => 0

abbrev bufTy : (tb : Table) → Fin (nBuf tb) → BufTy
  | .hbm, ⟨0, _⟩ => ⟨S8192x128, .i32⟩
  | .hbm, ⟨1, _⟩ => ⟨S8192x128, .f32⟩
  | .hbm, ⟨2, _⟩ => ⟨S2097152, .f32⟩
  | .hbm, ⟨3, _⟩ => ⟨S8192x8, .f32⟩
  | .hbm, ⟨4, _⟩ => ⟨S8192x128, .f32⟩
  | .hbm, ⟨5, _⟩ => ⟨S1048576, .i32⟩
  | .hbm, ⟨6, _⟩ => ⟨S1048576, .f32⟩
  | .hbm, ⟨7, _⟩ => ⟨S1048576, .i32⟩
  | .hbm, ⟨8, _⟩ => ⟨S8192, .i32⟩
  | .hbm, ⟨9, _⟩ => ⟨S65536, .f32⟩
  | .hbm, ⟨10, _⟩ => ⟨S1048576, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S1048576, .f32⟩
  | .hbm, ⟨15, _⟩ => ⟨S1048576, .f32⟩
  | .hbm, ⟨16, _⟩ => ⟨S1048576, .f32⟩
  | .hbm, ⟨17, _⟩ => ⟨S1048576, .f32⟩
  | .hbm, ⟨18, _⟩ => ⟨S1048576, .f32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .local .scVector .vmem, ⟨0, _⟩ => ⟨S32768, .i32⟩
  | .local .scVector .vmem, ⟨1, _⟩ => ⟨S32768, .f32⟩
  | .local .scVector .vmem, ⟨2, _⟩ => ⟨S32768, .f32⟩
  | .local .scVector .vmem, ⟨3, _⟩ => ⟨S256, .i32⟩
  | .local .scVector .vmem, ⟨4, _⟩ => ⟨S8192, .i32⟩
  | .local .scVector .vmem, ⟨5, _⟩ => ⟨S32768, .i32⟩
  | .local .scVector .vmem, ⟨6, _⟩ => ⟨S32768, .f32⟩
  | .local .scVector .vmem, ⟨7, _⟩ => ⟨S2064, .f32⟩
  | .local .scVector .vmem, ⟨8, _⟩ => ⟨S1024, .f32⟩
  | .local .scVector .vmem, ⟨9, _⟩ => ⟨S1x128, .i32⟩
  | .local .scVector .vmem, ⟨10, _⟩ => ⟨S256, .i32⟩
  | .local .scVector .vmem, ⟨11, _⟩ => ⟨S256, .i32⟩
  | _, _ => ⟨S8192x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v5_8 : Ref sig .tc := ⟨.hbm, 19, rfl⟩
abbrev main_v5_9 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v0_scv : Ref sig .scVector := ⟨.hbm, 5, rfl⟩
abbrev main_v1_scv : Ref sig .scVector := ⟨.hbm, 6, rfl⟩
abbrev main_arg2_scv : Ref sig .scVector := ⟨.hbm, 2, rfl⟩
abbrev main_v2_0_scv : Ref sig .scVector := ⟨.hbm, 7, rfl⟩
abbrev main_v2_1_scv : Ref sig .scVector := ⟨.hbm, 8, rfl⟩
abbrev main_v3_scv : Ref sig .scVector := ⟨.hbm, 9, rfl⟩
abbrev main_v4_scv : Ref sig .scVector := ⟨.hbm, 10, rfl⟩
abbrev main_v5_0_scv : Ref sig .scVector := ⟨.hbm, 11, rfl⟩
abbrev main_v5_1_scv : Ref sig .scVector := ⟨.hbm, 12, rfl⟩
abbrev main_v5_2_scv : Ref sig .scVector := ⟨.hbm, 13, rfl⟩
abbrev main_v5_3_scv : Ref sig .scVector := ⟨.hbm, 14, rfl⟩
abbrev main_v5_4_scv : Ref sig .scVector := ⟨.hbm, 15, rfl⟩
abbrev main_v5_5_scv : Ref sig .scVector := ⟨.hbm, 16, rfl⟩
abbrev main_v5_6_scv : Ref sig .scVector := ⟨.hbm, 17, rfl⟩
abbrev main_v5_7_scv : Ref sig .scVector := ⟨.hbm, 18, rfl⟩
abbrev main_v5_8_scv : Ref sig .scVector := ⟨.hbm, 19, rfl⟩
abbrev main_v5_9_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev cc1_scratch6 : Ref sig .scVector := ⟨.vmem, 10, rfl⟩
abbrev cc1_scratch7 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k0_t1_loop : Scf.Loop 32 :=
  let c0_i32_0 : BitVec 32 := 0#32
  let c32_i32 : BitVec 32 := 32#32
  let v5 : BitVec 32 := Scalar.addi c0_i32_0 c32_i32
  let c1_i32 : BitVec 32 := 1#32
  ⟨c0_i32_0, v5, c1_i32⟩
def k0_off2 (k0_t1 : Fin k0_t1_loop.trips) (c0_i32_6 : BitVec 32) : Fin 1 → Nat :=
  let c0_i32_0 : BitVec 32 := 0#32
  let c1_i32 : BitVec 32 := 1#32
  let arg13 : BitVec 32 := Scf.iv c0_i32_0 c1_i32 k0_t1
  let c8_i32 : BitVec 32 := 8#32
  let v7 : BitVec 32 := Scalar.muli arg13 c8_i32
  let v8 : BitVec 32 := Scalar.addi v7 c0_i32_6
  let c128_i32_7 : BitVec 32 := 128#32
  let v10 : BitVec 32 := Scalar.muli v8 c128_i32_7
  ![v10.toNat]
@[reducible] def k0_t2_loop : Scf.Loop 32 :=
  let c0_i32_3 : BitVec 32 := 0#32
  let c16_i32 : BitVec 32 := 16#32
  let v6 : BitVec 32 := Scalar.addi c0_i32_3 c16_i32
  let c1_i32_4 : BitVec 32 := 1#32
  ⟨c0_i32_3, v6, c1_i32_4⟩
@[reducible] def k0_t3_loop : Scf.Loop 32 :=
  let c0_i32_7 : BitVec 32 := 0#32
  let c16_i32_8 : BitVec 32 := 16#32
  let v8 : BitVec 32 := Scalar.addi c0_i32_7 c16_i32_8
  let c1_i32_9 : BitVec 32 := 1#32
  ⟨c0_i32_7, v8, c1_i32_9⟩
@[reducible] def k0_t4_loop : Scf.Loop 32 :=
  let c0_i32_14 : BitVec 32 := 0#32
  let c8_i32 : BitVec 32 := 8#32
  let v18 : BitVec 32 := Scalar.addi c0_i32_14 c8_i32
  let c1_i32_15 : BitVec 32 := 1#32
  ⟨c0_i32_14, v18, c1_i32_15⟩
def k0_off3 (k0_t2 : Fin k0_t2_loop.trips) (k0_t3 : Fin k0_t3_loop.trips) (k0_t4 : Fin k0_t4_loop.trips) : Fin 1 → Nat :=
  let c0_i32_3 : BitVec 32 := 0#32
  let c1_i32_4 : BitVec 32 := 1#32
  let arg13 : BitVec 32 := Scf.iv c0_i32_3 c1_i32_4 k0_t2
  let c16_i32_12 : BitVec 32 := 16#32
  let v15 : BitVec 32 := Scalar.muli arg13 c16_i32_12
  let c0_i32_7 : BitVec 32 := 0#32
  let c1_i32_9 : BitVec 32 := 1#32
  let arg14 : BitVec 32 := Scf.iv c0_i32_7 c1_i32_9 k0_t3
  let v16 : BitVec 32 := Scalar.addi v15 arg14
  let c128_i32 : BitVec 32 := 128#32
  let v29 : BitVec 32 := Scalar.muli v16 c128_i32
  let c0_i32_14 : BitVec 32 := 0#32
  let c1_i32_15 : BitVec 32 := 1#32
  let arg16 : BitVec 32 := Scf.iv c0_i32_14 c1_i32_15 k0_t4
  let c16_i32_18 : BitVec 32 := 16#32
  let v30 : BitVec 32 := Scalar.muli arg16 c16_i32_18
  let v31 : BitVec 32 := Scalar.addi v29 v30
  let v32 : Index := Scalar.indexCast v31
  ![v32.toNat]
def k0_off4 (k0_t2 : Fin k0_t2_loop.trips) : Fin 1 → Nat :=
  let c0_i32_3 : BitVec 32 := 0#32
  let c1_i32_4 : BitVec 32 := 1#32
  let arg13 : BitVec 32 := Scf.iv c0_i32_3 c1_i32_4 k0_t2
  let c16_i32_11 : BitVec 32 := 16#32
  let v10 : BitVec 32 := Scalar.muli arg13 c16_i32_11
  let v11 : Index := Scalar.indexCast v10
  ![v11.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  ![v3.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c8_i32 : BitVec 32 := 8#32
  let v5 : BitVec 32 := Scalar.muli v3 c8_i32
  ![v5.toNat]
@[reducible] def k1_t1_loop : Scf.Loop 32 :=
  let c0_i32_0 : BitVec 32 := 0#32
  let c512_i32 : BitVec 32 := 512#32
  let v7 : BitVec 32 := Scalar.addi c0_i32_0 c512_i32
  let c1_i32 : BitVec 32 := 1#32
  ⟨c0_i32_0, v7, c1_i32⟩
def k1_off3 (k1_t1 : Fin k1_t1_loop.trips) : Fin 1 → Nat :=
  let c0_i32_0 : BitVec 32 := 0#32
  let c1_i32 : BitVec 32 := 1#32
  let arg26 : BitVec 32 := Scf.iv c0_i32_0 c1_i32 k1_t1
  let c16_i32_6 : BitVec 32 := 16#32
  let v17 : BitVec 32 := Scalar.muli arg26 c16_i32_6
  let v18 : Index := Scalar.indexCast v17
  ![v18.toNat]
@[reducible] def k1_t2_loop : Scf.Loop 32 :=
  let c0_i32_3 : BitVec 32 := 0#32
  let c16_i32 : BitVec 32 := 16#32
  let v15 : BitVec 32 := Scalar.addi c0_i32_3 c16_i32
  let c1_i32_4 : BitVec 32 := 1#32
  ⟨c0_i32_3, v15, c1_i32_4⟩
def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  let c0_i32_3 : BitVec 32 := 0#32
  let c1_i32_4 : BitVec 32 := 1#32
  let arg26 : BitVec 32 := Scf.iv c0_i32_3 c1_i32_4 k1_t2
  let c16_i32_6 : BitVec 32 := 16#32
  let v17 : BitVec 32 := Scalar.muli arg26 c16_i32_6
  let v18 : BitVec 32 := Scalar.addi v3 v17
  let v19 : Index := Scalar.indexCast v18
  ![v19.toNat]
@[reducible] def k1_t3_loop : Scf.Loop 32 :=
  let c0_i32_8 : BitVec 32 := 0#32
  let c16_i32_9 : BitVec 32 := 16#32
  let v23 : BitVec 32 := Scalar.addi c0_i32_8 c16_i32_9
  let c1_i32_10 : BitVec 32 := 1#32
  ⟨c0_i32_8, v23, c1_i32_10⟩
def k1_off5 (k1_t2 : Fin k1_t2_loop.trips) (k1_t3 : Fin k1_t3_loop.trips) : Fin 1 → Nat :=
  let c0_i32_3 : BitVec 32 := 0#32
  let c1_i32_4 : BitVec 32 := 1#32
  let arg26 : BitVec 32 := Scf.iv c0_i32_3 c1_i32_4 k1_t2
  let c16_i32_14 : BitVec 32 := 16#32
  let v35 : BitVec 32 := Scalar.muli arg26 c16_i32_14
  let c0_i32_8 : BitVec 32 := 0#32
  let c1_i32_10 : BitVec 32 := 1#32
  let arg28 : BitVec 32 := Scf.iv c0_i32_8 c1_i32_10 k1_t3
  let v36 : BitVec 32 := Scalar.addi v35 arg28
  let c8_i32_15 : BitVec 32 := 8#32
  let v37 : BitVec 32 := Scalar.muli v36 c8_i32_15
  let v38 : Index := Scalar.indexCast v37
  ![v38.toNat]
@[reducible] def k1_t4_loop : Scf.Loop 32 :=
  let c0_i32_17 : BitVec 32 := 0#32
  let c8_i32_18 : BitVec 32 := 8#32
  let v49 : BitVec 32 := Scalar.addi c0_i32_17 c8_i32_18
  let c1_i32_19 : BitVec 32 := 1#32
  ⟨c0_i32_17, v49, c1_i32_19⟩
def k1_off6 (k1_t2 : Fin k1_t2_loop.trips) (k1_t3 : Fin k1_t3_loop.trips) (k1_t4 : Fin k1_t4_loop.trips) : Fin 1 → Nat :=
  let c0_i32_3 : BitVec 32 := 0#32
  let c1_i32_4 : BitVec 32 := 1#32
  let arg26 : BitVec 32 := Scf.iv c0_i32_3 c1_i32_4 k1_t2
  let c16_i32_14 : BitVec 32 := 16#32
  let v35 : BitVec 32 := Scalar.muli arg26 c16_i32_14
  let c0_i32_8 : BitVec 32 := 0#32
  let c1_i32_10 : BitVec 32 := 1#32
  let arg28 : BitVec 32 := Scf.iv c0_i32_8 c1_i32_10 k1_t3
  let v36 : BitVec 32 := Scalar.addi v35 arg28
  let c128_i32_80 : BitVec 32 := 128#32
  let v115 : BitVec 32 := Scalar.muli v36 c128_i32_80
  let c0_i32_17 : BitVec 32 := 0#32
  let c1_i32_19 : BitVec 32 := 1#32
  let arg31 : BitVec 32 := Scf.iv c0_i32_17 c1_i32_19 k1_t4
  let c16_i32_81 : BitVec 32 := 16#32
  let v116 : BitVec 32 := Scalar.muli arg31 c16_i32_81
  let v117 : BitVec 32 := Scalar.addi v115 v116
  let v118 : Index := Scalar.indexCast v117
  ![v118.toNat]
def k1_off7 (k1_t4 : Fin k1_t4_loop.trips) : Fin 2 → Nat :=
  let c0_i32_108 : BitVec 32 := 0#32
  let v265 : Index := Scalar.indexCast c0_i32_108
  let c0_i32_17 : BitVec 32 := 0#32
  let c1_i32_19 : BitVec 32 := 1#32
  let arg31 : BitVec 32 := Scf.iv c0_i32_17 c1_i32_19 k1_t4
  let c16_i32_107 : BitVec 32 := 16#32
  let v264 : BitVec 32 := Scalar.muli arg31 c16_i32_107
  let v266 : Index := Scalar.indexCast v264
  ![0, v266.toNat]
def k1_off8 (k1_t4 : Fin k1_t4_loop.trips) (c0_i32_111 : BitVec 32) : Fin 1 → Nat :=
  let c0_i32_17 : BitVec 32 := 0#32
  let c1_i32_19 : BitVec 32 := 1#32
  let arg31 : BitVec 32 := Scf.iv c0_i32_17 c1_i32_19 k1_t4
  let c16_i32_110 : BitVec 32 := 16#32
  let v277 : BitVec 32 := Scalar.muli arg31 c16_i32_110
  let v278 : BitVec 32 := Scalar.addi c0_i32_111 v277
  let v279 : Index := Scalar.indexCast v278
  ![v279.toNat]
def k1_off9 (k1_t2 : Fin k1_t2_loop.trips) : Fin 1 → Nat :=
  let c0_i32_3 : BitVec 32 := 0#32
  let c1_i32_4 : BitVec 32 := 1#32
  let arg26 : BitVec 32 := Scf.iv c0_i32_3 c1_i32_4 k1_t2
  let c16_i32_12 : BitVec 32 := 16#32
  let v25 : BitVec 32 := Scalar.muli arg26 c16_i32_12
  let v26 : Index := Scalar.indexCast v25
  ![v26.toNat]
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  ![v3.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8192x128 : Shape := ⟨2, ![8192, 128]⟩
abbrev S2097152 : Shape := ⟨1, ![2097152]⟩
abbrev S8192x8 : Shape := ⟨2, ![8192, 8]⟩
abbrev S1048576 : Shape := ⟨1, ![1048576]⟩
abbrev S_ : Shape := ⟨0, ![]⟩
abbrev S1048576x1 : Shape := ⟨2, ![1048576, 1]⟩
abbrev S8192 : Shape := ⟨1, ![8192]⟩
abbrev S1 : Shape := ⟨1, ![1]⟩
abbrev S8191 : Shape := ⟨1, ![8191]⟩
abbrev S8192x1 : Shape := ⟨2, ![8192, 1]⟩
abbrev S8192x2 : Shape := ⟨2, ![8192, 2]⟩

abbrev nBuf : Space → Nat
  | .hbm => 78
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S2097152, .f32⟩
  | .hbm, ⟨3, _⟩ => ⟨S8192x8, .f32⟩
  | .hbm, ⟨4, _⟩ => ⟨S8192x128, .f32⟩
  | .hbm, ⟨5, _⟩ => ⟨S1048576, .i32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576, .f32⟩
  | .hbm, ⟨15, _⟩ => ⟨S1048576, .f32⟩
  | .hbm, ⟨16, _⟩ => ⟨S1048576, .i1⟩
  | .hbm, ⟨17, _⟩ => ⟨S8192x128, .i1⟩
  | .hbm, ⟨18, _⟩ => ⟨S8192x128, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S8192, .i32⟩
  | .hbm, ⟨26, _⟩ => ⟨S8191, .i32⟩
  | .hbm, ⟨27, _⟩ => ⟨S8192, .i32⟩
  | .hbm, ⟨28, _⟩ => ⟨S8192x1, .i32⟩
  | .hbm, ⟨29, _⟩ => ⟨S8192x1, .i32⟩
  | .hbm, ⟨30, _⟩ => ⟨S8192x2, .i32⟩
  | .hbm, ⟨31, _⟩ => ⟨S1048576, .i32⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S8192x1, .f32⟩
  | .hbm, ⟨40, _⟩ => ⟨S8192x128, .f32⟩
  | .hbm, ⟨41, _⟩ => ⟨S1048576, .f32⟩
  | .hbm, ⟨42, _⟩ => ⟨S8192x1, .f32⟩
  | .hbm, ⟨43, _⟩ => ⟨S8192x128, .f32⟩
  | .hbm, ⟨44, _⟩ => ⟨S1048576, .f32⟩
  | .hbm, ⟨45, _⟩ => ⟨S8192x1, .f32⟩
  | .hbm, ⟨46, _⟩ => ⟨S8192x128, .f32⟩
  | .hbm, ⟨47, _⟩ => ⟨S1048576, .f32⟩
  | .hbm, ⟨48, _⟩ => ⟨S8192x1, .f32⟩
  | .hbm, ⟨49, _⟩ => ⟨S8192x128, .f32⟩
  | .hbm, ⟨50, _⟩ => ⟨S1048576, .f32⟩
  | .hbm, ⟨51, _⟩ => ⟨S8192x1, .f32⟩
  | .hbm, ⟨52, _⟩ => ⟨S8192x128, .f32⟩
  | .hbm, ⟨53, _⟩ => ⟨S1048576, .f32⟩
  | .hbm, ⟨54, _⟩ => ⟨S8192x1, .f32⟩
  | .hbm, ⟨55, _⟩ => ⟨S8192x128, .f32⟩
  | .hbm, ⟨56, _⟩ => ⟨S1048576, .f32⟩
  | .hbm, ⟨57, _⟩ => ⟨S8192x1, .f32⟩
  | .hbm, ⟨58, _⟩ => ⟨S8192x128, .f32⟩
  | .hbm, ⟨59, _⟩ => ⟨S1048576, .f32⟩
  | .hbm, ⟨60, _⟩ => ⟨S1048576, .f32⟩
  | .hbm, ⟨61, _⟩ => ⟨S1048576, .f32⟩
  | .hbm, ⟨62, _⟩ => ⟨S1048576x1, .i32⟩
  | .hbm, ⟨63, _⟩ => ⟨S1048576, .f32⟩
  | .hbm, ⟨64, _⟩ => ⟨S1048576x1, .i32⟩
  | .hbm, ⟨65, _⟩ => ⟨S1048576, .f32⟩
  | .hbm, ⟨66, _⟩ => ⟨S1048576x1, .i32⟩
  | .hbm, ⟨67, _⟩ => ⟨S1048576, .f32⟩
  | .hbm, ⟨68, _⟩ => ⟨S1048576x1, .i32⟩
  | .hbm, ⟨69, _⟩ => ⟨S1048576, .f32⟩
  | .hbm, ⟨70, _⟩ => ⟨S1048576x1, .i32⟩
  | .hbm, ⟨71, _⟩ => ⟨S1048576, .f32⟩
  | .hbm, ⟨72, _⟩ => ⟨S1048576x1, .i32⟩
  | .hbm, ⟨73, _⟩ => ⟨S1048576, .f32⟩
  | .hbm, ⟨74, _⟩ => ⟨S1048576x1, .i32⟩
  | .hbm, ⟨75, _⟩ => ⟨S1048576, .f32⟩
  | .hbm, ⟨76, _⟩ => ⟨S1048576x1, .i32⟩
  | .hbm, ⟨77, _⟩ => ⟨S1048576, .f32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_call0_call0_c : Ref sig .tc := ⟨.hbm, 23, rfl⟩
abbrev main_call0_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call2_v0 : Ref sig .tc := ⟨.hbm, 36, rfl⟩
abbrev main_call2_v1_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Precompute.lean ====
abbrev S8192x3 : Shape := ⟨2, ![8192, 3]⟩
abbrev S2x3 : Shape := ⟨2, ![2, 3]⟩
abbrev S2097152 : Shape := ⟨1, ![2097152]⟩
abbrev S_ : Shape := ⟨0, ![]⟩
abbrev S1x1 : Shape := ⟨2, ![1, 1]⟩
abbrev S8192 : Shape := ⟨1, ![8192]⟩
abbrev S8192x1 : Shape := ⟨2, ![8192, 1]⟩
abbrev S8192x8 : Shape := ⟨2, ![8192, 8]⟩
abbrev S8192x128 : Shape := ⟨2, ![8192, 128]⟩
abbrev S1024x3 : Shape := ⟨2, ![1024, 3]⟩
abbrev S1024x1 : Shape := ⟨2, ![1024, 1]⟩
abbrev S1024x8 : Shape := ⟨2, ![1024, 8]⟩
abbrev S1024x128 : Shape := ⟨2, ![1024, 128]⟩
abbrev S1x128 : Shape := ⟨2, ![1, 128]⟩

abbrev nBuf : Space → Nat
  | .hbm => 22
  | .vmem => 16
  | .smem => 2
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S2x3, .f32⟩
  | .hbm, ⟨3, _⟩ => ⟨S2097152, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S8192x3, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x3, .f32⟩
  | .hbm, ⟨15, _⟩ => ⟨S8192x3, .f32⟩
  | .hbm, ⟨16, _⟩ => ⟨S8192x1, .f32⟩
  | .hbm, ⟨17, _⟩ => ⟨S8192x1, .f32⟩
  | .hbm, ⟨18, _⟩ => ⟨S8192x8, .f32⟩
  | .hbm, ⟨19, _⟩ => ⟨S8192x128, .i32⟩
  | .hbm, ⟨20, _⟩ => ⟨S8192x128, .f32⟩
  | .hbm, ⟨21, _⟩ => ⟨S8192x128, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x8, .f32⟩
  | .local _ .vmem, ⟨9, _⟩ => ⟨S1024x8, .f32⟩
  | .local _ .vmem, ⟨10, _⟩ => ⟨S1024x128, .i32⟩
  | .local _ .vmem, ⟨11, _⟩ => ⟨S1024x128, .i32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .smem, ⟨0, _⟩ => ⟨S2x3, .f32⟩
  | .local _ .smem, ⟨1, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S2x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MarchIdeal.lean ====
abbrev S8192x3 : Shape := ⟨2, ![8192, 3]⟩
abbrev S2x3 : Shape := ⟨2, ![2, 3]⟩
abbrev S2097152 : Shape := ⟨1, ![2097152]⟩
abbrev S_ : Shape := ⟨0, ![]⟩
abbrev S8192 : Shape := ⟨1, ![8192]⟩
abbrev S8192x1 : Shape := ⟨2, ![8192, 1]⟩
abbrev S1x3 : Shape := ⟨2, ![1, 3]⟩
abbrev S3 : Shape := ⟨1, ![3]⟩
abbrev S128 : Shape := ⟨1, ![128]⟩
abbrev S1x128 : Shape := ⟨2, ![1, 128]⟩
abbrev S8192x128 : Shape := ⟨2, ![8192, 128]⟩
abbrev S8192x1x3 : Shape := ⟨3, ![8192, 1, 3]⟩
abbrev S8192x128x1 : Shape := ⟨3, ![8192, 128, 1]⟩
abbrev S8192x128x3 : Shape := ⟨3, ![8192, 128, 3]⟩
abbrev S1x1x3 : Shape := ⟨3, ![1, 1, 3]⟩
abbrev S8192x8 : Shape := ⟨2, ![8192, 8]⟩

abbrev nBuf : Space → Nat
  | .hbm => 144
  | .vmem => 0
  | .smem => 0
  | _ => 0

abbrev hbmTy0_0 (i : Nat) : BufTy := match i % 128 with
  | 0 => ⟨S8192x3, .f32⟩
  | 1 => ⟨S8192x3, .f32⟩
  | 2 => ⟨S2x3, .f32⟩
  | 3 => ⟨S2097152, .f32⟩
  | 4 => ⟨S8192x3, .f32⟩
  | 5 => ⟨S_, .f32⟩
  | 6 => ⟨S8192, .f32⟩
  | 7 => ⟨S8192x1, .f32⟩
  | 8 => ⟨S8192x1, .f32⟩
  | 9 => ⟨S8192x3, .f32⟩
  | 10 => ⟨S8192x3, .f32⟩
  | 11 => ⟨S1x3, .f32⟩
  | 12 => ⟨S3, .f32⟩
  | 13 => ⟨S1x3, .f32⟩
  | 14 => ⟨S3, .f32⟩
  | 15 => ⟨S8192x3, .f32⟩
  | 16 => ⟨S_, .f32⟩
  | 17 => ⟨S8192x3, .f32⟩
  | 18 => ⟨S8192x3, .i1⟩
  | 19 => ⟨S_, .f32⟩
  | 20 => ⟨S_, .f32⟩
  | 21 => ⟨S8192x3, .f32⟩
  | 22 => ⟨S8192x3, .f32⟩
  | 23 => ⟨S_, .f32⟩
  | 24 => ⟨S8192x3, .f32⟩
  | 25 => ⟨S8192x3, .f32⟩
  | 26 => ⟨S1x3, .f32⟩
  | 27 => ⟨S8192x3, .f32⟩
  | 28 => ⟨S8192x3, .f32⟩
  | 29 => ⟨S8192x3, .f32⟩
  | 30 => ⟨S1x3, .f32⟩
  | 31 => ⟨S8192x3, .f32⟩
  | 32 => ⟨S8192x3, .f32⟩
  | 33 => ⟨S8192x3, .f32⟩
  | 34 => ⟨S8192x3, .f32⟩
  | 35 => ⟨S_, .f32⟩
  | 36 => ⟨S8192, .f32⟩
  | 37 => ⟨S8192x3, .f32⟩
  | 38 => ⟨S_, .f32⟩
  | 39 => ⟨S8192, .f32⟩
  | 40 => ⟨S_, .f32⟩
  | 41 => ⟨S8192, .f32⟩
  | 42 => ⟨S8192, .f32⟩
  | 43 => ⟨S8192, .i1⟩
  | 44 => ⟨S_, .f32⟩
  | 45 => ⟨S8192, .f32⟩
  | 46 => ⟨S8192, .f32⟩
  | 47 => ⟨S_, .f32⟩
  | 48 => ⟨S8192, .f32⟩
  | 49 => ⟨S8192, .f32⟩
  | 50 => ⟨S_, .f32⟩
  | 51 => ⟨S8192, .f32⟩
  | 52 => ⟨S8192, .f32⟩
  | 53 => ⟨S128, .f32⟩
  | 54 => ⟨S_, .f32⟩
  | 55 => ⟨S128, .f32⟩
  | 56 => ⟨S128, .f32⟩
  | 57 => ⟨S8192, .f32⟩
  | 58 => ⟨S8192x1, .f32⟩
  | 59 => ⟨S8192x1, .f32⟩
  | 60 => ⟨S1x128, .f32⟩
  | 61 => ⟨S8192x128, .f32⟩
  | 62 => ⟨S8192x128, .f32⟩
  | 63 => ⟨S8192x128, .f32⟩
  | 64 => ⟨S8192x128, .f32⟩
  | 65 => ⟨S8192x128, .f32⟩
  | 66 => ⟨S_, .f32⟩
  | 67 => ⟨S8192x1, .f32⟩
  | 68 => ⟨S8192x1, .f32⟩
  | 69 => ⟨S8192x128, .f32⟩
  | 70 => ⟨S8192x128, .f32⟩
  | 71 => ⟨S8192x128, .f32⟩
  | 72 => ⟨S_, .f32⟩
  | 73 => ⟨S8192x128, .f32⟩
  | 74 => ⟨S8192x128, .f32⟩
  | 75 => ⟨S8192x1x3, .f32⟩
  | 76 => ⟨S8192x1x3, .f32⟩
  | 77 => ⟨S8192x128x1, .f32⟩
  | 78 => ⟨S8192x128x3, .f32⟩
  | 79 => ⟨S8192x128x3, .f32⟩
  | 80 => ⟨S8192x128x3, .f32⟩
  | 81 => ⟨S8192x128x3, .f32⟩
  | 82 => ⟨S8192x128x3, .f32⟩
  | 83 => ⟨S1x1x3, .f32⟩
  | 84 => ⟨S8192x128x3, .f32⟩
  | 85 => ⟨S8192x128x3, .f32⟩
  | 86 => ⟨S3, .f32⟩
  | 87 => ⟨S1x1x3, .f32⟩
  | 88 => ⟨S8192x128x3, .f32⟩
  | 89 => ⟨S8192x128x3, .f32⟩
  | 90 => ⟨S_, .f32⟩
  | 91 => ⟨S8192x128x3, .f32⟩
  | 92 => ⟨S8192x128x3, .f32⟩
  | 93 => ⟨S8192x128x3, .i32⟩
  | 94 => ⟨S_, .i32⟩
  | 95 => ⟨S_, .i32⟩
  | 96 => ⟨S_, .i32⟩
  | 97 => ⟨S8192x128x3, .i32⟩
  | 98 => ⟨S8192x128x3, .i32⟩
  | 99 => ⟨S_, .i32⟩
  | 100 => ⟨S8192x128x3, .i32⟩
  | 101 => ⟨S8192x128x3, .i32⟩
  | 102 => ⟨S8192x128x1, .i32⟩
  | 103 => ⟨S8192x128, .i32⟩
  | 104 => ⟨S_, .i32⟩
  | 105 => ⟨S8192x128, .i32⟩
  | 106 => ⟨S8192x128, .i32⟩
  | 107 => ⟨S8192x128x1, .i32⟩
  | 108 => ⟨S8192x128, .i32⟩
  | 109 => ⟨S8192x128, .i32⟩
  | 110 => ⟨S_, .i32⟩
  | 111 => ⟨S8192x128, .i32⟩
  | 112 => ⟨S8192x128, .i32⟩
  | 113 => ⟨S8192x128x1, .i32⟩
  | 114 => ⟨S8192x128, .i32⟩
  | 115 => ⟨S8192x128, .i32⟩
  | 116 => ⟨S8192x128, .f32⟩
  | 117 => ⟨S_, .f32⟩
  | 118 => ⟨S8192x128, .f32⟩
  | 119 => ⟨S8192x128, .f32⟩
  | 120 => ⟨S_, .f32⟩
  | 121 => ⟨S8192x128, .f32⟩
  | 122 => ⟨S8192x128, .f32⟩
  | 123 => ⟨S_, .f32⟩
  | 124 => ⟨S_, .f32⟩
  | 125 => ⟨S_, .f32⟩
  | 126 => ⟨S_, .f32⟩
  | 127 => ⟨S8192x128, .f32⟩
  | _ => ⟨S8192x3, .f32⟩

abbrev hbmTy0_1 (i : Nat) : BufTy := match i % 128 with
  | 0 => ⟨S8192x128, .f32⟩
  | 1 => ⟨S8192x1, .i1⟩
  | 2 => ⟨S_, .f32⟩
  | 3 => ⟨S8192x1, .f32⟩
  | 4 => ⟨S8192x1, .i1⟩
  | 5 => ⟨S8192x1, .i1⟩
  | 6 => ⟨S_, .f32⟩
  | 7 => ⟨S_, .f32⟩
  | 8 => ⟨S8192x128, .i1⟩
  | 9 => ⟨S8192x128, .f32⟩
  | 10 => ⟨S8192x128, .f32⟩
  | 11 => ⟨S8192x1, .i1⟩
  | 12 => ⟨S8192x1, .f32⟩
  | 13 => ⟨S8192x8, .f32⟩
  | 14 => ⟨S8192x1, .f32⟩
  | 15 => ⟨S8192x1, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c : Ref sig .tc := ⟨.hbm, 94, rfl⟩
abbrev main_c_12 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]
-- ==== Interleave.lean ====
abbrev S1048576 : Shape := ⟨1, ![1048576]⟩
abbrev S8192 : Shape := ⟨1, ![8192]⟩
abbrev S1x1048576 : Shape := ⟨2, ![1, 1048576]⟩
abbrev S1x8192 : Shape := ⟨2, ![1, 8192]⟩
abbrev S1048576x8 : Shape := ⟨2, ![1048576, 8]⟩
abbrev S8192x8 : Shape := ⟨2, ![8192, 8]⟩
abbrev S1x1x8192 : Shape := ⟨3, ![1, 1, 8192]⟩
abbrev S1 : Shape := ⟨1, ![1]⟩
abbrev S1x1x1 : Shape := ⟨3, ![1, 1, 1]⟩
abbrev S8x8192 : Shape := ⟨2, ![8, 8192]⟩
abbrev S8192x1 : Shape := ⟨2, ![8192, 1]⟩

abbrev nBuf : Space → Nat
  | .hbm => 19
  | .vmem => 19
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S1048576, .f32⟩
  | .hbm, ⟨4, _⟩ => ⟨S1048576, .f32⟩
  | .hbm, ⟨5, _⟩ => ⟨S1048576, .f32⟩
  | .hbm, ⟨6, _⟩ => ⟨S1048576, .f32⟩
  | .hbm, ⟨7, _⟩ => ⟨S1048576, .f32⟩
  | .hbm, ⟨8, _⟩ => ⟨S8192, .i32⟩
  | .hbm, ⟨9, _⟩ => ⟨S1x1048576, .f32⟩
  | .hbm, ⟨10, _⟩ => ⟨S1x1048576, .f32⟩
  | .hbm, ⟨11, _⟩ => ⟨S1x1048576, .f32⟩
  | .hbm, ⟨12, _⟩ => ⟨S1x1048576, .f32⟩
  | .hbm, ⟨13, _⟩ => ⟨S1x1048576, .f32⟩
  | .hbm, ⟨14, _⟩ => ⟨S1x1048576, .f32⟩
  | .hbm, ⟨15, _⟩ => ⟨S1x1048576, .f32⟩
  | .hbm, ⟨16, _⟩ => ⟨S1x1048576, .f32⟩
  | .hbm, ⟨17, _⟩ => ⟨S1x8192, .i32⟩
  | .hbm, ⟨18, _⟩ => ⟨S1048576x8, .f32⟩
  | .local _ .vmem, ⟨0, _⟩ => ⟨S1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x8192, .f32⟩
  | .local _ .vmem, ⟨10, _⟩ => ⟨S1x8192, .f32⟩
  | .local _ .vmem, ⟨11, _⟩ => ⟨S1x8192, .f32⟩
  | .local _ .vmem, ⟨12, _⟩ => ⟨S1x8192, .f32⟩
  | .local _ .vmem, ⟨13, _⟩ => ⟨S1x8192, .f32⟩
  | .local _ .vmem, ⟨14, _⟩ => ⟨S1x8192, .f32⟩
  | .local _ .vmem, ⟨15, _⟩ => ⟨S1x8192, .f32⟩
  | .local _ .vmem, ⟨16, _⟩ => ⟨S1x8192, .i32⟩
  | .local _ .vmem, ⟨17, _⟩ => ⟨S8192x8, .f32⟩
  | .local _ .vmem, ⟨18, _⟩ => ⟨S8192x8, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8192 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PackIdeal.lean ====
abbrev S1048576 : Shape := ⟨1, ![1048576]⟩
abbrev S8192 : Shape := ⟨1, ![8192]⟩
abbrev S1048576x1 : Shape := ⟨2, ![1048576, 1]⟩
abbrev S1048576x8 : Shape := ⟨2, ![1048576, 8]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S1048576, .f32⟩
  | .hbm, ⟨4, _⟩ => ⟨S1048576, .f32⟩
  | .hbm, ⟨5, _⟩ => ⟨S1048576, .f32⟩
  | .hbm, ⟨6, _⟩ => ⟨S1048576, .f32⟩
  | .hbm, ⟨7, _⟩ => ⟨S1048576, .f32⟩
  | .hbm, ⟨8, _⟩ => ⟨S8192, .i32⟩
  | .hbm, ⟨9, _⟩ => ⟨S1048576x1, .f32⟩
  | .hbm, ⟨10, _⟩ => ⟨S1048576x1, .f32⟩
  | .hbm, ⟨11, _⟩ => ⟨S1048576x1, .f32⟩
  | .hbm, ⟨12, _⟩ => ⟨S1048576x1, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S1048576x1, .f32⟩
  | .hbm, ⟨17, _⟩ => ⟨S1048576x8, .f32⟩
  | .hbm, ⟨18, _⟩ => ⟨S1048576, .i32⟩
  | .hbm, ⟨19, _⟩ => ⟨S_, .i32⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S1048576x1, .i1⟩
  | .hbm, ⟨24, _⟩ => ⟨S_, .f32⟩
  | .hbm, ⟨25, _⟩ => ⟨S_, .f32⟩
  | .hbm, ⟨26, _⟩ => ⟨S1048576x8, .i1⟩
  | .hbm, ⟨27, _⟩ => ⟨S1048576x8, .f32⟩
  | .hbm, ⟨28, _⟩ => ⟨S1048576x8, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Proof.StreamBatch.lean ====
/-
  Several INDIRECT STREAMS in flight at once on one DMA semaphore. A stream of `o` entries is `o` row transfers of the
  same credit on the stream's cell, so a batch of `n` such row transfers (`Transfers.Batch`) counts any number of streams:
  each issue takes the batch from `b` to `b + o` transfers issued, and the waits, each of a whole stream's credit, are the
  batch's waits for `o` transfers at a time.

  What the streams' rows need is held as a family `R` over the batch's transfers — entry `k` of the stream issued at `b`
  takes `R (b + k)` — and what they leave is the batch's `D`.
-/
module

public import Idealize.ShloMosaic.Lib.Batch
public import Idealize.ShloMosaic.Lib.SparseCore.Stream
public import Idealize.ShloMosaic.Lib.SparseCore.Scatter

@[expose] public section

noncomputable section

namespace Cert.Proof.StreamBatch

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Transfer `b + k` of `n`. -/
def nth {n b o : ℕ} (hb : b + o ≤ n) (k : Fin o) : Fin n := ⟨b + k.val, by omega⟩

/-- A family over the transfers from the `b`-th on is its next `o` members and the rest. -/
theorem bigSep_pending_block {n b o : ℕ} (hb : b + o ≤ n) (Φ : Fin n → sProp 𝕄) :
    bigSep (pending b) Φ = iprop(bigSep Finset.univ (fun k : Fin o => Φ (nth hb k)) ∗ bigSep (pending (b + o)) Φ) := by
  classical
  let e : Fin o ↪ Fin n := ⟨nth hb, fun i j h => Fin.ext (by have := congrArg Fin.val h; simp only [nth] at this; omega)⟩
  have hu : pending (n := n) b = (Finset.univ.map e) ∪ pending (b + o) := by
    ext t
    simp only [pending, Finset.mem_filter, Finset.mem_univ, true_and, Finset.mem_union, Finset.mem_map]
    constructor
    · intro h
      by_cases h' : t.val < b + o
      · exact .inl ⟨⟨t.val - b, by omega⟩, Fin.ext (by show b + (t.val - b) = t.val; omega)⟩
      · exact .inr (by omega)
    · rintro (⟨k, rfl⟩ | h)
      · show b ≤ b + k.val; omega
      · omega
  have hd : Disjoint (Finset.univ.map e) (pending (n := n) (b + o)) := by
    rw [Finset.disjoint_left]
    intro t ht ht'
    obtain ⟨k, -, rfl⟩ := Finset.mem_map.mp ht
    simp only [pending, Finset.mem_filter, Finset.mem_univ, true_and] at ht'
    have : (e k).val = b + k.val := rfl
    omega
  rw [hu, BI.bigSep_union hd, BI.bigSep_map]; rfl

section Rules

variable (EC : UEmb Counters (MT nD τ sig Ix (Elt F) Name U Lvl))
variable {defs : Defs nD τ sig (Elt F) Λ} (𝒱 : Variants) (c : Thread nD τ) (bd : Option 𝒱.V)
variable {sp : Space} {s₀ s si : Shape} {e : EltTy} {a : Nat} {α : Type}
variable {Q : α → sProp (MT nD τ sig Ix (Elt F) Name U Lvl)}

/-- What one row transfer `ρ` takes: its source at a share, its destination's write, and that the two together leave `X`. -/
def rowTakes {sem : DmaSem sig} (ρ : RowDma τ sig (Elt F) c.2 sem) (X : sProp 𝕄) : sProp 𝕄 :=
  iprop(∃ (q : PosShare TreeShare) (fs : Buf (Elt F) (ρ.src.view.loc c)) (P : sProp 𝕄),
    (ρ.src.view.loc c ↦[ρ.src.view.set]{q} fs) ∗ writeUpdate c ρ.dst.view (ρ.via.apply (ρ.src.view.read (Elt F) fs)) P
      ∗ ⌜iprop(P ∗ (ρ.src.view.loc c ↦[ρ.src.view.set]{q} fs)) ⊢ X⌝)

/-- The issue of one stream of a batch, over its row family: `o` more of the batch's transfers issued. -/
theorem wp_streamInBatch [Infinite Name] [EC.LandsIn (upEmb : UEmb _ 𝕄)] {o n : ℕ}
    {hp : c.2.kind = .scVector} {hn : si.numel = o} {sem : DmaSem sig} {row : Fin o → Elt F .i32 → Option (RowDma τ sig (Elt F) c.2 sem)}
    {offsM : Memref sig c.2.kind .vmem si .i32} {k : PUnit → Prog (TpuEff nD τ sig (Elt F) Λ c.2) α}
    {qo : PosShare TreeShare} {fo : Buf (Elt F) (offsM.view.loc c)} {rd : Fin o → RowDma τ sig (Elt F) c.2 sem}
    {R D : Fin n → sProp 𝕄} (ι : Ix) {N b u : ℕ} (hb : b + o ≤ n) (hu : u ≤ b * N)
    (hA : (Stream.issued c offsM.view hn sem row 0).RowsAgree) (hrd : ∀ k, row k ((Stream.issued c offsM.view hn sem row 0).word fo k) = some (rd k))
    (hN : ∀ k, (rd k).dst.view.dmaCredit = N)
    (hR : ∀ k : Fin o, R (nth hb k) ⊢ iprop((Stream.issued c offsM.view hn sem row 0).heldEntry qo fo k
      ∗ ((Stream.issued c offsM.view hn sem row 0).heldEntry qo fo k -∗ rowTakes c (rd k) (D (nth hb k))))) :
    iprop(bigSep (pending b) R ∗ Batch EC c (.dma sem) ι N D b u)
      ⊢ iprop((iprop(bigSep (pending (b + o)) R ∗ Batch EC c (.dma sem) ι N D (b + o) u) -∗ wp frame (wpE defs 𝒱 c bd) Set.univ (k ⟨⟩) Q)
          -∗ wp frame (wpE defs 𝒱 c bd) Set.univ (.op (.enqueueIndirectDma hp offsM hn sem row) k) Q) := by
  unfold Batch
  iintro ⟨HR, ⟨%γ, %γ₀, %κ, #Hinv, HI, H0, Hcred⟩⟩ Hk
  ihave HR' := (Entails.of_eq (bigSep_pending_block hb R)) $$ HR
  icases HR' with ⟨HR, HRr⟩
  ihave HI' := (Entails.of_eq (bigSep_pending_block hb (fun t => count EC (γ t) 0))) $$ HI
  icases HI' with ⟨HI, HIr⟩
  iapply (wp_enqueueIndirectDma 𝒱 c bd Set.univ (qo := qo) (fo := fo) (rd := rd) ι (o * N) hA hrd
    (by rw [Finset.sum_congr rfl fun k _ => hN k, Finset.sum_const, Finset.card_univ, Fintype.card_fin, smul_eq_mul])) $$ [HR HI]
  · have hrow : ∀ k : Fin o, iprop(inv κ (batchBody EC (c, SemLoc.dma sem) N D γ γ₀) ∗ (R (nth hb k) ∗ count EC (γ (nth hb k)) 0))
        ⊢ iprop((Stream.issued c offsM.view hn sem row 0).heldEntry qo fo k
            ∗ ((Stream.issued c offsM.view hn sem row 0).heldEntry qo fo k -∗ rowRes c (rd k))) := fun k => by
      iintro ⟨#Hinv, HRk, Hγ⟩
      ihave H := hR k $$ HRk
      icases H with ⟨He, Hw⟩
      isplitl [He]; · iexact He
      iintro He
      ihave Ht := Hw $$ He
      unfold rowTakes
      icases Ht with ⟨%q, %fs, %P, Hs, HW, %hX⟩
      unfold rowRes
      iexists q, fs, P
      isplitl [Hs]; · iexact Hs
      isplitl [HW]; · iexact HW
      have hc := batch_creditUpdate EC (g := (c, SemLoc.dma sem)) (N := N) (D := D) (γ := γ) (γ₀ := γ₀) (ι := κ) (nth hb k) hX
      iapply (show iprop(inv κ (batchBody EC (c, SemLoc.dma sem) N D γ γ₀) ∗ count EC (γ (nth hb k)) 0)
          ⊢ creditUpdate (c, SemLoc.dma sem) ((rd k).dst.view.amount (.dma sem)) 0
              iprop(P ∗ ((rd k).src.view.loc c ↦[(rd k).src.view.set]{q} fs)) from by
        rw [show (rd k).dst.view.amount (.dma sem) = N from hN k]; exact hc)
      isplitr; · iexact Hinv
      iexact Hγ
    unfold Stream.res
    ihave H := Transfers.bigSep_sep_in _ _ _ $$ [HR HI]; · isplitl [HR] <;> iassumption
    iapply (Transfers.bigSep_mono_pers Finset.univ _ _ _ fun k _ => hrow k)
    isplitr; · iexact Hinv
    iexact H
  · iintro Hcred'
    iapply Hk
    isplitl [HRr]; · iexact HRr
    iexists γ, γ₀, κ
    isplitr; · iexact Hinv
    isplitl [HIr]; · iexact HIr
    isplitl [H0]; · iexact H0
    rw [show (b + o) * N - u = (b * N - u) + o * N by rw [Nat.add_mul]; omega, ← tallyAt_add]
    icombine Hcred Hcred' as H
    iexact H

/-- The entry `k` of a list of `o` words, as an index of the list. -/
def entryIdx {o : ℕ} (hn : si.numel = o) (k : Fin o) : si.Idx := si.rowMajor.symm (k.cast hn.symm)

/-- What row `k` of an indirect gather holds: its row of the destination at `f`, its word of the list, a share of the source. -/
def gatherHeld (src : Memref sig c.2.kind sp s₀ e) (dst : Memref sig c.2.kind .vmem s e) (hg : s₀.Gathers a s)
    (offs : Memref sig c.2.kind .vmem si .i32) (hn : si.numel = s.size hg.axis') (f : Buf (Elt F) (dst.view.loc c))
    (qo : PosShare TreeShare) (fo : Buf (Elt F) (offs.view.loc c)) (q : PosShare TreeShare) (fs : Buf (Elt F) (src.view.loc c))
    (k : Fin (s.size hg.axis')) : sProp 𝕄 :=
  iprop((dst.view.loc c ↦[(dst.view.slice (s.rowRect hg.axis' k)).set]{fullShare} f)
    ∗ (offs.view.loc c ↦[{offs.view.emb (entryIdx hn k)}]{qo} fo) ∗ (src.view.loc c ↦[src.view.set]{q} fs))

/-- An indirect gather issued in a batch: the rows of the destination are left at `G`, which is on each of the
    destination's elements the source's at the row the list names. -/
theorem wp_gatherInBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {q : Fin (s.size hg.axis') → PosShare TreeShare}
    {fs : Buf (Elt F) (src.view.loc c)} {fd G : Buf (Elt F) (dst.view.loc c)} {fo : Buf (Elt F) (offs.view.loc c)}
    {R D : Fin n → sProp 𝕄} (ι : Ix) {N b u : ℕ} (hb : b + s.size hg.axis' ≤ n) (hu : u ≤ b * N)
    (hN : ∀ j, (dst.slice (s.rowRect hg.axis' j) (s.stride_rowRect hg.axis' j)).view.dmaCredit = N)
    (hin : ∀ x, (offs.view.read (Elt F) fo x).toNat < s₀.size hg.axis)
    (hG : ∀ x, dst.view.read (Elt F) G x = SparseCore.gatherPayload hg (src.view.read (Elt F) fs) (SparseCore.rows (offs.view.read (Elt F) fo) hn hin) x)
    (hR : ∀ j, R (nth hb j) ⊢ gatherHeld c src dst hg offs hn fd qo fo (q j) fs j)
    (hD : ∀ j, gatherHeld c src dst hg offs hn G qo fo (q j) fs j ⊢ D (nth hb j)) :
    iprop(bigSep (pending b) R ∗ Batch EC c (.dma sem) ι N D b u)
      ⊢ iprop((iprop(bigSep (pending (b + s.size hg.axis')) R ∗ Batch EC c (.dma sem) ι N D (b + s.size hg.axis') u)
            -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let r : Fin (s.size hg.axis') → Fin (s₀.size hg.axis) := SparseCore.rows (offs.view.read (Elt F) fo) hn hin
  let rd : Fin (s.size hg.axis') → RowDma τ sig (Elt F) c.2 sem := fun j => SparseCore.gatherRow c src dst hg sem hsrc he hsp hr j (r j)
  refine wp_streamInBatch EC 𝒱 c bd (qo := qo) (fo := fo) (rd := rd) ι hb hu ?_ ?_ hN ?_
  · intro j x x' ρ ρ' h h'
    obtain ⟨_, _, rfl⟩ := Option.map_eq_some_iff.mp h
    obtain ⟨_, _, rfl⟩ := Option.map_eq_some_iff.mp h'
    rfl
  · intro j
    change (SparseCore.rowOf (s₀.size hg.axis) (offs.view.read (Elt F) fo (entryIdx hn j))).map _ = _
    rw [SparseCore.rowOf_of_lt (hin _)]; rfl
  · intro j
    refine (hR j).trans ?_
    unfold gatherHeld
    iintro ⟨Hd, Ho, Hs⟩
    isplitl [Ho]; · iexact Ho
    iintro Ho
    unfold rowTakes
    iexists q j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ))
        ∗ (offs.view.loc c ↦[{offs.view.emb (entryIdx hn j)}]{qo} fo))
    isplitl [Hs]; · iexact Hs
    isplitl
    · iapply writeUpdate_frame
      isplitl [Hd]
      · iapply (pointsTo_writeUpdate c (v := dst.view.slice (s.rowRect hg.axis' j)) subset_rfl) $$ Hd
      · iexact Ho
    · ipureintro
      refine Entails.trans ?_ (hD j)
      have hc : ∀ i ∈ (dst.view.slice (s.rowRect hg.axis' j)).set,
          ((dst.view.slice (s.rowRect hg.axis' j)).write (Elt F) fd (fun i => src.view.read (Elt F) fs (hg.rowIdx (r j) i)) Finset.univ) i = G i := by
        intro i hi
        have hw : (fun x => src.view.read (Elt F) fs (hg.rowIdx (r j) x)) = (dst.view.slice (s.rowRect hg.axis' j)).read (Elt F) G := by
          funext x
          have := hG ((s.rowRect hg.axis' j).emb x)
          unfold SparseCore.gatherPayload at this
          rw [Shape.Gathers.idx_rowRect_emb] at this
          exact this.symm
        refine (congrFun (congrArg (fun w => View.write (Elt F) _ fd w Finset.univ) hw) i).trans ?_
        exact (congrFun (View.write_read_eq_piecewise fd G Finset.univ) i).trans (Finset.piecewise_eq_of_mem _ _ _ hi)
      unfold gatherHeld
      rw [pointsTo_congr hc]
      iintro ⟨⟨Hd, Ho⟩, Hs⟩
      isplitl [Hd]; · iexact Hd
      isplitl [Ho]; · iexact Ho
      iexact Hs

/-- What row `k` of an indirect scatter holds: the row of the target its word names, at `f`, its word of the list, its row of
    the source. -/
def scatterHeld (src : Memref sig c.2.kind .vmem s e) (dst : Memref sig c.2.kind sp s₀ e) (hg : s₀.Gathers a s)
    (offs : Memref sig c.2.kind .vmem si .i32) (hn : si.numel = s.size hg.axis') (f : Buf (Elt F) (dst.view.loc c))
    (qo : PosShare TreeShare) (fo : Buf (Elt F) (offs.view.loc c)) (q : PosShare TreeShare) (fs : Buf (Elt F) (src.view.loc c))
    (r : Fin (s.size hg.axis') → Fin (s₀.size hg.axis)) (k : Fin (s.size hg.axis')) : sProp 𝕄 :=
  iprop((dst.view.loc c ↦[(dst.view.slice (s₀.rowRect hg.axis (r k))).set]{fullShare} f)
    ∗ (offs.view.loc c ↦[{offs.view.emb (entryIdx hn k)}]{qo} fo) ∗ (src.view.loc c ↦[(src.view.slice (s.rowRect hg.axis' k)).set]{q} fs))

/-- An indirect scatter issued in a batch: the rows of the target its list names are left at `G`, which is on each of them
    the source's row. -/
theorem wp_scatterInBatch [Infinite Name] [EC.LandsIn (upEmb : UEmb _ 𝕄)] {n : ℕ}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {qo q : PosShare TreeShare}
    {fs : Buf (Elt F) (src.view.loc c)} {fd G : Buf (Elt F) (dst.view.loc c)} {fo : Buf (Elt F) (offs.view.loc c)}
    {R D : Fin n → sProp 𝕄} (ι : Ix) {N b u : ℕ} (hb : b + s.size hg.axis' ≤ n) (hu : u ≤ b * N)
    (hin : ∀ x, (offs.view.read (Elt F) fo x).toNat < s₀.size hg.axis)
    (hN : ∀ j, (dst.slice (s₀.rowRect hg.axis j) (s₀.stride_rowRect hg.axis j)).view.dmaCredit = N)
    (hG : ∀ j x, dst.view.read (Elt F) G ((s₀.rowRect hg.axis (SparseCore.rows (offs.view.read (Elt F) fo) hn hin j)).emb x)
      = SparseCore.scatterRowPayload c src hg fs j x)
    (hR : ∀ j, R (nth hb j) ⊢ scatterHeld c src dst hg offs hn fd qo fo q fs (SparseCore.rows (offs.view.read (Elt F) fo) hn hin) j)
    (hD : ∀ j, scatterHeld c src dst hg offs hn G qo fo q fs (SparseCore.rows (offs.view.read (Elt F) fo) hn hin) j ⊢ D (nth hb j)) :
    iprop(bigSep (pending b) R ∗ Batch EC c (.dma sem) ι N D b u)
      ⊢ iprop((iprop(bigSep (pending (b + s.size hg.axis')) R ∗ Batch EC c (.dma sem) ι N D (b + s.size hg.axis') u)
            -∗ wp frame (wpE defs 𝒱 c bd) Set.univ (k ⟨⟩) Q)
          -∗ wp frame (wpE defs 𝒱 c bd) Set.univ (SparseCore.enqueueIndirectScatter hp src dst hg offs hn sem he hsp hr >>= k) Q) := by
  rw [SparseCore.enqueueIndirectScatter_bind]
  let r : Fin (s.size hg.axis') → Fin (s₀.size hg.axis) := SparseCore.rows (offs.view.read (Elt F) fo) hn hin
  let rd : Fin (s.size hg.axis') → RowDma τ sig (Elt F) c.2 sem := fun j => SparseCore.scatterRow c src dst hg sem he hsp hr j (r j)
  refine wp_streamInBatch EC 𝒱 c bd (qo := qo) (fo := fo) (rd := rd) ι hb hu ?_ ?_ (fun j => hN (r j)) ?_
  · intro j x x' ρ ρ' h h'
    obtain ⟨_, _, rfl⟩ := Option.map_eq_some_iff.mp h
    obtain ⟨_, _, rfl⟩ := Option.map_eq_some_iff.mp h'
    rfl
  · intro j
    change (SparseCore.rowOf (s₀.size hg.axis) (offs.view.read (Elt F) fo (entryIdx hn j))).map _ = _
    rw [SparseCore.rowOf_of_lt (hin _)]; rfl
  · intro j
    have hset : (src.view.slice (s.rowRect hg.axis' j)).set = (rd j).src.view.set :=
      (View.set_cast (v := src.view.slice (s.rowRect hg.axis' j)) _ _).symm
    refine (hR j).trans ?_
    unfold scatterHeld
    iintro ⟨Hd, Ho, Hs⟩
    isplitl [Ho]; · iexact Ho
    iintro Ho
    unfold rowTakes
    iexists q, fs, iprop((dst.view.loc c ↦[(dst.view.slice (s₀.rowRect hg.axis (r j))).set]{fullShare}
        ((dst.view.slice (s₀.rowRect hg.axis (r j))).write (Elt F) fd (SparseCore.scatterRowPayload c src hg fs j) Finset.univ))
        ∗ (offs.view.loc c ↦[{offs.view.emb (entryIdx hn j)}]{qo} fo))
    isplitl [Hs]; · iapply (Entails.of_eq (congrArg (fun I => (src.view.loc c ↦[I]{q} fs : sProp 𝕄)) hset)) $$ Hs
    isplitl
    · iapply writeUpdate_frame
      isplitl [Hd]
      · iapply (pointsTo_writeUpdate c (v := dst.view.slice (s₀.rowRect hg.axis (r j))) subset_rfl) $$ Hd
      · iexact Ho
    · ipureintro
      refine Entails.trans ?_ (hD j)
      have hc : ∀ i ∈ (dst.view.slice (s₀.rowRect hg.axis (r j))).set,
          ((dst.view.slice (s₀.rowRect hg.axis (r j))).write (Elt F) fd (SparseCore.scatterRowPayload c src hg fs j) Finset.univ) i = G i := by
        intro i hi
        have hw : SparseCore.scatterRowPayload c src hg fs j = (dst.view.slice (s₀.rowRect hg.axis (r j))).read (Elt F) G :=
          funext fun x => (hG j x).symm
        refine (congrFun (congrArg (fun w => View.write (Elt F) (dst.view.slice (s₀.rowRect hg.axis (r j))) fd w Finset.univ) hw) i).trans ?_
        exact (congrFun (View.write_read_eq_piecewise (v := dst.view.slice (s₀.rowRect hg.axis (r j))) fd G Finset.univ) i).trans (Finset.piecewise_eq_of_mem _ _ _ hi)
      unfold scatterHeld
      rw [pointsTo_congr hc, hset]
      iintro ⟨⟨Hd, Ho⟩, Hs⟩
      isplitl [Hd]; · iexact Hd
      isplitl [Ho]; · iexact Ho
      iexact Hs

end Rules

end Cert.Proof.StreamBatch

end
-- ==== Proof.Base.lean ====
/-
  What the proof of the occupancy lookup is about: the program as the launch theorem sees it, the arrays it works on, and the
  function it computes.

  A sample `p` is VALID where the density of its cell exceeds its threshold. Each tile owns 32768 consecutive samples, which
  are 256 rays of 128 samples; it marks each of its samples with `1` or `0` and counts the marks of each ray.
-/
module

public import Idealize.ShloMosaic.Lib.Pipeline.Value
public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Mathlib.Data.BitVec
public import Idealize.ShloMosaic.Lib.Tactic
public import proofs.«01_k».proof.Proof.Gen.KernelIdeal
public import proofs.«01_k».proof.Proof.Gen.KernelIdeal.Skeleton
public import proofs.«01_k».proof.Proof.StreamBatch

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The function -/

section Function

/-- Place `p` of a one-dimensional shape (its places counted round). -/
def pt {s : Shape} (hs : ∀ a, 0 < s.size a) (p : ℕ) : s.Idx := fun a => ⟨p % s.size a, Nat.mod_lt _ (hs a)⟩

abbrev ptN (p : ℕ) : S1048576.Idx := pt (s := S1048576) (by decide) p
abbrev ptR (r : ℕ) : S8192.Idx := pt (s := S8192) (by decide) r
abbrev ptG (c : ℕ) : S2097152.Idx := pt (s := S2097152) (by decide) c

variable [FloatOps F]

/-- `1` where a density exceeds a threshold, `0` elsewhere. -/
def mark (x t : F .f32) : BitVec 32 := Scalar.select (FloatOps.cmpf .ogt x t) 1#32 0#32

variable (ix : S1048576.Idx → BitVec 32) (th : S1048576.Idx → F .f32) (g : S2097152.Idx → F .f32)

/-- The density of sample `p`. -/
def dens (p : ℕ) : F .f32 := g (ptG (ix (ptN p)).toNat)

/-- Sample `p`'s mark. -/
def valid (p : ℕ) : BitVec 32 := mark (dens ix g p) (th (ptN p))

/-- The number of valid samples of ray `r`, as a word. -/
def count (r : ℕ) : BitVec 32 := ∑ k ∈ Finset.range 128, valid ix th g (128 * r + k)

/-- All marks, and all counts. -/
def validF : S1048576.Idx → BitVec 32 := fun x => valid ix th g (x 0)
def counts : S8192.Idx → BitVec 32 := fun x => count ix th g (x 0)

end Function

/-- An index of a unit-stride rectangle, placed: the offset plus the index. -/
theorem unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- A window of a one-axis buffer is read at the offset plus the lane. -/
theorem readAt_window {sig' : RefSig} {κ : Kind} {sp : Space} {e : EltTy} {N n : ℕ} {Val : EltTy → Type} (v : View sig' κ sp ⟨1, ![N]⟩ e) (f : v.ty.Contents Val)
    (off : Fin 1 → ℕ) (inb) (x : (⟨1, ![n]⟩ : Shape).Idx) (y : (⟨1, ![N]⟩ : Shape).Idx) (hy : (y 0).val = off 0 + (x 0).val) :
    v.readAt Val (Rect.unit (s := ⟨1, ![N]⟩) off ![n] inb).toLoadRect f x = v.read Val f y := by
  rw [View.readAt_rect]
  refine congrArg (v.read Val f) ?_
  funext a
  have ha : a = 0 := Subsingleton.elim (α := Fin 1) _ _
  subst ha
  exact Fin.ext ((unit_val _ _ _ _ _).trans hy.symm)

/-- A window of a one-axis buffer stored with `G` of the positions: `G` on the window, the old contents off it. -/
theorem read_writes_window {sig' : RefSig} {κ : Kind} {sp : Space} {e : EltTy} {N n : ℕ} {Val : EltTy → Type} (v : View sig' κ sp ⟨1, ![N]⟩ e) (f : v.ty.Contents Val)
    (off : Fin 1 → ℕ) (inb) (w : (⟨1, ![n]⟩ : Shape).Idx → Val e) (G : ℕ → Val e) (hw : ∀ x, w x = G (off 0 + (x 0).val)) (y : (⟨1, ![N]⟩ : Shape).Idx) :
    v.read Val (v.writes Val f [⟨Rect.unit (s := ⟨1, ![N]⟩) off ![n] inb, w⟩]) y
      = if off 0 ≤ (y 0).val ∧ (y 0).val < off 0 + n then G (y 0).val else v.read Val f y := by
  by_cases h : off 0 ≤ (y 0).val ∧ (y 0).val < off 0 + n
  · rw [if_pos h]
    have hx : (y 0).val - off 0 < n := by omega
    let x : (⟨1, ![n]⟩ : Shape).Idx := fun a => ⟨(y 0).val - off 0, by
      have ha : a = 0 := Subsingleton.elim (α := Fin 1) _ _
      subst ha; exact hx⟩
    have hc := View.read_writes_cons_hit_of_coords v f (Rect.unit (s := ⟨1, ![N]⟩) off ![n] inb) w [] x y (fun a => by
      have ha : a = 0 := Subsingleton.elim (α := Fin 1) _ _
      subst ha
      show (y 0).val = off 0 + 1 * ((y 0).val - off 0)
      omega)
    refine hc.trans ((hw x).trans (congrArg G ?_))
    show off 0 + ((y 0).val - off 0) = (y 0).val
    omega
  · rw [if_neg h]
    exact (View.read_writes_cons_miss_of_axis v f ⟨Rect.unit (s := ⟨1, ![N]⟩) off ![n] inb, w⟩ [] y 0 (off 0) n rfl rfl rfl (by omega))

/-! ## The program as the launch theorem sees it -/

abbrev ΛP : Labels := Pipeline.Sig Λ₀ (Fin 0) fun p => (pcfgs (F := F) p).Adm
abbrev K : SparseCore.Cfg τ sig (ΛP (F := F)) 2 := sc (F := F)
theorem nSub_zero : (K (F := F)).nSub 0 = 16 := rfl
theorem nCore_zero : (K (F := F)).nCore 0 = 2 := rfl
theorem nSub_one : (K (F := F)).nSub 1 = 16 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays -/

variable (m : (ℓ : Loc nD τ sig) → Buf (Elt F) ℓ)

abbrev iLoc (d : Dev nD) : Loc nD τ sig := (SparseCore.T d).loc main_v0
abbrev tLoc (d : Dev nD) : Loc nD τ sig := (SparseCore.T d).loc main_v1
abbrev gLoc (d : Dev nD) : Loc nD τ sig := (SparseCore.T d).loc main_arg2
abbrev vLoc (d : Dev nD) : Loc nD τ sig := (SparseCore.T d).loc main_v2_0
abbrev cLoc (d : Dev nD) : Loc nD τ sig := (SparseCore.T d).loc main_v2_1

/-- A points-to is that of some of its elements, one by one, and that of the rest. -/
theorem pointsTo_words {ℓ : Loc nD τ sig} {n : ℕ} (e : Fin n → Idx ℓ) (he : Function.Injective e) (q : PosShare TreeShare)
    (f : Buf (Elt F) ℓ) :
    (ℓ ↦{q} f : sProp 𝕄) = iprop((bigSep Finset.univ fun i : Fin n => ℓ ↦[{e i}]{q} f)
      ∗ ℓ ↦[Finset.univ \ Finset.univ.biUnion fun i => {e i}]{q} f) := by
  rw [← pointsTo_biUnion Finset.univ (fun i => ({e i} : Finset (Idx ℓ))) fun i _ j _ h => by
    rw [Finset.disjoint_singleton]; exact fun e' => h (he e')]
  exact BI.Entails.antisymm (pointsTo_split_subset (Finset.subset_univ _)).1 (pointsTo_split_subset (Finset.subset_univ _)).2

/-- The rest, at contents that agree off those elements. -/
theorem pointsTo_rest {ℓ : Loc nD τ sig} {n : ℕ} (e : Fin n → Idx ℓ) (q : PosShare TreeShare) {f f' : Buf (Elt F) ℓ}
    (h : ∀ x, (∀ i, x ≠ e i) → f' x = f x) :
    (ℓ ↦[Finset.univ \ Finset.univ.biUnion fun i => {e i}]{q} f : sProp 𝕄) = ℓ ↦[Finset.univ \ Finset.univ.biUnion fun i => {e i}]{q} f' :=
  pointsTo_congr fun x hx => (h x fun i hi =>
    (Finset.mem_sdiff.mp hx).2 (Finset.mem_biUnion.mpr ⟨i, Finset.mem_univ _, Finset.mem_singleton.mpr hi⟩)).symm

/-- A points-to at a share is as many points-tos, at pieces of the share. -/
theorem pointsTo_shares {ℓ : Loc nD τ sig} (f : Buf (Elt F) ℓ) {o : ℕ} (ho : 0 < o) (q : PosShare TreeShare) :
    (ℓ ↦{q} f : sProp 𝕄) = bigSep Finset.univ fun i : Fin o => ℓ ↦{pieceOf q o ho i} f :=
  pointsTo_piecesOf Finset.univ f ho q

/-- A points-to on some elements is those of the elements of each class. -/
theorem pointsTo_fiber {ℓ : Loc nD τ sig} {n : ℕ} (S : Finset (Idx ℓ)) (key : Idx ℓ → Fin n) (q : PosShare TreeShare) (f : Buf (Elt F) ℓ) :
    (ℓ ↦[S]{q} f : sProp 𝕄) = bigSep Finset.univ fun i : Fin n => ℓ ↦[S.filter fun x => key x = i]{q} f := by
  rw [← pointsTo_biUnion Finset.univ (fun i => S.filter fun x => key x = i) fun i _ j _ h => Finset.disjoint_filter.mpr fun x _ h1 h2 => h (h1.symm.trans h2)]
  congr 1
  ext x
  simp only [Finset.mem_biUnion, Finset.mem_univ, true_and, Finset.mem_filter, exists_and_left, exists_eq', and_true]

end Cert.Proof.Lookup

end
-- ==== Proof.Gather.lean ====
/-
  The gather loop of a tile: its trip `t` issues eight indirect gathers, of 128 words each, on one semaphore and waits for the
  eight of them. The trip's 1024 words are one batch of row transfers; at the last wait every word of it holds its sample's
  density.
-/
module

public import proofs.«01_k».proof.Proof.Base

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "iV" => (Memref.whole Cert.KernelIdeal.main_v0_scv : Memref Cert.KernelIdeal.sig Kind.scVector Space.hbm Cert.KernelIdeal.S1048576 EltTy.i32)
local notation "tV" => (Memref.whole Cert.KernelIdeal.main_v1_scv : Memref Cert.KernelIdeal.sig Kind.scVector Space.hbm Cert.KernelIdeal.S1048576 EltTy.f32)
local notation "gV" => (Memref.whole Cert.KernelIdeal.main_arg2_scv : Memref Cert.KernelIdeal.sig Kind.scVector Space.hbm Cert.KernelIdeal.S2097152 EltTy.f32)
local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "sI" => (Memref.whole Cert.KernelIdeal.cc0_scratch0 : Memref Cert.KernelIdeal.sig Kind.scVector Space.vmem Cert.KernelIdeal.S32768 EltTy.i32)
local notation "sT" => (Memref.whole Cert.KernelIdeal.cc0_scratch1 : Memref Cert.KernelIdeal.sig Kind.scVector Space.vmem Cert.KernelIdeal.S32768 EltTy.f32)
local notation "sD" => (Memref.whole Cert.KernelIdeal.cc0_scratch2 : Memref Cert.KernelIdeal.sig Kind.scVector Space.vmem Cert.KernelIdeal.S32768 EltTy.f32)
local notation "sC" => (Memref.whole Cert.KernelIdeal.cc0_scratch3 : Memref Cert.KernelIdeal.sig Kind.scVector Space.vmem Cert.KernelIdeal.S256 EltTy.i32)

variable (L : grid0.Coords)

abbrev coreOf (L : grid0.Coords) : Fin τ.nSC := (L 0).castLE hcore0
abbrev subOf (L : grid0.Coords) : Fin τ.nSub := (L 1).castLE hsub0
/-- The tile's thread. -/
abbrev thr (d : Dev nD) (L : grid0.Coords) : Thread nD τ := V d (coreOf L) (subOf L)

/-- `G` on the first `n` words, `f` on the rest. -/
def mix {α : Type} {s : Shape} (G : ℕ → α) (f : s.Idx → α) (n : ℕ) (a₀ : Fin s.rank) : s.Idx → α :=
  fun x => if (x a₀).val < n then G (x a₀).val else f x

/-- Word `p` of the tile's buffers. -/
abbrev ptL (p : ℕ) : S32768.Idx := pt (s := S32768) (by decide) p

/-- The words of trip `t`. -/
def word (t : ℕ) (i : Fin 1024) : S32768.Idx := ptL (1024 * t + i.val)

theorem word_val {t : ℕ} (ht : t < 32) (i : Fin 1024) (a : Fin 1) : (word t i a).val = 1024 * t + i.val := by
  have ha : a = 0 := Subsingleton.elim _ _
  subst ha
  show (1024 * t + i.val) % 32768 = _
  exact Nat.mod_eq_of_lt (by omega)

theorem word_injective {t : ℕ} (ht : t < 32) : Function.Injective (word t) := fun i j h => by
  have h0 := congrArg Fin.val (congrFun h 0)
  have e1 := word_val ht i 0
  have e2 := word_val ht j 0
  exact Fin.ext (by omega)

/-- An index of the tile's buffers by its one coordinate. -/
theorem idx_ext {x y : S32768.Idx} (h : (x 0).val = (y 0).val) : x = y := by
  funext a
  have ha : a = 0 := Subsingleton.elim _ _
  subst ha
  exact Fin.ext h

section Windows

variable {t r : ℕ} {o : Fin 1 → ℕ} (ho : o = ![1024 * t + 128 * r]) (ht : t < 32) (hr : r < 8)
variable (inb : ∀ a, o a + S128.size a ≤ S32768.size a)

theorem rowAt_lt {r : ℕ} (hr : r < 8) (k : Fin 128) : 128 * r + k.val < 1024 := by omega

include ho ht hr

/-- Row `k` of gather `r` of trip `t`, in the densities, is one word of the trip; -/
theorem set_rowD (k : Fin (S128.size (gathers_S2097152_S128).axis')) :
    (((sD).slice (Rect.unit (s := S32768) o S128.size inb) (fun _ => rfl)).view.slice (S128.rowRect (gathers_S2097152_S128).axis' k)).set
      = {word t ⟨128 * r + k.val, rowAt_lt hr k⟩} := by
  have hk : ∀ y, (((sD).slice (Rect.unit (s := S32768) o S128.size inb) (fun _ => rfl)).view.slice (S128.rowRect (gathers_S2097152_S128).axis' k)).emb y
      = word t ⟨128 * r + k.val, rowAt_lt hr k⟩ := fun y => by
    apply idx_ext
    rw [word_val ht]
    change ((Rect.unit (s := S32768) o S128.size inb).emb ((S128.rowRect (gathers_S2097152_S128).axis' k).emb y) 0).val = _
    refine (unit_val (s := S32768) o S128.size inb ((S128.rowRect (gathers_S2097152_S128).axis' k).emb y) 0).trans ?_
    have h1 : o 0 = 1024 * t + 128 * r := by rw [ho]; rfl
    have h0 : ((S128.rowRect (gathers_S2097152_S128).axis' k).emb y 0).val = k.val :=
      congrArg Fin.val (Shape.rowRect_emb_axis (gathers_S2097152_S128).axis' k y)
    change o 0 + ((S128.rowRect (gathers_S2097152_S128).axis' k).emb y 0).val = 1024 * t + (128 * r + k.val)
    omega
  ext x
  rw [Finset.mem_singleton]
  unfold View.set
  rw [Finset.mem_map]
  constructor
  · rintro ⟨y, -, rfl⟩
    exact hk y
  · rintro rfl
    exact ⟨fun a => ⟨0, by
      have ha : a = (gathers_S2097152_S128).axis' := Subsingleton.elim (α := Fin 1) a (gathers_S2097152_S128).axis'
      exact Nat.lt_of_lt_of_eq Nat.one_pos (if_pos ha).symm⟩, Finset.mem_univ _, hk _⟩

/-- and its word of the list is the same word of the indices. -/
theorem emb_entryI (k : Fin (S128.size (gathers_S2097152_S128).axis')) :
    ((sI).slice (Rect.unit (s := S32768) o S128.size inb) (fun _ => rfl)).view.emb (entryIdx (si := S128) rfl k)
      = word t ⟨128 * r + k.val, rowAt_lt hr k⟩ := by
  apply idx_ext
  rw [word_val ht]
  refine (unit_val (s := S32768) o S128.size inb (entryIdx (si := S128) (o := 128) rfl k) 0).trans ?_
  have h1 : o 0 = 1024 * t + 128 * r := by rw [ho]; rfl
  have h0 : (entryIdx (si := S128) (o := 128) rfl k 0).val = k.val := by
    have := congrArg Fin.val (S128.rowMajor.apply_symm_apply (k.cast (rfl : 128 = S128.numel)))
    exact (Shape.rowMajor_val_one _).symm.trans this
  change o 0 + (entryIdx (si := S128) (o := 128) rfl k 0).val = 1024 * t + (128 * r + k.val)
  omega

/-- Word `x` of window `r` of trip `t`. -/
theorem emb_window (x : S128.Idx) (hx : (x 0).val < 128) :
    ((sD).slice (Rect.unit (s := S32768) o S128.size inb) (fun _ => rfl)).view.emb x
      = word t ⟨128 * r + (x 0).val, rowAt_lt hr ⟨(x 0).val, hx⟩⟩ := by
  apply idx_ext
  rw [word_val ht]
  refine (unit_val (s := S32768) o S128.size inb x 0).trans ?_
  have h1 : o 0 = 1024 * t + 128 * r := by rw [ho]; rfl
  change o 0 + (x 0).val = 1024 * t + (128 * r + (x 0).val)
  omega

end Windows

/-! ## One trip -/

section Trip

variable [FloatOps F] (d : Dev nD) (q : PosShare TreeShare)
variable (ixs : S32768.Idx → BitVec 32) (g : S2097152.Idx → F .f32)

/-- What the transfer of word `i` of trip `t` holds: the word of the densities, of the indices, a piece of the table's share. -/
def held (t : ℕ) (f : S32768.Idx → F .f32) (i : Fin 1024) : sProp 𝕄 :=
  iprop(((sD).view.loc (thr d L) ↦[{word t i}]{fullShare} f) ∗ ((sI).view.loc (thr d L) ↦[{word t i}]{fullShare} ixs)
    ∗ ((gV).view.loc (thr d L) ↦{pieceOf q 1024 (by decide) i} g))

omit [FloatOps F] in
/-- What the trip's transfers hold, kind by kind. -/
theorem held_all (t : ℕ) (f : S32768.Idx → F .f32) :
    (bigSep Finset.univ (held L d q ixs g t f) : sProp 𝕄)
      = iprop((bigSep Finset.univ fun i : Fin 1024 => (sD).view.loc (thr d L) ↦[{word t i}]{fullShare} f)
        ∗ (bigSep Finset.univ fun i : Fin 1024 => (sI).view.loc (thr d L) ↦[{word t i}]{fullShare} ixs) ∗ ((gV).view.loc (thr d L) ↦{q} g)) := by
  rw [pointsTo_shares (ℓ := (gV).view.loc (thr d L)) g (o := 1024) (by decide) q]
  have e2 := bigSep_sep' Finset.univ (fun i : Fin 1024 => ((sI).view.loc (thr d L) ↦[{word t i}]{fullShare} ixs : sProp 𝕄))
    (fun i : Fin 1024 => ((gV).view.loc (thr d L) ↦{pieceOf q 1024 (by decide) i} g : sProp 𝕄))
  have e1 := bigSep_sep' Finset.univ (fun i : Fin 1024 => ((sD).view.loc (thr d L) ↦[{word t i}]{fullShare} f : sProp 𝕄))
    (fun i : Fin 1024 => iprop(((sI).view.loc (thr d L) ↦[{word t i}]{fullShare} ixs) ∗ ((gV).view.loc (thr d L) ↦{pieceOf q 1024 (by decide) i} g)))
  rw [e2] at e1
  exact e1

instance held_storable (t : ℕ) (f : S32768.Idx → F .f32) (i : Fin 1024) :
    BI.Storable (upEmb : UEmb _ 𝕄) (held (F := F) L d q ixs g t f i) := by
  unfold held; infer_instance

theorem set_table : ((gV).slice (Rect.unit (s := S2097152) ![0] S2097152.size inb_S2097152_S2097152_0) (fun _ => rfl)).view.set = Finset.univ := by
  apply Finset.eq_univ_of_forall
  intro x
  refine Finset.mem_map.mpr ⟨x, Finset.mem_univ _, ?_⟩
  funext a
  apply Fin.ext
  change ((Rect.unit (s := S2097152) ![0] S2097152.size inb_S2097152_S2097152_0).emb x a).val = _
  rw [unit_val]
  have ha : a = 0 := Subsingleton.elim (α := Fin 1) _ _
  subst ha
  show 0 + (x 0).val = _
  omega

theorem emb_table (x : S2097152.Idx) : ((gV).slice (Rect.unit (s := S2097152) ![0] S2097152.size inb_S2097152_S2097152_0) (fun _ => rfl)).view.emb x = x := by
  funext a
  apply Fin.ext
  change ((Rect.unit (s := S2097152) ![0] S2097152.size inb_S2097152_S2097152_0).emb x a).val = _
  rw [unit_val]
  have ha : a = 0 := Subsingleton.elim (α := Fin 1) _ _
  subst ha
  show 0 + (x 0).val = _
  omega

/-- What a row of gather `r` of trip `t` holds is what its transfer holds. -/
theorem gatherHeld_eq {t r : ℕ} {o : Fin 1 → ℕ} (ho : o = ![1024 * t + 128 * r]) (ht : t < 32) (hr : r < 8)
    (inb : ∀ a, o a + S128.size a ≤ S32768.size a) (f : S32768.Idx → F .f32) (k : Fin 128) :
    (gatherHeld (thr d L) ((gV).slice (Rect.unit (s := S2097152) ![0] S2097152.size inb_S2097152_S2097152_0) (fun _ => rfl))
        ((sD).slice (Rect.unit (s := S32768) o S128.size inb) (fun _ => rfl)) gathers_S2097152_S128
        ((sI).slice (Rect.unit (s := S32768) o S128.size inb) (fun _ => rfl)) rfl f fullShare ixs
        (pieceOf q 1024 (by decide) ⟨128 * r + k.val, rowAt_lt hr k⟩) g k : sProp 𝕄)
      = held L d q ixs g t f ⟨128 * r + k.val, rowAt_lt hr k⟩ := by
  unfold gatherHeld held
  have e1 := congrArg (fun I => ((sD).view.loc (thr d L) ↦[I]{fullShare} f : sProp 𝕄)) (set_rowD ho ht hr inb k)
  have e2 := congrArg (fun i => ((sI).view.loc (thr d L) ↦[{i}]{fullShare} ixs : sProp 𝕄)) (emb_entryI ho ht hr inb k)
  have e3 := congrArg (fun I => ((gV).view.loc (thr d L) ↦[I]{pieceOf q 1024 (by decide) ⟨128 * r + k.val, rowAt_lt hr k⟩} g : sProp 𝕄)) set_table
  exact congrArg₂ (fun A B : sProp 𝕄 => iprop(A ∗ B)) e1 (congrArg₂ (fun A B : sProp 𝕄 => iprop(A ∗ B)) e2 e3)

theorem read_window {o : Fin 1 → ℕ} {inb : ∀ a, o a + S128.size a ≤ S32768.size a} (x : S128.Idx) :
    ((sI).slice (Rect.unit (s := S32768) o S128.size inb) (fun _ => rfl)).view.read (Elt F) ixs x
      = ixs (((sI).slice (Rect.unit (s := S32768) o S128.size inb) (fun _ => rfl)).view.emb x) := (View.read_apply _ _).trans (cast_eq _ _)

/-- Gather `r` of trip `t` puts at each of its words what `f'` holds there, where `f'` is the table looked up by the trip's indices. -/
theorem payload_window {t r : ℕ} {o : Fin 1 → ℕ} (ho : o = ![1024 * t + 128 * r]) (ht : t < 32) (hr : r < 8)
    {inb : ∀ a, o a + S128.size a ≤ S32768.size a} {f' : S32768.Idx → F .f32}
    (hf' : ∀ i, f' (word t i) = g (ptG (ixs (word t i)).toNat))
    (hin : ∀ x, (((sI).slice (Rect.unit (s := S32768) o S128.size inb) (fun _ => rfl)).view.read (Elt F) ixs x).toNat < 2097152) :
    ∀ x, ((sD).slice (Rect.unit (s := S32768) o S128.size inb) (fun _ => rfl)).view.read (Elt F) f' x
      = SparseCore.gatherPayload gathers_S2097152_S128
          (((gV).slice (Rect.unit (s := S2097152) ![0] S2097152.size inb_S2097152_S2097152_0) (fun _ => rfl)).view.read (Elt F) g)
          (SparseCore.rows (((sI).slice (Rect.unit (s := S32768) o S128.size inb) (fun _ => rfl)).view.read (Elt F) ixs) rfl hin) x := by
  intro x
  have hx : (x 0).val < 128 := (x 0).isLt
  refine (View.read_apply _ _).trans ((cast_eq _ _).trans ?_)
  rw [emb_window ho ht hr inb x hx, hf']
  unfold SparseCore.gatherPayload
  refine Eq.trans ?_ ((View.read_apply _ _).trans (cast_eq _ _)).symm
  rw [emb_table]
  refine congrArg g ?_
  funext a
  have ha : a = 0 := Subsingleton.elim (α := Fin 1) _ _
  subst ha
  apply Fin.ext
  have h2 := congrArg Fin.val (Shape.Gathers.idx_axis gathers_S2097152_S128 (SparseCore.rows (((sI).slice (Rect.unit (s := S32768) o S128.size inb) (fun _ => rfl)).view.read (Elt F) ixs) rfl hin) x)
  refine Eq.trans ?_ h2.symm
  have hl : ((sI).slice (Rect.unit (s := S32768) o S128.size inb) (fun _ => rfl)).view.read (Elt F) ixs (entryIdx (si := S128) (o := 128) rfl ⟨(x 0).val, hx⟩)
      = ixs (word t ⟨128 * r + (x 0).val, rowAt_lt hr ⟨(x 0).val, hx⟩⟩) :=
    (read_window ixs _).trans (congrArg ixs (emb_entryI ho ht hr inb ⟨(x 0).val, hx⟩))
  refine Eq.trans ?_ (congrArg BitVec.toNat hl).symm
  exact Nat.mod_eq_of_lt (by rw [← hl]; exact hin _)
variable (hix : ∀ x, (ixs x).toNat < 2097152)

include hix in
/-- The issue of gather `r` of trip `t`. -/
theorem gather_step {t r : ℕ} {o : Fin 1 → ℕ} (ho : o = ![1024 * t + 128 * r]) (ht : t < 32) (hr : r < 8)
    {inb : ∀ a, o a + S128.size a ≤ S32768.size a} {α : Type} {Q : α → sProp 𝕄} {u : ℕ} (hu : u ≤ (128 * r) * 32)
    {f f' : S32768.Idx → F .f32} (hf' : ∀ i, f' (word t i) = g (ptG (ixs (word t i)).toNat))
    {hsrc : ((gV).slice (Rect.unit (s := S2097152) ![0] S2097152.size inb_S2097152_S2097152_0) (fun _ => rfl)).view.WordExact}
    {he : EltTy.bits .f32 = 32} {hsp : Space.hbm = .hbm ∨ Space.hbm = .shared} {hrows : S2097152.StreamRows 0}
    {k : PUnit → Prog (TpuEff nD τ sig (Elt F) Λ₀ (.scVector (coreOf L) (subOf L))) α} :
    iprop(bigSep (pending (128 * r)) (held L d q ixs g t f) ∗ Batch countersEmb (thr d L) (.dma cc0_scratch5.sem) (none : HIx 2) 32 (held L d q ixs g t f') (128 * r) u)
      ⊢ iprop((iprop(bigSep (pending (128 * r + 128)) (held L d q ixs g t f) ∗ Batch countersEmb (thr d L) (.dma cc0_scratch5.sem) (none : HIx 2) 32 (held L d q ixs g t f') (128 * r + 128) u)
            -∗ wp frame (wpE (defs₀ (F := F)) 𝒱₀ (thr d L) none) Set.univ (k ⟨⟩) Q)
          -∗ wp frame (wpE (defs₀ (F := F)) 𝒱₀ (thr d L) none) Set.univ
              (SparseCore.enqueueIndirectGather rfl ((gV).slice (Rect.unit (s := S2097152) ![0] S2097152.size inb_S2097152_S2097152_0) (fun _ => rfl))
                ((sD).slice (Rect.unit (s := S32768) o S128.size inb) (fun _ => rfl)) gathers_S2097152_S128
                ((sI).slice (Rect.unit (s := S32768) o S128.size inb) (fun _ => rfl)) rfl cc0_scratch5.sem hsrc he hsp hrows >>= k) Q) := by
  have hb : 128 * r + 128 ≤ 1024 := by omega
  have hin : ∀ x, (((sI).slice (Rect.unit (s := S32768) o S128.size inb) (fun _ => rfl)).view.read (Elt F) ixs x).toNat < 2097152 :=
    fun x => by rw [read_window]; exact hix _
  have hN : ∀ j, (((sD).slice (Rect.unit (s := S32768) o S128.size inb) (fun _ => rfl)).slice (S128.rowRect (gathers_S2097152_S128).axis' j)
      (S128.stride_rowRect (gathers_S2097152_S128).axis' j)).view.dmaCredit = 32 := fun _ => rfl
  have hpay := payload_window ixs g ho ht hr hf' hin
  have hR : ∀ j : Fin 128, held L d q ixs g t f (nth hb j) ⊢ _ := fun j => Entails.of_eq (gatherHeld_eq L d q ixs g ho ht hr inb f j).symm
  have hD : ∀ j : Fin 128, _ ⊢ held L d q ixs g t f' (nth hb j) := fun j => Entails.of_eq (gatherHeld_eq L d q ixs g ho ht hr inb f' j)
  have H := wp_gatherInBatch (defs := defs₀ (F := F)) countersEmb 𝒱₀ (thr d L) none (n := 1024) (Q := Q)
    (src := (gV).slice (Rect.unit (s := S2097152) ![0] S2097152.size inb_S2097152_S2097152_0) (fun _ => rfl))
    (dst := (sD).slice (Rect.unit (s := S32768) o S128.size inb) (fun _ => rfl)) (hg := gathers_S2097152_S128)
    (offs := (sI).slice (Rect.unit (s := S32768) o S128.size inb) (fun _ => rfl)) (hn := rfl) (sem := cc0_scratch5.sem)
    (hp := rfl) (hsrc := hsrc) (he := he) (hsp := hsp) (hr := hrows) (k := k)
    (qo := fullShare) (q := fun k : Fin 128 => pieceOf q 1024 (by decide) ⟨128 * r + k.val, rowAt_lt hr k⟩)
    (fs := g) (fd := f) (G := f') (fo := ixs) (R := held L d q ixs g t f) (D := held L d q ixs g t f') (none : HIx 2) (N := 32) (b := 128 * r) (u := u) hb hu hN hin hpay
  have H' := H hR
  have H'' := H' hD
  exact H''

/-- One of the trip's waits: a stream's credit of the batch is consumed. -/
theorem wait_step {t r : ℕ} {o : Fin 1 → ℕ} {inb : ∀ a, o a + S128.size a ≤ S32768.size a} {α : Type} {Q : α → sProp 𝕄} (u u' : ℕ)
    (hu : u + 4096 = u') (hu' : u' ≤ 32 * 1024) {f' : S32768.Idx → F .f32}
    {O : CellTallies nD τ sig (HIx 2)} {W : Waits sig (HIx 2)}
    {hsrc : ((gV).slice (Rect.unit (s := S2097152) ![0] S2097152.size inb_S2097152_S2097152_0) (fun _ => rfl)).view.WordExact}
    {hdst : ((sD).slice (Rect.unit (s := S32768) o S128.size inb) (fun _ => rfl)).view.WordExact}
    {k : PUnit → Prog (TpuEff nD τ sig (Elt F) Λ₀ (.scVector (coreOf L) (subOf L))) α} :
    iprop(Transfers.MayWaits (thr d L) (none : HIx 2) O ∗ Batch countersEmb (thr d L) (.dma cc0_scratch5.sem) (none : HIx 2) 32 (held L d q ixs g t f') 1024 u
        ∗ ∃ W', ⌜∀ p ∈ W', p ∈ W ∨ p.2 = none⌝ ∗ owes (thr d L) O W')
      ⊢ iprop((iprop(Batch countersEmb (thr d L) (.dma cc0_scratch5.sem) (none : HIx 2) 32 (held L d q ixs g t f') 1024 u'
              ∗ ∃ W', ⌜∀ p ∈ W', p ∈ W ∨ p.2 = none⌝ ∗ owes (thr d L) O W')
            -∗ wp frame (wpE (defs₀ (F := F)) 𝒱₀ (thr d L) none) Set.univ (k ⟨⟩) Q)
          -∗ wp frame (wpE (defs₀ (F := F)) 𝒱₀ (thr d L) none) Set.univ
              (SparseCore.waitIndirectGather cc0_scratch5.sem ((gV).slice (Rect.unit (s := S2097152) ![0] S2097152.size inb_S2097152_S2097152_0) (fun _ => rfl))
                ((sD).slice (Rect.unit (s := S32768) o S128.size inb) (fun _ => rfl)) hsrc hdst >>= k) Q) := by
  subst hu
  rw [SparseCore.waitIndirectGather_bind (c := thr d L)]
  have hJ : ((sD).slice (Rect.unit (s := S32768) o S128.size inb) (fun _ => rfl)).view.dmaCredit = 128 * 32 := rfl
  iintro ⟨Hmw, HB, %W', %hW', HO⟩ Hk
  ihave Hm := (Transfers.MayWaits.elim (SemLoc.dma cc0_scratch5.sem)) $$ Hmw
  iapply (wp_waitBatchMulO (defs := defs₀ (F := F)) countersEmb 𝒱₀ (thr d L) none (none : HIx 2) 128 hJ hu') $$ [HB HO Hm]
  · isplitl [HB]; · iexact HB
    isplitl [HO]; · iexact HO
    iexact Hm
  iintro ⟨HB, HO⟩
  iapply Hk
  isplitl [HB]; · iexact HB
  iexists (insert (SemLoc.dma cc0_scratch5.sem, (none : HIx 2)) W'); isplitr
  · ipureintro; intro p hp
    rcases Finset.mem_insert.mp hp with hp | hp
    · exact .inr (hp ▸ rfl)
    · exact hW' p hp
  · iexact HO

include hix in
/-- A trip of the gather loop: the trip's words of the densities are looked up, the others stay. -/
theorem trip (k : Fin k0_t1_loop.trips) {f f' : S32768.Idx → F .f32} (hf' : ∀ i, f' (word k i) = g (ptG (ixs (word k i)).toNat))
    (hrest : ∀ x, (∀ i, x ≠ word k i) → f' x = f x)
    {O : CellTallies nD τ sig (HIx 2)} {W : Waits sig (HIx 2)} :
    (iprop(Transfers.MayWaits (thr d L) (none : HIx 2) O ∗ ((sD).view.loc (thr d L) ↦{fullShare} f) ∗ ((sI).view.loc (thr d L) ↦{fullShare} ixs)
        ∗ ((gV).view.loc (thr d L) ↦{q} g) ∗ semVal (thr d L, SemLoc.dma cc0_scratch5.sem) 0
        ∗ ∃ W', ⌜∀ p ∈ W', p ∈ W ∨ p.2 = none⌝ ∗ owes (thr d L) O W') : sProp 𝕄)
      ⊢ wp frame (wpE (defs₀ (F := F)) 𝒱₀ (thr d L) none) Set.univ
          (k0_t1_body L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3 k ⟨⟩)
          fun _ => iprop(((sD).view.loc (thr d L) ↦{fullShare} f') ∗ ((sI).view.loc (thr d L) ↦{fullShare} ixs)
            ∗ ((gV).view.loc (thr d L) ↦{q} g) ∗ semVal (thr d L, SemLoc.dma cc0_scratch5.sem) 0
            ∗ ∃ W', ⌜∀ p ∈ W', p ∈ W ∨ p.2 = none⌝ ∗ owes (thr d L) O W') := by
  have ht : k.val < 32 := Nat.lt_of_lt_of_le k.isLt k0_t1_abs.2.1
  have ho : ∀ r : Fin 8, k0_off2 k (BitVec.ofNat 32 r.val) = ![1024 * k.val + 128 * r.val] := k0_off2_eq k
  unfold k0_t1_body
  simp only [k0_part1_eq_skeleton, k0_part2_eq_skeleton]
  unfold k0_part1_skel k0_part2_skel
  simp only [bind_assoc, pure_bind]
  iintro ⟨#Hmw, Hd, Hi, Hg, Hs, HO⟩
  ihave Hd' := (Entails.of_eq (pointsTo_words (F := F) (ℓ := (sD).view.loc (thr d L)) (word k) (word_injective ht) fullShare f)) $$ Hd
  icases Hd' with ⟨Hd, Hdr⟩
  ihave Hi' := (Entails.of_eq (pointsTo_words (F := F) (ℓ := (sI).view.loc (thr d L)) (word k) (word_injective ht) fullShare ixs)) $$ Hi
  icases Hi' with ⟨Hi, Hir⟩
  imod (batch_alloc' (n := 1024) countersEmb (thr d L) (none : HIx 2) 32 (held L d q ixs g k f')) $$ Hs with HB
  ihave HR := (Entails.of_eq (held_all L d q ixs g k f).symm) $$ [Hd Hi Hg]
  · isplitl [Hd]; · iexact Hd
    isplitl [Hi] <;> iassumption
  ihave HR := (Entails.of_eq (bigSep_pending_zero (held L d q ixs g k f))) $$ HR
  iapply (gather_step L d q ixs g hix (r := 0) (ho 0) ht (by decide) (Nat.zero_le _) hf') $$ [HR HB]
  · isplitl [HR] <;> iassumption
  iintro ⟨HR, HB⟩
  iapply (gather_step L d q ixs g hix (r := 1) (ho 1) ht (by decide) (Nat.zero_le _) hf') $$ [HR HB]
  · isplitl [HR] <;> iassumption
  iintro ⟨HR, HB⟩
  iapply (gather_step L d q ixs g hix (r := 2) (ho 2) ht (by decide) (Nat.zero_le _) hf') $$ [HR HB]
  · isplitl [HR] <;> iassumption
  iintro ⟨HR, HB⟩
  iapply (gather_step L d q ixs g hix (r := 3) (ho 3) ht (by decide) (Nat.zero_le _) hf') $$ [HR HB]
  · isplitl [HR] <;> iassumption
  iintro ⟨HR, HB⟩
  iapply (gather_step L d q ixs g hix (r := 4) (ho 4) ht (by decide) (Nat.zero_le _) hf') $$ [HR HB]
  · isplitl [HR] <;> iassumption
  iintro ⟨HR, HB⟩
  iapply (gather_step L d q ixs g hix (r := 5) (ho 5) ht (by decide) (Nat.zero_le _) hf') $$ [HR HB]
  · isplitl [HR] <;> iassumption
  iintro ⟨HR, HB⟩
  iapply (gather_step L d q ixs g hix (r := 6) (ho 6) ht (by decide) (Nat.zero_le _) hf') $$ [HR HB]
  · isplitl [HR] <;> iassumption
  iintro ⟨HR, HB⟩
  iapply (gather_step L d q ixs g hix (r := 7) (ho 7) ht (by decide) (Nat.zero_le _) hf') $$ [HR HB]
  · isplitl [HR] <;> iassumption
  iintro ⟨HR, HB⟩
  iapply (wait_step L d q ixs g (t := k) (r := 0) (4096 * 0) (4096 * 1) (by decide) (by decide) (f' := f') (W := W)) $$ [HB HO]
  · isplitr; · iexact Hmw
    isplitl [HB] <;> iassumption
  iintro ⟨HB, HO⟩
  iapply (wait_step L d q ixs g (t := k) (r := 1) (4096 * 1) (4096 * 2) (by decide) (by decide) (f' := f') (W := W)) $$ [HB HO]
  · isplitr; · iexact Hmw
    isplitl [HB] <;> iassumption
  iintro ⟨HB, HO⟩
  iapply (wait_step L d q ixs g (t := k) (r := 2) (4096 * 2) (4096 * 3) (by decide) (by decide) (f' := f') (W := W)) $$ [HB HO]
  · isplitr; · iexact Hmw
    isplitl [HB] <;> iassumption
  iintro ⟨HB, HO⟩
  iapply (wait_step L d q ixs g (t := k) (r := 3) (4096 * 3) (4096 * 4) (by decide) (by decide) (f' := f') (W := W)) $$ [HB HO]
  · isplitr; · iexact Hmw
    isplitl [HB] <;> iassumption
  iintro ⟨HB, HO⟩
  iapply (wait_step L d q ixs g (t := k) (r := 4) (4096 * 4) (4096 * 5) (by decide) (by decide) (f' := f') (W := W)) $$ [HB HO]
  · isplitr; · iexact Hmw
    isplitl [HB] <;> iassumption
  iintro ⟨HB, HO⟩
  iapply (wait_step L d q ixs g (t := k) (r := 5) (4096 * 5) (4096 * 6) (by decide) (by decide) (f' := f') (W := W)) $$ [HB HO]
  · isplitr; · iexact Hmw
    isplitl [HB] <;> iassumption
  iintro ⟨HB, HO⟩
  iapply (wait_step L d q ixs g (t := k) (r := 6) (4096 * 6) (4096 * 7) (by decide) (by decide) (f' := f') (W := W)) $$ [HB HO]
  · isplitr; · iexact Hmw
    isplitl [HB] <;> iassumption
  iintro ⟨HB, HO⟩
  iapply (wait_step L d q ixs g (t := k) (r := 7) (4096 * 7) (32 * 1024) (by decide) (by decide) (f' := f') (W := W)) $$ [HB HO]
  · isplitr; · iexact Hmw
    isplitl [HB] <;> iassumption
  iintro ⟨HB, HO⟩
  imod (batch_collect' (n := 1024) countersEmb (thr d L) (ι := (none : HIx 2)) (N := 32) (by decide) (D := held L d q ixs g k f')) $$ HB with ⟨HD, Hs⟩
  ihave HD := (Entails.of_eq (held_all L d q ixs g k f')) $$ HD
  icases HD with ⟨Hd, Hi, Hg⟩
  sl_step
  isplitl [Hd Hdr]
  · iapply (Entails.of_eq (pointsTo_words (F := F) (ℓ := (sD).view.loc (thr d L)) (word k) (word_injective ht) fullShare f').symm)
    isplitl [Hd]; · iexact Hd
    iapply (Entails.of_eq (pointsTo_rest (F := F) (ℓ := (sD).view.loc (thr d L)) (word k) fullShare hrest)) $$ Hdr
  isplitl [Hi Hir]
  · iapply (Entails.of_eq (pointsTo_words (F := F) (ℓ := (sI).view.loc (thr d L)) (word k) (word_injective ht) fullShare ixs).symm)
    isplitl [Hi] <;> iassumption
  isplitl [Hg]; · iexact Hg
  isplitl [Hs] <;> iassumption

end Trip

end Cert.Proof.Lookup

end
-- ==== Proof.Classify.lean ====
/-
  The classification of a tile's samples: sixteen groups of sixteen rows, each row eight windows of sixteen words. A window's
  marks overwrite its indices; a row's eight windows of marks are summed lane by lane, and their sixteen lanes summed into
  the row's count.
-/
module

public import proofs.«01_k».proof.Proof.Gather

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "iV" => (Memref.whole Cert.KernelIdeal.main_v0_scv : Memref Cert.KernelIdeal.sig Kind.scVector Space.hbm Cert.KernelIdeal.S1048576 EltTy.i32)
local notation "tV" => (Memref.whole Cert.KernelIdeal.main_v1_scv : Memref Cert.KernelIdeal.sig Kind.scVector Space.hbm Cert.KernelIdeal.S1048576 EltTy.f32)
local notation "gV" => (Memref.whole Cert.KernelIdeal.main_arg2_scv : Memref Cert.KernelIdeal.sig Kind.scVector Space.hbm Cert.KernelIdeal.S2097152 EltTy.f32)
local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "sI" => (Memref.whole Cert.KernelIdeal.cc0_scratch0 : Memref Cert.KernelIdeal.sig Kind.scVector Space.vmem Cert.KernelIdeal.S32768 EltTy.i32)
local notation "sT" => (Memref.whole Cert.KernelIdeal.cc0_scratch1 : Memref Cert.KernelIdeal.sig Kind.scVector Space.vmem Cert.KernelIdeal.S32768 EltTy.f32)
local notation "sD" => (Memref.whole Cert.KernelIdeal.cc0_scratch2 : Memref Cert.KernelIdeal.sig Kind.scVector Space.vmem Cert.KernelIdeal.S32768 EltTy.f32)
local notation "sC" => (Memref.whole Cert.KernelIdeal.cc0_scratch3 : Memref Cert.KernelIdeal.sig Kind.scVector Space.vmem Cert.KernelIdeal.S256 EltTy.i32)

variable (L : grid0.Coords)

section Classify

variable [FloatOps F] (d : Dev nD) (ds ths : S32768.Idx → F .f32) (ixs : S32768.Idx → BitVec 32)

/-- The mark of word `p` of the tile. -/
def vld (p : ℕ) : BitVec 32 := mark (ds (ptL p)) (ths (ptL p))

/-- The region of the tile's loop. -/
abbrev t2B (L : grid0.Coords) := k0_t2_body (F := F) L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3

/-- The region of the tile's loop. -/
abbrev t3B (L : grid0.Coords) := k0_t3_body (F := F) L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3

/-- The region of the tile's loop. -/
abbrev t4B (L : grid0.Coords) := k0_t4_body (F := F) L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3

/-- A window of marks, from the windows of densities and of thresholds. -/
theorem pay3_apply (off : Fin 1 → ℕ) (inb) (x : S16.Idx) :
    k0_pay3 (F := F) ((sD).view.readAt (Elt F) (Rect.unit (s := S32768) off S16.size inb).toLoadRect ds)
        ((sT).view.readAt (Elt F) (Rect.unit (s := S32768) off S16.size inb).toLoadRect ths) x
      = vld ds ths (off 0 + (x 0).val) := by
  have hx : (x 0).val < 16 := (x 0).isLt
  have hi : off 0 + 16 ≤ 32768 := inb 0
  have hp : (ptL (off 0 + (x 0).val) 0).val = off 0 + (x 0).val := Nat.mod_eq_of_lt (Nat.lt_of_lt_of_le (Nat.add_lt_add_left hx _) hi)
  have e1 := readAt_window (Val := Elt F) (sD).view ds off inb x (ptL (off 0 + (x 0).val)) hp
  have e2 := readAt_window (Val := Elt F) (sT).view ths off inb x (ptL (off 0 + (x 0).val)) hp
  unfold k0_pay3 vld mark
  rw [shapeCast_self, shapeCast_self]
  show Scalar.select (FloatOps.cmpf .ogt _ _) 1#32 0#32 = _
  rw [e1, e2]
  rfl

theorem t4_trip (k2 : Fin k0_t2_loop.trips) (k3 : Fin k0_t3_loop.trips) (k4 : Fin k0_t4_loop.trips) (acc : IVec S16 32) (f : S32768.Idx → BitVec 32) :
    (iprop(((sD).view.loc (thr d L) ↦{fullShare} ds) ∗ ((sT).view.loc (thr d L) ↦{fullShare} ths) ∗ ((sI).view.loc (thr d L) ↦{fullShare} f)) : sProp 𝕄)
      ⊢ wp frame (wpE (defs₀ (F := F)) 𝒱₀ (thr d L) none) Set.univ
          (t4B L k2 k3 k4 acc)
          fun acc' => iprop(⌜acc' = fun x => acc x + vld ds ths (2048 * k2.val + 128 * k3.val + 16 * k4.val + (x 0).val)⌝
            ∗ ((sD).view.loc (thr d L) ↦{fullShare} ds) ∗ ((sT).view.loc (thr d L) ↦{fullShare} ths)
            ∗ ((sI).view.loc (thr d L) ↦{fullShare} fun x => if 2048 * k2.val + 128 * k3.val + 16 * k4.val ≤ (x 0).val ∧ (x 0).val < 2048 * k2.val + 128 * k3.val + 16 * k4.val + 16
                then vld ds ths (x 0).val else f x)) := by
  have h0 : k0_off3 k2 k3 k4 0 = 2048 * k2.val + 128 * k3.val + 16 * k4.val := by rw [k0_off3_eq]; rfl
  unfold t4B k0_t4_body
  iintro ⟨HD, HT, HI⟩
  sl_exec
  sl_step
  isplitr
  · ipureintro
    funext x
    unfold k0_pay5
    show acc x + _ = _
    rw [pay3_apply, h0]
  isplitl [HD]; · iexact HD
  isplitl [HT]; · iexact HT
  iapply (Entails.of_eq (congrArg (fun c : S32768.Idx → BitVec 32 => ((sI).view.loc (thr d L) ↦{fullShare} c : sProp 𝕄)) (funext fun y => ?_))) $$ HI
  exact (read_writes_window (Val := Elt F) (sI).view f (k0_off3 k2 k3 k4) _ _ (vld ds ths) (fun x => by
    unfold k0_pay4
    rw [shapeCast_self]
    exact pay3_apply ds ths _ _ x) y).trans (by rw [h0]; rfl)

/-- The marks of the first `n` words over the indices. -/
def marks (n : ℕ) : S32768.Idx → BitVec 32 := fun x => if (x 0).val < n then vld ds ths (x 0).val else ixs x

/-- The count of row `r` of the tile. -/
def rowCount (r : ℕ) : BitVec 32 := ∑ k ∈ Finset.range 128, vld ds ths (128 * r + k)

/-- A loop from its invariant, to its invariant at the trip count. -/
theorem loop {c : Thread nD τ} {σ : Type} (l : Scf.Loop 32) (hok : l.OK) (init : σ) (body : Fin l.trips → σ → Prog (TpuEff nD τ sig (Elt F) Λ₀ c.2) σ)
    (I : ℕ → σ → sProp 𝕄) (n : ℕ) (hn : l.trips = n) (hbody : ∀ (k : Fin l.trips) (acc : σ), I k acc ⊢ wp frame (wpE (defs₀ (F := F)) 𝒱₀ c none) Set.univ (body k acc) (I (k.val + 1))) :
    I 0 init ⊢ wp frame (wpE (defs₀ (F := F)) 𝒱₀ c none) Set.univ (Scf.Loop.for l hok init body) (I n) := by
  subst hn
  iintro HI
  iapply (Scf.wp_for frame (wpE (defs₀ (F := F)) 𝒱₀ c none) Set.univ l.lb l.ub l.st hok init body I hbody)
  isplitl [HI]; · iexact HI
  iintro %acc H
  iexact H

theorem t4_trips : k0_t4_loop.trips = 8 := by decide
theorem t3_trips : k0_t3_loop.trips = 16 := by decide
theorem t2_trips : k0_t2_loop.trips = 16 := by decide
theorem t1_trips : k0_t1_loop.trips = 32 := by decide

/-- One window more of marks. -/
theorem marks_window (n : ℕ) : (fun x : S32768.Idx => if n ≤ (x 0).val ∧ (x 0).val < n + 16 then vld ds ths (x 0).val else marks ds ths ixs n x) = marks ds ths ixs (n + 16) := by
  funext x
  unfold marks
  by_cases h1 : (x 0).val < n
  · rw [if_neg (by omega), if_pos h1, if_pos (by omega)]
  · by_cases h2 : (x 0).val < n + 16
    · rw [if_pos (by omega), if_pos h2]
    · rw [if_neg (by omega), if_neg h1, if_neg h2]

/-- The row loop's eight windows: each lane has the sum of its eight marks. -/
theorem t4_loop (k2 : Fin k0_t2_loop.trips) (k3 : Fin k0_t3_loop.trips) :
    (iprop(((sD).view.loc (thr d L) ↦{fullShare} ds) ∗ ((sT).view.loc (thr d L) ↦{fullShare} ths)
        ∗ ((sI).view.loc (thr d L) ↦{fullShare} marks ds ths ixs (2048 * k2.val + 128 * k3.val))) : sProp 𝕄)
      ⊢ wp frame (wpE (defs₀ (F := F)) 𝒱₀ (thr d L) none) Set.univ (Scf.Loop.for k0_t4_loop k0_t4_ok k0_pay2 (t4B L k2 k3))
          fun acc => iprop(⌜acc = fun x => ∑ q ∈ Finset.range 8, vld ds ths (2048 * k2.val + 128 * k3.val + 16 * q + (x 0).val)⌝
            ∗ ((sD).view.loc (thr d L) ↦{fullShare} ds) ∗ ((sT).view.loc (thr d L) ↦{fullShare} ths)
            ∗ ((sI).view.loc (thr d L) ↦{fullShare} marks ds ths ixs (2048 * k2.val + 128 * k3.val + 128))) := by
  have H := loop (F := F) (c := thr d L) k0_t4_loop k0_t4_ok k0_pay2 (t4B L k2 k3)
    (fun n acc => iprop(⌜acc = fun x => ∑ q ∈ Finset.range n, vld ds ths (2048 * k2.val + 128 * k3.val + 16 * q + (x 0).val)⌝
            ∗ ((sD).view.loc (thr d L) ↦{fullShare} ds) ∗ ((sT).view.loc (thr d L) ↦{fullShare} ths)
            ∗ ((sI).view.loc (thr d L) ↦{fullShare} marks ds ths ixs (2048 * k2.val + 128 * k3.val + 16 * n)))) 8 t4_trips (fun k acc => by
      iintro ⟨%hacc, HR⟩
      iapply (BIBase.Entails.trans (t4_trip L d ds ths k2 k3 k acc _) (wp_mono _ _ _ fun a => ?_)) $$ HR
      iintro ⟨%ha, HD, HT, HI⟩
      isplitr
      · ipureintro
        rw [ha, hacc]
        funext x
        exact (Finset.sum_range_succ _ _).symm
      isplitl [HD]; · iexact HD
      isplitl [HT]; · iexact HT
      iapply (Entails.of_eq (congrArg (fun c : S32768.Idx → BitVec 32 => ((sI).view.loc (thr d L) ↦{fullShare} c : sProp 𝕄)) (marks_window ds ths ixs _))) $$ HI)
  refine BIBase.Entails.trans ?_ H
  iintro HR
  isplitr
  · ipureintro
    funext x
    rw [Finset.range_zero, Finset.sum_empty]
    rfl
  iexact HR

/-- A sum of a whole number of windows, window by window. -/
theorem sum_windows {M : Type} [AddCommMonoid M] (f : ℕ → M) (m n : ℕ) :
    ∑ k ∈ Finset.range (m * n), f k = ∑ l ∈ Finset.range m, ∑ q ∈ Finset.range n, f (m * q + l) := by
  rw [Finset.sum_comm]
  induction n with
  | zero => rfl
  | succ n ih => rw [Nat.mul_succ, Finset.sum_range_add f (m * n) m, ih, Finset.sum_range_succ _ n]

/-- A left fold over the lanes after the first is the lanes' sum. -/
theorem foldl_sum {M : Type} [AddCommMonoid M] (g : Fin 16 → M) :
    ((List.finRange 16).filter (fun k => decide (0 < k.val ∧ k.val ≤ 15))).foldl (fun r k => r + g k) (g 0) = ∑ l, g l := by
  have hl : (List.finRange 16).filter (fun k => decide (0 < k.val ∧ k.val ≤ 15)) = [1, 2, 3, 4, 5, 6, 7, 8, 9, 10, 11, 12, 13, 14, 15] := by decide
  rw [hl]
  simp only [List.foldl_cons, List.foldl_nil, Fin.sum_univ_succ]
  simp only [Fin.sum_univ_zero, add_zero, add_assoc]
  rfl

/-- The running sum of sixteen lanes at its last lane is the lanes' sum. -/
theorem scan_sum (v : IVec S16 32) (f : ℕ → BitVec 32) (hf : ∀ x, v x = f (x 0).val) :
    extractAt ![15] (scan .sum v) inpos_S16_p15 = ∑ l ∈ Finset.range 16, f l := by
  have h : ∀ k : Fin 16, v (Shape.ofLane (d := ![16]) k) = f k.val := fun k => hf _
  have H := foldl_sum (fun k : Fin 16 => v (Shape.ofLane (d := ![16]) k))
  rw [Finset.sum_congr rfl fun k _ => h k, Fin.sum_univ_eq_sum_range f 16] at H
  exact H

/-- One lane of a row's contribution. -/
theorem lane_select (k : Fin k0_t3_loop.trips) (x : S16.Idx) (r : BitVec 32) :
    Scalar.select (IntOp.cmpi .eq (iota .scVector S16 32 [0] iota_S16_d0_w32_scVector x) (Scf.iv 0#32 1#32 k)) r 0#32 = if (x 0).val = k.val then r else 0#32 := by
  have hx : (x 0).val < 16 := (x 0).isLt
  have h3 : k.val < 16 := t3_trips ▸ k.isLt
  have hi : iota .scVector S16 32 [0] iota_S16_d0_w32_scVector x = BitVec.ofNat 32 (x 0).val := iota_single_apply ..
  have hc : ∀ a b : Fin 16, IntOp.cmpi .eq (BitVec.ofNat 32 a.val) (Scf.iv 0#32 1#32 b.val) = if a.val = b.val then 1#1 else 0#1 := by decide
  rw [hi, hc ⟨_, hx⟩ ⟨_, h3⟩]
  show (if (if (x 0).val = k.val then 1#1 else 0#1) = 1#1 then r else 0#32) = _
  by_cases h : (x 0).val = k.val
  · rw [if_pos h, if_pos h, if_pos rfl]
  · rw [if_neg h, if_neg h, if_neg (by decide)]

/-- The row's yield at a lane. -/
theorem pay6_apply (k : Fin k0_t3_loop.trips) (acc v : IVec S16 32) (f : ℕ → BitVec 32) (hf : ∀ x, v x = f (x 0).val) (x : S16.Idx) :
    k0_pay6 k acc v x = acc x + if (x 0).val = k.val then ∑ l ∈ Finset.range 16, f l else 0#32 := by
  have h : extractAt ![15] (scan .sum v) inpos_S16_p15 = ∑ l ∈ Finset.range 16, f l := scan_sum v f hf
  unfold k0_pay6
  dsimp only
  generalize extractAt ![15] (scan .sum v) inpos_S16_p15 = w at h ⊢
  rw [← h]
  have h' := lane_select k x w
  unfold addi select cmpi broadcast
  unfold IntOp.addi
  exact congrArg (acc x + ·) h'

/-- One row more of counts. -/
theorem lane_add (f : ℕ → BitVec 32) (n y : ℕ) : ((if y < n then f y else 0#32) + if y = n then f n else 0#32) = if y < n + 1 then f y else 0#32 := by
  by_cases h : y < n
  · rw [if_pos h, if_neg (by omega), if_pos (by omega)]; exact add_zero _
  · by_cases h' : y = n
    · subst h'; rw [if_neg h, if_pos rfl, if_pos (by omega)]; exact zero_add _
    · rw [if_neg h, if_neg h', if_neg (by omega)]; exact add_zero _

/-- A row of the tile: its count goes into its lane. -/
theorem t3_trip (k2 : Fin k0_t2_loop.trips) (k3 : Fin k0_t3_loop.trips) (acc : IVec S16 32) :
    (iprop(((sD).view.loc (thr d L) ↦{fullShare} ds) ∗ ((sT).view.loc (thr d L) ↦{fullShare} ths)
        ∗ ((sI).view.loc (thr d L) ↦{fullShare} marks ds ths ixs (2048 * k2.val + 128 * k3.val))) : sProp 𝕄)
      ⊢ wp frame (wpE (defs₀ (F := F)) 𝒱₀ (thr d L) none) Set.univ (t3B L k2 k3 acc)
          fun acc' => iprop(⌜acc' = fun x => acc x + if (x 0).val = k3.val then rowCount ds ths (16 * k2.val + k3.val) else 0#32⌝
            ∗ ((sD).view.loc (thr d L) ↦{fullShare} ds) ∗ ((sT).view.loc (thr d L) ↦{fullShare} ths)
            ∗ ((sI).view.loc (thr d L) ↦{fullShare} marks ds ths ixs (2048 * k2.val + 128 * k3.val + 128))) := by
  have h3 : k3.val < 16 := t3_trips ▸ k3.isLt
  unfold t3B k0_t3_body
  rw [wp_bind]
  refine BIBase.Entails.trans (t4_loop L d ds ths ixs k2 k3) (wp_mono _ _ _ fun a => ?_)
  iintro ⟨%ha, HR⟩
  sl_step
  isplitr
  · ipureintro
    funext x
    have hc : rowCount ds ths (16 * k2.val + k3.val) = ∑ l ∈ Finset.range 16, ∑ q ∈ Finset.range 8, vld ds ths (2048 * k2.val + 128 * k3.val + 16 * q + l) :=
      (sum_windows (fun k => vld ds ths (128 * (16 * k2.val + k3.val) + k)) 16 8).trans
        (Finset.sum_congr rfl fun l _ => Finset.sum_congr rfl fun q _ => congrArg (vld ds ths) (by omega))
    rw [hc]
    exact pay6_apply k3 acc a (fun l => ∑ q ∈ Finset.range 8, vld ds ths (2048 * k2.val + 128 * k3.val + 16 * q + l)) (fun x => congrFun ha x) x
  iexact HR

/-- The first `n` rows of a block of sixteen. -/
theorem t3_loop (k2 : Fin k0_t2_loop.trips) :
    (iprop(((sD).view.loc (thr d L) ↦{fullShare} ds) ∗ ((sT).view.loc (thr d L) ↦{fullShare} ths)
        ∗ ((sI).view.loc (thr d L) ↦{fullShare} marks ds ths ixs (2048 * k2.val))) : sProp 𝕄)
      ⊢ wp frame (wpE (defs₀ (F := F)) 𝒱₀ (thr d L) none) Set.univ (Scf.Loop.for k0_t3_loop k0_t3_ok k0_pay1 (t3B L k2))
          fun acc => iprop(⌜acc = fun x => if (x 0).val < 16 then rowCount ds ths (16 * k2.val + (x 0).val) else 0#32⌝
            ∗ ((sD).view.loc (thr d L) ↦{fullShare} ds) ∗ ((sT).view.loc (thr d L) ↦{fullShare} ths)
            ∗ ((sI).view.loc (thr d L) ↦{fullShare} marks ds ths ixs (2048 * k2.val + 2048))) := by
  have H := loop (F := F) (c := thr d L) k0_t3_loop k0_t3_ok k0_pay1 (t3B L k2)
    (fun n acc => iprop(⌜acc = fun x => if (x 0).val < n then rowCount ds ths (16 * k2.val + (x 0).val) else 0#32⌝
            ∗ ((sD).view.loc (thr d L) ↦{fullShare} ds) ∗ ((sT).view.loc (thr d L) ↦{fullShare} ths)
            ∗ ((sI).view.loc (thr d L) ↦{fullShare} marks ds ths ixs (2048 * k2.val + 128 * n)))) 16 t3_trips (fun k acc => by
      iintro ⟨%hacc, HR⟩
      iapply (BIBase.Entails.trans (t3_trip L d ds ths ixs k2 k acc) (wp_mono _ _ _ fun a => ?_)) $$ HR
      iintro ⟨%ha, HR⟩
      isplitr
      · ipureintro
        rw [ha, hacc]
        funext x
        exact lane_add (fun r => rowCount ds ths (16 * k2.val + r)) k.val (x 0).val
      iexact HR)
  refine BIBase.Entails.trans ?_ H
  iintro HR
  isplitr
  · ipureintro
    rfl
  iexact HR

/-- A block of sixteen rows: its counts go to their words. -/
theorem t2_trip (k2 : Fin k0_t2_loop.trips) (cs : S256.Idx → BitVec 32) :
    (iprop(((sD).view.loc (thr d L) ↦{fullShare} ds) ∗ ((sT).view.loc (thr d L) ↦{fullShare} ths)
        ∗ ((sI).view.loc (thr d L) ↦{fullShare} marks ds ths ixs (2048 * k2.val))
        ∗ ((sC).view.loc (thr d L) ↦{fullShare} cs)) : sProp 𝕄)
      ⊢ wp frame (wpE (defs₀ (F := F)) 𝒱₀ (thr d L) none) Set.univ (t2B L k2 ⟨⟩)
          fun _ => iprop(((sD).view.loc (thr d L) ↦{fullShare} ds) ∗ ((sT).view.loc (thr d L) ↦{fullShare} ths)
            ∗ ((sI).view.loc (thr d L) ↦{fullShare} marks ds ths ixs (2048 * k2.val + 2048))
            ∗ ((sC).view.loc (thr d L) ↦{fullShare} fun x => if 16 * k2.val ≤ (x 0).val ∧ (x 0).val < 16 * k2.val + 16 then rowCount ds ths (x 0).val else cs x)) := by
  have h0 : k0_off4 k2 0 = 16 * k2.val := by rw [k0_off4_eq]; rfl
  unfold t2B k0_t2_body
  rw [wp_bind]
  iintro ⟨HD, HT, HI, HC⟩
  ihave H := (t3_loop L d ds ths ixs k2) $$ [HD HT HI]
  · isplitl [HD]; · iexact HD
    isplitl [HT]; · iexact HT
    iexact HI
  iapply (wp_wand_r _ _ _) $$ [H HC]
  isplitl [H]; · iexact H
  iintro %a ⟨%ha, HD, HT, HI⟩
  sl_exec
  sl_step
  isplitl [HD]; · iexact HD
  isplitl [HT]; · iexact HT
  isplitl [HI]; · iexact HI
  iapply (Entails.of_eq (congrArg (fun c : S256.Idx → BitVec 32 => ((sC).view.loc (thr d L) ↦{fullShare} c : sProp 𝕄)) (funext fun y => ?_))) $$ HC
  exact (read_writes_window (Val := Elt F) (sC).view cs (k0_off4 k2) _ _ (rowCount ds ths) (fun x => by
    have hx : (x 0).val < 16 := (x 0).isLt
    unfold k0_pay7
    rw [shapeCast_self, ha, h0]
    exact if_pos hx) y).trans (by rw [h0]; rfl)

/-- The counts of the first `n` blocks over the old contents. -/
def tally (cs : S256.Idx → BitVec 32) (n : ℕ) : S256.Idx → BitVec 32 := fun x => if (x 0).val < 16 * n then rowCount ds ths (x 0).val else cs x

/-- One block more of counts. -/
theorem tally_block (cs : S256.Idx → BitVec 32) (n : ℕ) :
    (fun x : S256.Idx => if 16 * n ≤ (x 0).val ∧ (x 0).val < 16 * n + 16 then rowCount ds ths (x 0).val else tally ds ths cs n x) = tally ds ths cs (n + 1) := by
  funext x
  unfold tally
  by_cases h1 : (x 0).val < 16 * n
  · rw [if_neg (by omega), if_pos h1, if_pos (by omega)]
  · by_cases h2 : (x 0).val < 16 * n + 16
    · rw [if_pos (by omega), if_pos (by omega)]
    · rw [if_neg (by omega), if_neg h1, if_neg (by omega)]

/-- The sixteen blocks: every word's mark, every row's count. -/
theorem t2_loop (cs : S256.Idx → BitVec 32) :
    (iprop(((sD).view.loc (thr d L) ↦{fullShare} ds) ∗ ((sT).view.loc (thr d L) ↦{fullShare} ths)
        ∗ ((sI).view.loc (thr d L) ↦{fullShare} ixs) ∗ ((sC).view.loc (thr d L) ↦{fullShare} cs)) : sProp 𝕄)
      ⊢ wp frame (wpE (defs₀ (F := F)) 𝒱₀ (thr d L) none) Set.univ (Scf.Loop.for k0_t2_loop k0_t2_ok ⟨⟩ (t2B L))
          fun _ => iprop(((sD).view.loc (thr d L) ↦{fullShare} ds) ∗ ((sT).view.loc (thr d L) ↦{fullShare} ths)
            ∗ ((sI).view.loc (thr d L) ↦{fullShare} fun x => vld ds ths (x 0).val)
            ∗ ((sC).view.loc (thr d L) ↦{fullShare} fun x => rowCount ds ths (x 0).val)) := by
  have H := loop (F := F) (c := thr d L) k0_t2_loop k0_t2_ok ⟨⟩ (t2B L)
    (fun n _ => iprop(((sD).view.loc (thr d L) ↦{fullShare} ds) ∗ ((sT).view.loc (thr d L) ↦{fullShare} ths)
            ∗ ((sI).view.loc (thr d L) ↦{fullShare} marks ds ths ixs (2048 * n))
            ∗ ((sC).view.loc (thr d L) ↦{fullShare} tally ds ths cs n))) 16 t2_trips (fun k _ => by
      refine BIBase.Entails.trans (t2_trip L d ds ths ixs k _) (wp_mono _ _ _ fun a => ?_)
      iintro ⟨HD, HT, HI, HC⟩
      isplitl [HD]; · iexact HD
      isplitl [HT]; · iexact HT
      isplitl [HI]; · iexact HI
      iapply (Entails.of_eq (congrArg (fun c : S256.Idx → BitVec 32 => ((sC).view.loc (thr d L) ↦{fullShare} c : sProp 𝕄)) (tally_block ds ths cs _))) $$ HC)
  have e0 : marks ds ths ixs (2048 * 0) = ixs := rfl
  have e1 : marks ds ths ixs (2048 * 16) = fun x => vld ds ths (x 0).val := by
    funext x
    exact if_pos (show (x 0).val < 2048 * 16 from (x 0).isLt)
  have e2 : tally ds ths cs 0 = cs := rfl
  have e3 : tally ds ths cs 16 = fun x => rowCount ds ths (x 0).val := by
    funext x
    exact if_pos (show (x 0).val < 16 * 16 from (x 0).isLt)
  rw [e0, e1, e2, e3] at H
  exact H

end Classify

end Cert.Proof.Lookup

end
-- ==== Proof.Tile.lean ====
/-
  A tile's task: its samples' indices and thresholds are fetched, their densities gathered, the samples classified, and the
  marks and the counts written to their places.
-/
module

public import proofs.«01_k».proof.Proof.Classify

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "iV" => (Memref.whole Cert.KernelIdeal.main_v0_scv : Memref Cert.KernelIdeal.sig Kind.scVector Space.hbm Cert.KernelIdeal.S1048576 EltTy.i32)
local notation "tV" => (Memref.whole Cert.KernelIdeal.main_v1_scv : Memref Cert.KernelIdeal.sig Kind.scVector Space.hbm Cert.KernelIdeal.S1048576 EltTy.f32)
local notation "gV" => (Memref.whole Cert.KernelIdeal.main_arg2_scv : Memref Cert.KernelIdeal.sig Kind.scVector Space.hbm Cert.KernelIdeal.S2097152 EltTy.f32)
local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "sI" => (Memref.whole Cert.KernelIdeal.cc0_scratch0 : Memref Cert.KernelIdeal.sig Kind.scVector Space.vmem Cert.KernelIdeal.S32768 EltTy.i32)
local notation "sT" => (Memref.whole Cert.KernelIdeal.cc0_scratch1 : Memref Cert.KernelIdeal.sig Kind.scVector Space.vmem Cert.KernelIdeal.S32768 EltTy.f32)
local notation "sD" => (Memref.whole Cert.KernelIdeal.cc0_scratch2 : Memref Cert.KernelIdeal.sig Kind.scVector Space.vmem Cert.KernelIdeal.S32768 EltTy.f32)
local notation "sC" => (Memref.whole Cert.KernelIdeal.cc0_scratch3 : Memref Cert.KernelIdeal.sig Kind.scVector Space.vmem Cert.KernelIdeal.S256 EltTy.i32)

variable (L : grid0.Coords)

section Gathers

variable [FloatOps F] (d : Dev nD) (q : PosShare TreeShare) (ixs : S32768.Idx → BitVec 32) (g : S2097152.Idx → F .f32)
    (hix : ∀ x, (ixs x).toNat < 2097152)

/-- The region of the tile's gather loop. -/
abbrev t1B (L : grid0.Coords) := k0_t1_body (F := F) L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3

/-- The densities of the first `n` trips over the old contents. -/
def got (f : S32768.Idx → F .f32) (n : ℕ) : S32768.Idx → F .f32 := fun x => if (x 0).val < 1024 * n then g (ptG (ixs x).toNat) else f x

include hix in
/-- The gather loop: every word of the density buffer holds its sample's density. -/
theorem t1_loop (f : S32768.Idx → F .f32) {O : CellTallies nD τ sig (HIx 2)} {W : Waits sig (HIx 2)} :
    (iprop(Transfers.MayWaits (thr d L) (none : HIx 2) O ∗ ((sD).view.loc (thr d L) ↦{fullShare} f) ∗ ((sI).view.loc (thr d L) ↦{fullShare} ixs)
        ∗ ((gV).view.loc (thr d L) ↦{q} g) ∗ semVal (thr d L, SemLoc.dma cc0_scratch5.sem) 0
        ∗ ∃ W', ⌜∀ p ∈ W', p ∈ W ∨ p.2 = none⌝ ∗ owes (thr d L) O W') : sProp 𝕄)
      ⊢ wp frame (wpE (defs₀ (F := F)) 𝒱₀ (thr d L) none) Set.univ (Scf.Loop.for k0_t1_loop k0_t1_ok ⟨⟩ (t1B L))
          fun _ => iprop(((sD).view.loc (thr d L) ↦{fullShare} fun x => g (ptG (ixs x).toNat)) ∗ ((sI).view.loc (thr d L) ↦{fullShare} ixs)
            ∗ ((gV).view.loc (thr d L) ↦{q} g) ∗ semVal (thr d L, SemLoc.dma cc0_scratch5.sem) 0
            ∗ ∃ W', ⌜∀ p ∈ W', p ∈ W ∨ p.2 = none⌝ ∗ owes (thr d L) O W') := by
  have H := loop (F := F) (c := thr d L) k0_t1_loop k0_t1_ok ⟨⟩ (t1B L)
    (fun n _ => iprop(Transfers.MayWaits (thr d L) (none : HIx 2) O ∗ ((sD).view.loc (thr d L) ↦{fullShare} got ixs g f n) ∗ ((sI).view.loc (thr d L) ↦{fullShare} ixs)
        ∗ ((gV).view.loc (thr d L) ↦{q} g) ∗ semVal (thr d L, SemLoc.dma cc0_scratch5.sem) 0
        ∗ ∃ W', ⌜∀ p ∈ W', p ∈ W ∨ p.2 = none⌝ ∗ owes (thr d L) O W')) 32 t1_trips (fun k _ => by
      have hk : k.val < 32 := lt_of_lt_of_eq k.isLt t1_trips
      have hw : ∀ i, (word k.val i 0).val = 1024 * k.val + i.val := fun i => word_val hk i 0
      have hx0 : ∀ x : S32768.Idx, (∀ i, x ≠ word k.val i) → ¬(1024 * k.val ≤ (x 0).val ∧ (x 0).val < 1024 * (k.val + 1)) := fun x h hx =>
        h ⟨(x 0).val - 1024 * k.val, by omega⟩ (idx_ext (by rw [hw]; show (x 0).val = 1024 * k.val + ((x 0).val - 1024 * k.val); omega))
      iintro ⟨#Hmw, HR⟩
      ihave H := (trip L d q ixs g hix k (f := got ixs g f k.val) (f' := got ixs g f (k.val + 1)) (O := O) (W := W)
        (fun i => if_pos (by rw [hw]; have := i.isLt; omega))
        (fun x h => by
          have := hx0 x h
          unfold got
          by_cases h1 : (x 0).val < 1024 * k.val
          · rw [if_pos h1, if_pos (by omega)]
          · rw [if_neg h1, if_neg (by omega)])) $$ [HR]
      · isplitr; · iexact Hmw
        iexact HR
      iapply (wp_wand_r _ _ _) $$ [H]
      isplitl [H]; · iexact H
      iintro %a HR
      isplitr; · iexact Hmw
      iexact HR)
  have e0 : got ixs g f 0 = f := rfl
  have e1 : got ixs g f 32 = fun x => g (ptG (ixs x).toNat) := by
    funext x
    exact if_pos (show (x 0).val < 1024 * 32 from (x 0).isLt)
  rw [e0, e1] at H
  refine BIBase.Entails.trans H (wp_mono _ _ _ fun a => ?_)
  iintro ⟨-, HR⟩
  iexact HR

end Gathers

/-! ## The tile's places -/

/-- The SparseCore, and the tile of it, that own a place of an array of 32 blocks of `b`. -/
def coreKey {N : ℕ} (b : ℕ) (x : (⟨1, ![N]⟩ : Shape).Idx) : Fin 2 := ⟨(x 0).val / b % 2, Nat.mod_lt _ (by decide)⟩
def subKey {N : ℕ} (b : ℕ) (x : (⟨1, ![N]⟩ : Shape).Idx) : Fin 16 := ⟨(x 0).val / b / 2 % 16, Nat.mod_lt _ (by decide)⟩
/-- A SparseCore's places. -/
def coreSet (N b : ℕ) (c : Fin 2) : Finset (⟨1, ![N]⟩ : Shape).Idx := Finset.univ.filter fun x => coreKey b x = c
/-- A tile's places. -/
def blk (N b : ℕ) (c : Fin 2) (s : Fin 16) : Finset (⟨1, ![N]⟩ : Shape).Idx := (coreSet N b c).filter fun x => subKey b x = s

theorem mem_blk {N b : ℕ} (hb : 0 < b) (hN : N = 32 * b) (c : Fin 2) (s : Fin 16) (x : (⟨1, ![N]⟩ : Shape).Idx) :
    x ∈ blk N b c s ↔ b * (2 * s.val + c.val) ≤ (x 0).val ∧ (x 0).val < b * (2 * s.val + c.val) + b := by
  have hx : (x 0).val < 32 * b := lt_of_lt_of_eq (x 0).isLt hN
  have hw : (x 0).val / b < 32 := (Nat.div_lt_iff_lt_mul hb).mpr hx
  have h1 : (b * (2 * s.val + c.val) ≤ (x 0).val ∧ (x 0).val < b * (2 * s.val + c.val) + b) ↔ (x 0).val / b = 2 * s.val + c.val := by
    rw [Nat.div_eq_iff hb, Nat.mul_comm b]
    omega
  rw [h1]
  unfold blk coreSet coreKey subKey
  rw [Finset.mem_filter, Finset.mem_filter, Fin.ext_iff, Fin.ext_iff]
  have h2 := c.isLt
  have h3 := s.isLt
  show ((x ∈ Finset.univ ∧ (x 0).val / b % 2 = c.val) ∧ (x 0).val / b / 2 % 16 = s.val) ↔ _
  clear h1
  generalize (x 0).val / b = w at hw ⊢
  constructor
  · rintro ⟨⟨-, h⟩, h'⟩
    omega
  · intro h
    exact ⟨⟨Finset.mem_univ _, by omega⟩, by omega⟩

/-- A one-axis window's elements are those of a tile. -/
theorem window_blk {N b : ℕ} (hb : 0 < b) (hN : N = 32 * b) (c : Fin 2) (s : Fin 16) (off : Fin 1 → ℕ) (inb)
    (ho : off 0 = b * (2 * s.val + c.val)) : (Rect.unit (s := ⟨1, ![N]⟩) off ![b] inb).set = blk N b c s := by
  ext x
  rw [Rect.mem_set_unit, mem_blk hb hN, ← ho]
  constructor
  · intro h; exact h 0
  · intro h a
    have ha : a = 0 := Subsingleton.elim (α := Fin 1) _ _
    subst ha; exact h

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The tile's windows of the samples' arrays and of the counts. -/
abbrev winN (L : grid0.Coords) : Rect S1048576 := Rect.unit (s := S1048576) (k0_off1 L) S32768.size (k0_off1_inb L)
abbrev winR (L : grid0.Coords) : Rect S8192 := Rect.unit (s := S8192) (k0_off5 L) S256.size (k0_off5_inb L)
abbrev iW (L : grid0.Coords) : Memref sig .scVector .hbm S32768 .i32 := (iV).slice (winN L) (fun _ => rfl)
abbrev tW (L : grid0.Coords) : Memref sig .scVector .hbm S32768 .f32 := (tV).slice (winN L) (fun _ => rfl)
abbrev vW (L : grid0.Coords) : Memref sig .scVector .hbm S32768 .i32 := (vV).slice (winN L) (fun _ => rfl)
abbrev cW (L : grid0.Coords) : Memref sig .scVector .hbm S256 .i32 := (cV).slice (winR L) (fun _ => rfl)

theorem offN (L : grid0.Coords) : k0_off1 L 0 = 32768 * (2 * (jL L).val + (cL L).val) := by
  rw [k0_off1_eq]
  show 65536 * (L 1).val + 32768 * (L 0).val = 32768 * (2 * (L 1).val + (L 0).val)
  omega
theorem offR (L : grid0.Coords) : k0_off5 L 0 = 256 * (2 * (jL L).val + (cL L).val) := by
  rw [k0_off5_eq]
  show 512 * (L 1).val + 256 * (L 0).val = 256 * (2 * (L 1).val + (L 0).val)
  omega

theorem winN_set (L : grid0.Coords) : (winN L).set = blk 1048576 32768 (cL L) (jL L) := window_blk (by decide) rfl _ _ _ _ (offN L)
theorem winR_set (L : grid0.Coords) : (winR L).set = blk 8192 256 (cL L) (jL L) := window_blk (by decide) rfl _ _ _ _ (offR L)

theorem set_iW : (iW L).view.set = blk 1048576 32768 (cL L) (jL L) := by
  show ((View.whole (main_v0_scv : Ref sig .scVector)).slice (winN L)).set = _
  rw [View.set_slice]; exact Finset.map_refl.trans (winN_set L)
theorem set_tW : (tW L).view.set = blk 1048576 32768 (cL L) (jL L) := by
  show ((View.whole (main_v1_scv : Ref sig .scVector)).slice (winN L)).set = _
  rw [View.set_slice]; exact Finset.map_refl.trans (winN_set L)
theorem set_vW : (vW L).view.set = blk 1048576 32768 (cL L) (jL L) := by
  show ((View.whole (main_v2_0_scv : Ref sig .scVector)).slice (winN L)).set = _
  rw [View.set_slice]; exact Finset.map_refl.trans (winN_set L)
theorem set_cW : (cW L).view.set = blk 8192 256 (cL L) (jL L) := by
  show ((View.whole (main_v2_1_scv : Ref sig .scVector)).slice (winR L)).set = _
  rw [View.set_slice]; exact Finset.map_refl.trans (winR_set L)

section Places

variable (d : Dev nD)

theorem pts_iW (q : PosShare TreeShare) (f : Buf (Elt F) (iLoc d)) :
    ((iW L).view.loc (thr d L) ↦[(iW L).view.set]{q} f : sProp 𝕄) = iLoc d ↦[blk 1048576 32768 (cL L) (jL L)]{q} f := by rw [set_iW]
theorem pts_tW (q : PosShare TreeShare) (f : Buf (Elt F) (tLoc d)) :
    ((tW L).view.loc (thr d L) ↦[(tW L).view.set]{q} f : sProp 𝕄) = tLoc d ↦[blk 1048576 32768 (cL L) (jL L)]{q} f := by rw [set_tW]
theorem pts_vW (q : PosShare TreeShare) (f : Buf (Elt F) (vLoc d)) :
    ((vW L).view.loc (thr d L) ↦[(vW L).view.set]{q} f : sProp 𝕄) = vLoc d ↦[blk 1048576 32768 (cL L) (jL L)]{q} f := by rw [set_vW]
theorem pts_cW (q : PosShare TreeShare) (f : Buf (Elt F) (cLoc d)) :
    ((cW L).view.loc (thr d L) ↦[(cW L).view.set]{q} f : sProp 𝕄) = cLoc d ↦[blk 8192 256 (cL L) (jL L)]{q} f := by rw [set_cW]

end Places

/-! ## The task -/

section Body

variable [FloatOps F] (d : Dev nD) (ix : S1048576.Idx → BitVec 32) (th : S1048576.Idx → F .f32) (g : S2097152.Idx → F .f32)

abbrev cell5 (d : Dev nD) (L : grid0.Coords) : GSem nD τ sig := (thr d L, .dma cc0_scratch5.sem)
abbrev cellA (d : Dev nD) (L : grid0.Coords) : GSem nD τ sig := (thr d L, .dma cc0_scoped0.sem)
abbrev cellB (d : Dev nD) (L : grid0.Coords) : GSem nD τ sig := (thr d L, .dma cc0_scoped1.sem)
abbrev cellC (d : Dev nD) (L : grid0.Coords) : GSem nD τ sig := (thr d L, .dma cc0_scoped2.sem)
abbrev cellD (d : Dev nD) (L : grid0.Coords) : GSem nD τ sig := (thr d L, .dma cc0_scoped3.sem)

omit [FloatOps F] in
/-- The task's five semaphores are among the tile's own. -/
theorem ownSems0_tile :
    (ownSems0 (thr d L) : sProp 𝕄)
      = iprop(semVal (cell5 d L) 0 ∗ semVal (cellA d L) 0 ∗ semVal (cellB d L) 0 ∗ semVal (cellC d L) 0 ∗ semVal (cellD d L) 0
          ∗ bigSep ((((((ownCells (thr d L)).erase (cell5 d L)).erase (cellA d L)).erase (cellB d L)).erase (cellC d L)).erase (cellD d L)) fun g => semVal g 0) := by
  have mem : ∀ s : DmaSem sig, (SemLoc.dma s : SemLoc sig).isScoped .scVector = true → ((thr d L, SemLoc.dma s) : GSem nD τ sig) ∈ ownCells (thr d L) :=
    fun s h => mem_ownCells.mpr ⟨rfl, h⟩
  have ne : ∀ s s' : DmaSem sig, s ≠ s' → ((thr d L, SemLoc.dma s) : GSem nD τ sig) ≠ (thr d L, SemLoc.dma s') := fun s s' h e =>
    h (SemLoc.dma.inj (congrArg Prod.snd e))
  unfold SparseCore.Cfg.ownSems0
  rw [SparseCore.bigSep_erase' (mem cc0_scratch5.sem (by decide)),
    SparseCore.bigSep_erase' (Finset.mem_erase.mpr ⟨ne _ _ (by decide), mem cc0_scoped0.sem (by decide)⟩),
    SparseCore.bigSep_erase' (Finset.mem_erase.mpr ⟨ne _ _ (by decide), Finset.mem_erase.mpr ⟨ne _ _ (by decide), mem cc0_scoped1.sem (by decide)⟩⟩),
    SparseCore.bigSep_erase' (Finset.mem_erase.mpr ⟨ne _ _ (by decide), Finset.mem_erase.mpr ⟨ne _ _ (by decide), Finset.mem_erase.mpr ⟨ne _ _ (by decide), mem cc0_scoped2.sem (by decide)⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), mem cc0_scoped3.sem (by decide)⟩⟩⟩⟩)]

abbrev refT (L : grid0.Coords) (r : Ref sig .scVector) : DevRef τ sig := (Proc.scVector (coreOf L) (subOf L)).devRef r

omit [FloatOps F] in
/-- The task's four buffers are among the tile's own. -/
theorem ownBufs_tile :
    (ownBufs (thr d L) : sProp 𝕄)
      = iprop((∃ f, (sI).view.loc (thr d L) ↦{fullShare} f) ∗ (∃ f, (sT).view.loc (thr d L) ↦{fullShare} f)
          ∗ (∃ f, (sD).view.loc (thr d L) ↦{fullShare} f) ∗ (∃ f, (sC).view.loc (thr d L) ↦{fullShare} f)
          ∗ bigSep (((((ownRefs (τ := τ) (.scVector (coreOf L) (subOf L))).erase (refT L cc0_scratch0)).erase (refT L cc0_scratch1)).erase (refT L cc0_scratch2)).erase (refT L cc0_scratch3))
              fun b => iprop(∃ f, ((d, b) : Loc nD τ sig) ↦{fullShare} f)) := by
  have mem : ∀ r : Ref sig .scVector, (refT L r).owner = .proc (.scVector (coreOf L) (subOf L)) → refT L r ∈ ownRefs (τ := τ) (.scVector (coreOf L) (subOf L)) :=
    fun r h => SparseCore.Cfg.mem_ownRefs_of_owner h
  have ne : ∀ r r' : Ref sig .scVector, r ≠ r' → refT L r ≠ refT L r' := fun r r' h e => h (Proc.devRef_injective _ e)
  unfold SparseCore.Cfg.ownBufs
  refine (SparseCore.bigSep_erase' (mem cc0_scratch0 rfl)).trans ?_
  rw [SparseCore.bigSep_erase' (Finset.mem_erase.mpr ⟨ne _ _ (by decide), mem cc0_scratch1 rfl⟩),
    SparseCore.bigSep_erase' (Finset.mem_erase.mpr ⟨ne _ _ (by decide), Finset.mem_erase.mpr ⟨ne _ _ (by decide), mem cc0_scratch2 rfl⟩⟩),
    SparseCore.bigSep_erase' (Finset.mem_erase.mpr ⟨ne _ _ (by decide), Finset.mem_erase.mpr ⟨ne _ _ (by decide), Finset.mem_erase.mpr ⟨ne _ _ (by decide), mem cc0_scratch3 rfl⟩⟩⟩)]

/-- The tile's first sample. -/
abbrev base (L : grid0.Coords) : ℕ := 32768 * (2 * (jL L).val + (cL L).val)

/-- The tile's indices, thresholds. -/
def ixT (L : grid0.Coords) (f : S1048576.Idx → BitVec 32) : S32768.Idx → BitVec 32 := fun x => f (ptN (base L + (x 0).val))
def thT (L : grid0.Coords) (f : S1048576.Idx → F .f32) : S32768.Idx → F .f32 := fun x => f (ptN (base L + (x 0).val))

/-- The densities a tile gathers. -/
def dsT (L : grid0.Coords) (ix : S1048576.Idx → BitVec 32) (g : S2097152.Idx → F .f32) : S32768.Idx → F .f32 := fun x => g (ptG (ixT L ix x).toNat)

theorem emb_winN (x : S32768.Idx) : (winN L).emb x = ptN (base L + (x 0).val) := by
  have hx : (x 0).val < 32768 := (x 0).isLt
  have h1 := (jL L).isLt
  have h2 := (cL L).isLt
  funext a
  have ha : a = 0 := Subsingleton.elim (α := Fin 1) _ _
  subst ha
  refine Fin.ext ((unit_val _ _ _ _ _).trans ?_)
  rw [offN]
  show _ = (base L + (x 0).val) % 1048576
  rw [Nat.mod_eq_of_lt (by unfold base; omega)]
theorem emb_winR (x : S256.Idx) : (winR L).emb x = ptR (256 * (2 * (jL L).val + (cL L).val) + (x 0).val) := by
  have hx : (x 0).val < 256 := (x 0).isLt
  have h1 := (jL L).isLt
  have h2 := (cL L).isLt
  funext a
  have ha : a = 0 := Subsingleton.elim (α := Fin 1) _ _
  subst ha
  refine Fin.ext ((unit_val _ _ _ _ _).trans ?_)
  rw [offR]
  show _ = (256 * (2 * (jL L).val + (cL L).val) + (x 0).val) % 8192
  rw [Nat.mod_eq_of_lt (by omega)]

omit [FloatOps F] in
theorem land_ix (f : S32768.Idx → BitVec 32) : View.write (Elt F) (sI).view f ((iW L).view.read (Elt F) ix) Finset.univ = ixT L ix :=
  (View.write_whole_univ _ _ _).trans (funext fun x => ((View.read_apply _ _).trans (cast_eq _ _)).trans (congrArg ix (emb_winN L x)))
omit [FloatOps F] in
theorem land_th (f : S32768.Idx → F .f32) : View.write (Elt F) (sT).view f ((tW L).view.read (Elt F) th) Finset.univ = thT L th :=
  (View.write_whole_univ _ _ _).trans (funext fun x => ((View.read_apply _ _).trans (cast_eq _ _)).trans (congrArg th (emb_winN L x)))

/-- A word's mark is its sample's. -/
theorem vld_valid (p : ℕ) (hp : p < 32768) : vld (dsT L ix g) (thT L th) p = valid ix th g (base L + p) := by
  have e : (ptL p 0).val = p := Nat.mod_eq_of_lt hp
  unfold vld dsT thT ixT valid dens
  rw [e]

/-- A row's count is its ray's. -/
theorem rowCount_count (r : ℕ) (hr : r < 256) : rowCount (dsT L ix g) (thT L th) r = count ix th g (256 * (2 * (jL L).val + (cL L).val) + r) := by
  refine Finset.sum_congr rfl fun k hk => ?_
  have hk := Finset.mem_range.mp hk
  rw [vld_valid L ix th g _ (by omega)]
  refine congrArg (valid ix th g) ?_
  unfold base
  omega

omit [FloatOps F] in
theorem writes_whole {sp : Space} {s : Shape} {e : EltTy} (v : View sig .scVector sp s e) (f : v.ty.Contents (Elt F)) (w : s.Idx → Elt F e) :
    v.writes (Elt F) f [⟨Rect.whole s, w⟩] = v.write (Elt F) f w Finset.univ :=
  (View.write_univ_eq_writes_whole v f [] w).symm

/-- The marks written out are those of the tile's samples. -/
theorem out_valid (vs : S1048576.Idx → BitVec 32) (x : S1048576.Idx) (hx : x ∈ blk 1048576 32768 (cL L) (jL L)) :
    (vW L).view.writes (Elt F) vs [⟨Rect.whole S32768, (sI).view.read (Elt F) fun x => vld (dsT L ix g) (thT L th) (x 0).val⟩] x = validF ix th g x := by
  rw [writes_whole]
  rw [← set_vW] at hx
  obtain ⟨y, -, rfl⟩ := Finset.mem_map.mp hx
  refine (View.write_emb_of_mem _ _ (Finset.mem_univ y)).trans ((cast_eq _ _).trans ?_)
  have hy : (y 0).val < 32768 := (y 0).isLt
  refine (vld_valid L ix th g _ hy).trans ?_
  show _ = valid ix th g ((winN L).emb y 0).val
  rw [unit_val, offN]

/-- The counts written out are those of the tile's rays. -/
theorem out_count (cs : S8192.Idx → BitVec 32) (x : S8192.Idx) (hx : x ∈ blk 8192 256 (cL L) (jL L)) :
    (cW L).view.writes (Elt F) cs [⟨Rect.whole S256, (sC).view.read (Elt F) fun x => rowCount (dsT L ix g) (thT L th) (x 0).val⟩] x = counts ix th g x := by
  rw [writes_whole]
  rw [← set_cW] at hx
  obtain ⟨y, -, rfl⟩ := Finset.mem_map.mp hx
  refine (View.write_emb_of_mem _ _ (Finset.mem_univ y)).trans ((cast_eq _ _).trans ?_)
  have hy : (y 0).val < 256 := (y 0).isLt
  refine (rowCount_count L ix th g _ hy).trans ?_
  show _ = count ix th g ((winR L).emb y 0).val
  rw [unit_val, offR]

set_option maxHeartbeats 1000000 in
/-- The task of a tile, from its samples' indices and thresholds, a share of the densities, and its places of the results. -/
theorem tile_body (hF : (K (F := F)).Facts) (O : CellTallies nD τ sig (HIx 2)) (W : Waits sig (HIx 2)) (hO : ∀ g, O g none = 0)
    (q : PosShare TreeShare) (hix : ∀ x, (ix x).toNat < 2097152) (vs : S1048576.Idx → BitVec 32) (cs : S8192.Idx → BitVec 32) :
    (iprop(levAts (K (F := F)).L (K (F := F)).lev ∗ emp
        ∗ ((iLoc d ↦[blk 1048576 32768 (cL L) (jL L)]{fullShare} ix) ∗ (tLoc d ↦[blk 1048576 32768 (cL L) (jL L)]{fullShare} th)
          ∗ (gLoc d ↦{q} g) ∗ (vLoc d ↦[blk 1048576 32768 (cL L) (jL L)]{fullShare} vs) ∗ (cLoc d ↦[blk 8192 256 (cL L) (jL L)]{fullShare} cs))
        ∗ scopedBufs (thr d L) ∗ scopedSems0 (thr d L) ∗ owes (thr d L) O W) : sProp 𝕄)
      ⊢ wp frame (wpE (defs₀ (F := F)) 𝒱₀ (thr d L) none) Set.univ
          (cc0__sc_pass1_body L iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3)
          fun _ => iprop(((iLoc d ↦[blk 1048576 32768 (cL L) (jL L)]{fullShare} ix) ∗ (tLoc d ↦[blk 1048576 32768 (cL L) (jL L)]{fullShare} th)
          ∗ (gLoc d ↦{q} g) ∗ (vLoc d ↦[blk 1048576 32768 (cL L) (jL L)]{fullShare} validF ix th g) ∗ (cLoc d ↦[blk 8192 256 (cL L) (jL L)]{fullShare} counts ix th g))
            ∗ scopedBufs (thr d L) ∗ scopedSems0 (thr d L)
            ∗ ∃ W', ⌜∀ p ∈ W', p ∈ W ∨ p.2 = none⌝ ∗ owes (thr d L) O W') := by
  simp only [cc0__sc_pass1_body_eq_skeleton]; unfold cc0__sc_pass1_body_skel
  rw [(K (F := F)).scopedBufs_V hF d (coreOf L) (subOf L), SparseCore.Cfg.scopedSems0_V (Val := Elt F) d (coreOf L) (subOf L), ownSems0_tile, ownBufs_tile]
  iintro ⟨#Hlv, -, ⟨Hi, Ht, Hg, Hv, Hc⟩, ⟨⟨%fi, HI⟩, ⟨%ft, HT⟩, ⟨%fd, HD⟩, ⟨%fc, HC⟩, Hbufs⟩, ⟨Hs5, HsA, HsB, HsC, HsD, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_iW (F := F) L d _ _).symm) $$ Hi
  ihave Ht' := (Entails.of_eq (pts_tW (F := F) L d _ _).symm) $$ Ht
  ihave Hv' := (Entails.of_eq (pts_vW (F := F) L d _ _).symm) $$ Hv
  ihave Hc' := (Entails.of_eq (pts_cW (F := F) L d _ _).symm) $$ Hc
  sl_exec
  have hI : View.write (Elt F) (sI).view fi (tile_body.sl.dma0 L ix) Finset.univ = ixT L ix := land_ix (F := F) L ix fi
  have hT : View.write (Elt F) (sT).view ft (tile_body.sl.dma0_1 L th) Finset.univ = thT L th := land_th L th ft
  ihave HI := (Entails.of_eq (congrArg (fun c : S32768.Idx → BitVec 32 => ((sI).view.loc (thr d L) ↦{fullShare} c : sProp 𝕄)) hI)) $$ HI
  ihave HT := (Entails.of_eq (congrArg (fun c : S32768.Idx → F .f32 => ((sT).view.loc (thr d L) ↦{fullShare} c : sProp 𝕄)) hT)) $$ HT
  rw [wp_bind]
  ihave H := (t1_loop L d q (ixT L ix) g (fun x => hix _) fd (O := O) (W := W)) $$ [HD HI Hg Hs5 HO]
  · isplitr; · iexact Hmw
    isplitl [HD]; · iexact HD
    isplitl [HI]; · iexact HI
    isplitl [Hg]; · iexact Hg
    isplitl [Hs5]; · iexact Hs5
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iapply (wp_wand_r _ _ _)
  isplitl [H]; · iexact H
  iintro %_ ⟨HD, HI, Hg, Hs5, %W₁, %hW₁, HO⟩
  rw [wp_bind]
  ihave H := (t2_loop L d (dsT L ix g) (thT L th) (ixT L ix) fc) $$ [HD HT HI HC]
  · isplitl [HD]; · iexact HD
    isplitl [HT]; · iexact HT
    isplitl [HI]; · iexact HI
    iexact HC
  iapply (wp_wand_r _ _ _)
  isplitl [H]; · iexact H
  iintro %_ ⟨HD, HT, HI, HC⟩
  have H2 : ∀ w : S32768.Idx → BitVec 32, w = (sI).view.read (Elt F) (fun x => vld (dsT L ix g) (thT L th) (x 0).val) →
      (vLoc d ↦[blk 1048576 32768 (cL L) (jL L)]{fullShare} (vW L).view.writes (Elt F) vs [⟨Rect.whole S32768, w⟩] : sProp 𝕄)
        = vLoc d ↦[blk 1048576 32768 (cL L) (jL L)]{fullShare} validF ix th g := fun w hw => by
    subst hw; exact pointsTo_congr (ℓ := vLoc d) (I := blk 1048576 32768 (cL L) (jL L)) (out_valid L ix th g vs)
  have H3 : ∀ w : S256.Idx → BitVec 32, w = (sC).view.read (Elt F) (fun x => rowCount (dsT L ix g) (thT L th) (x 0).val) →
      (cLoc d ↦[blk 8192 256 (cL L) (jL L)]{fullShare} (cW L).view.writes (Elt F) cs [⟨Rect.whole S256, w⟩] : sProp 𝕄)
        = cLoc d ↦[blk 8192 256 (cL L) (jL L)]{fullShare} counts ix th g := fun w hw => by
    subst hw; exact pointsTo_congr (ℓ := cLoc d) (I := blk 8192 256 (cL L) (jL L)) (out_count L ix th g cs)
  sl_exec
  sl_step
  isplitl [Hi' Ht' Hg Hv' Hc']
  · isplitl [Hi']; · iapply (Entails.of_eq (pts_iW (F := F) L d _ _)); iexact Hi'
    isplitl [Ht']; · iapply (Entails.of_eq (pts_tW (F := F) L d _ _)); iexact Ht'
    isplitl [Hg]; · iexact Hg
    isplitl [Hv']
    · ihave Hv' := (Entails.of_eq (pts_vW (F := F) L d _ _)) $$ Hv'
      iapply (Entails.of_eq (H2 (tile_body.sl.dma0_2 L d ix th g) rfl)) $$ Hv'
    · ihave Hc' := (Entails.of_eq (pts_cW (F := F) L d _ _)) $$ Hc'
      iapply (Entails.of_eq (H3 (tile_body.sl.dma0_3 L d ix th g) rfl)) $$ Hc'
  isplitl [HI HT HD HC Hbufs]
  · isplitl [HI]; · iexists _; iexact HI
    isplitl [HT]; · iexists _; iexact HT
    isplitl [HD]; · iexists _; iexact HD
    isplitl [HC]; · iexists _; iexact HC
    iexact Hbufs
  isplitl [Hs5 HsA HsB HsC HsD Hsems]
  · isplitl [Hs5]; · iexact Hs5
    isplitl [HsA]; · iexact HsA
    isplitl [HsB]; · iexact HsB
    isplitl [HsC]; · iexact HsC
    isplitl [HsD]; · iexact HsD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW₁ p hp

end Body

end Cert.Proof.Lookup

end
-- ==== Proof.Lanes.lean ====
/-
  The lanes of the compaction: what its arithmetic on vectors of sixteen words leaves in each lane.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

/-- The lane numbers. -/
abbrev lanes : IVec S16 32 := iota .scVector S16 32 [0] iota_S16_d0_w32_scVector

theorem lanes_apply (x : S16.Idx) : lanes x = BitVec.ofNat 32 (x 0).val := iota_single_apply ..

/-- A lane beyond the `j`-th takes `r`, another one nothing. -/
theorem lane_gt (j : Fin 16) (x : S16.Idx) (r : BitVec 32) :
    Scalar.select (IntOp.cmpi .sgt (lanes x) (BitVec.ofNat 32 j.val)) r 0#32 = if j.val < (x 0).val then r else 0#32 := by
  have hx : (x 0).val < 16 := (x 0).isLt
  have hc : ∀ a b : Fin 16, IntOp.cmpi .sgt (BitVec.ofNat 32 a.val) (BitVec.ofNat 32 b.val) = if b.val < a.val then 1#1 else 0#1 := by decide
  rw [lanes_apply, hc ⟨_, hx⟩ j]
  show (if (if j.val < (x 0).val then 1#1 else 0#1) = 1#1 then r else 0#32) = _
  by_cases h : j.val < (x 0).val
  · rw [if_pos h, if_pos h, if_pos rfl]
  · rw [if_neg h, if_neg h, if_neg (by decide)]

/-- The chain of the lanes before a lane is their sum. -/
theorem chain_sum (f : ℕ → BitVec 32) (n : ℕ) (hn : n < 16) :
    (0#32 + (if 0 < n then f 0 else 0#32) + (if 1 < n then f 1 else 0#32) + (if 2 < n then f 2 else 0#32) + (if 3 < n then f 3 else 0#32)
      + (if 4 < n then f 4 else 0#32) + (if 5 < n then f 5 else 0#32) + (if 6 < n then f 6 else 0#32) + (if 7 < n then f 7 else 0#32)
      + (if 8 < n then f 8 else 0#32) + (if 9 < n then f 9 else 0#32) + (if 10 < n then f 10 else 0#32) + (if 11 < n then f 11 else 0#32)
      + (if 12 < n then f 12 else 0#32) + (if 13 < n then f 13 else 0#32) + (if 14 < n then f 14 else 0#32))
      = ∑ j ∈ Finset.range n, f j := by
  have h : ∀ k, k ≤ 15 → ∑ j ∈ Finset.range k, (if j < n then f j else 0#32) = ∑ j ∈ Finset.range (min k n), f j := by
    intro k
    induction k with
    | zero => intro _; rw [Nat.zero_min]; rfl
    | succ k ih =>
      intro hk
      rw [Finset.sum_range_succ, ih (by omega)]
      by_cases hkn : k < n
      · rw [if_pos hkn, Nat.min_eq_left (by omega), Nat.min_eq_left (by omega), Finset.sum_range_succ]
      · rw [if_neg hkn, Nat.min_eq_right (by omega), Nat.min_eq_right (by omega)]
        exact add_zero _
  have h15 := h 15 le_rfl
  rw [Nat.min_eq_right (by omega)] at h15
  rw [← h15]
  simp only [Finset.sum_range_succ, Finset.sum_range_zero]
  rfl

/-- A one-lane slice of sixteen lanes, read. -/
theorem lane_read {α : Type} (w : S16.Idx → α) (f : ℕ → α) (hw : ∀ x, w x = f (x 0).val) (j : ℕ) (hs : S16.Slices ![j] S1) :
    extractAt ![0] (extractStridedSlice S1 ![j] w hs) inpos_S1_p0 = f j := by
  refine (hw _).trans (congrArg f ?_)
  show j + 0 = j
  rfl

/-- One step of the chain. -/
theorem chain_step (m : IVec S16 32) (f : ℕ → BitVec 32) (hm : ∀ x, m x = f (x 0).val) (j : Fin 16) (a : BitVec 32)
    (hs : S16.Slices ![j.val] S1) (x : S16.Idx) :
    IntOp.addi a (Scalar.select (IntOp.cmpi .sgt (lanes x) (BitVec.ofNat 32 j.val)) (extractAt ![0] (extractStridedSlice S1 ![j.val] m hs) inpos_S1_p0) 0#32)
      = a + if j.val < (x 0).val then f j.val else 0#32 := by
  rw [lane_gt, lane_read m f hm]
  rfl

variable [FloatOps F]

/-- The marks before a lane, of sixteen lanes of marks. -/
theorem excl_apply (w : Vec F S16 .i32) (f : ℕ → BitVec 32) (hm : ∀ x, k1_pay5 (F := F) w x = f (x 0).val) (x : S16.Idx) :
    k1_pay14 lanes (k1_pay5 (F := F) w) (k1_pay11 lanes (k1_pay5 (F := F) w) (k1_pay8 lanes w) (k1_pay9 lanes) (k1_pay10 w)) (k1_pay12 lanes) (k1_pay13 (k1_pay5 (F := F) w)) x
      = ∑ j ∈ Finset.range (x 0).val, f j := by
  rw [← chain_sum f (x 0).val (x 0).isLt]
  have e0 : k1_pay8 lanes w x = 0#32 + (if 0 < (x 0).val then f 0 else 0#32) + (if 1 < (x 0).val then f 1 else 0#32) + (if 2 < (x 0).val then f 2 else 0#32) :=
    (chain_step _ f hm 2 _ slices_S16_o2_S1 x).trans (congrArg (· + _) ((chain_step _ f hm 1 _ slices_S16_o1_S1 x).trans (congrArg (· + _) (chain_step _ f hm 0 _ slices_S16_o0_S1 x))))
  generalize k1_pay8 lanes w = a at e0 ⊢
  have e1 : k1_pay11 lanes (k1_pay5 (F := F) w) a (k1_pay9 lanes) (k1_pay10 w) x = a x + (if 3 < (x 0).val then f 3 else 0#32)
      + (if 4 < (x 0).val then f 4 else 0#32) + (if 5 < (x 0).val then f 5 else 0#32) + (if 6 < (x 0).val then f 6 else 0#32) + (if 7 < (x 0).val then f 7 else 0#32)
      + (if 8 < (x 0).val then f 8 else 0#32) :=
    (chain_step _ f hm 8 _ slices_S16_o8_S1 x).trans (congrArg (· + _) ((chain_step _ f hm 7 _ slices_S16_o7_S1 x).trans (congrArg (· + _)
      ((chain_step _ f hm 6 _ slices_S16_o6_S1 x).trans (congrArg (· + _) ((chain_step _ f hm 5 _ slices_S16_o5_S1 x).trans (congrArg (· + _)
        ((chain_step _ f hm 4 _ slices_S16_o4_S1 x).trans (congrArg (· + _) (chain_step _ f hm 3 _ slices_S16_o3_S1 x))))))))))
  generalize k1_pay11 lanes (k1_pay5 (F := F) w) a (k1_pay9 lanes) (k1_pay10 w) = b at e1 ⊢
  have e2 : k1_pay14 lanes (k1_pay5 (F := F) w) b (k1_pay12 lanes) (k1_pay13 (k1_pay5 (F := F) w)) x = b x + (if 9 < (x 0).val then f 9 else 0#32)
      + (if 10 < (x 0).val then f 10 else 0#32) + (if 11 < (x 0).val then f 11 else 0#32) + (if 12 < (x 0).val then f 12 else 0#32) + (if 13 < (x 0).val then f 13 else 0#32)
      + (if 14 < (x 0).val then f 14 else 0#32) :=
    (chain_step _ f hm 14 _ slices_S16_o14_S1 x).trans (congrArg (· + _) ((chain_step _ f hm 13 _ slices_S16_o13_S1 x).trans (congrArg (· + _)
      ((chain_step _ f hm 12 _ slices_S16_o12_S1 x).trans (congrArg (· + _) ((chain_step _ f hm 11 _ slices_S16_o11_S1 x).trans (congrArg (· + _)
        ((chain_step _ f hm 10 _ slices_S16_o10_S1 x).trans (congrArg (· + _) (chain_step _ f hm 9 _ slices_S16_o9_S1 x))))))))))
  rw [e2, e1, e0]

/-- The marks of sixteen samples, from their words. -/
theorem pay5_apply (w : Vec F S16 .i32) (f : ℕ → BitVec 32) (hf : ∀ p, f p = 0#32 ∨ f p = 1#32) (hw : ∀ x, w x = f (x 0).val) (x : S16.Idx) :
    k1_pay5 (F := F) w x = f (x 0).val := by
  unfold k1_pay5 k1_pay4
  rw [shapeCast_self]
  show Scalar.select (IntOp.cmpi .sgt (w x) 0#32) 1#32 0#32 = _
  rw [hw]
  rcases hf (x 0).val with h | h <;> rw [h] <;> rfl

theorem pay4_apply (w : Vec F S16 .i32) (f : ℕ → BitVec 32) (hf : ∀ p, f p = 0#32 ∨ f p = 1#32) (hw : ∀ x, w x = f (x 0).val) (x : S16.Idx) :
    k1_pay4 (F := F) w x = if f (x 0).val = 1#32 then 1#1 else 0#1 := by
  unfold k1_pay4
  rw [shapeCast_self]
  show IntOp.cmpi .sgt (w x) 0#32 = _
  rw [hw]
  rcases hf (x 0).val with h | h <;> rw [h] <;> rfl

end Cert.Proof.Lookup

end
-- ==== Proof.Ranks.lean ====
/-
  Where the stable compaction puts a sample. With a mark `0` or `1` at each of `1048576` samples: a marked sample goes to the
  number of marked ones before it; an unmarked one behind all marked ones, at the number of unmarked ones before it. The map is
  a permutation of the samples, increasing along the marked ones and then the unmarked ones. All of it is said of numbers and
  then of 32-bit words.
-/
module

public import Mathlib.Data.BitVec
public import Mathlib.Algebra.BigOperators.Intervals
public import Mathlib.Algebra.Order.BigOperators.Group.Finset
public import Mathlib.Data.Fintype.Card
public import Mathlib.Data.Fintype.EquivFin

@[expose] public section

noncomputable section

namespace Cert.Proof.Lookup

/-- The number of samples. -/
abbrev NN : ℕ := 1048576

section Ranks

variable (v : ℕ → BitVec 32)

/-- The number of marks before `p`. -/
def rank (p : ℕ) : ℕ := ∑ i ∈ Finset.range p, (v i).toNat

/-- The place of sample `p`. -/
def place (p : ℕ) : ℕ := if v p = 1#32 then rank v p else rank v NN + (p - rank v p)

/-- The sum of the marks before `p`, as a word. -/
def before (p : ℕ) : BitVec 32 := ∑ i ∈ Finset.range p, v i

variable (hv : ∀ p, v p = 0#32 ∨ v p = 1#32)

theorem rank_succ (p : ℕ) : rank v (p + 1) = rank v p + (v p).toNat := Finset.sum_range_succ _ _

include hv

theorem toNat_le (p : ℕ) : (v p).toNat ≤ 1 := by
  rcases hv p with h | h <;> rw [h] <;> decide

theorem rank_le (p : ℕ) : rank v p ≤ p := by
  induction p with
  | zero => exact le_of_eq (Finset.sum_range_zero _)
  | succ n ih => rw [rank_succ]; have := toNat_le v hv n; omega

/-- Between two samples there are no more marks than samples. -/
theorem rank_mono {p q : ℕ} (h : p ≤ q) : rank v p ≤ rank v q ∧ rank v q - rank v p ≤ q - p := by
  induction q with
  | zero =>
    have : p = 0 := by omega
    subst this; exact ⟨le_rfl, by omega⟩
  | succ n ih =>
    rcases Nat.lt_or_ge n p with h' | h'
    · have : p = n + 1 := by omega
      subst this; exact ⟨le_rfl, by omega⟩
    · have := ih h'
      have h1 := toNat_le v hv n
      rw [rank_succ]
      omega

theorem rank_one {p : ℕ} (h : v p = 1#32) : rank v (p + 1) = rank v p + 1 := by rw [rank_succ, h]; rfl
theorem rank_zero {p : ℕ} (h : v p ≠ 1#32) : rank v (p + 1) = rank v p := by rw [rank_succ, (hv p).resolve_right h]; rfl

theorem place_lt {p : ℕ} (hp : p < NN) : place v p < NN := by
  have h1 := rank_mono v hv (show p + 1 ≤ NN from hp)
  have h2 := rank_le v hv p
  have h3 := rank_le v hv NN
  unfold place
  split
  · next h => rw [rank_one v hv h] at h1; omega
  · next h => rw [rank_zero v hv h] at h1; omega

/-- The order the compaction puts the samples in: marked ones first. -/
def key (p : ℕ) : ℕ := if v p = 1#32 then p else p + NN

theorem place_lt_place {p q : ℕ} (hp : p < NN) (hq : q < NN) (h : key v p < key v q) : place v p < place v q := by
  have hm : p < q → rank v (p + 1) ≤ rank v q ∧ rank v q - rank v (p + 1) ≤ q - (p + 1) := fun h => rank_mono v hv h
  have h1 := rank_mono v hv (show p + 1 ≤ NN from hp)
  have hp' := rank_le v hv p
  have hq' := rank_le v hv q
  unfold key at h
  unfold place
  by_cases e1 : v p = 1#32 <;> by_cases e2 : v q = 1#32
  · rw [if_pos e1, if_pos e2] at h ⊢
    have := hm h
    rw [rank_one v hv e1] at this
    omega
  · rw [if_pos e1, if_neg e2] at h ⊢
    rw [rank_one v hv e1] at h1
    omega
  · rw [if_neg e1, if_pos e2] at h
    omega
  · rw [if_neg e1, if_neg e2] at h ⊢
    have := hm (by omega)
    rw [rank_zero v hv e1] at this
    omega

theorem key_inj {p q : ℕ} (hp : p < NN) (hq : q < NN) (h : key v p = key v q) : p = q := by
  unfold key at h
  split at h <;> split at h <;> omega

theorem place_inj {p q : ℕ} (hp : p < NN) (hq : q < NN) (h : place v p = place v q) : p = q := by
  rcases Nat.lt_trichotomy (key v p) (key v q) with h' | h' | h'
  · exact absurd h (Nat.ne_of_lt (place_lt_place v hv hp hq h'))
  · exact key_inj v hv hp hq h'
  · exact absurd h.symm (Nat.ne_of_lt (place_lt_place v hv hq hp h'))

theorem place_surj {y : ℕ} (hy : y < NN) : ∃ p, p < NN ∧ place v p = y := by
  have hi : Function.Injective (fun p : Fin NN => (⟨place v p.val, place_lt v hv p.isLt⟩ : Fin NN)) := fun p q h =>
    Fin.ext (place_inj v hv p.isLt q.isLt (congrArg Fin.val h))
  obtain ⟨p, hp⟩ := (Finite.injective_iff_surjective.mp hi) ⟨y, hy⟩
  exact ⟨p.val, p.isLt, congrArg Fin.val hp⟩

omit hv in
/-- The sample that goes to place `y`. -/
def sampleAt (y : ℕ) : ℕ := open Classical in if h : ∃ p, p < NN ∧ place v p = y then h.choose else 0

theorem sampleAt_lt {y : ℕ} (hy : y < NN) : sampleAt v y < NN := by
  unfold sampleAt; rw [dif_pos (place_surj v hv hy)]; exact (place_surj v hv hy).choose_spec.1
theorem place_sampleAt {y : ℕ} (hy : y < NN) : place v (sampleAt v y) = y := by
  unfold sampleAt; rw [dif_pos (place_surj v hv hy)]; exact (place_surj v hv hy).choose_spec.2
theorem sampleAt_place {p : ℕ} (hp : p < NN) : sampleAt v (place v p) = p :=
  place_inj v hv (sampleAt_lt v hv (place_lt v hv hp)) hp (place_sampleAt v hv (place_lt v hv hp))

/-- The order of the places is that of the keys. -/
theorem key_sampleAt_lt {y z : ℕ} (hy : y < NN) (hz : z < NN) (h : y < z) : key v (sampleAt v y) < key v (sampleAt v z) := by
  have e1 := place_sampleAt v hv hy
  have e2 := place_sampleAt v hv hz
  have h1 := sampleAt_lt v hv hy
  have h2 := sampleAt_lt v hv hz
  rcases Nat.lt_trichotomy (key v (sampleAt v y)) (key v (sampleAt v z)) with h' | h' | h'
  · exact h'
  · have := key_inj v hv h1 h2 h'
    rw [this] at e1; omega
  · have := place_lt_place v hv h2 h1 h'
    omega

/-! ## In words -/

omit hv in
theorem before_eq (p : ℕ) : before v p = BitVec.ofNat 32 (rank v p) := by
  induction p with
  | zero => rfl
  | succ n ih =>
    rw [rank_succ, BitVec.ofNat_add, ← ih, BitVec.ofNat_toNat, BitVec.setWidth_eq]
    exact Finset.sum_range_succ _ _

omit hv in
theorem before_add (p n : ℕ) : before v (p + n) = before v p + ∑ i ∈ Finset.range n, v (p + i) := by
  unfold before; rw [Finset.sum_range_add]

/-- The word the kernel computes for sample `p`. -/
theorem place_word {p : ℕ} (hp : p < NN) :
    (if v p = 1#32 then before v p else before v NN + BitVec.ofNat 32 p - before v p).toNat = place v p := by
  have h1 := rank_le v hv p
  have h2 := rank_le v hv NN
  have h3 := place_lt v hv hp
  have hN : NN = 1048576 := rfl
  rw [before_eq, before_eq]
  unfold place at h3 ⊢
  by_cases h : v p = 1#32
  · rw [if_pos h, if_pos h, BitVec.toNat_ofNat, Nat.mod_eq_of_lt (by omega)]
  · rw [if_neg h] at h3
    rw [if_neg h, if_neg h, BitVec.toNat_sub, BitVec.toNat_add, BitVec.toNat_ofNat, BitVec.toNat_ofNat, BitVec.toNat_ofNat]
    omega

end Ranks

end Cert.Proof.Lookup

end
-- ==== Proof.Compact.lean ====
/-
  The compaction of a row: eight windows of sixteen samples. A window's samples get their places, from the number of marks
  before the window and the lanes' exclusive sums, and their eight values go to the eight stretches of the staging buffer.
-/
module

public import proofs.«01_k».proof.Proof.Lanes
public import proofs.«01_k».proof.Proof.Ranks

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

abbrev coreOf1 (L : grid1.Coords) : Fin τ.nSC := (L 0).castLE hcore1
abbrev subOf1 (L : grid1.Coords) : Fin τ.nSub := (L 1).castLE hsub1
abbrev thr1 (d : Dev nD) (L : grid1.Coords) : Thread nD τ := V d (coreOf1 L) (subOf1 L)

/-- The first sample of the tile. -/
abbrev base1 (L : grid1.Coords) : ℕ := 32768 * (2 * (L 1).val + (L 0).val)

theorem base1_le (L : grid1.Coords) : base1 L + 32768 ≤ NN := by
  have h0 : (L 0).val < 2 := (L 0).isLt
  have h1 : (L 1).val < 16 := (L 1).isLt
  have hN : NN = 1048576 := rfl
  unfold base1
  omega

variable (L : grid1.Coords)

/-- The region of a row's windows. -/
abbrev w4B [FloatOps F] (L : grid1.Coords) := k1_t4_body (F := F) L vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5

/-- The word of sample `p`'s place. -/
def placeWord (v : ℕ → BitVec 32) (p : ℕ) : BitVec 32 := if v p = 1#32 then before v p else before v NN + BitVec.ofNat 32 p - before v p

section Row

variable [FloatOps F] (d : Dev nD) (v : ℕ → BitVec 32) (hv : ∀ p, v p = 0#32 ∨ v p = 1#32)

/-- Value `c` of a sample that starts at `s`, of a ray of parameters `pc`. -/
def colv (pc : ℕ → F .f32) (s : F .f32) (c : ℕ) : F .f32 := if c < 6 then pc c else if c = 6 then s else FloatOps.addf s (pc 6)

/-- The newest window of a one-axis buffer's stores, stored with `G` of the positions. -/
theorem read_writes_cons {sig' : RefSig} {κ : Kind} {sp : Space} {e : EltTy} {N n : ℕ} {Val : EltTy → Type} (w : View sig' κ sp ⟨1, ![N]⟩ e) (f : w.ty.Contents Val)
    (off : Fin 1 → ℕ) (inb) (u : (⟨1, ![n]⟩ : Shape).Idx → Val e) (rest : List (View.Piece Val ⟨1, ![N]⟩ e)) (o : ℕ) (ho : off 0 = o) (G : ℕ → Val e)
    (hu : ∀ x, u x = G (o + (x 0).val)) (y : (⟨1, ![N]⟩ : Shape).Idx) :
    w.read Val (w.writes Val f (⟨Rect.unit (s := ⟨1, ![N]⟩) off ![n] inb, u⟩ :: rest)) y
      = if o ≤ (y 0).val ∧ (y 0).val < o + n then G (y 0).val else w.read Val (w.writes Val f rest) y := by
  subst ho
  by_cases h : off 0 ≤ (y 0).val ∧ (y 0).val < off 0 + n
  · rw [if_pos h]
    have hx : (y 0).val - off 0 < n := by omega
    let x : (⟨1, ![n]⟩ : Shape).Idx := fun a => ⟨(y 0).val - off 0, by
      have ha : a = 0 := Subsingleton.elim (α := Fin 1) _ _
      subst ha; exact hx⟩
    have hc := View.read_writes_cons_hit_of_coords w f (Rect.unit (s := ⟨1, ![N]⟩) off ![n] inb) u rest x y (fun a => by
      have ha : a = 0 := Subsingleton.elim (α := Fin 1) _ _
      subst ha
      show (y 0).val = off 0 + 1 * ((y 0).val - off 0)
      omega)
    refine hc.trans ((hu x).trans (congrArg G ?_))
    show off 0 + ((y 0).val - off 0) = (y 0).val
    omega
  · rw [if_neg h]
    exact (View.read_writes_cons_miss_of_axis w f ⟨Rect.unit (s := ⟨1, ![N]⟩) off ![n] inb, u⟩ rest y 0 (off 0) n rfl rfl rfl (by omega))

/-- A window of a one-row buffer stored with `G` of the positions in the row. -/
theorem read_writes_row {sig' : RefSig} {κ : Kind} {sp : Space} {e : EltTy} {Val : EltTy → Type} (w : View sig' κ sp S1x128 e) (f : w.ty.Contents Val)
    (off : Fin 2 → ℕ) (inb) (u : S1x16.Idx → Val e) (o : ℕ) (ho : off = ![0, o]) (G : ℕ → Val e)
    (hu : ∀ x, u x = G (o + (x 1).val)) (y : S1x128.Idx) :
    w.read Val (w.writes Val f [⟨Rect.unit (s := S1x128) off S1x16.size inb, u⟩]) y
      = if o ≤ (y 1).val ∧ (y 1).val < o + 16 then G (y 1).val else w.read Val f y := by
  subst ho
  by_cases h : o ≤ (y 1).val ∧ (y 1).val < o + 16
  · rw [if_pos h]
    have hy0 : (y 0).val < 1 := (y 0).isLt
    let x : S1x16.Idx := fun a => if h0 : a = 0 then ⟨0, by subst h0; decide⟩ else ⟨(y 1).val - o, by
      have h1 : a = 1 := by
        have : a.val ≠ 0 := fun hh => h0 (Fin.ext hh)
        have h2 : a.val < 2 := a.isLt
        exact Fin.ext (by show a.val = 1; omega)
      subst h1
      show (y 1).val - o < 16
      omega⟩
    have hc := View.read_writes_cons_hit_of_coords w f (Rect.unit (s := S1x128) ![0, o] S1x16.size inb) u [] x y (fun a => by
      have h2 : a.val < 2 := a.isLt
      rcases (show a.val = 0 ∨ a.val = 1 by omega) with h' | h'
      · have ha : a = 0 := Fin.ext h'
        subst ha
        show (y 0).val = 0 + 1 * 0
        omega
      · have ha : a = 1 := Fin.ext h'
        subst ha
        show (y 1).val = o + 1 * ((y 1).val - o)
        omega)
    refine hc.trans ((hu x).trans (congrArg G ?_))
    show o + ((y 1).val - o) = (y 1).val
    omega
  · rw [if_neg h]
    exact (View.read_writes_cons_miss_of_axis w f ⟨Rect.unit (s := S1x128) ![0, o] S1x16.size inb, u⟩ [] y 1 o 16 rfl rfl rfl (by omega))

/-- The eight windows of a staging buffer of eight stretches of 128 are one window of each stretch. -/
theorem stretches {α : Type} (G : ℕ → ℕ → α) (n y : ℕ) (hn : n ≤ 112) (hy : y < 1024) (r : α) :
    (if 896 + n ≤ y ∧ y < 896 + n + 16 then G 7 (y - 896) else if 768 + n ≤ y ∧ y < 768 + n + 16 then G 6 (y - 768)
      else if 640 + n ≤ y ∧ y < 640 + n + 16 then G 5 (y - 640) else if 512 + n ≤ y ∧ y < 512 + n + 16 then G 4 (y - 512)
      else if 384 + n ≤ y ∧ y < 384 + n + 16 then G 3 (y - 384) else if 256 + n ≤ y ∧ y < 256 + n + 16 then G 2 (y - 256)
      else if 128 + n ≤ y ∧ y < 128 + n + 16 then G 1 (y - 128) else if 0 + n ≤ y ∧ y < 0 + n + 16 then G 0 (y - 0) else r)
      = if n ≤ y % 128 ∧ y % 128 < n + 16 then G (y / 128) (y % 128) else r := by
  have key : ∀ c z, y = 128 * c + z → z < 128 → y / 128 = c ∧ y % 128 = z := fun c z h hz => by omega
  by_cases h : n ≤ y % 128 ∧ y % 128 < n + 16
  · rw [if_pos h]
    obtain ⟨c, z, e, hz⟩ : ∃ c z, y = 128 * c + z ∧ z < 128 := ⟨y / 128, y % 128, by omega, by omega⟩
    obtain ⟨e1, e2⟩ := key c z e hz
    rw [e1, e2]
    rw [e2] at h
    subst e
    clear key e1 e2
    have hc : c < 8 := by omega
    interval_cases c
    · rw [if_neg (by omega), if_neg (by omega), if_neg (by omega), if_neg (by omega), if_neg (by omega), if_neg (by omega), if_neg (by omega), if_pos (by omega)]
      exact congrArg (G 0) (by omega)
    · rw [if_neg (by omega), if_neg (by omega), if_neg (by omega), if_neg (by omega), if_neg (by omega), if_neg (by omega), if_pos (by omega)]
      exact congrArg (G 1) (by omega)
    · rw [if_neg (by omega), if_neg (by omega), if_neg (by omega), if_neg (by omega), if_neg (by omega), if_pos (by omega)]
      exact congrArg (G 2) (by omega)
    · rw [if_neg (by omega), if_neg (by omega), if_neg (by omega), if_neg (by omega), if_pos (by omega)]
      exact congrArg (G 3) (by omega)
    · rw [if_neg (by omega), if_neg (by omega), if_neg (by omega), if_pos (by omega)]
      exact congrArg (G 4) (by omega)
    · rw [if_neg (by omega), if_neg (by omega), if_pos (by omega)]
      exact congrArg (G 5) (by omega)
    · rw [if_neg (by omega), if_pos (by omega)]
      exact congrArg (G 6) (by omega)
    · rw [if_pos (by omega)]
      exact congrArg (G 7) (by omega)
  · rw [if_neg h, if_neg (by omega), if_neg (by omega), if_neg (by omega), if_neg (by omega), if_neg (by omega), if_neg (by omega), if_neg (by omega), if_neg (by omega)]

theorem ite_tail {α : Type} {c : Prop} [Decidable c] (a : α) {r r' : α} (h : r = r') : (if c then a else r) = if c then a else r' := by rw [h]

/-- A broadcast parameter. -/
theorem param_apply (w : FVec F S16 .f32) (pc : ℕ → F .f32) (hw : ∀ x, w x = pc (x 0).val) (c : ℕ) (hc : c < 6) (hs : S16.Slices ![c] S1) (s : F .f32) (x : S16.Idx) :
    shapeCast S16 (broadcast S16 (extractAt ![0] (extractStridedSlice S1 ![c] w hs) inpos_S1_p0)) shapeCasts_S16_S16 x = colv pc s c := by
  rw [shapeCast_self]
  unfold colv
  rw [if_pos hc]
  exact lane_read w pc hw c hs

/-- The sixteen places of a window, from the lanes of marks and of exclusive sums. -/
theorem pay15_apply (v11 acc v255 : BitVec 32) (m : IVec S16 1) (ex : IVec S16 32) (p : ℕ) (h11 : v11 = before v NN) (hacc : acc = before v p)
    (h255 : v255 = BitVec.ofNat 32 p) (hm : ∀ x, m x = if v (p + (x 0).val) = 1#32 then 1#1 else 0#1)
    (hex : ∀ x, ex x = ∑ j ∈ Finset.range (x 0).val, v (p + j)) (x : S1x16.Idx) :
    k1_pay15 lanes v11 acc m ex v255 x = placeWord v (p + (x 1).val) := by
  let x' : S16.Idx := fun a => ⟨(x 1).val, by
      have ha : a = 0 := Subsingleton.elim (α := Fin 1) _ _
      subst ha; exact (x 1).isLt⟩
  unfold k1_pay15
  refine (shapeCast_apply _ _ x x' ?_).trans ?_
  · rw [Shape.rowMajor_val_one, Shape.rowMajor_val_two]
    have : (x 0).val < 1 := (x 0).isLt
    show (x 1).val = (x 0).val * 16 + (x 1).val
    omega
  · show Scalar.select (m x') (acc + ex x') (v11 + (v255 + lanes x') - (acc + ex x')) = _
    have hl : lanes x' = BitVec.ofNat 32 (x 1).val := lanes_apply x'
    have e1 : acc + ex x' = before v (p + (x 1).val) := by
      rw [hacc, hex x']
      exact (before_add v p (x 1).val).symm
    have e2 : v255 + lanes x' = BitVec.ofNat 32 (p + (x 1).val) := by rw [h255, hl, BitVec.ofNat_add]
    rw [e1, e2, h11, hm x']
    unfold placeWord
    show (if (if v (p + (x 1).val) = 1#32 then 1#1 else 0#1) = 1#1 then _ else _) = _
    by_cases h : v (p + (x 1).val) = 1#32
    · rw [if_pos h, if_pos rfl, if_pos h]
    · rw [if_neg h, if_neg h, if_neg (by decide)]

/-- The row's places so far over the old contents, and its values so far. -/
def placesTo (P n : ℕ) (fd : S1x128.Idx → BitVec 32) : S1x128.Idx → BitVec 32 := fun y => if (y 1).val < n then placeWord v (P + (y 1).val) else fd y
def stagedTo (pc : ℕ → F .f32) (sf : ℕ → F .f32) (q n : ℕ) (fc : S1024.Idx → F .f32) : S1024.Idx → F .f32 :=
  fun y => if (y 0).val % 128 < n then colv pc (sf (q + (y 0).val % 128)) ((y 0).val / 128) else fc y

include hv in
/-- One window of a row: its sixteen places, and their eight values each. -/
theorem t4_trip2 (vb : S32768.Idx → BitVec 32) (sb : S32768.Idx → F .f32) (sf pc : ℕ → F .f32) (hvb : ∀ x, vb x = v (base1 L + (x 0).val)) (hsb : ∀ x, sb x = sf (x 0).val)
    (k2 : Fin k1_t2_loop.trips) (k3 : Fin k1_t3_loop.trips) (k4 : Fin k1_t4_loop.trips)
    (v2 v11 a26 a30 v36 : BitVec 32) (a29 : IVec S16 32) (v39 : Vec F S16 .f32) (hv2 : v2 = BitVec.ofNat 32 (base1 L)) (hv11 : v11 = before v NN)
    (hv36 : v36 = BitVec.ofNat 32 (16 * k2.val + k3.val)) (hv39 : ∀ x, v39 x = pc (x 0).val)
    (acc : BitVec 32) (hacc : acc = before v (base1 L + (2048 * k2.val + 128 * k3.val + 16 * k4.val)))
    (fd : S1x128.Idx → BitVec 32) (fc : S1024.Idx → F .f32) :
    (iprop(((bV).view.loc (thr1 d L) ↦{fullShare} vb) ∗ ((bS).view.loc (thr1 d L) ↦{fullShare} sb)
        ∗ ((bD).view.loc (thr1 d L) ↦{fullShare} placesTo v (base1 L + (2048 * k2.val + 128 * k3.val)) (16 * k4.val) fd)
        ∗ ((bC).view.loc (thr1 d L) ↦{fullShare} stagedTo pc sf (2048 * k2.val + 128 * k3.val) (16 * k4.val) fc)) : sProp 𝕄)
      ⊢ wp frame (wpE (defs₀ (F := F)) 𝒱₀ (thr1 d L) none) Set.univ
          (w4B L v2 lanes v11 k2 a26 0#32 1#32 k3 a29 a30 v36 v39 k4 acc)
          fun acc' => iprop(⌜acc' = before v (base1 L + (2048 * k2.val + 128 * k3.val + 16 * (k4.val + 1)))⌝
            ∗ ((bV).view.loc (thr1 d L) ↦{fullShare} vb) ∗ ((bS).view.loc (thr1 d L) ↦{fullShare} sb)
        ∗ ((bD).view.loc (thr1 d L) ↦{fullShare} placesTo v (base1 L + (2048 * k2.val + 128 * k3.val)) (16 * (k4.val + 1)) fd)
        ∗ ((bC).view.loc (thr1 d L) ↦{fullShare} stagedTo pc sf (2048 * k2.val + 128 * k3.val) (16 * (k4.val + 1)) fc)) := by
  have h4 : k4.val < 8 := lt_of_lt_of_eq k4.isLt (by decide)
  have h6 : k1_off6 k2 k3 k4 0 = 2048 * k2.val + 128 * k3.val + 16 * k4.val := by rw [k1_off6_eq]; rfl
  have hq : 2048 * k2.val + 128 * k3.val + 16 * k4.val + 16 ≤ 32768 := h6 ▸ k1_off6_inb k2 k3 k4 0
  unfold w4B k1_t4_body
  simp -proj only [k1_part1_eq_skeleton, k1_part2_eq_skeleton, k1_part3_eq_skeleton, k1_part4_eq_skeleton]
  unfold k1_part1_skel k1_part2_skel k1_part3_skel k1_part4_skel
  simp -proj only [bind_assoc, pure_bind]
  iintro ⟨HV, HS, HD, HC⟩
  sl_exec
  sl_step
  have rv : ∀ x : S16.Idx, View.readAt (Elt F) (bV).view (Rect.unit (s := S32768) (k1_off6 k2 k3 k4) S16.size (k1_off6_inb k2 k3 k4)).toLoadRect vb x
      = v (base1 L + (2048 * k2.val + 128 * k3.val + 16 * k4.val) + (x 0).val) := fun x => by
    have hx : (x 0).val < 16 := (x 0).isLt
    have hy : (ptL (2048 * k2.val + 128 * k3.val + 16 * k4.val + (x 0).val) 0).val = 2048 * k2.val + 128 * k3.val + 16 * k4.val + (x 0).val :=
      Nat.mod_eq_of_lt (by show _ < 32768; omega)
    refine (readAt_window (Val := Elt F) (bV).view vb (k1_off6 k2 k3 k4) _ x (ptL (2048 * k2.val + 128 * k3.val + 16 * k4.val + (x 0).val)) (by rw [hy, h6])).trans ?_
    refine (hvb (ptL (2048 * k2.val + 128 * k3.val + 16 * k4.val + (x 0).val))).trans ?_
    rw [hy, Nat.add_assoc (base1 L)]
  have rs : ∀ x : S16.Idx, View.readAt (Elt F) (bS).view (Rect.unit (s := S32768) (k1_off6 k2 k3 k4) S16.size (k1_off6_inb k2 k3 k4)).toLoadRect sb x
      = sf (2048 * k2.val + 128 * k3.val + 16 * k4.val + (x 0).val) := fun x => by
    have hx : (x 0).val < 16 := (x 0).isLt
    have hy : (ptL (2048 * k2.val + 128 * k3.val + 16 * k4.val + (x 0).val) 0).val = 2048 * k2.val + 128 * k3.val + 16 * k4.val + (x 0).val :=
      Nat.mod_eq_of_lt (by show _ < 32768; omega)
    refine (readAt_window (Val := Elt F) (bS).view sb (k1_off6 k2 k3 k4) _ x (ptL (2048 * k2.val + 128 * k3.val + 16 * k4.val + (x 0).val)) (by rw [hy, h6])).trans ?_
    refine (hsb (ptL (2048 * k2.val + 128 * k3.val + 16 * k4.val + (x 0).val))).trans ?_
    rw [hy]
  generalize View.readAt (Elt F) (bV).view (Rect.unit (s := S32768) (k1_off6 k2 k3 k4) S16.size (k1_off6_inb k2 k3 k4)).toLoadRect vb = wv at rv ⊢
  generalize View.readAt (Elt F) (bS).view (Rect.unit (s := S32768) (k1_off6 k2 k3 k4) S16.size (k1_off6_inb k2 k3 k4)).toLoadRect sb = ws at rs ⊢
  have hmk : ∀ x, k1_pay5 (F := F) wv x = (fun j => v (base1 L + (2048 * k2.val + 128 * k3.val + 16 * k4.val) + j)) (x 0).val :=
    pay5_apply wv _ (fun p => hv _) rv
  isplitr
  · ipureintro
    show acc + extractAt ![15] (scan .sum (k1_pay5 (F := F) wv)) inpos_S16_p15 = _
    rw [scan_sum _ (fun j => v (base1 L + (2048 * k2.val + 128 * k3.val + 16 * k4.val) + j)) hmk, hacc, ← before_add]
    exact congrArg (before v) (by omega)
  isplitl [HV]; · iexact HV
  isplitl [HS]; · iexact HS
  isplitl [HD]
  · iapply (Entails.of_eq (congrArg (fun c : S1x128.Idx → BitVec 32 => ((bD).view.loc (thr1 d L) ↦{fullShare} c : sProp 𝕄)) (funext fun y => ?_))) $$ HD
    refine (read_writes_row (Val := Elt F) (bD).view _ (k1_off7 k4) _ _ (16 * k4.val) (k1_off7_eq k4) (fun l => placeWord v (base1 L + (2048 * k2.val + 128 * k3.val) + l)) (fun x => ?_) y).trans ?_
    · refine (pay15_apply v v11 acc _ _ _ (base1 L + (2048 * k2.val + 128 * k3.val + 16 * k4.val)) hv11 hacc ?_
        (fun x => pay4_apply wv (fun j => v (base1 L + (2048 * k2.val + 128 * k3.val + 16 * k4.val) + j)) (fun p => hv _) rv x) (excl_apply wv _ hmk) x).trans
        (congrArg (placeWord v) (by omega))
      subst hv2 hv36
      have e4 : Scf.iv 0#32 1#32 k4.val = BitVec.ofNat 32 k4.val := by
        have : ∀ a : Fin 8, Scf.iv 0#32 1#32 a.val = BitVec.ofNat 32 a.val := by decide
        exact this ⟨_, h4⟩
      show BitVec.ofNat 32 (base1 L) + BitVec.ofNat 32 (16 * k2.val + k3.val) * 128#32 + Scf.iv 0#32 1#32 k4.val * 16#32 = _
      rw [e4]
      apply BitVec.eq_of_toNat_eq
      simp only [BitVec.toNat_add, BitVec.toNat_mul, BitVec.toNat_ofNat]
      omega
    · unfold placesTo
      by_cases h1 : (y 1).val < 16 * k4.val
      · rw [if_neg (by omega)]
        show (if (y 1).val < 16 * k4.val then _ else _) = _
        rw [if_pos h1, if_pos (by omega)]
        rfl
      · by_cases h2 : (y 1).val < 16 * (k4.val + 1)
        · rw [if_pos (by omega), if_pos h2]
        · rw [if_neg (by omega)]
          show (if (y 1).val < 16 * k4.val then _ else _) = _
          rw [if_neg h1, if_neg h2]
          rfl
  · iapply (Entails.of_eq (congrArg (fun c : S1024.Idx → F .f32 => ((bC).view.loc (thr1 d L) ↦{fullShare} c : sProp 𝕄)) (funext fun y => ?_))) $$ HC
    have hw : ∀ x, k1_pay21 (F := F) v39 x = pc (x 0).val := fun x => by
      unfold k1_pay21
      rw [shapeCast_self]
      exact hv39 x
    have ho : ∀ c : Fin 8, k1_off8 k4 (BitVec.ofNat 32 (128 * c.val)) 0 = 128 * c.val + 16 * k4.val := fun c => by
      rw [k1_off8_eq]; rfl
    have hs : ∀ (c : ℕ) (x : S16.Idx), sf (2048 * k2.val + 128 * k3.val + (c + 16 * k4.val + (x 0).val - c)) = ws x := fun c x => by
      rw [rs]
      exact congrArg sf (by omega)
    refine (read_writes_cons (Val := Elt F) (bC).view _ (k1_off8 k4 896#32) _ _ _ (896 + 16 * k4.val) (ho 7)
        (fun p => colv pc (sf (2048 * k2.val + 128 * k3.val + (p - 896))) 7) (fun x => ?_) y).trans
      ((ite_tail _ ((read_writes_cons (Val := Elt F) (bC).view _ (k1_off8 k4 768#32) _ _ _ (768 + 16 * k4.val) (ho 6)
        (fun p => colv pc (sf (2048 * k2.val + 128 * k3.val + (p - 768))) 6) (fun x => ?_) y).trans
      (ite_tail _ ((read_writes_cons (Val := Elt F) (bC).view _ (k1_off8 k4 640#32) _ _ _ (640 + 16 * k4.val) (ho 5)
        (fun p => colv pc (sf (2048 * k2.val + 128 * k3.val + (p - 640))) 5) (fun x => param_apply _ pc hw 5 (by decide) slices_S16_o5_S1 _ x) y).trans
      (ite_tail _ ((read_writes_cons (Val := Elt F) (bC).view _ (k1_off8 k4 512#32) _ _ _ (512 + 16 * k4.val) (ho 4)
        (fun p => colv pc (sf (2048 * k2.val + 128 * k3.val + (p - 512))) 4) (fun x => param_apply _ pc hw 4 (by decide) slices_S16_o4_S1 _ x) y).trans
      (ite_tail _ ((read_writes_cons (Val := Elt F) (bC).view _ (k1_off8 k4 384#32) _ _ _ (384 + 16 * k4.val) (ho 3)
        (fun p => colv pc (sf (2048 * k2.val + 128 * k3.val + (p - 384))) 3) (fun x => param_apply _ pc hw 3 (by decide) slices_S16_o3_S1 _ x) y).trans
      (ite_tail _ ((read_writes_cons (Val := Elt F) (bC).view _ (k1_off8 k4 256#32) _ _ _ (256 + 16 * k4.val) (ho 2)
        (fun p => colv pc (sf (2048 * k2.val + 128 * k3.val + (p - 256))) 2) (fun x => param_apply _ pc hw 2 (by decide) slices_S16_o2_S1 _ x) y).trans
      (ite_tail _ ((read_writes_cons (Val := Elt F) (bC).view _ (k1_off8 k4 128#32) _ _ _ (128 + 16 * k4.val) (ho 1)
        (fun p => colv pc (sf (2048 * k2.val + 128 * k3.val + (p - 128))) 1) (fun x => param_apply _ pc hw 1 (by decide) slices_S16_o1_S1 _ x) y).trans
      (ite_tail _ (read_writes_cons (Val := Elt F) (bC).view _ (k1_off8 k4 0#32) _ _ [] (0 + 16 * k4.val) (ho 0)
        (fun p => colv pc (sf (2048 * k2.val + 128 * k3.val + (p - 0))) 0) (fun x => param_apply _ pc hw 0 (by decide) slices_S16_o0_S1 _ x) y)))))))))))))).trans
      ((stretches (fun c z => colv pc (sf (2048 * k2.val + 128 * k3.val + z)) c) (16 * k4.val) (y 0).val (by omega) (y 0).isLt _).trans ?_))
    · show k1_pay28 (k1_pay7 (k1_pay22 v39) ws) x = FloatOps.addf (sf _) (pc 6)
      rw [hs 896 x]
      unfold k1_pay28 k1_pay7 k1_pay6
      rw [shapeCast_self, shapeCast_self]
      exact congrArg (FloatOps.addf (ws x)) (lane_read _ pc hw 6 slices_S16_o6_S1)
    · show k1_pay27 (k1_pay6 ws) x = sf _
      rw [hs 768 x]
      unfold k1_pay27 k1_pay6
      rw [shapeCast_self, shapeCast_self]
    · unfold stagedTo
      by_cases h1 : (y 0).val % 128 < 16 * k4.val
      · rw [if_neg (by omega)]
        show (if (y 0).val % 128 < 16 * k4.val then _ else _) = _
        rw [if_pos h1, if_pos (by omega)]
        rfl
      · by_cases h2 : (y 0).val % 128 < 16 * (k4.val + 1)
        · rw [if_pos (by omega), if_pos h2]
        · rw [if_neg (by omega)]
          show (if (y 0).val % 128 < 16 * k4.val then _ else _) = _
          rw [if_neg h1, if_neg h2]
          rfl

include hv in
/-- A row's eight windows: all its places, all its values. -/
theorem t4_loop2 (vb : S32768.Idx → BitVec 32) (sb : S32768.Idx → F .f32) (sf pc : ℕ → F .f32) (hvb : ∀ x, vb x = v (base1 L + (x 0).val)) (hsb : ∀ x, sb x = sf (x 0).val)
    (k2 : Fin k1_t2_loop.trips) (k3 : Fin k1_t3_loop.trips)
    (v2 v11 a26 a30 v36 : BitVec 32) (a29 : IVec S16 32) (v39 : Vec F S16 .f32) (hv2 : v2 = BitVec.ofNat 32 (base1 L)) (hv11 : v11 = before v NN)
    (hv36 : v36 = BitVec.ofNat 32 (16 * k2.val + k3.val)) (hv39 : ∀ x, v39 x = pc (x 0).val)
    (acc : BitVec 32) (hacc : acc = before v (base1 L + (2048 * k2.val + 128 * k3.val)))
    (fd : S1x128.Idx → BitVec 32) (fc : S1024.Idx → F .f32) :
    (iprop(((bV).view.loc (thr1 d L) ↦{fullShare} vb) ∗ ((bS).view.loc (thr1 d L) ↦{fullShare} sb)
        ∗ ((bD).view.loc (thr1 d L) ↦{fullShare} fd) ∗ ((bC).view.loc (thr1 d L) ↦{fullShare} fc)) : sProp 𝕄)
      ⊢ wp frame (wpE (defs₀ (F := F)) 𝒱₀ (thr1 d L) none) Set.univ
          (Scf.Loop.for k1_t4_loop k1_t4_ok acc (w4B L v2 lanes v11 k2 a26 0#32 1#32 k3 a29 a30 v36 v39))
          fun acc' => iprop(⌜acc' = before v (base1 L + (2048 * k2.val + 128 * k3.val + 128))⌝
            ∗ ((bV).view.loc (thr1 d L) ↦{fullShare} vb) ∗ ((bS).view.loc (thr1 d L) ↦{fullShare} sb)
        ∗ ((bD).view.loc (thr1 d L) ↦{fullShare} fun y => placeWord v (base1 L + (2048 * k2.val + 128 * k3.val) + (y 1).val))
        ∗ ((bC).view.loc (thr1 d L) ↦{fullShare} fun y => colv pc (sf (2048 * k2.val + 128 * k3.val + (y 0).val % 128)) ((y 0).val / 128))) := by
  have H := loop (F := F) (c := thr1 d L) k1_t4_loop k1_t4_ok acc (w4B L v2 lanes v11 k2 a26 0#32 1#32 k3 a29 a30 v36 v39)
    (fun n a => iprop(⌜a = before v (base1 L + (2048 * k2.val + 128 * k3.val + 16 * n))⌝
            ∗ ((bV).view.loc (thr1 d L) ↦{fullShare} vb) ∗ ((bS).view.loc (thr1 d L) ↦{fullShare} sb)
        ∗ ((bD).view.loc (thr1 d L) ↦{fullShare} placesTo v (base1 L + (2048 * k2.val + 128 * k3.val)) (16 * n) fd)
        ∗ ((bC).view.loc (thr1 d L) ↦{fullShare} stagedTo pc sf (2048 * k2.val + 128 * k3.val) (16 * n) fc))) 8 (by decide) (fun k a => by
      iintro ⟨%ha, HR⟩
      iapply (t4_trip2 L d v hv vb sb sf pc hvb hsb k2 k3 k v2 v11 a26 a30 v36 a29 v39 hv2 hv11 hv36 hv39 a ha fd fc) $$ HR)
  have e1 : placesTo v (base1 L + (2048 * k2.val + 128 * k3.val)) (16 * 8) fd = fun y => placeWord v (base1 L + (2048 * k2.val + 128 * k3.val) + (y 1).val) := by
    funext y
    exact if_pos (show (y 1).val < 16 * 8 from (y 1).isLt)
  have e2 : stagedTo pc sf (2048 * k2.val + 128 * k3.val) (16 * 8) fc = fun y => colv pc (sf (2048 * k2.val + 128 * k3.val + (y 0).val % 128)) ((y 0).val / 128) := by
    funext y
    exact if_pos (show (y 0).val % 128 < 16 * 8 from Nat.mod_lt _ (by decide))
  rw [e1, e2] at H
  refine BIBase.Entails.trans ?_ H
  iintro HR
  isplitr
  · ipureintro
    exact hacc
  iexact HR

end Row

end Cert.Proof.Lookup

end
-- ==== Proof.Rows.lean ====
/-
  The scatters of a row: eight streams of 128 words each on one semaphore, stream `c` putting value `c` of the row's samples
  at their places in column `c`. They are one batch of 1024 word transfers; no two of a column name the same place.
-/
module

public import proofs.«01_k».proof.Proof.Compact

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

/-- Column `c` of the results on the places `I`, with contents `f`. -/
def colPts (d : Dev nD) (c : Fin 8) (I : Finset S1048576.Idx) (f : S1048576.Idx → F .f32) : sProp 𝕄 :=
  match c with
  | 0 => ((SparseCore.T d).loc main_v5_0 ↦[I]{fullShare} f)
  | 1 => ((SparseCore.T d).loc main_v5_1 ↦[I]{fullShare} f)
  | 2 => ((SparseCore.T d).loc main_v5_2 ↦[I]{fullShare} f)
  | 3 => ((SparseCore.T d).loc main_v5_3 ↦[I]{fullShare} f)
  | 4 => ((SparseCore.T d).loc main_v5_4 ↦[I]{fullShare} f)
  | 5 => ((SparseCore.T d).loc main_v5_5 ↦[I]{fullShare} f)
  | 6 => ((SparseCore.T d).loc main_v5_6 ↦[I]{fullShare} f)
  | 7 => ((SparseCore.T d).loc main_v5_7 ↦[I]{fullShare} f)

instance colPts_storable (d : Dev nD) (c : Fin 8) (I : Finset S1048576.Idx) (f : S1048576.Idx → F .f32) :
    BI.Storable (upEmb : UEmb _ 𝕄) (colPts (F := F) d c I f) := by
  match c with
  | 0 | 1 | 2 | 3 | 4 | 5 | 6 | 7 => unfold colPts; infer_instance

/-- Columns that agree on the places held. -/
theorem colPts_congr (d : Dev nD) (c : Fin 8) {I : Finset S1048576.Idx} {f g : S1048576.Idx → F .f32} (h : ∀ x ∈ I, f x = g x) :
    colPts d c I f = colPts d c I g := by
  match c with
  | 0 | 1 | 2 | 3 | 4 | 5 | 6 | 7 => exact pointsTo_congr h

/-- A buffer on some of its words and on the others. -/
theorem words_split {ℓ : Loc nD τ sig} [inst : DecidableEq (Idx ℓ)] {I J : Finset (Idx ℓ)} (h : I ⊆ J) (f : Buf (Elt F) ℓ) :
    (ℓ ↦[J]{fullShare} f : sProp 𝕄) = iprop((ℓ ↦[I]{fullShare} f) ∗ (ℓ ↦[J \ I]{fullShare} f)) := by
  refine Eq.trans (BI.Entails.antisymm (pointsTo_split_subset h).1 (pointsTo_split_subset h).2) ?_
  congr
  exact Subsingleton.elim _ _

/-- A buffer on words that fall apart into classes. -/
theorem words_biUnion {ℓ : Loc nD τ sig} [inst : DecidableEq (Idx ℓ)] {n : ℕ} (J : Fin n → Finset (Idx ℓ))
    (hJ : ∀ i ∈ (Finset.univ : Finset (Fin n)), ∀ j ∈ (Finset.univ : Finset (Fin n)), i ≠ j → Disjoint (J i) (J j)) (f : Buf (Elt F) ℓ) :
    (ℓ ↦[Finset.univ.biUnion J]{fullShare} f : sProp 𝕄) = bigSep Finset.univ fun i => (ℓ ↦[J i]{fullShare} f) := by
  rw [← pointsTo_biUnion Finset.univ J hJ]
  congr
  exact Subsingleton.elim _ _

/-- A column on some of its places and on the others. -/
theorem colPts_split (d : Dev nD) (c : Fin 8) {I J : Finset S1048576.Idx} (h : I ⊆ J) (f : S1048576.Idx → F .f32) :
    colPts d c J f = iprop(colPts d c I f ∗ colPts d c (J \ I) f) := by
  match c with
  | 0 => exact @words_split F ((SparseCore.T d).loc main_v5_0) _ I J h f
  | 1 => exact @words_split F ((SparseCore.T d).loc main_v5_1) _ I J h f
  | 2 => exact @words_split F ((SparseCore.T d).loc main_v5_2) _ I J h f
  | 3 => exact @words_split F ((SparseCore.T d).loc main_v5_3) _ I J h f
  | 4 => exact @words_split F ((SparseCore.T d).loc main_v5_4) _ I J h f
  | 5 => exact @words_split F ((SparseCore.T d).loc main_v5_5) _ I J h f
  | 6 => exact @words_split F ((SparseCore.T d).loc main_v5_6) _ I J h f
  | 7 => exact @words_split F ((SparseCore.T d).loc main_v5_7) _ I J h f

/-- A column on places that fall apart into classes. -/
theorem colPts_biUnion (d : Dev nD) (c : Fin 8) {n : ℕ} (J : Fin n → Finset S1048576.Idx)
    (hJ : ∀ i ∈ (Finset.univ : Finset (Fin n)), ∀ j ∈ (Finset.univ : Finset (Fin n)), i ≠ j → Disjoint (J i) (J j)) (f : S1048576.Idx → F .f32) :
    colPts d c (Finset.univ.biUnion J) f = bigSep Finset.univ fun i => colPts d c (J i) f := by
  match c with
  | 0 => exact @words_biUnion F ((SparseCore.T d).loc main_v5_0) _ n J hJ f
  | 1 => exact @words_biUnion F ((SparseCore.T d).loc main_v5_1) _ n J hJ f
  | 2 => exact @words_biUnion F ((SparseCore.T d).loc main_v5_2) _ n J hJ f
  | 3 => exact @words_biUnion F ((SparseCore.T d).loc main_v5_3) _ n J hJ f
  | 4 => exact @words_biUnion F ((SparseCore.T d).loc main_v5_4) _ n J hJ f
  | 5 => exact @words_biUnion F ((SparseCore.T d).loc main_v5_5) _ n J hJ f
  | 6 => exact @words_biUnion F ((SparseCore.T d).loc main_v5_6) _ n J hJ f
  | 7 => exact @words_biUnion F ((SparseCore.T d).loc main_v5_7) _ n J hJ f

/-- Sample `k` of the row in the list of places, and word `t` of the staging buffer. -/
def didxAt (k : Fin 128) : S1x128.Idx := fun a => ⟨if a.val = 0 then 0 else k.val, by
  have h2 : a.val < 2 := a.isLt
  rcases (show a.val = 0 ∨ a.val = 1 by omega) with h | h
  · have ha : a = 0 := Fin.ext h
    subst ha; exact Nat.one_pos
  · have ha : a = 1 := Fin.ext h
    subst ha; exact k.isLt⟩
abbrev stageAt (t : ℕ) : S1024.Idx := pt (s := S1024) (by decide) t

/-- The column of transfer `t`, and its sample in the row. -/
def colOf (t : Fin 1024) : Fin 8 := ⟨t.val / 128, by omega⟩
def sampOf (t : Fin 1024) : Fin 128 := ⟨t.val % 128, by omega⟩

variable (L : grid1.Coords)

section Geometry

/-- A one-axis index by its coordinate. -/
theorem one_ext {N : ℕ} {x y : (⟨1, ![N]⟩ : Shape).Idx} (h : (x 0).val = (y 0).val) : x = y := by
  funext a
  have ha : a = 0 := Subsingleton.elim (α := Fin 1) _ _
  subst ha
  exact Fin.ext h

/-- The row `r` of a column is its one word. -/
theorem set_rowO (dst : Memref sig .scVector .hbm S1048576 .f32) (r : Fin 1048576) :
    ((dst.slice (Rect.unit (s := S1048576) ![0] S1048576.size inb_S1048576_S1048576_0) (fun _ => rfl)).view.slice (S1048576.rowRect (gathers_S1048576_S128).axis r)).set
      = {dst.view.emb (ptN r.val)} := by
  have hk : ∀ y, ((dst.slice (Rect.unit (s := S1048576) ![0] S1048576.size inb_S1048576_S1048576_0) (fun _ => rfl)).view.slice (S1048576.rowRect (gathers_S1048576_S128).axis r)).emb y
      = dst.view.emb (ptN r.val) := fun y => by
    change dst.view.emb ((Rect.unit (s := S1048576) ![0] S1048576.size inb_S1048576_S1048576_0).emb ((S1048576.rowRect (gathers_S1048576_S128).axis r).emb y)) = _
    refine congrArg dst.view.emb (one_ext ?_)
    refine (unit_val (s := S1048576) ![0] S1048576.size inb_S1048576_S1048576_0 ((S1048576.rowRect (gathers_S1048576_S128).axis r).emb y) 0).trans ?_
    have h0 : ((S1048576.rowRect (gathers_S1048576_S128).axis r).emb y 0).val = r.val :=
      congrArg Fin.val (Shape.rowRect_emb_axis (gathers_S1048576_S128).axis r y)
    have h1 : (ptN r.val 0).val = r.val := Nat.mod_eq_of_lt r.isLt
    rw [h1]
    change 0 + ((S1048576.rowRect (gathers_S1048576_S128).axis r).emb y 0).val = r.val
    omega
  ext x
  rw [Finset.mem_singleton]
  unfold View.set
  rw [Finset.mem_map]
  constructor
  · rintro ⟨y, -, rfl⟩
    exact hk y
  · rintro rfl
    exact ⟨fun a => ⟨0, by
      have ha : a = (gathers_S1048576_S128).axis := Subsingleton.elim (α := Fin 1) a (gathers_S1048576_S128).axis
      exact Nat.lt_of_lt_of_eq Nat.one_pos (if_pos ha).symm⟩, Finset.mem_univ _, hk _⟩

/-- The row `k` of stream `c`'s source is one word of the staging buffer. -/
theorem emb_rowC {c : ℕ} (hc : c < 8) {o : Fin 1 → ℕ} (ho : o = ![128 * c]) (inb : ∀ a, o a + S128.size a ≤ S1024.size a) (k : Fin 128) (y) :
    (((bC).slice (Rect.unit (s := S1024) o S128.size inb) (fun _ => rfl)).view.slice (S128.rowRect (gathers_S1048576_S128).axis' k)).emb y = stageAt (128 * c + k.val) := by
  apply one_ext
  change ((Rect.unit (s := S1024) o S128.size inb).emb ((S128.rowRect (gathers_S1048576_S128).axis' k).emb y) 0).val = _
  refine (unit_val (s := S1024) o S128.size inb ((S128.rowRect (gathers_S1048576_S128).axis' k).emb y) 0).trans ?_
  have h1 : o 0 = 128 * c := by rw [ho]; rfl
  have h0 : ((S128.rowRect (gathers_S1048576_S128).axis' k).emb y 0).val = k.val :=
    congrArg Fin.val (Shape.rowRect_emb_axis (gathers_S1048576_S128).axis' k y)
  have h2 : (stageAt (128 * c + k.val) 0).val = 128 * c + k.val := Nat.mod_eq_of_lt (by show _ < 1024; omega)
  rw [h2]
  change o 0 + ((S128.rowRect (gathers_S1048576_S128).axis' k).emb y 0).val = 128 * c + k.val
  omega

theorem set_rowC {c : ℕ} (hc : c < 8) {o : Fin 1 → ℕ} (ho : o = ![128 * c]) (inb : ∀ a, o a + S128.size a ≤ S1024.size a) (k : Fin 128) :
    (((bC).slice (Rect.unit (s := S1024) o S128.size inb) (fun _ => rfl)).view.slice (S128.rowRect (gathers_S1048576_S128).axis' k)).set = {stageAt (128 * c + k.val)} := by
  ext x
  rw [Finset.mem_singleton]
  unfold View.set
  rw [Finset.mem_map]
  constructor
  · rintro ⟨y, -, rfl⟩
    exact emb_rowC hc ho inb k y
  · rintro rfl
    exact ⟨fun a => ⟨0, by
      have ha : a = (gathers_S1048576_S128).axis' := Subsingleton.elim (α := Fin 1) a (gathers_S1048576_S128).axis'
      exact Nat.lt_of_lt_of_eq Nat.one_pos (if_pos ha).symm⟩, Finset.mem_univ _, emb_rowC hc ho inb k _⟩

/-- An entry of the list of places. -/
theorem emb_off (x : S128.Idx) : (((bD).slice (Rect.unit (s := S1x128) ![0, 0] S1x128.size inb_S1x128_S1x128_0_0) (fun _ => rfl)).squeeze S128 squeezes_S1x128_S128).view.emb x = didxAt ⟨(x 0).val, (x 0).isLt⟩ := by
  have h2 : Shape.reshapeEquiv (Shape.Squeezes.numel_eq squeezes_S1x128_S128) x = didxAt ⟨(x 0).val, (x 0).isLt⟩ := by
    apply Shape.reshapeEquiv_eq_of_rowMajor
    rw [Shape.rowMajor_val_one, Shape.rowMajor_val_two]
    show 0 * 128 + (x 0).val = (x 0).val
    omega
  change (Rect.unit (s := S1x128) ![0, 0] S1x128.size inb_S1x128_S1x128_0_0).emb (Shape.reshapeEquiv (Shape.Squeezes.numel_eq squeezes_S1x128_S128) x) = _
  rw [h2]
  funext a
  apply Fin.ext
  refine (unit_val (s := S1x128) ![0, 0] S1x128.size inb_S1x128_S1x128_0_0 (didxAt ⟨(x 0).val, (x 0).isLt⟩) a).trans ?_
  have h3 : (![0, 0] : Fin 2 → ℕ) a = 0 := by
    have ha : ∀ b : Fin 2, (![0, 0] : Fin 2 → ℕ) b = 0 := by decide
    exact ha a
  show (![0, 0] : Fin 2 → ℕ) a + _ = _
  rw [h3, Nat.zero_add]

theorem read_off (fo : S1x128.Idx → BitVec 32) (x : S128.Idx) : (((bD).slice (Rect.unit (s := S1x128) ![0, 0] S1x128.size inb_S1x128_S1x128_0_0) (fun _ => rfl)).squeeze S128 squeezes_S1x128_S128).view.read (Elt F) fo x = fo (didxAt ⟨(x 0).val, (x 0).isLt⟩) :=
  ((View.read_apply _ _).trans (cast_eq _ _)).trans (congrArg fo (emb_off x))

theorem entry_val (k : Fin 128) : (entryIdx (si := S128) (o := 128) rfl k 0).val = k.val := by
  have := congrArg Fin.val (S128.rowMajor.apply_symm_apply (k.cast (rfl : 128 = S128.numel)))
  exact (Shape.rowMajor_val_one _).symm.trans this

end Geometry

section Scatter

variable [FloatOps F] (d : Dev nD) (pl : Fin 128 → S1048576.Idx) (fo : S1x128.Idx → BitVec 32) (fs : S1024.Idx → F .f32)

/-- What transfer `t` of a row's scatters holds: its place of its column, its entry of the list at a share, its word of the
    staging buffer. -/
def rowHeld (f : Fin 8 → S1048576.Idx → F .f32) (t : Fin 1024) : sProp 𝕄 :=
  iprop(colPts d (colOf t) {pl (sampOf t)} (f (colOf t))
    ∗ ((bD).view.loc (thr1 d L) ↦[{didxAt (sampOf t)}]{pieceOf fullShare 8 (by decide) (colOf t)} fo)
    ∗ ((bC).view.loc (thr1 d L) ↦[{stageAt t.val}]{fullShare} fs))

instance rowHeld_storable (f : Fin 8 → S1048576.Idx → F .f32) (t : Fin 1024) :
    BI.Storable (upEmb : UEmb _ 𝕄) (rowHeld (F := F) L d pl fo fs f t) := by
  unfold rowHeld; infer_instance

variable (hw : ∀ k, (fo (didxAt k)).toNat = (pl k 0).val)

include hw in
/-- The issue of stream `c` of a row. -/
theorem scatter_step (c : ℕ) (hc : c < 8) (dst : Memref sig .scVector .hbm S1048576 .f32) {o : Fin 1 → ℕ} (ho : o = ![128 * c])
    {inb : ∀ a, o a + S128.size a ≤ S1024.size a} {α : Type} {Q : α → sProp 𝕄} {u : ℕ} (hu : u ≤ (128 * c) * 32)
    {f f' : Fin 8 → S1048576.Idx → F .f32} (fd G : Buf (Elt F) (dst.view.loc (thr1 d L)))
    (hfd : ∀ y, (dst.view.loc (thr1 d L) ↦[{dst.view.emb y}]{fullShare} fd : sProp 𝕄) = colPts d ⟨c, hc⟩ {y} (f ⟨c, hc⟩))
    (hfG : ∀ y, (dst.view.loc (thr1 d L) ↦[{dst.view.emb y}]{fullShare} G : sProp 𝕄) = colPts d ⟨c, hc⟩ {y} (f' ⟨c, hc⟩))
    (hG : ∀ y, dst.view.read (Elt F) G y = f' ⟨c, hc⟩ y)
    (hf' : ∀ k, f' ⟨c, hc⟩ (pl k) = fs (stageAt (128 * c + k.val)))
    {he : EltTy.bits .f32 = 32} {hsp : Space.hbm = .hbm ∨ Space.hbm = .shared} {hrows : S1048576.StreamRows 0}
    {k : PUnit → Prog (TpuEff nD τ sig (Elt F) Λ₀ (.scVector (coreOf1 L) (subOf1 L))) α} :
    iprop(bigSep (pending (128 * c)) (rowHeld L d pl fo fs f) ∗ Batch countersEmb (thr1 d L) (.dma cc1_scratch9.sem) (none : HIx 2) 32 (rowHeld L d pl fo fs f') (128 * c) u)
      ⊢ iprop((iprop(bigSep (pending (128 * c + 128)) (rowHeld L d pl fo fs f) ∗ Batch countersEmb (thr1 d L) (.dma cc1_scratch9.sem) (none : HIx 2) 32 (rowHeld L d pl fo fs f') (128 * c + 128) u)
            -∗ wp frame (wpE (defs₀ (F := F)) 𝒱₀ (thr1 d L) none) Set.univ (k ⟨⟩) Q)
          -∗ wp frame (wpE (defs₀ (F := F)) 𝒱₀ (thr1 d L) none) Set.univ
              (SparseCore.enqueueIndirectScatter rfl ((bC).slice (Rect.unit (s := S1024) o S128.size inb) (fun _ => rfl))
                (dst.slice (Rect.unit (s := S1048576) ![0] S1048576.size inb_S1048576_S1048576_0) (fun _ => rfl)) gathers_S1048576_S128
                (((bD).slice (Rect.unit (s := S1x128) ![0, 0] S1x128.size inb_S1x128_S1x128_0_0) (fun _ => rfl)).squeeze S128 squeezes_S1x128_S128) rfl cc1_scratch9.sem he hsp hrows >>= k) Q) := by
  have hb : 128 * c + 128 ≤ 1024 := by omega
  have hin : ∀ x, ((((bD).slice (Rect.unit (s := S1x128) ![0, 0] S1x128.size inb_S1x128_S1x128_0_0) (fun _ => rfl)).squeeze S128 squeezes_S1x128_S128).view.read (Elt F) fo x).toNat < 1048576 := fun x => by
    rw [read_off, hw]
    exact (pl _ 0).isLt
  have hrow : ∀ j : Fin 128, (SparseCore.rows ((((bD).slice (Rect.unit (s := S1x128) ![0, 0] S1x128.size inb_S1x128_S1x128_0_0) (fun _ => rfl)).squeeze S128 squeezes_S1x128_S128).view.read (Elt F) fo) (rfl : S128.numel = 128) hin j).val = (pl j 0).val := fun j => by
    have e : ((((bD).slice (Rect.unit (s := S1x128) ![0, 0] S1x128.size inb_S1x128_S1x128_0_0) (fun _ => rfl)).squeeze S128 squeezes_S1x128_S128).view.read (Elt F) fo (entryIdx (si := S128) (o := 128) rfl j)).toNat = (pl j 0).val := by
      rw [read_off, hw]
      exact congrArg (fun k => (pl k 0).val) (Fin.ext (entry_val j))
    exact e
  have hpl : ∀ j : Fin 128, ptN (SparseCore.rows ((((bD).slice (Rect.unit (s := S1x128) ![0, 0] S1x128.size inb_S1x128_S1x128_0_0) (fun _ => rfl)).squeeze S128 squeezes_S1x128_S128).view.read (Elt F) fo) (rfl : S128.numel = 128) hin j).val = pl j := fun j =>
    one_ext (by rw [hrow j]; exact Nat.mod_eq_of_lt (pl j 0).isLt)
  have hcol : ∀ j : Fin 128, colOf (nth hb j) = ⟨c, hc⟩ := fun j => Fin.ext (by show (128 * c + j.val) / 128 = c; omega)
  have hsamp : ∀ j : Fin 128, sampOf (nth hb j) = j := fun j => Fin.ext (by show (128 * c + j.val) % 128 = j.val; omega)
  have hheld : ∀ (fx : Buf (Elt F) (dst.view.loc (thr1 d L))) (gx : Fin 8 → S1048576.Idx → F .f32),
      (∀ y, (dst.view.loc (thr1 d L) ↦[{dst.view.emb y}]{fullShare} fx : sProp 𝕄) = colPts d ⟨c, hc⟩ {y} (gx ⟨c, hc⟩)) → ∀ j : Fin 128,
      (scatterHeld (thr1 d L) ((bC).slice (Rect.unit (s := S1024) o S128.size inb) (fun _ => rfl))
        (dst.slice (Rect.unit (s := S1048576) ![0] S1048576.size inb_S1048576_S1048576_0) (fun _ => rfl)) gathers_S1048576_S128
        (((bD).slice (Rect.unit (s := S1x128) ![0, 0] S1x128.size inb_S1x128_S1x128_0_0) (fun _ => rfl)).squeeze S128 squeezes_S1x128_S128) rfl fx (pieceOf fullShare 8 (by decide) ⟨c, hc⟩) fo fullShare fs (SparseCore.rows ((((bD).slice (Rect.unit (s := S1x128) ![0, 0] S1x128.size inb_S1x128_S1x128_0_0) (fun _ => rfl)).squeeze S128 squeezes_S1x128_S128).view.read (Elt F) fo) rfl hin) j : sProp 𝕄)
        = rowHeld L d pl fo fs gx (nth hb j) := fun fx gx hgx j => by
    unfold scatterHeld rowHeld
    rw [hcol j, hsamp j]
    have e1 := congrArg (fun I => (dst.view.loc (thr1 d L) ↦[I]{fullShare} fx : sProp 𝕄)) (set_rowO dst (SparseCore.rows ((((bD).slice (Rect.unit (s := S1x128) ![0, 0] S1x128.size inb_S1x128_S1x128_0_0) (fun _ => rfl)).squeeze S128 squeezes_S1x128_S128).view.read (Elt F) fo) (rfl : S128.numel = 128) hin j))
    have e1' := (e1.trans (hgx _)).trans (congrArg (fun y => colPts d ⟨c, hc⟩ {y} (gx ⟨c, hc⟩)) (hpl j))
    have e2 := congrArg (fun i => ((bD).view.loc (thr1 d L) ↦[{i}]{pieceOf fullShare 8 (by decide) ⟨c, hc⟩} fo : sProp 𝕄))
      ((emb_off (entryIdx (si := S128) (o := 128) rfl j)).trans (congrArg didxAt (Fin.ext (entry_val j))))
    have e3 := congrArg (fun I => ((bC).view.loc (thr1 d L) ↦[I]{fullShare} fs : sProp 𝕄)) (set_rowC hc ho inb j)
    exact congrArg₂ (fun A B : sProp 𝕄 => iprop(A ∗ B)) e1' (congrArg₂ (fun A B : sProp 𝕄 => iprop(A ∗ B)) e2 e3)
  have hpay : ∀ (j : Fin 128) x, (dst.slice (Rect.unit (s := S1048576) ![0] S1048576.size inb_S1048576_S1048576_0) (fun _ => rfl)).view.read (Elt F) G
        ((S1048576.rowRect (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j)).emb x)
      = SparseCore.scatterRowPayload (thr1 d L) ((bC).slice (Rect.unit (s := S1024) o S128.size inb) (fun _ => rfl)) gathers_S1048576_S128 fs j x := fun j x => by
    have e0 : (Rect.unit (s := S1048576) ![0] S1048576.size inb_S1048576_S1048576_0).emb
        ((S1048576.rowRect (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j)).emb x) = pl j := by
      apply one_ext
      refine (unit_val (s := S1048576) ![0] S1048576.size inb_S1048576_S1048576_0 _ 0).trans ?_
      have h0 : ((S1048576.rowRect (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j)).emb x 0).val = _ :=
        congrArg Fin.val (Shape.rowRect_emb_axis (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j) x)
      have h1 := h0.trans (hrow j)
      change 0 + ((S1048576.rowRect (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j)).emb x 0).val = _
      omega
    have e1 : (dst.slice (Rect.unit (s := S1048576) ![0] S1048576.size inb_S1048576_S1048576_0) (fun _ => rfl)).view.read (Elt F) G
        ((S1048576.rowRect (gathers_S1048576_S128).axis (SparseCore.rows ((((bD).slice (Rect.unit (s := S1x128) ![0, 0] S1x128.size inb_S1x128_S1x128_0_0) (fun _ => rfl)).squeeze S128 squeezes_S1x128_S128).view.read (Elt F) fo) rfl hin j)).emb x)
        = dst.view.read (Elt F) G (pl j) := congrArg (dst.view.read (Elt F) G) e0
    refine e1.trans ((hG _).trans ((hf' j).trans ?_))
    refine Eq.symm (((View.read_apply _ _).trans (cast_eq _ _)).trans (congrArg fs ?_))
    exact emb_rowC hc ho inb j _
  have hN : ∀ j, ((dst.slice (Rect.unit (s := S1048576) ![0] S1048576.size inb_S1048576_S1048576_0) (fun _ => rfl)).slice (S1048576.rowRect (gathers_S1048576_S128).axis j)
      (S1048576.stride_rowRect (gathers_S1048576_S128).axis j)).view.dmaCredit = 32 := fun _ => rfl
  have hR : ∀ j : Fin 128, rowHeld L d pl fo fs f (nth hb j) ⊢ _ := fun j => Entails.of_eq (hheld fd f hfd j).symm
  have hD : ∀ j : Fin 128, _ ⊢ rowHeld L d pl fo fs f' (nth hb j) := fun j => Entails.of_eq (hheld G f' hfG j)
  have H := wp_scatterInBatch (defs := defs₀ (F := F)) countersEmb 𝒱₀ (thr1 d L) none (n := 1024) (Q := Q)
    (src := (bC).slice (Rect.unit (s := S1024) o S128.size inb) (fun _ => rfl))
    (dst := dst.slice (Rect.unit (s := S1048576) ![0] S1048576.size inb_S1048576_S1048576_0) (fun _ => rfl)) (hg := gathers_S1048576_S128)
    (offs := (((bD).slice (Rect.unit (s := S1x128) ![0, 0] S1x128.size inb_S1x128_S1x128_0_0) (fun _ => rfl)).squeeze S128 squeezes_S1x128_S128)) (hn := rfl) (sem := cc1_scratch9.sem)
    (hp := rfl) (he := he) (hsp := hsp) (hr := hrows) (k := k)
    (qo := pieceOf fullShare 8 (by decide) ⟨c, hc⟩) (q := fullShare)
    (fs := fs) (fd := fd) (G := G) (fo := fo) (R := rowHeld L d pl fo fs f) (D := rowHeld L d pl fo fs f') (none : HIx 2) (N := 32) (b := 128 * c) (u := u) hb hu hin hN hpay
  have H' := H hR
  have H'' := H' hD
  exact H''

end Scatter

end Cert.Proof.Lookup

end
-- ==== Proof.Sweep.lean ====
/-
  A tile's sweep over its samples in rows of 128: the places and the values of a row, its scatters, and what has reached the
  eight columns after so many rows. Beside it, the two words kept of every row.
-/
module

public import proofs.«01_k».proof.Proof.Rows

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

/-- A buffer whole is its words, each of them once. -/
theorem words_all {ℓ : Loc nD τ sig} {n : ℕ} (e : Fin n → Idx ℓ) (he : Function.Injective e) (hs : Function.Surjective e) (q : PosShare TreeShare)
    (f : Buf (Elt F) ℓ) : (ℓ ↦{q} f : sProp 𝕄) = bigSep Finset.univ fun i : Fin n => ℓ ↦[{e i}]{q} f := by
  rw [← pointsTo_biUnion Finset.univ (fun i => ({e i} : Finset (Idx ℓ))) fun i _ j _ h => by
    rw [Finset.disjoint_singleton]; exact fun e' => h (he e')]
  congr 1
  ext x
  obtain ⟨i, rfl⟩ := hs x
  exact ⟨fun _ => Finset.mem_biUnion.mpr ⟨i, Finset.mem_univ _, Finset.mem_singleton_self _⟩, fun _ => Finset.mem_univ _⟩

theorem didxAt_one (k : Fin 128) : (didxAt k 1).val = k.val := rfl

theorem didxAt_injective : Function.Injective didxAt := fun k l h => Fin.ext (congrArg (fun y : S1x128.Idx => (y 1).val) h)

theorem didxAt_eq (y : S1x128.Idx) : didxAt ⟨(y 1).val, (y 1).isLt⟩ = y := by
  funext a
  have h2 : a.val < 2 := a.isLt
  rcases (show a.val = 0 ∨ a.val = 1 by omega) with h | h
  · have ha : a = 0 := Fin.ext h
    subst ha
    apply Fin.ext
    have h0 : (y 0).val < 1 := (y 0).isLt
    show 0 = (y 0).val
    omega
  · have ha : a = 1 := Fin.ext h
    subst ha
    rfl

/-- The transfers of a row as pairs of a column and a sample. -/
def pairs : Fin 8 × Fin 128 ≃ Fin 1024 := finProdFinEquiv

theorem pairs_val (c : Fin 8) (k : Fin 128) : (pairs (c, k)).val = k.val + 128 * c.val := rfl
theorem colOf_pairs (c : Fin 8) (k : Fin 128) : colOf (pairs (c, k)) = c := Fin.ext (by show (k.val + 128 * c.val) / 128 = c.val; omega)
theorem sampOf_pairs (c : Fin 8) (k : Fin 128) : sampOf (pairs (c, k)) = k := Fin.ext (by show (k.val + 128 * c.val) % 128 = k.val; omega)

/-- The places of a row. -/
def rowSet (pl : Fin 128 → S1048576.Idx) : Finset S1048576.Idx := Finset.univ.biUnion fun k => {pl k}

/-- The eight columns on some places. -/
def colsPts (d : Dev nD) (I : Finset S1048576.Idx) (f : Fin 8 → S1048576.Idx → F .f32) : sProp 𝕄 := bigSep Finset.univ fun c => colPts d c I (f c)

theorem colsPts_congr (d : Dev nD) {I : Finset S1048576.Idx} {f g : Fin 8 → S1048576.Idx → F .f32} (h : ∀ c, ∀ x ∈ I, f c x = g c x) :
    colsPts d I f = colsPts d I g :=
  congrArg (bigSep Finset.univ) (funext fun c => colPts_congr d c (h c))

theorem colsPts_split (d : Dev nD) {I J : Finset S1048576.Idx} (h : I ⊆ J) (f : Fin 8 → S1048576.Idx → F .f32) :
    colsPts d J f = iprop(colsPts d I f ∗ colsPts d (J \ I) f) :=
  (congrArg (bigSep Finset.univ) (funext fun c => colPts_split d c h (f c))).trans (bigSep_sep' _ _ _)

variable (L : grid1.Coords)

section Held

variable [FloatOps F] (d : Dev nD) (pl : Fin 128 → S1048576.Idx) (hpl : Function.Injective pl) (fo : S1x128.Idx → BitVec 32) (fs : S1024.Idx → F .f32)

include hpl in
/-- All that a row's transfers hold: its places of the columns, the list of places, the staging buffer. -/
theorem rowHeld_all (f : Fin 8 → S1048576.Idx → F .f32) :
    (bigSep Finset.univ (rowHeld L d pl fo fs f) : sProp 𝕄)
      = iprop(colsPts d (rowSet pl) f ∗ ((bD).view.loc (thr1 d L) ↦{fullShare} fo) ∗ ((bC).view.loc (thr1 d L) ↦{fullShare} fs)) := by
  have e2 := bigSep_sep' Finset.univ (fun t : Fin 1024 => ((bD).view.loc (thr1 d L) ↦[{didxAt (sampOf t)}]{pieceOf fullShare 8 (by decide) (colOf t)} fo : sProp 𝕄))
    (fun t : Fin 1024 => ((bC).view.loc (thr1 d L) ↦[{stageAt t.val}]{fullShare} fs : sProp 𝕄))
  have e1 := bigSep_sep' Finset.univ (fun t : Fin 1024 => colPts d (colOf t) {pl (sampOf t)} (f (colOf t)))
    (fun t : Fin 1024 => iprop(((bD).view.loc (thr1 d L) ↦[{didxAt (sampOf t)}]{pieceOf fullShare 8 (by decide) (colOf t)} fo)
      ∗ ((bC).view.loc (thr1 d L) ↦[{stageAt t.val}]{fullShare} fs)))
  rw [e2] at e1
  have eA : (bigSep Finset.univ fun t : Fin 1024 => colPts d (colOf t) {pl (sampOf t)} (f (colOf t)) : sProp 𝕄) = colsPts d (rowSet pl) f := by
    refine (BI.bigSep_univ_equiv pairs _).trans ((BI.bigSep_univ_prod _).trans (congrArg (bigSep Finset.univ) (funext fun c => ?_)))
    refine Eq.trans (congrArg (bigSep Finset.univ) (funext fun k => ?_)) (colPts_biUnion d c (fun k => {pl k}) (fun i _ j _ h => ?_) (f c)).symm
    · rw [colOf_pairs, sampOf_pairs]
    · rw [Finset.disjoint_singleton]; exact fun e' => h (hpl e')
  have eB : (bigSep Finset.univ fun t : Fin 1024 => ((bD).view.loc (thr1 d L) ↦[{didxAt (sampOf t)}]{pieceOf fullShare 8 (by decide) (colOf t)} fo) : sProp 𝕄)
      = ((bD).view.loc (thr1 d L) ↦{fullShare} fo) := by
    refine (BI.bigSep_univ_equiv pairs _).trans ((BI.bigSep_univ_prod _).trans (Eq.trans (congrArg (bigSep Finset.univ) (funext fun c => ?_))
      (pointsTo_shares (ℓ := (bD).view.loc (thr1 d L)) fo (o := 8) (by decide) fullShare).symm))
    refine Eq.trans (congrArg (bigSep Finset.univ) (funext fun k => ?_))
      (words_all (ℓ := (bD).view.loc (thr1 d L)) didxAt didxAt_injective (fun y => ⟨_, didxAt_eq y⟩) (pieceOf fullShare 8 (by decide) c) fo).symm
    rw [colOf_pairs, sampOf_pairs]
  have eC : (bigSep Finset.univ fun t : Fin 1024 => ((bC).view.loc (thr1 d L) ↦[{stageAt t.val}]{fullShare} fs) : sProp 𝕄)
      = ((bC).view.loc (thr1 d L) ↦{fullShare} fs) :=
    (words_all (ℓ := (bC).view.loc (thr1 d L)) (fun t : Fin 1024 => stageAt t.val) (fun t u h => by
      have h' := congrArg (fun y : S1024.Idx => (y 0).val) h
      have h1 : t.val % 1024 = u.val % 1024 := h'
      exact Fin.ext (by omega)) (fun y => ⟨⟨(y 0).val, (y 0).isLt⟩, one_ext (Nat.mod_eq_of_lt (y 0).isLt)⟩) fullShare fs).symm
  rw [eA, eB, eC] at e1
  exact e1

/-- One wait of a row. -/
theorem wait_row {o : Fin 1 → ℕ} {inb : ∀ a, o a + S128.size a ≤ S1024.size a} (dst : Memref sig .scVector .hbm S1048576 .f32) {α : Type} {Q : α → sProp 𝕄} (u u' : ℕ)
    (hu : u + 4096 = u') (hu' : u' ≤ 32 * 1024) {f' : Fin 8 → S1048576.Idx → F .f32}
    {O : CellTallies nD τ sig (HIx 2)} {W : Waits sig (HIx 2)}
    {hsrc : ((bC).slice (Rect.unit (s := S1024) o S128.size inb) (fun _ => rfl)).view.WordExact}
    {hdst : (dst.slice (Rect.unit (s := S1048576) ![0] S1048576.size inb_S1048576_S1048576_0) (fun _ => rfl)).view.WordExact}
    {k : PUnit → Prog (TpuEff nD τ sig (Elt F) Λ₀ (.scVector (coreOf1 L) (subOf1 L))) α} :
    iprop(Transfers.MayWaits (thr1 d L) (none : HIx 2) O ∗ Batch countersEmb (thr1 d L) (.dma cc1_scratch9.sem) (none : HIx 2) 32 (rowHeld L d pl fo fs f') 1024 u
        ∗ ∃ W', ⌜∀ p ∈ W', p ∈ W ∨ p.2 = none⌝ ∗ owes (thr1 d L) O W')
      ⊢ iprop((iprop(Batch countersEmb (thr1 d L) (.dma cc1_scratch9.sem) (none : HIx 2) 32 (rowHeld L d pl fo fs f') 1024 u'
              ∗ ∃ W', ⌜∀ p ∈ W', p ∈ W ∨ p.2 = none⌝ ∗ owes (thr1 d L) O W')
            -∗ wp frame (wpE (defs₀ (F := F)) 𝒱₀ (thr1 d L) none) Set.univ (k ⟨⟩) Q)
          -∗ wp frame (wpE (defs₀ (F := F)) 𝒱₀ (thr1 d L) none) Set.univ
              (SparseCore.waitIndirectScatter cc1_scratch9.sem ((bC).slice (Rect.unit (s := S1024) o S128.size inb) (fun _ => rfl))
                (dst.slice (Rect.unit (s := S1048576) ![0] S1048576.size inb_S1048576_S1048576_0) (fun _ => rfl)) hsrc hdst >>= k) Q) := by
  subst hu
  rw [SparseCore.waitIndirectScatter_bind (c := thr1 d L)]
  have hJ : ((bC).slice (Rect.unit (s := S1024) o S128.size inb) (fun _ => rfl)).view.dmaCredit = 128 * 32 := rfl
  iintro ⟨Hmw, HB, %W', %hW', HO⟩ Hk
  ihave Hm := (Transfers.MayWaits.elim (SemLoc.dma cc1_scratch9.sem)) $$ Hmw
  iapply (wp_waitBatchMulO (defs := defs₀ (F := F)) countersEmb 𝒱₀ (thr1 d L) none (none : HIx 2) 128 hJ hu') $$ [HB HO Hm]
  · isplitl [HB]; · iexact HB
    isplitl [HO]; · iexact HO
    iexact Hm
  iintro ⟨HB, HO⟩
  iapply Hk
  isplitl [HB]; · iexact HB
  iexists (insert (SemLoc.dma cc1_scratch9.sem, (none : HIx 2)) W'); isplitr
  · ipureintro; intro p hp
    rcases Finset.mem_insert.mp hp with hp | hp
    · exact .inr (hp ▸ rfl)
    · exact hW' p hp
  · iexact HO

end Held

abbrev w3B [FloatOps F] (L : grid1.Coords) := k1_t3_body (F := F) L vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5

section Rows

variable [FloatOps F] (d : Dev nD) (v : ℕ → BitVec 32) (hv : ∀ p, v p = 0#32 ∨ v p = 1#32)
  (vb : S32768.Idx → BitVec 32) (sb : S32768.Idx → F .f32) (pb : S2064.Idx → F .f32) (sf pf : ℕ → F .f32) (val : Fin 8 → ℕ → F .f32)
  (hvb : ∀ x, vb x = v (base1 L + (x 0).val)) (hsb : ∀ x, sb x = sf (x 0).val) (hpb : ∀ x, pb x = pf (x 0).val)
  (hval : ∀ c q, q < 32768 → val c (base1 L + q) = colv (fun i => pf (8 * (q / 128) + i)) (sf q) c.val)

/-- The places of a tile's samples. -/
def tilePlaces : Finset S1048576.Idx := Finset.univ.filter fun y => base1 L ≤ sampleAt v (y 0).val ∧ sampleAt v (y 0).val < base1 L + 32768

/-- The columns after the tile's first `n` samples. -/
def reached (fo : Fin 8 → S1048576.Idx → F .f32) (n : ℕ) (c : Fin 8) (y : S1048576.Idx) : F .f32 :=
  if sampleAt v (y 0).val < base1 L + n then val c (sampleAt v (y 0).val) else fo c y

/-- The place of sample `k` of the row from `P`. -/
def rowPlace (P : ℕ) (k : Fin 128) : S1048576.Idx := ptN (place v (P + k.val))

include hv in
theorem rowPlace_val {P : ℕ} (hP : P + 128 ≤ NN) (k : Fin 128) : (rowPlace v P k 0).val = place v (P + k.val) :=
  Nat.mod_eq_of_lt (place_lt v hv (by omega))

include hv in
theorem sampleAt_rowPlace {P : ℕ} (hP : P + 128 ≤ NN) (k : Fin 128) : sampleAt v (rowPlace v P k 0).val = P + k.val := by
  rw [rowPlace_val v hv hP k]
  exact sampleAt_place v hv (by omega)

include hv in
theorem rowPlace_injective {P : ℕ} (hP : P + 128 ≤ NN) : Function.Injective (rowPlace v P) := fun k l h => by
  have h' := congrArg (fun y : S1048576.Idx => sampleAt v (y 0).val) h
  have h1 : sampleAt v (rowPlace v P k 0).val = sampleAt v (rowPlace v P l 0).val := h'
  rw [sampleAt_rowPlace v hv hP k, sampleAt_rowPlace v hv hP l] at h1
  exact Fin.ext (by omega)

include hv in
theorem rowSet_subset {q : ℕ} (hq : q + 128 ≤ 32768) : rowSet (rowPlace v (base1 L + q)) ⊆ tilePlaces L v := fun x hx => by
  obtain ⟨k, -, hk⟩ := Finset.mem_biUnion.mp hx
  have hb := base1_le L
  rw [Finset.mem_singleton.mp hk]
  refine Finset.mem_filter.mpr ⟨Finset.mem_univ _, ?_⟩
  rw [sampleAt_rowPlace v hv (by omega) k]
  omega

include hv in
/-- Off the row's places a row changes nothing. -/
theorem reached_rest (fo : Fin 8 → S1048576.Idx → F .f32) {q : ℕ} (hq : q + 128 ≤ 32768) (c : Fin 8) (x : S1048576.Idx)
    (hx : x ∉ rowSet (rowPlace v (base1 L + q))) : reached L v val fo q c x = reached L v val fo (q + 128) c x := by
  have hb := base1_le L
  unfold reached
  by_cases h1 : sampleAt v (x 0).val < base1 L + q
  · rw [if_pos h1, if_pos (by omega)]
  · by_cases h2 : sampleAt v (x 0).val < base1 L + (q + 128)
    · exfalso
      refine hx (Finset.mem_biUnion.mpr ⟨⟨sampleAt v (x 0).val - (base1 L + q), by omega⟩, Finset.mem_univ _, Finset.mem_singleton.mpr ?_⟩)
      refine one_ext ?_
      rw [rowPlace_val v hv (by omega)]
      have e : base1 L + q + (sampleAt v (x 0).val - (base1 L + q)) = sampleAt v (x 0).val := by omega
      show _ = place v (base1 L + q + (sampleAt v (x 0).val - (base1 L + q)))
      rw [e]
      exact (place_sampleAt v hv (x 0).isLt).symm
    · rw [if_neg h1, if_neg h2]

include hv hval in
/-- At the row's places are the row's values. -/
theorem reached_row (fo : Fin 8 → S1048576.Idx → F .f32) {q : ℕ} (hq : q + 128 ≤ 32768) (c : Fin 8) (k : Fin 128) :
    reached L v val fo (q + 128) c (rowPlace v (base1 L + q) k) = colv (fun i => pf (8 * ((q + k.val) / 128) + i)) (sf (q + k.val)) c.val := by
  have hb := base1_le L
  unfold reached
  rw [sampleAt_rowPlace v hv (by omega) k, if_pos (by omega), Nat.add_assoc]
  exact hval c (q + k.val) (by omega)

end Rows

end Cert.Proof.Lookup

end
-- ==== Proof.Trips.lean ====
/-
  The trips of the sweep: a row of 128 samples, a block of sixteen rows, all the tile's rows.
-/
module

public import proofs.«01_k».proof.Proof.Sweep

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

variable (L : grid1.Coords)

section Rows

variable [FloatOps F] (d : Dev nD) (v : ℕ → BitVec 32) (hv : ∀ p, v p = 0#32 ∨ v p = 1#32)
  (vb : S32768.Idx → BitVec 32) (sb : S32768.Idx → F .f32) (pb : S2064.Idx → F .f32) (sf pf : ℕ → F .f32) (val : Fin 8 → ℕ → F .f32)
  (hvb : ∀ x, vb x = v (base1 L + (x 0).val)) (hsb : ∀ x, sb x = sf (x 0).val) (hpb : ∀ x, pb x = pf (x 0).val)
  (hval : ∀ c q, q < 32768 → val (c : Fin 8) (base1 L + q) = colv (fun i => pf (8 * (q / 128) + i)) (sf q) c.val)

theorem trips1 : k1_t1_loop.trips = 512 := by decide
theorem trips2 : k1_t2_loop.trips = 16 := by decide
theorem trips3 : k1_t3_loop.trips = 16 := by decide

theorem row_word (k2 : Fin k1_t2_loop.trips) (k3 : Fin k1_t3_loop.trips) :
    Scalar.addi (Scalar.muli (Scf.iv 0#32 1#32 k2.val) 16#32) (Scf.iv 0#32 1#32 k3.val) = BitVec.ofNat 32 (16 * k2.val + k3.val) := by
  have h2 := lt_of_lt_of_eq k2.isLt trips2
  have h3 := lt_of_lt_of_eq k3.isLt trips3
  have hc : ∀ a b : Fin 16, Scalar.addi (Scalar.muli (Scf.iv 0#32 1#32 a.val) 16#32) (Scf.iv 0#32 1#32 b.val) = BitVec.ofNat 32 (16 * a.val + b.val) := by decide
  exact hc ⟨_, h2⟩ ⟨_, h3⟩

/-- The offsets' lane of a row. -/
theorem pay23_apply (k : Fin k1_t3_loop.trips) (a : IVec S16 32) (r : BitVec 32) (x : S16.Idx) :
    k1_pay23 lanes 0#32 1#32 k a r x = a x + if (x 0).val = k.val then r else 0#32 := by
  have hx : (x 0).val < 16 := (x 0).isLt
  have h3 : k.val < 16 := lt_of_lt_of_eq k.isLt trips3
  have hc : ∀ a b : Fin 16, IntOp.cmpi .eq (BitVec.ofNat 32 a.val) (Scf.iv 0#32 1#32 b.val) = if a.val = b.val then 1#1 else 0#1 := by decide
  have hs : Scalar.select (IntOp.cmpi .eq (lanes x) (Scf.iv 0#32 1#32 k.val)) r 0#32 = if (x 0).val = k.val then r else 0#32 := by
    rw [lanes_apply, hc ⟨_, hx⟩ ⟨_, h3⟩]
    show (if (if (x 0).val = k.val then 1#1 else 0#1) = 1#1 then r else 0#32) = _
    by_cases h : (x 0).val = k.val
    · rw [if_pos h, if_pos h, if_pos rfl]
    · rw [if_neg h, if_neg h, if_neg (by decide)]
  unfold k1_pay23
  exact congrArg (a x + ·) hs

include hv hvb hsb hpb hval in
/-- A row of the tile: its samples' values reach their places, the row's offset goes into its lane. -/
theorem t3_trip2 (k2 : Fin k1_t2_loop.trips) (k3 : Fin k1_t3_loop.trips) (v2 v11 : BitVec 32) (hv2 : v2 = BitVec.ofNat 32 (base1 L)) (hv11 : v11 = before v NN)
    (a29 : IVec S16 32) (a30 : BitVec 32) (ha : a30 = before v (base1 L + (2048 * k2.val + 128 * k3.val)))
    (fo : Fin 8 → S1048576.Idx → F .f32) {O : CellTallies nD τ sig (HIx 2)} {W : Waits sig (HIx 2)} :
    (iprop(Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * k2.val + 128 * k3.val)) ∗ semVal (thr1 d L, SemLoc.dma cc1_scratch9.sem) 0
        ∗ ∃ W', ⌜∀ p ∈ W', p ∈ W ∨ p.2 = none⌝ ∗ owes (thr1 d L) O W') : sProp 𝕄)
      ⊢ wp frame (wpE (defs₀ (F := F)) 𝒱₀ (thr1 d L) none) Set.univ
          (w3B L v2 lanes v11 k2 (Scf.iv 0#32 1#32 k2.val) k3 (a29, a30))
          fun r => iprop(⌜r.1 = k1_pay23 lanes 0#32 1#32 k3 a29 a30 ∧ r.2 = before v (base1 L + (2048 * k2.val + 128 * k3.val + 128))⌝ ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * k2.val + 128 * k3.val + 128)) ∗ semVal (thr1 d L, SemLoc.dma cc1_scratch9.sem) 0
        ∗ ∃ W', ⌜∀ p ∈ W', p ∈ W ∨ p.2 = none⌝ ∗ owes (thr1 d L) O W') := by
  have h2 : k2.val < 16 := lt_of_lt_of_eq k2.isLt trips2
  have h3 : k3.val < 16 := lt_of_lt_of_eq k3.isLt trips3
  have hb := base1_le L
  have hq : 2048 * k2.val + 128 * k3.val + 128 ≤ 32768 := by omega
  have hP : base1 L + (2048 * k2.val + 128 * k3.val) + 128 ≤ NN := by omega
  have h5 : k1_off5 k2 k3 0 = 128 * k2.val + 8 * k3.val := by rw [k1_off5_eq]; rfl
  have hw : ∀ k, ((fun y : S1x128.Idx => placeWord v (base1 L + (2048 * k2.val + 128 * k3.val) + (y 1).val)) (didxAt k)).toNat
      = (rowPlace v (base1 L + (2048 * k2.val + 128 * k3.val)) k 0).val := fun k => by
    rw [rowPlace_val v hv hP k]
    exact place_word v hv (by have := didxAt_one k; have := k.isLt; omega)
  have hrow : ∀ (c : Fin 8) (k : Fin 128), reached L v val fo (2048 * k2.val + 128 * k3.val + 128) c (rowPlace v (base1 L + (2048 * k2.val + 128 * k3.val)) k)
      = (fun y : S1024.Idx => colv (fun i => pf (128 * k2.val + 8 * k3.val + i)) (sf (2048 * k2.val + 128 * k3.val + (y 0).val % 128)) ((y 0).val / 128)) (stageAt (128 * c.val + k.val)) := fun c k => by
    have hc := c.isLt
    have hk := k.isLt
    have e : (stageAt (128 * c.val + k.val) 0).val = 128 * c.val + k.val := Nat.mod_eq_of_lt (by show _ < 1024; omega)
    rw [reached_row L v hv sf pf val hval fo hq c k]
    show _ = colv (fun i => pf (128 * k2.val + 8 * k3.val + i)) (sf (2048 * k2.val + 128 * k3.val + (stageAt (128 * c.val + k.val) 0).val % 128)) ((stageAt (128 * c.val + k.val) 0).val / 128)
    rw [e]
    have e1 : (128 * c.val + k.val) % 128 = k.val := by omega
    have e2 : (128 * c.val + k.val) / 128 = c.val := by omega
    have e3 : 8 * ((2048 * k2.val + 128 * k3.val + k.val) / 128) = 128 * k2.val + 8 * k3.val := by omega
    rw [e1, e2, e3]
  unfold w3B k1_t3_body
  simp -proj only [k1_part5_eq_skeleton, k1_part6_eq_skeleton]
  unfold k1_part5_skel k1_part6_skel
  simp -proj only [bind_assoc, pure_bind]
  iintro ⟨#Hmw, HV, HS, HP, ⟨%fd, HD⟩, ⟨%fc, HC⟩, HX, Hs, HO⟩
  sl_exec
  rw [wp_bind]
  iapply (wp_wand_r _ _ _)
  isplitl [HV HS HD HC]
  · iapply (t4_loop2 L d v hv vb sb sf (fun i => pf (128 * k2.val + 8 * k3.val + i)) hvb hsb k2 k3 v2 v11 (Scf.iv 0#32 1#32 k2.val) a30 _ a29 _ hv2 hv11
      (row_word k2 k3) (fun x => ?_) a30 ha fd fc) $$ [HV HS HD HC]
    rotate_left
    · isplitl [HV]; · iexact HV
      isplitl [HS]; · iexact HS
      isplitl [HD] <;> iassumption
    · have hx : (x 0).val < 16 := (x 0).isLt
      refine (readAt_window (Val := Elt F) (bP).view pb (k1_off5 k2 k3) (k1_off5_inb k2 k3) x (pt (s := S2064) (by decide) (128 * k2.val + 8 * k3.val + (x 0).val)) ?_).trans
        ((hpb _).trans (congrArg pf ?_))
      · rw [h5]; exact Nat.mod_eq_of_lt (by show _ < 2064; omega)
      · exact Nat.mod_eq_of_lt (by show _ < 2064; omega)
  iintro %gb ⟨%hgb, HV, HS, HD, HC⟩
  ihave HX := (Entails.of_eq (colsPts_split d (rowSet_subset L v hv hq) _)) $$ HX
  icases HX with ⟨HX, HXr⟩
  imod (batch_alloc' (n := 1024) countersEmb (thr1 d L) (none : HIx 2) 32 (rowHeld L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      (reached L v val fo (2048 * k2.val + 128 * k3.val + 128)))) $$ Hs with HB
  ihave HR := (Entails.of_eq (rowHeld_all L d _ (rowPlace_injective v hv hP) _ _ _).symm) $$ [HX HD HC]
  · isplitl [HX]; · iexact HX
    isplitl [HD] <;> iassumption
  ihave HR := (Entails.of_eq (bigSep_pending_zero _)) $$ HR
  iapply (scatter_step (o := ![128 * 0]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 0 (by decide) o0 rfl (Nat.zero_le _) (f := reached L v val fo (2048 * k2.val + 128 * k3.val)) (f' := reached L v val fo (2048 * k2.val + 128 * k3.val + 128))
      (reached L v val fo (2048 * k2.val + 128 * k3.val) 0) (reached L v val fo (2048 * k2.val + 128 * k3.val + 128) 0)
      (fun y => rfl) (fun y => rfl) (fun y => (View.read_apply _ _).trans (cast_eq _ _)) (hrow 0)) $$ [HR HB]
  · isplitl [HR] <;> iassumption
  iintro ⟨HR, HB⟩
  iapply (scatter_step (o := ![128 * 1]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 1 (by decide) o1 rfl (Nat.zero_le _) (f := reached L v val fo (2048 * k2.val + 128 * k3.val)) (f' := reached L v val fo (2048 * k2.val + 128 * k3.val + 128))
      (reached L v val fo (2048 * k2.val + 128 * k3.val) 1) (reached L v val fo (2048 * k2.val + 128 * k3.val + 128) 1)
      (fun y => rfl) (fun y => rfl) (fun y => (View.read_apply _ _).trans (cast_eq _ _)) (hrow 1)) $$ [HR HB]
  · isplitl [HR] <;> iassumption
  iintro ⟨HR, HB⟩
  iapply (scatter_step (o := ![128 * 2]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 2 (by decide) o2 rfl (Nat.zero_le _) (f := reached L v val fo (2048 * k2.val + 128 * k3.val)) (f' := reached L v val fo (2048 * k2.val + 128 * k3.val + 128))
      (reached L v val fo (2048 * k2.val + 128 * k3.val) 2) (reached L v val fo (2048 * k2.val + 128 * k3.val + 128) 2)
      (fun y => rfl) (fun y => rfl) (fun y => (View.read_apply _ _).trans (cast_eq _ _)) (hrow 2)) $$ [HR HB]
  · isplitl [HR] <;> iassumption
  iintro ⟨HR, HB⟩
  iapply (scatter_step (o := ![128 * 3]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 3 (by decide) o3 rfl (Nat.zero_le _) (f := reached L v val fo (2048 * k2.val + 128 * k3.val)) (f' := reached L v val fo (2048 * k2.val + 128 * k3.val + 128))
      (reached L v val fo (2048 * k2.val + 128 * k3.val) 3) (reached L v val fo (2048 * k2.val + 128 * k3.val + 128) 3)
      (fun y => rfl) (fun y => rfl) (fun y => (View.read_apply _ _).trans (cast_eq _ _)) (hrow 3)) $$ [HR HB]
  · isplitl [HR] <;> iassumption
  iintro ⟨HR, HB⟩
  iapply (scatter_step (o := ![128 * 4]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 4 (by decide) o4 rfl (Nat.zero_le _) (f := reached L v val fo (2048 * k2.val + 128 * k3.val)) (f' := reached L v val fo (2048 * k2.val + 128 * k3.val + 128))
      (reached L v val fo (2048 * k2.val + 128 * k3.val) 4) (reached L v val fo (2048 * k2.val + 128 * k3.val + 128) 4)
      (fun y => rfl) (fun y => rfl) (fun y => (View.read_apply _ _).trans (cast_eq _ _)) (hrow 4)) $$ [HR HB]
  · isplitl [HR] <;> iassumption
  iintro ⟨HR, HB⟩
  iapply (scatter_step (o := ![128 * 5]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 5 (by decide) o5 rfl (Nat.zero_le _) (f := reached L v val fo (2048 * k2.val + 128 * k3.val)) (f' := reached L v val fo (2048 * k2.val + 128 * k3.val + 128))
      (reached L v val fo (2048 * k2.val + 128 * k3.val) 5) (reached L v val fo (2048 * k2.val + 128 * k3.val + 128) 5)
      (fun y => rfl) (fun y => rfl) (fun y => (View.read_apply _ _).trans (cast_eq _ _)) (hrow 5)) $$ [HR HB]
  · isplitl [HR] <;> iassumption
  iintro ⟨HR, HB⟩
  iapply (scatter_step (o := ![128 * 6]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 6 (by decide) o6 rfl (Nat.zero_le _) (f := reached L v val fo (2048 * k2.val + 128 * k3.val)) (f' := reached L v val fo (2048 * k2.val + 128 * k3.val + 128))
      (reached L v val fo (2048 * k2.val + 128 * k3.val) 6) (reached L v val fo (2048 * k2.val + 128 * k3.val + 128) 6)
      (fun y => rfl) (fun y => rfl) (fun y => (View.read_apply _ _).trans (cast_eq _ _)) (hrow 6)) $$ [HR HB]
  · isplitl [HR] <;> iassumption
  iintro ⟨HR, HB⟩
  iapply (scatter_step (o := ![128 * 7]) L d (rowPlace v (base1 L + (2048 * k2.val + 128 * k3.val)))
      (fun y => placeWord v (base1 L + (2048 * k2.val + 128 * k3.val) + (y 1).val))
      (fun y => colv (fun i => pf (128 * k2.val + 8 * k3.val + i)) (sf (2048 * k2.val + 128 * k3.val + (y 0).val % 128)) ((y 0).val / 128))
      hw 7 (by decide) o7 rfl (Nat.zero_le _) (f := reached L v val fo (2048 * k2.val + 128 * k3.val)) (f' := reached L v val fo (2048 * k2.val + 128 * k3.val + 128))
      (reached L v val fo (2048 * k2.val + 128 * k3.val) 7) (reached L v val fo (2048 * k2.val + 128 * k3.val + 128) 7)
      (fun y => rfl) (fun y => rfl) (fun y => (View.read_apply _ _).trans (cast_eq _ _)) (hrow 7)) $$ [HR HB]
  · isplitl [HR] <;> iassumption
  iintro ⟨HR, HB⟩
  iapply (wait_row L d _ _ _ o0 (4096 * 0) (4096 * 1) (by decide) (by decide) (W := W)) $$ [HB HO]
  · isplitr; · iexact Hmw
    isplitl [HB] <;> iassumption
  iintro ⟨HB, HO⟩
  iapply (wait_row L d _ _ _ o1 (4096 * 1) (4096 * 2) (by decide) (by decide) (W := W)) $$ [HB HO]
  · isplitr; · iexact Hmw
    isplitl [HB] <;> iassumption
  iintro ⟨HB, HO⟩
  iapply (wait_row L d _ _ _ o2 (4096 * 2) (4096 * 3) (by decide) (by decide) (W := W)) $$ [HB HO]
  · isplitr; · iexact Hmw
    isplitl [HB] <;> iassumption
  iintro ⟨HB, HO⟩
  iapply (wait_row L d _ _ _ o3 (4096 * 3) (4096 * 4) (by decide) (by decide) (W := W)) $$ [HB HO]
  · isplitr; · iexact Hmw
    isplitl [HB] <;> iassumption
  iintro ⟨HB, HO⟩
  iapply (wait_row L d _ _ _ o4 (4096 * 4) (4096 * 5) (by decide) (by decide) (W := W)) $$ [HB HO]
  · isplitr; · iexact Hmw
    isplitl [HB] <;> iassumption
  iintro ⟨HB, HO⟩
  iapply (wait_row L d _ _ _ o5 (4096 * 5) (4096 * 6) (by decide) (by decide) (W := W)) $$ [HB HO]
  · isplitr; · iexact Hmw
    isplitl [HB] <;> iassumption
  iintro ⟨HB, HO⟩
  iapply (wait_row L d _ _ _ o6 (4096 * 6) (4096 * 7) (by decide) (by decide) (W := W)) $$ [HB HO]
  · isplitr; · iexact Hmw
    isplitl [HB] <;> iassumption
  iintro ⟨HB, HO⟩
  iapply (wait_row L d _ _ _ o7 (4096 * 7) (32 * 1024) (by decide) (by decide) (W := W)) $$ [HB HO]
  · isplitr; · iexact Hmw
    isplitl [HB] <;> iassumption
  iintro ⟨HB, HO⟩
  imod (batch_collect' (n := 1024) countersEmb (thr1 d L) (ι := (none : HIx 2)) (N := 32) (by decide)) $$ HB with ⟨HD, Hs⟩
  ihave HD := (Entails.of_eq (rowHeld_all L d _ (rowPlace_injective v hv hP) _ _ _)) $$ HD
  icases HD with ⟨HX, HD, HC⟩
  sl_step
  isplitr
  · ipureintro
    exact ⟨rfl, hgb⟩
  isplitl [HV]; · iexact HV
  isplitl [HS]; · iexact HS
  isplitl [HP]; · iexact HP
  isplitl [HD]; · iexists _; iexact HD
  isplitl [HC]; · iexists _; iexact HC
  isplitl [HX HXr]
  · iapply (Entails.of_eq (colsPts_split d (rowSet_subset L v hv hq) _).symm)
    isplitl [HX]; · iexact HX
    iapply (Entails.of_eq (colsPts_congr d fun c x hx => reached_rest L v hv val fo hq c x (Finset.mem_sdiff.mp hx).2)) $$ HXr
  isplitl [Hs] <;> iassumption

end Rows

end Cert.Proof.Lookup

end
-- ==== Proof.Loops.lean ====
/-
  The loops of the sweep: sixteen rows, with their offsets in the lanes of a vector; sixteen blocks of sixteen rows, with the
  offsets and counts of a block written beside those of the others.
-/
module

public import proofs.«01_k».proof.Proof.Trips

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

variable (L : grid1.Coords)

/-- The tile's first row. -/
def rowBase (L : grid1.Coords) : ℕ := 256 * (2 * (L 1).val + (L 0).val)

abbrev w2B [FloatOps F] (L : grid1.Coords) := k1_t2_body (F := F) L vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5

section Rows

variable [FloatOps F] (d : Dev nD) (v : ℕ → BitVec 32) (hv : ∀ p, v p = 0#32 ∨ v p = 1#32)
  (vb : S32768.Idx → BitVec 32) (sb : S32768.Idx → F .f32) (pb : S2064.Idx → F .f32) (sf pf : ℕ → F .f32) (val : Fin 8 → ℕ → F .f32)
  (hvb : ∀ x, vb x = v (base1 L + (x 0).val)) (hsb : ∀ x, sb x = sf (x 0).val) (hpb : ∀ x, pb x = pf (x 0).val)
  (hval : ∀ c q, q < 32768 → val (c : Fin 8) (base1 L + q) = colv (fun i => pf (8 * (q / 128) + i)) (sf q) c.val)
  (nb : S8192.Idx → BitVec 32) (C : ℕ → BitVec 32) (hnb : ∀ x, nb x = C (x 0).val)

include hv hvb hsb hpb hval in
/-- Sixteen rows. -/
theorem t3_loop2 (k2 : Fin k1_t2_loop.trips) (v2 v11 : BitVec 32) (hv2 : v2 = BitVec.ofNat 32 (base1 L)) (hv11 : v11 = before v NN)
    (gb : BitVec 32) (ha : gb = before v (base1 L + 2048 * k2.val))
    (fo : Fin 8 → S1048576.Idx → F .f32) {O : CellTallies nD τ sig (HIx 2)} {W : Waits sig (HIx 2)} :
    (iprop(Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * k2.val)) ∗ semVal (thr1 d L, SemLoc.dma cc1_scratch9.sem) 0
        ∗ ∃ W', ⌜∀ p ∈ W', p ∈ W ∨ p.2 = none⌝ ∗ owes (thr1 d L) O W') : sProp 𝕄)
      ⊢ wp frame (wpE (defs₀ (F := F)) 𝒱₀ (thr1 d L) none) Set.univ
          (Scf.Loop.for k1_t3_loop k1_t3_ok (k1_pay1, gb) (w3B L v2 lanes v11 k2 (Scf.iv 0#32 1#32 k2.val)))
          fun r => iprop(⌜(∀ x, r.1 x = before v (base1 L + 2048 * k2.val + 128 * (x 0).val)) ∧ r.2 = before v (base1 L + 2048 * (k2.val + 1))⌝
            ∗ Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * (k2.val + 1))) ∗ semVal (thr1 d L, SemLoc.dma cc1_scratch9.sem) 0
        ∗ ∃ W', ⌜∀ p ∈ W', p ∈ W ∨ p.2 = none⌝ ∗ owes (thr1 d L) O W') := by
  have H := loop (F := F) (c := thr1 d L) k1_t3_loop k1_t3_ok (k1_pay1, gb) (w3B L v2 lanes v11 k2 (Scf.iv 0#32 1#32 k2.val))
    (fun n r => iprop(⌜(r.1 = fun x => if (x 0).val < n then before v (base1 L + 2048 * k2.val + 128 * (x 0).val) else 0#32) ∧ r.2 = before v (base1 L + (2048 * k2.val + 128 * n))⌝
            ∗ Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * k2.val + 128 * n)) ∗ semVal (thr1 d L, SemLoc.dma cc1_scratch9.sem) 0
        ∗ ∃ W', ⌜∀ p ∈ W', p ∈ W ∨ p.2 = none⌝ ∗ owes (thr1 d L) O W')) 16 trips3 (fun k r => by
      rcases r with ⟨a29, a30⟩
      iintro ⟨%hr, #Hmw, HR⟩
      ihave H := (t3_trip2 L d v hv vb sb pb sf pf val hvb hsb hpb hval k2 k v2 v11 hv2 hv11 a29 a30 hr.2 fo (O := O) (W := W)) $$ [HR]
      · isplitr; · iexact Hmw
        iexact HR
      iapply (wp_wand_r _ _ _) $$ [H]
      isplitl [H]; · iexact H
      iintro %r' ⟨%hr', HR⟩
      isplitr
      · ipureintro
        refine ⟨?_, hr'.2⟩
        funext x
        rw [hr'.1, pay23_apply]
        have e' : a30 = _ := hr.2
        rw [e']
        have e : a29 x = _ := congrFun hr.1 x
        rw [e, ← Nat.add_assoc]
        exact lane_add (fun i => before v (base1 L + 2048 * k2.val + 128 * i)) k.val (x 0).val
      isplitr; · iexact Hmw
      iexact HR)
  refine BIBase.Entails.trans ?_ (BIBase.Entails.trans H (wp_mono _ _ _ fun r => ?_))
  · iintro HR
    isplitr
    · ipureintro
      exact ⟨rfl, ha⟩
    iexact HR
  · iintro ⟨%hr, HR⟩
    isplitr
    · ipureintro
      refine ⟨fun x => ?_, hr.2⟩
      rw [hr.1]
      exact if_pos (show (x 0).val < 16 from (x 0).isLt)
    iexact HR

theorem pay3_keeps (w : IVec S16 32) : k1_pay3 (F := F) w = w := by
  unfold k1_pay3
  exact (shapeCast_self _ _).trans (shapeCast_self _ _)

include hv hvb hsb hpb hval hnb in
/-- A block of sixteen rows. -/
theorem t2_trip2 (k2 : Fin k1_t2_loop.trips) (v2 v11 : BitVec 32) (hv2 : v2 = BitVec.ofNat 32 (base1 L)) (hv11 : v11 = before v NN)
    (gb : BitVec 32) (ha : gb = before v (base1 L + 2048 * k2.val)) (os ks : S256.Idx → BitVec 32)
    (fo : Fin 8 → S1048576.Idx → F .f32) {O : CellTallies nD τ sig (HIx 2)} {W : Waits sig (HIx 2)} :
    (iprop((Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * k2.val)) ∗ semVal (thr1 d L, SemLoc.dma cc1_scratch9.sem) 0
        ∗ ∃ W', ⌜∀ p ∈ W', p ∈ W ∨ p.2 = none⌝ ∗ owes (thr1 d L) O W') ∗ ((bN).view.loc (thr1 d L) ↦{fullShare} nb)
        ∗ ((bO).view.loc (thr1 d L) ↦{fullShare} os) ∗ ((bK).view.loc (thr1 d L) ↦{fullShare} ks)) : sProp 𝕄)
      ⊢ wp frame (wpE (defs₀ (F := F)) 𝒱₀ (thr1 d L) none) Set.univ (w2B L v2 lanes v11 0#32 1#32 k2 gb)
          fun r => iprop(⌜r = before v (base1 L + 2048 * (k2.val + 1))⌝
            ∗ (Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * (k2.val + 1))) ∗ semVal (thr1 d L, SemLoc.dma cc1_scratch9.sem) 0
        ∗ ∃ W', ⌜∀ p ∈ W', p ∈ W ∨ p.2 = none⌝ ∗ owes (thr1 d L) O W') ∗ ((bN).view.loc (thr1 d L) ↦{fullShare} nb)
        ∗ ((bO).view.loc (thr1 d L) ↦{fullShare} fun x => if 16 * k2.val ≤ (x 0).val ∧ (x 0).val < 16 * k2.val + 16 then before v (base1 L + 128 * (x 0).val) else os x)
        ∗ ((bK).view.loc (thr1 d L) ↦{fullShare} fun x => if 16 * k2.val ≤ (x 0).val ∧ (x 0).val < 16 * k2.val + 16 then C (rowBase L + (x 0).val) else ks x)) := by
  have h2 : k2.val < 16 := lt_of_lt_of_eq k2.isLt trips2
  have h9 : k1_off9 k2 0 = 16 * k2.val := by rw [k1_off9_eq]; rfl
  have h4 : k1_off4 L k2 0 = rowBase L + 16 * k2.val := by
    rw [k1_off4_eq]
    unfold rowBase
    show 512 * (L 1).val + 256 * (L 0).val + 16 * k2.val = _
    omega
  have hb : rowBase L + 256 ≤ 8192 := by
    have h0 : (L 0).val < 2 := (L 0).isLt
    have h1 : (L 1).val < 16 := (L 1).isLt
    unfold rowBase
    omega
  unfold w2B k1_t2_body
  iintro ⟨HR, HN, HO, HK⟩
  sl_exec
  rw [wp_bind]
  ihave H := (t3_loop2 L d v hv vb sb pb sf pf val hvb hsb hpb hval k2 v2 v11 hv2 hv11 gb ha fo (O := O) (W := W)) $$ HR
  iapply (wp_wand_r _ _ _)
  isplitl [H]; · iexact H
  iintro %r ⟨%hr, HR⟩
  sl_exec
  sl_step
  isplitr
  · ipureintro
    exact hr.2
  isplitl [HR]; · iexact HR
  isplitl [HN]; · iexact HN
  isplitl [HO]
  · iapply (Entails.of_eq (congrArg (fun c : S256.Idx → BitVec 32 => ((bO).view.loc (thr1 d L) ↦{fullShare} c : sProp 𝕄)) (funext fun y => ?_))) $$ HO
    exact (read_writes_window (Val := Elt F) (bO).view os (k1_off9 k2) _ _ (fun i => before v (base1 L + 128 * i)) (fun x => by
      unfold k1_pay2
      rw [shapeCast_self, hr.1 x, h9]
      exact congrArg (before v) (by omega)) y).trans (by rw [h9]; rfl)
  · iapply (Entails.of_eq (congrArg (fun c : S256.Idx → BitVec 32 => ((bK).view.loc (thr1 d L) ↦{fullShare} c : sProp 𝕄)) (funext fun y => ?_))) $$ HK
    exact (read_writes_window (Val := Elt F) (bK).view ks (k1_off9 k2) _ _ (fun i => C (rowBase L + i)) (fun x => by
      have hx : (x 0).val < 16 := (x 0).isLt
      rw [h9]
      refine (congrFun (pay3_keeps (F := F) _) x).trans ?_
      refine (readAt_window (Val := Elt F) (bN).view nb (k1_off4 L k2) (k1_off4_inb L k2) x (ptR (rowBase L + 16 * k2.val + (x 0).val)) ?_).trans
        ((hnb _).trans (congrArg C ?_))
      · rw [h4]; exact Nat.mod_eq_of_lt (by show _ < 8192; omega)
      · refine Eq.trans (Nat.mod_eq_of_lt (by show _ < 8192; omega)) (Nat.add_assoc _ _ _)) y).trans (by rw [h9]; rfl)

/-- The words of the first `n` blocks over the old contents. -/
def kept (f : ℕ → BitVec 32) (os : S256.Idx → BitVec 32) (n : ℕ) : S256.Idx → BitVec 32 := fun x => if (x 0).val < 16 * n then f (x 0).val else os x

theorem kept_block (f : ℕ → BitVec 32) (os : S256.Idx → BitVec 32) (n : ℕ) :
    (fun x : S256.Idx => if 16 * n ≤ (x 0).val ∧ (x 0).val < 16 * n + 16 then f (x 0).val else kept f os n x) = kept f os (n + 1) := by
  funext x
  unfold kept
  by_cases h1 : (x 0).val < 16 * n
  · rw [if_neg (by omega), if_pos h1, if_pos (by omega)]
  · by_cases h2 : (x 0).val < 16 * n + 16
    · rw [if_pos (by omega), if_pos (by omega)]
    · rw [if_neg (by omega), if_neg h1, if_neg (by omega)]

include hv hvb hsb hpb hval hnb in
/-- All the rows of the tile. -/
theorem t2_loop2 (v2 v11 : BitVec 32) (hv2 : v2 = BitVec.ofNat 32 (base1 L)) (hv11 : v11 = before v NN)
    (gb : BitVec 32) (ha : gb = before v (base1 L)) (os ks : S256.Idx → BitVec 32)
    (fo : Fin 8 → S1048576.Idx → F .f32) {O : CellTallies nD τ sig (HIx 2)} {W : Waits sig (HIx 2)} :
    (iprop((Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo 0) ∗ semVal (thr1 d L, SemLoc.dma cc1_scratch9.sem) 0
        ∗ ∃ W', ⌜∀ p ∈ W', p ∈ W ∨ p.2 = none⌝ ∗ owes (thr1 d L) O W') ∗ ((bN).view.loc (thr1 d L) ↦{fullShare} nb)
        ∗ ((bO).view.loc (thr1 d L) ↦{fullShare} os) ∗ ((bK).view.loc (thr1 d L) ↦{fullShare} ks)) : sProp 𝕄)
      ⊢ wp frame (wpE (defs₀ (F := F)) 𝒱₀ (thr1 d L) none) Set.univ (Scf.Loop.for k1_t2_loop k1_t2_ok gb (w2B L v2 lanes v11 0#32 1#32))
          fun _ => iprop((Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo 32768) ∗ semVal (thr1 d L, SemLoc.dma cc1_scratch9.sem) 0
        ∗ ∃ W', ⌜∀ p ∈ W', p ∈ W ∨ p.2 = none⌝ ∗ owes (thr1 d L) O W') ∗ ((bN).view.loc (thr1 d L) ↦{fullShare} nb)
        ∗ ((bO).view.loc (thr1 d L) ↦{fullShare} fun x => before v (base1 L + 128 * (x 0).val))
        ∗ ((bK).view.loc (thr1 d L) ↦{fullShare} fun x => C (rowBase L + (x 0).val))) := by
  have H := loop (F := F) (c := thr1 d L) k1_t2_loop k1_t2_ok gb (w2B L v2 lanes v11 0#32 1#32)
    (fun n r => iprop(⌜r = before v (base1 L + 2048 * n)⌝
            ∗ (Transfers.MayWaits (thr1 d L) (none : HIx 2) O ∗ ((bV).view.loc (thr1 d L) ↦{fullShare} vb) ∗ ((bS).view.loc (thr1 d L) ↦{fullShare} sb) ∗ ((bP).view.loc (thr1 d L) ↦{fullShare} pb)
        ∗ (∃ fd, (bD).view.loc (thr1 d L) ↦{fullShare} fd) ∗ (∃ fc, (bC).view.loc (thr1 d L) ↦{fullShare} fc)
        ∗ colsPts d (tilePlaces L v) (reached L v val fo (2048 * n)) ∗ semVal (thr1 d L, SemLoc.dma cc1_scratch9.sem) 0
        ∗ ∃ W', ⌜∀ p ∈ W', p ∈ W ∨ p.2 = none⌝ ∗ owes (thr1 d L) O W') ∗ ((bN).view.loc (thr1 d L) ↦{fullShare} nb)
        ∗ ((bO).view.loc (thr1 d L) ↦{fullShare} kept (fun i => before v (base1 L + 128 * i)) os n)
        ∗ ((bK).view.loc (thr1 d L) ↦{fullShare} kept (fun i => C (rowBase L + i)) ks n))) 16 trips2 (fun k r => by
      iintro ⟨%hr, HR⟩
      iapply (BIBase.Entails.trans (t2_trip2 L d v hv vb sb pb sf pf val hvb hsb hpb hval nb C hnb k v2 v11 hv2 hv11 r hr _ _ fo (O := O) (W := W)) (wp_mono _ _ _ fun a => ?_)) $$ HR
      iintro ⟨%ha, HR, HN, HO, HK⟩
      isplitr
      · ipureintro
        exact ha
      isplitl [HR]; · iexact HR
      isplitl [HN]; · iexact HN
      isplitl [HO]
      · iapply (Entails.of_eq (congrArg (fun c : S256.Idx → BitVec 32 => ((bO).view.loc (thr1 d L) ↦{fullShare} c : sProp 𝕄)) (kept_block (fun i => before v (base1 L + 128 * i)) os k.val))) $$ HO
      · iapply (Entails.of_eq (congrArg (fun c : S256.Idx → BitVec 32 => ((bK).view.loc (thr1 d L) ↦{fullShare} c : sProp 𝕄)) (kept_block (fun i => C (rowBase L + i)) ks k.val))) $$ HK)
  have e : ∀ (f : ℕ → BitVec 32) (gs : S256.Idx → BitVec 32), kept f gs 16 = fun x => f (x 0).val := fun f gs => by
    funext x
    exact if_pos (show (x 0).val < 16 * 16 from (x 0).isLt)
  rw [e, e] at H
  refine BIBase.Entails.trans ?_ (BIBase.Entails.trans H (wp_mono _ _ _ fun r => ?_))
  · iintro HR
    isplitr
    · ipureintro
      exact ha
    iexact HR
  · iintro ⟨-, HR⟩
    iexact HR

end Rows

end Cert.Proof.Lookup

end
-- ==== Proof.Count.lean ====
/-
  The counts of all rows summed in sixteen lanes: the number of valid samples, and the number of those before a tile's rows.
-/
module

public import Idealize.ShloMosaic.Lib.WordCmp
public import Idealize.ShloMosaic.Lib.WordArith.Masks
public import proofs.«01_k».proof.Proof.Loops

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

variable (L : grid1.Coords)

abbrev w1B [FloatOps F] (L : grid1.Coords) := k1_t1_body (F := F) L vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5

section Sums

/-- A sum cut off at `w`. -/
theorem sum_cut (f : ℕ → BitVec 32) {w n : ℕ} (hw : w ≤ n) : ∑ t ∈ Finset.range n, (if t < w then f t else 0#32) = ∑ t ∈ Finset.range w, f t := by
  refine (Finset.sum_filter _ _).symm.trans (Finset.sum_congr ?_ fun _ _ => rfl)
  ext t
  rw [Finset.mem_filter, Finset.mem_range, Finset.mem_range]
  omega

/-- The counts of the first `R` rows are the marks of their samples. -/
theorem rows_sum (v C : ℕ → BitVec 32) (hC : ∀ r, C r = ∑ k ∈ Finset.range 128, v (128 * r + k)) (R : ℕ) :
    ∑ r ∈ Finset.range R, C r = before v (128 * R) := by
  induction R with
  | zero => rfl
  | succ R ih => rw [Finset.sum_range_succ, ih, hC, Nat.mul_succ, before_add]

/-- The guard of the lanes before the tile's rows. -/
theorem guard_word (k : Fin k1_t1_loop.trips) :
    Scalar.select (Scalar.cmpi .slt (Scf.iv 0#32 1#32 k.val)
      (Scalar.muli (Scalar.addi (Scalar.muli (BitVec.ofNat 32 (L 1).val) 2#32) (BitVec.ofNat 32 (L 0).val)) 16#32)) 1#32 0#32
      = if k.val < 16 * (2 * (L 1).val + (L 0).val) then 1#32 else 0#32 := by
  have hk := lt_of_lt_of_eq k.isLt trips1
  have h0 : (L 0).val < 2 := (L 0).isLt
  have h1 : (L 1).val < 16 := (L 1).isLt
  have e1 : Scf.iv 0#32 1#32 k.val = BitVec.ofNat 32 k.val := by
    apply BitVec.eq_of_toNat_eq
    rw [WordArith.toNat_iv_zero_one k.val (by omega)]
    exact (Nat.mod_eq_of_lt (by omega)).symm
  have e2 : ∀ (a : Fin 2) (b : Fin 16), Scalar.muli (Scalar.addi (Scalar.muli (BitVec.ofNat 32 b.val) 2#32) (BitVec.ofNat 32 a.val)) 16#32
      = BitVec.ofNat 32 (16 * (2 * b.val + a.val)) := by decide
  rw [e1, e2 ⟨_, h0⟩ ⟨_, h1⟩]
  show (if IntOp.cmpi .slt (BitVec.ofNat 32 k.val) (BitVec.ofNat 32 (16 * (2 * (L 1).val + (L 0).val))) = 1#1 then 1#32 else 0#32) = _
  refine if_congr (WordCmp.cmpi_slt_ofNat_eq_one_iff (w := 32) ?_ ?_) rfl rfl <;> omega

end Sums

section Count

variable [FloatOps F] (d : Dev nD) (v C : ℕ → BitVec 32) (hC : ∀ r, C r = ∑ k ∈ Finset.range 128, v (128 * r + k))
  (nb : S8192.Idx → BitVec 32) (hnb : ∀ x, nb x = C (x 0).val)

include hnb in
/-- The counts summed lane by lane. -/
theorem t1_loop2 :
    (iprop((bN).view.loc (thr1 d L) ↦{fullShare} nb) : sProp 𝕄)
      ⊢ wp frame (wpE (defs₀ (F := F)) 𝒱₀ (thr1 d L) none) Set.univ (Scf.Loop.for k1_t1_loop k1_t1_ok (k1_pay29, k1_pay29) (w1B L))
          fun r => iprop(⌜(∀ x, r.1 x = ∑ t ∈ Finset.range 512, C (16 * t + (x 0).val))
              ∧ ∀ x, r.2 x = ∑ t ∈ Finset.range 512, if t < 16 * (2 * (L 1).val + (L 0).val) then C (16 * t + (x 0).val) else 0#32⌝
            ∗ ((bN).view.loc (thr1 d L) ↦{fullShare} nb)) := by
  have H := loop (F := F) (c := thr1 d L) k1_t1_loop k1_t1_ok (k1_pay29, k1_pay29) (w1B L)
    (fun n r => iprop(⌜(∀ x, r.1 x = ∑ t ∈ Finset.range n, C (16 * t + (x 0).val))
              ∧ ∀ x, r.2 x = ∑ t ∈ Finset.range n, if t < 16 * (2 * (L 1).val + (L 0).val) then C (16 * t + (x 0).val) else 0#32⌝
            ∗ ((bN).view.loc (thr1 d L) ↦{fullShare} nb))) 512 trips1 (fun k r => by
      rcases r with ⟨a, b⟩
      have hk := lt_of_lt_of_eq k.isLt trips1
      have h3 : k1_off3 k 0 = 16 * k.val := by rw [k1_off3_eq]; rfl
      have hrd : ∀ x : S16.Idx, (bN).view.readAt (Elt F) (Rect.unit (s := S8192) (k1_off3 k) S16.size (k1_off3_inb k)).toLoadRect nb x = C (16 * k.val + (x 0).val) := fun x => by
        have hx : (x 0).val < 16 := (x 0).isLt
        refine (readAt_window (Val := Elt F) (bN).view nb (k1_off3 k) (k1_off3_inb k) x (ptR (16 * k.val + (x 0).val)) ?_).trans
          ((hnb _).trans (congrArg C ?_))
        · rw [h3]; exact Nat.mod_eq_of_lt (by show _ < 8192; omega)
        · exact Nat.mod_eq_of_lt (by show _ < 8192; omega)
      unfold w1B k1_t1_body
      iintro ⟨%hr, HN⟩
      sl_exec
      sl_step
      isplitr
      · ipureintro
        have ha := hr.1
        have hb := hr.2
        refine ⟨fun x => ?_, fun x => ?_⟩
        · rw [Finset.sum_range_succ, ← ha x]
          unfold k1_pay31 k1_pay30
          refine congrArg (a x + ·) ?_
          rw [shapeCast_self]
          exact hrd x
        · rw [Finset.sum_range_succ, ← hb x]
          unfold k1_pay32 k1_pay30
          refine congrArg (b x + ·) ?_
          rw [shapeCast_self]
          refine (congrArg₂ (fun p q : BitVec 32 => p * q) (hrd x) (guard_word L k)).trans ?_
          by_cases h : k.val < 16 * (2 * (L 1).val + (L 0).val)
          · rw [if_pos h, if_pos h]; exact BitVec.mul_one _
          · rw [if_neg h, if_neg h]; exact BitVec.mul_zero
      iexact HN)
  refine BIBase.Entails.trans ?_ H
  iintro HR
  isplitr
  · ipureintro
    exact ⟨fun x => rfl, fun x => rfl⟩
  iexact HR

include hC in
/-- The number of valid samples. -/
theorem total_word (a : IVec S16 32) (ha : ∀ x, a x = ∑ t ∈ Finset.range 512, C (16 * t + (x 0).val)) :
    extractAt ![15] (k1_pay33 a) inpos_S16_p15 = before v NN := by
  refine (scan_sum a (fun l => ∑ t ∈ Finset.range 512, C (16 * t + l)) ha).trans ?_
  exact (sum_windows C 16 512).symm.trans (rows_sum v C hC 8192)

include hC in
/-- The number of valid samples before the tile's. -/
theorem first_word (b : IVec S16 32) (hb : ∀ x, b x = ∑ t ∈ Finset.range 512, if t < 16 * (2 * (L 1).val + (L 0).val) then C (16 * t + (x 0).val) else 0#32) :
    extractAt ![15] (k1_pay34 b) inpos_S16_p15 = before v (base1 L) := by
  have h0 : (L 0).val < 2 := (L 0).isLt
  have h1 : (L 1).val < 16 := (L 1).isLt
  refine (scan_sum b (fun l => ∑ t ∈ Finset.range 512, if t < 16 * (2 * (L 1).val + (L 0).val) then C (16 * t + l) else 0#32) hb).trans ?_
  refine (Finset.sum_congr rfl fun l _ => sum_cut (fun t => C (16 * t + l)) (by omega)).trans ?_
  refine (sum_windows C 16 (16 * (2 * (L 1).val + (L 0).val))).symm.trans ((rows_sum v C hC _).trans (congrArg (before v) ?_))
  unfold base1
  omega

end Count

end Cert.Proof.Lookup

end
-- ==== Proof.Tile2.lean ====
/-
  The second task of a tile, from the marks, the counts, the parameters and the starts to its places of the columns and to the
  offsets and counts of its rows.
-/
module

public import proofs.«01_k».proof.Proof.Tile
public import proofs.«01_k».proof.Proof.Count

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

abbrev pLoc (d : Dev nD) : Loc nD τ sig := (SparseCore.T d).loc main_v3
abbrev sLoc (d : Dev nD) : Loc nD τ sig := (SparseCore.T d).loc main_v4
abbrev offLoc (d : Dev nD) : Loc nD τ sig := (SparseCore.T d).loc main_v5_8
abbrev cntLoc (d : Dev nD) : Loc nD τ sig := (SparseCore.T d).loc main_v5_9

theorem bound1_zero : grid1.bound 0 = 2 := rfl
theorem bound1_one : grid1.bound 1 = 16 := rfl
abbrev cL1 (L : grid1.Coords) : Fin 2 := Fin.cast bound1_zero (L 0)
abbrev jL1 (L : grid1.Coords) : Fin 16 := Fin.cast bound1_one (L 1)

/-! ## The tile's windows -/

abbrev w1V (L : grid1.Coords) : Memref sig .scVector .hbm S32768 .i32 := (vV).slice (Rect.unit (s := S1048576) (k1_off1 L) S32768.size (k1_off1_inb L)) (fun _ => rfl)
abbrev w1P (L : grid1.Coords) : Memref sig .scVector .hbm S2048 .f32 := (pV).slice (Rect.unit (s := S65536) (k1_off2 L) S2048.size (k1_off2_inb L)) (fun _ => rfl)
abbrev w1S (L : grid1.Coords) : Memref sig .scVector .hbm S32768 .f32 := (stV).slice (Rect.unit (s := S1048576) (k1_off1 L) S32768.size (k1_off1_inb L)) (fun _ => rfl)
abbrev w1O (L : grid1.Coords) : Memref sig .scVector .hbm S256 .i32 := (ioV).slice (Rect.unit (s := S8192) (k1_off10 L) S256.size (k1_off10_inb L)) (fun _ => rfl)
abbrev w1K (L : grid1.Coords) : Memref sig .scVector .hbm S256 .i32 := (icV).slice (Rect.unit (s := S8192) (k1_off10 L) S256.size (k1_off10_inb L)) (fun _ => rfl)

variable (L : grid1.Coords)

theorem offN1 (L : grid1.Coords) : k1_off1 L 0 = 32768 * (2 * (jL1 L).val + (cL1 L).val) := by
  rw [k1_off1_eq]
  show 65536 * (L 1).val + 32768 * (L 0).val = 32768 * (2 * (L 1).val + (L 0).val)
  omega
theorem offP1 (L : grid1.Coords) : k1_off2 L 0 = 2048 * (2 * (jL1 L).val + (cL1 L).val) := by
  rw [k1_off2_eq]
  show 4096 * (L 1).val + 2048 * (L 0).val = 2048 * (2 * (L 1).val + (L 0).val)
  omega
theorem offR1 (L : grid1.Coords) : k1_off10 L 0 = 256 * (2 * (jL1 L).val + (cL1 L).val) := by
  rw [k1_off10_eq]
  show 512 * (L 1).val + 256 * (L 0).val = 256 * (2 * (L 1).val + (L 0).val)
  omega

theorem set_w1V : (w1V L).view.set = blk 1048576 32768 (cL1 L) (jL1 L) := by
  show ((View.whole (main_v2_0_scv : Ref sig .scVector)).slice (Rect.unit (s := S1048576) (k1_off1 L) S32768.size (k1_off1_inb L))).set = _
  rw [View.set_slice]; exact Finset.map_refl.trans (window_blk (by decide) rfl _ _ _ _ (offN1 L))
theorem pts_w1V (d : Dev nD) (q : PosShare TreeShare) (f : Buf (Elt F) (vLoc d)) :
    ((w1V L).view.loc (thr1 d L) ↦[(w1V L).view.set]{q} f : sProp 𝕄) = vLoc d ↦[blk 1048576 32768 (cL1 L) (jL1 L)]{q} f := by rw [set_w1V]
theorem set_w1P : (w1P L).view.set = blk 65536 2048 (cL1 L) (jL1 L) := by
  show ((View.whole (main_v3_scv : Ref sig .scVector)).slice (Rect.unit (s := S65536) (k1_off2 L) S2048.size (k1_off2_inb L))).set = _
  rw [View.set_slice]; exact Finset.map_refl.trans (window_blk (by decide) rfl _ _ _ _ (offP1 L))
theorem pts_w1P (d : Dev nD) (q : PosShare TreeShare) (f : Buf (Elt F) (pLoc d)) :
    ((w1P L).view.loc (thr1 d L) ↦[(w1P L).view.set]{q} f : sProp 𝕄) = pLoc d ↦[blk 65536 2048 (cL1 L) (jL1 L)]{q} f := by rw [set_w1P]
theorem set_w1S : (w1S L).view.set = blk 1048576 32768 (cL1 L) (jL1 L) := by
  show ((View.whole (main_v4_scv : Ref sig .scVector)).slice (Rect.unit (s := S1048576) (k1_off1 L) S32768.size (k1_off1_inb L))).set = _
  rw [View.set_slice]; exact Finset.map_refl.trans (window_blk (by decide) rfl _ _ _ _ (offN1 L))
theorem pts_w1S (d : Dev nD) (q : PosShare TreeShare) (f : Buf (Elt F) (sLoc d)) :
    ((w1S L).view.loc (thr1 d L) ↦[(w1S L).view.set]{q} f : sProp 𝕄) = sLoc d ↦[blk 1048576 32768 (cL1 L) (jL1 L)]{q} f := by rw [set_w1S]
theorem set_w1O : (w1O L).view.set = blk 8192 256 (cL1 L) (jL1 L) := by
  show ((View.whole (main_v5_8_scv : Ref sig .scVector)).slice (Rect.unit (s := S8192) (k1_off10 L) S256.size (k1_off10_inb L))).set = _
  rw [View.set_slice]; exact Finset.map_refl.trans (window_blk (by decide) rfl _ _ _ _ (offR1 L))
theorem pts_w1O (d : Dev nD) (q : PosShare TreeShare) (f : Buf (Elt F) (offLoc d)) :
    ((w1O L).view.loc (thr1 d L) ↦[(w1O L).view.set]{q} f : sProp 𝕄) = offLoc d ↦[blk 8192 256 (cL1 L) (jL1 L)]{q} f := by rw [set_w1O]
theorem set_w1K : (w1K L).view.set = blk 8192 256 (cL1 L) (jL1 L) := by
  show ((View.whole (main_v5_9_scv : Ref sig .scVector)).slice (Rect.unit (s := S8192) (k1_off10 L) S256.size (k1_off10_inb L))).set = _
  rw [View.set_slice]; exact Finset.map_refl.trans (window_blk (by decide) rfl _ _ _ _ (offR1 L))
theorem pts_w1K (d : Dev nD) (q : PosShare TreeShare) (f : Buf (Elt F) (cntLoc d)) :
    ((w1K L).view.loc (thr1 d L) ↦[(w1K L).view.set]{q} f : sProp 𝕄) = cntLoc d ↦[blk 8192 256 (cL1 L) (jL1 L)]{q} f := by rw [set_w1K]

/-! ## The task's own buffers and semaphores -/

abbrev cellOf (d : Dev nD) (L : grid1.Coords) (s : DmaSem sig) : GSem nD τ sig := (thr1 d L, .dma s)
abbrev refOf (L : grid1.Coords) (r : Ref sig .scVector) : DevRef τ sig := (Proc.scVector (coreOf1 L) (subOf1 L)).devRef r

section Own

variable (d : Dev nD)

theorem ownSems0_tile2 :
    (ownSems0 (thr1 d L) : sProp 𝕄)
      = iprop(semVal (cellOf d L cc1_scratch9.sem) 0 ∗ semVal (cellOf d L cc1_scoped0.sem) 0 ∗ semVal (cellOf d L cc1_scoped1.sem) 0 ∗ semVal (cellOf d L cc1_scoped2.sem) 0 ∗ semVal (cellOf d L cc1_scoped3.sem) 0 ∗ semVal (cellOf d L cc1_scoped4.sem) 0 ∗ semVal (cellOf d L cc1_scoped5.sem) 0
          ∗ bigSep ((((((((ownCells (thr1 d L)).erase (cellOf d L cc1_scratch9.sem)).erase (cellOf d L cc1_scoped0.sem)).erase (cellOf d L cc1_scoped1.sem)).erase (cellOf d L cc1_scoped2.sem)).erase (cellOf d L cc1_scoped3.sem)).erase (cellOf d L cc1_scoped4.sem)).erase (cellOf d L cc1_scoped5.sem)) fun g => semVal g 0) := by
  have mem : ∀ s : DmaSem sig, (SemLoc.dma s : SemLoc sig).isScoped .scVector = true → ((thr1 d L, SemLoc.dma s) : GSem nD τ sig) ∈ ownCells (thr1 d L) :=
    fun s h => mem_ownCells.mpr ⟨rfl, h⟩
  have ne : ∀ s s' : DmaSem sig, s ≠ s' → ((thr1 d L, SemLoc.dma s) : GSem nD τ sig) ≠ (thr1 d L, SemLoc.dma s') := fun s s' h e =>
    h (SemLoc.dma.inj (congrArg Prod.snd e))
  unfold SparseCore.Cfg.ownSems0
  rw [SparseCore.bigSep_erase' (mem cc1_scratch9.sem (by decide)),
    SparseCore.bigSep_erase' (Finset.mem_erase.mpr ⟨ne _ _ (by decide), (mem cc1_scoped0.sem (by decide))⟩),
    SparseCore.bigSep_erase' (Finset.mem_erase.mpr ⟨ne _ _ (by decide), (Finset.mem_erase.mpr ⟨ne _ _ (by decide), (mem cc1_scoped1.sem (by decide))⟩)⟩),
    SparseCore.bigSep_erase' (Finset.mem_erase.mpr ⟨ne _ _ (by decide), (Finset.mem_erase.mpr ⟨ne _ _ (by decide), (Finset.mem_erase.mpr ⟨ne _ _ (by decide), (mem cc1_scoped2.sem (by decide))⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (mem cc1_scoped3.sem (by decide))⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (mem cc1_scoped4.sem (by decide))⟩)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (mem cc1_scoped5.sem (by decide))⟩)⟩)⟩)⟩)⟩)⟩)]

theorem ownBufs_tile2 :
    (ownBufs (thr1 d L) : sProp 𝕄)
      = iprop((∃ f, (bN).view.loc (thr1 d L) ↦{fullShare} f) ∗ (∃ f, (bV).view.loc (thr1 d L) ↦{fullShare} f) ∗ (∃ f, (bS).view.loc (thr1 d L) ↦{fullShare} f) ∗ (∃ f, (bP).view.loc (thr1 d L) ↦{fullShare} f) ∗ (∃ f, (bC).view.loc (thr1 d L) ↦{fullShare} f) ∗ (∃ f, (bD).view.loc (thr1 d L) ↦{fullShare} f) ∗ (∃ f, (bO).view.loc (thr1 d L) ↦{fullShare} f) ∗ (∃ f, (bK).view.loc (thr1 d L) ↦{fullShare} f)
          ∗ bigSep (((((((((ownRefs (τ := τ) (.scVector (coreOf1 L) (subOf1 L))).erase (refOf L cc1_scratch0)).erase (refOf L cc1_scratch1)).erase (refOf L cc1_scratch2)).erase (refOf L cc1_scratch3)).erase (refOf L cc1_scratch4)).erase (refOf L cc1_scratch5)).erase (refOf L cc1_scratch6)).erase (refOf L cc1_scratch7)) fun b => iprop(∃ f, ((d, b) : Loc nD τ sig) ↦{fullShare} f)) := by
  have mem : ∀ r : Ref sig .scVector, (refOf L r).owner = .proc (.scVector (coreOf1 L) (subOf1 L)) → refOf L r ∈ ownRefs (τ := τ) (.scVector (coreOf1 L) (subOf1 L)) :=
    fun r h => SparseCore.Cfg.mem_ownRefs_of_owner h
  have ne : ∀ r r' : Ref sig .scVector, r ≠ r' → refOf L r ≠ refOf L r' := fun r r' h e => h (Proc.devRef_injective _ e)
  unfold SparseCore.Cfg.ownBufs
  refine (SparseCore.bigSep_erase' (mem cc1_scratch0 rfl)).trans ?_
  rw [SparseCore.bigSep_erase' (Finset.mem_erase.mpr ⟨ne _ _ (by decide), (mem cc1_scratch1 rfl)⟩),
    SparseCore.bigSep_erase' (Finset.mem_erase.mpr ⟨ne _ _ (by decide), (Finset.mem_erase.mpr ⟨ne _ _ (by decide), (mem cc1_scratch2 rfl)⟩)⟩),
    SparseCore.bigSep_erase' (Finset.mem_erase.mpr ⟨ne _ _ (by decide), (Finset.mem_erase.mpr ⟨ne _ _ (by decide), (Finset.mem_erase.mpr ⟨ne _ _ (by decide), (mem cc1_scratch3 rfl)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (mem cc1_scratch4 rfl)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (mem cc1_scratch5 rfl)⟩)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (mem cc1_scratch6 rfl)⟩)⟩)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (mem cc1_scratch7 rfl)⟩)⟩)⟩)⟩)⟩)⟩)⟩)]

end Own

/-! ## The function -/

section Values

variable [FloatOps F]

abbrev ptP (i : ℕ) : S65536.Idx := pt (s := S65536) (by decide) i

/-- Value `c` of sample `p`, from the parameters of its ray and its start. -/
def valueOf (pr : S65536.Idx → F .f32) (st : S1048576.Idx → F .f32) (c : Fin 8) (p : ℕ) : F .f32 :=
  colv (fun i => pr (ptP (8 * (p / 128) + i))) (st (ptN p)) c.val

omit [FloatOps F] in
/-- A sample's values read the first seven parameters of its ray. -/
theorem colv_congr [FloatOps F] {f g : ℕ → F .f32} (s : F .f32) (c : ℕ) (h : ∀ i, i < 7 → f i = g i) : colv f s c = colv g s c := by
  unfold colv
  by_cases h1 : c < 6
  · rw [if_pos h1, if_pos h1, h c (by omega)]
  · rw [if_neg h1, if_neg h1, h 6 (by decide)]

end Values

abbrev ptQ (n : ℕ) : S2064.Idx := pt (s := S2064) (by decide) n

theorem ptQ_self (x : S2064.Idx) : ptQ (x 0).val = x := by
  funext a
  have ha : a = 0 := Subsingleton.elim (α := Fin 1) _ _
  subst ha
  exact Fin.ext (Nat.mod_eq_of_lt (x 0).isLt)

section Ends

variable [FloatOps F] (v : ℕ → BitVec 32)

omit [FloatOps F] in
/-- Where an element of a window lies, of a one-axis array. -/
theorem unit_pt {N n : ℕ} (hN : 0 < N) (off : Fin 1 → ℕ) (inb) (y : (Rect.unit (s := ⟨1, ![N]⟩) off ![n] inb).shape.Idx) (i : ℕ) (hi : off 0 + (y 0).val = i) :
    (Rect.unit (s := ⟨1, ![N]⟩) off ![n] inb).emb y = pt (s := ⟨1, ![N]⟩) (fun a => by rw [Subsingleton.elim (α := Fin 1) a 0]; exact hN) i := by
  funext a
  have ha : a = 0 := Subsingleton.elim (α := Fin 1) _ _
  subst ha
  have h := unit_val (s := ⟨1, ![N]⟩) off ![n] inb y 0
  exact Fin.ext (h.trans (hi.trans (Nat.mod_eq_of_lt (hi ▸ h ▸ ((Rect.unit (s := ⟨1, ![N]⟩) off ![n] inb).emb y 0).isLt)).symm))

theorem land_v (V : S1048576.Idx → BitVec 32) (hV : ∀ x, V x = v (x 0).val) (f : S32768.Idx → BitVec 32) :
    View.write (Elt F) (bV).view f ((w1V L).view.read (Elt F) V) Finset.univ = fun x => v (base1 L + (x 0).val) :=
  (View.write_whole_univ _ _ _).trans (funext fun x => ((View.read_apply _ _).trans (cast_eq _ _)).trans ((hV _).trans
    (congrArg v ((unit_val (s := S1048576) (k1_off1 L) S32768.size (k1_off1_inb L) x 0).trans (congrArg (· + (x 0).val) (offN1 L))))))

theorem land_s (st : S1048576.Idx → F .f32) (f : S32768.Idx → F .f32) :
    View.write (Elt F) (bS).view f ((w1S L).view.read (Elt F) st) Finset.univ = fun x => st (ptN (base1 L + (x 0).val)) :=
  (View.write_whole_univ _ _ _).trans (funext fun x => ((View.read_apply _ _).trans (cast_eq _ _)).trans
    (congrArg st (unit_pt (N := 1048576) (n := 32768) (by decide) (k1_off1 L) (k1_off1_inb L) x _ (congrArg (· + (x 0).val) (offN1 L)))))

theorem land_pr (pr : S65536.Idx → F .f32) (f : S2064.Idx → F .f32) (n : ℕ) (hn : n < 2048) :
    (bP).view.writes (Elt F) f [⟨Rect.unit ![0] S2048.size inb_S2064_S2048_0, (w1P L).view.read (Elt F) pr⟩] (ptQ n)
      = pr (ptP (2048 * (2 * (jL1 L).val + (cL1 L).val) + n)) := by
  have h := read_writes_window (N := 2064) (n := 2048) (Val := Elt F) (bP).view f ![0] inb_S2064_S2048_0 ((w1P L).view.read (Elt F) pr)
    (fun i => pr (ptP (2048 * (2 * (jL1 L).val + (cL1 L).val) + i))) (fun x => ((View.read_apply _ _).trans (cast_eq _ _)).trans
      (congrArg pr (unit_pt (N := 65536) (n := 2048) (by decide) (k1_off2 L) (k1_off2_inb L) x _ (by
        rw [offP1]
        show _ = _ + (0 + _)
        rw [Nat.zero_add])))) (ptQ n)
  have e : (ptQ n 0).val = n := Nat.mod_eq_of_lt (show n < 2064 by omega)
  rw [e] at h
  refine ((View.read_apply _ _).trans (cast_eq _ _)).symm.trans (h.trans (if_pos ⟨Nat.zero_le _, ?_⟩))
  show n < 0 + 2048
  omega

/-- A value of the tile's sample `q`, from what the tile holds. -/
theorem value_at (pr : S65536.Idx → F .f32) (st : S1048576.Idx → F .f32) (pf : ℕ → F .f32)
    (hpf : ∀ n, n < 2048 → pf n = pr (ptP (2048 * (2 * (jL1 L).val + (cL1 L).val) + n))) (c : Fin 8) (q : ℕ) (hq : q < 32768) :
    valueOf pr st c (base1 L + q) = colv (fun i => pf (8 * (q / 128) + i)) (st (ptN (base1 L + q))) c.val := by
  unfold valueOf
  refine colv_congr _ _ fun i hi => ?_
  rw [hpf _ (by omega)]
  refine congrArg (fun n => pr (ptP n)) ?_
  have e : base1 L = 32768 * (2 * (jL1 L).val + (cL1 L).val) := rfl
  omega

omit [FloatOps F] in
theorem base_word : Scalar.muli (Scalar.addi (Scalar.muli (BitVec.ofNat 32 (L 1).val) 2#32) (BitVec.ofNat 32 (L 0).val)) 32768#32 = BitVec.ofNat 32 (base1 L) := by
  have h : ∀ (a : Fin 2) (b : Fin 16), Scalar.muli (Scalar.addi (Scalar.muli (BitVec.ofNat 32 b.val) 2#32) (BitVec.ofNat 32 a.val)) 32768#32
      = BitVec.ofNat 32 (32768 * (2 * b.val + a.val)) := by decide
  exact h (L 0) (L 1)

omit [FloatOps F] in
theorem reached_none (val : Fin 8 → ℕ → F .f32) (fo : Fin 8 → S1048576.Idx → F .f32) (c : Fin 8) (x : S1048576.Idx) (hx : x ∈ tilePlaces L v) :
    fo c x = reached L v val fo 0 c x :=
  (if_neg (by have h := (Finset.mem_filter.mp hx).2; omega)).symm

omit [FloatOps F] in
theorem reached_all (val : Fin 8 → ℕ → F .f32) (fo : Fin 8 → S1048576.Idx → F .f32) (c : Fin 8) (x : S1048576.Idx) (hx : x ∈ tilePlaces L v) :
    reached L v val fo 32768 c x = val c (sampleAt v (x 0).val) :=
  if_pos (Finset.mem_filter.mp hx).2.2

omit [FloatOps F] in
theorem row_offset (y : S256.Idx) : (bO).view.read (Elt F) (fun x => before v (base1 L + 128 * (x 0).val)) y = before v (128 * (256 * (2 * (jL1 L).val + (cL1 L).val) + (y 0).val)) := by
  refine ((View.read_apply _ _).trans (cast_eq _ _)).trans (congrArg (before v) ?_)
  show 32768 * (2 * (jL1 L).val + (cL1 L).val) + 128 * (y 0).val = 128 * (256 * (2 * (jL1 L).val + (cL1 L).val) + (y 0).val)
  omega

omit [FloatOps F] in
theorem row_count (C : ℕ → BitVec 32) (y : S256.Idx) : (bK).view.read (Elt F) (fun x => C (rowBase L + (x 0).val)) y = C (256 * (2 * (jL1 L).val + (cL1 L).val) + (y 0).val) :=
  (View.read_apply _ _).trans (cast_eq _ _)

/-- What the tile writes of the offsets. -/
theorem out_off (f : S8192.Idx → BitVec 32) (w : S256.Idx → BitVec 32) (G : ℕ → BitVec 32) (hw : ∀ y, w y = G (256 * (2 * (jL1 L).val + (cL1 L).val) + (y 0).val))
    (x : S8192.Idx) (hx : x ∈ blk 8192 256 (cL1 L) (jL1 L)) :
    (w1O L).view.writes (Elt F) f [⟨Rect.whole S256, w⟩] x = G (x 0).val := by
  rw [writes_whole]
  rw [← set_w1O] at hx
  obtain ⟨y, -, rfl⟩ := Finset.mem_map.mp hx
  refine (View.write_emb_of_mem _ _ (Finset.mem_univ y)).trans ((cast_eq _ _).trans ((hw y).trans (congrArg G ?_)))
  exact ((unit_val (s := S8192) (k1_off10 L) S256.size (k1_off10_inb L) y 0).trans (congrArg (· + (y 0).val) (offR1 L))).symm

/-- What the tile writes of the counts. -/
theorem out_cnt (f : S8192.Idx → BitVec 32) (w : S256.Idx → BitVec 32) (G : ℕ → BitVec 32) (hw : ∀ y, w y = G (256 * (2 * (jL1 L).val + (cL1 L).val) + (y 0).val))
    (x : S8192.Idx) (hx : x ∈ blk 8192 256 (cL1 L) (jL1 L)) :
    (w1K L).view.writes (Elt F) f [⟨Rect.whole S256, w⟩] x = G (x 0).val := by
  rw [writes_whole]
  rw [← set_w1K] at hx
  obtain ⟨y, -, rfl⟩ := Finset.mem_map.mp hx
  refine (View.write_emb_of_mem _ _ (Finset.mem_univ y)).trans ((cast_eq _ _).trans ((hw y).trans (congrArg G ?_)))
  exact ((unit_val (s := S8192) (k1_off10 L) S256.size (k1_off10_inb L) y 0).trans (congrArg (· + (y 0).val) (offR1 L))).symm

end Ends

section Body

variable [FloatOps F] (d : Dev nD) (v C : ℕ → BitVec 32) (hv : ∀ p, v p = 0#32 ∨ v p = 1#32) (hC : ∀ r, C r = ∑ k ∈ Finset.range 128, v (128 * r + k))
  (V : S1048576.Idx → BitVec 32) (hV : ∀ x, V x = v (x 0).val) (cn : S8192.Idx → BitVec 32) (hcn : ∀ x, cn x = C (x 0).val)
  (pr : S65536.Idx → F .f32) (st : S1048576.Idx → F .f32)

set_option maxHeartbeats 1000000 in
include hv hC hV hcn in
/-- The second task of a tile. -/
theorem tile_body2 (hF : (K (F := F)).Facts) (O : CellTallies nD τ sig (HIx 2)) (W : Waits sig (HIx 2)) (hO : ∀ g, O g none = 0)
    (q : PosShare TreeShare) (fo : Fin 8 → S1048576.Idx → F .f32) (os ks : S8192.Idx → BitVec 32) :
    (iprop(levAts (K (F := F)).L (K (F := F)).lev ∗ emp
        ∗ ((vLoc d ↦[blk 1048576 32768 (cL1 L) (jL1 L)]{fullShare} V) ∗ (cLoc d ↦{q} cn) ∗ (pLoc d ↦[blk 65536 2048 (cL1 L) (jL1 L)]{fullShare} pr)
          ∗ (sLoc d ↦[blk 1048576 32768 (cL1 L) (jL1 L)]{fullShare} st) ∗ colsPts d (tilePlaces L v) fo
          ∗ (offLoc d ↦[blk 8192 256 (cL1 L) (jL1 L)]{fullShare} os) ∗ (cntLoc d ↦[blk 8192 256 (cL1 L) (jL1 L)]{fullShare} ks))
        ∗ scopedBufs (thr1 d L) ∗ scopedSems0 (thr1 d L) ∗ owes (thr1 d L) O W) : sProp 𝕄)
      ⊢ wp frame (wpE (defs₀ (F := F)) 𝒱₀ (thr1 d L) none) Set.univ
          (cc1__sc_pass2_body L vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5)
          fun _ => iprop(((vLoc d ↦[blk 1048576 32768 (cL1 L) (jL1 L)]{fullShare} V) ∗ (cLoc d ↦{q} cn) ∗ (pLoc d ↦[blk 65536 2048 (cL1 L) (jL1 L)]{fullShare} pr)
          ∗ (sLoc d ↦[blk 1048576 32768 (cL1 L) (jL1 L)]{fullShare} st) ∗ colsPts d (tilePlaces L v) (fun c y => valueOf pr st c (sampleAt v (y 0).val))
          ∗ (offLoc d ↦[blk 8192 256 (cL1 L) (jL1 L)]{fullShare} (fun x => before v (128 * (x 0).val))) ∗ (cntLoc d ↦[blk 8192 256 (cL1 L) (jL1 L)]{fullShare} (fun x => C (x 0).val)))
            ∗ scopedBufs (thr1 d L) ∗ scopedSems0 (thr1 d L)
            ∗ ∃ W', ⌜∀ p ∈ W', p ∈ W ∨ p.2 = none⌝ ∗ owes (thr1 d L) O W') := by
  simp -proj only [cc1__sc_pass2_body_eq_skeleton]
  unfold cc1__sc_pass2_body_skel
  simp -proj only [k1_part7_eq_skeleton]
  unfold k1_part7_skel
  simp -proj only [bind_assoc, pure_bind]
  rw [(K (F := F)).scopedBufs_V hF d (coreOf1 L) (subOf1 L), SparseCore.Cfg.scopedSems0_V (Val := Elt F) d (coreOf1 L) (subOf1 L), ownSems0_tile2, ownBufs_tile2]
  iintro ⟨#Hlv, -, ⟨Hv, Hc, Hp, Hst, HX, Ho, Hk⟩, ⟨⟨%fN, HN⟩, ⟨%fV, HV⟩, ⟨%fS, HS⟩, ⟨%fP, HP⟩, ⟨%fC, HC⟩, ⟨%fD, HD⟩, ⟨%fO, HOb⟩, ⟨%fK, HK⟩, Hbufs⟩,
    ⟨Hs9, HsA, HsB, HsC, HsD, HsE, HsF, Hsems⟩, HO⟩
  ihave Hmw := (show levAts (K (F := F)).L (K (F := F)).lev ⊢ Transfers.MayWaits (thr1 d L) (default : HIx 2) O from
    (K (F := F)).mayWaits_none (thr := thr1 d L) hO) $$ Hlv
  ihave Hv' := (Entails.of_eq (pts_w1V (F := F) L d _ _).symm) $$ Hv
  ihave Hp' := (Entails.of_eq (pts_w1P (F := F) L d _ _).symm) $$ Hp
  ihave Hst' := (Entails.of_eq (pts_w1S (F := F) L d _ _).symm) $$ Hst
  ihave Ho' := (Entails.of_eq (pts_w1O (F := F) L d _ _).symm) $$ Ho
  ihave Hk' := (Entails.of_eq (pts_w1K (F := F) L d _ _).symm) $$ Hk
  ihave Hc' := (show (cLoc d ↦{q} cn : sProp 𝕄) ⊢ ((cV).view.loc (thr1 d L) ↦[(cV).view.set]{q} cn) from Entails.of_eq (by
    show _ = ((cLoc d ↦[(View.whole main_v2_1_scv).set]{q} cn : sProp 𝕄))
    rw [View.set_whole])) $$ Hc
  sl_exec
  let pb : S2064.Idx → F .f32 := (bP).view.writes (Elt F) fP [⟨Rect.unit ![0] S2048.size inb_S2064_S2048_0, tile_body2.sl.dma0_3 L pr⟩]
  have hpb : ∀ n, n < 2048 → pb (ptQ n) = pr (ptP (2048 * (2 * (jL1 L).val + (cL1 L).val) + n)) := fun n hn => land_pr L pr fP n hn
  ihave HN := (Entails.of_eq (congrArg (fun c : S8192.Idx → BitVec 32 => ((bN).view.loc (thr1 d L) ↦{fullShare} c : sProp 𝕄))
    (show View.write (Elt F) (bN).view fN (tile_body2.sl.dma0 cn) Finset.univ = cn from
      (View.write_whole_univ _ _ _).trans (funext fun x => (View.read_apply _ _).trans (cast_eq _ _))))) $$ HN
  ihave HV := (Entails.of_eq (congrArg (fun c : S32768.Idx → BitVec 32 => ((bV).view.loc (thr1 d L) ↦{fullShare} c : sProp 𝕄))
    (show View.write (Elt F) (bV).view fV (tile_body2.sl.dma0_1 L V) Finset.univ = _ from land_v (F := F) L v V hV fV))) $$ HV
  ihave HS := (Entails.of_eq (congrArg (fun c : S32768.Idx → F .f32 => ((bS).view.loc (thr1 d L) ↦{fullShare} c : sProp 𝕄))
    (show View.write (Elt F) (bS).view fS (tile_body2.sl.dma0_2 L st) Finset.univ = _ from land_s L st fS))) $$ HS
  ihave HP := (show ((bP).view.loc (thr1 d L) ↦{fullShare} (bP).view.writes (Elt F) fP [⟨Rect.unit ![0] S2048.size inb_S2064_S2048_0, tile_body2.sl.dma0_3 L pr⟩] : sProp 𝕄)
    ⊢ ((bP).view.loc (thr1 d L) ↦{fullShare} pb) from .rfl) $$ HP
  clear_value pb
  rw [wp_bind]
  ihave H := (t1_loop2 L d C cn hcn) $$ [HN]
  · iexact HN
  iapply (wp_wand_r _ _ _)
  isplitl [H]; · iexact H
  iintro %r ⟨%hr, HN⟩
  rw [wp_bind]
  ihave H := (t2_loop2 L d v hv (fun x => v (base1 L + (x 0).val)) (fun x => st (ptN (base1 L + (x 0).val))) pb
      (fun q => st (ptN (base1 L + q))) (fun n => pb (ptQ n)) (valueOf pr st) (fun _ => rfl) (fun _ => rfl) (fun x => congrArg pb (ptQ_self x).symm)
      (fun c q hq => value_at L pr st (fun n => pb (ptQ n)) hpb c q hq) cn C hcn
      (Scalar.muli (Scalar.addi (Scalar.muli (BitVec.ofNat 32 (L 1).val) 2#32) (BitVec.ofNat 32 (L 0).val)) 32768#32)
      (extractAt ![15] (k1_pay33 r.1) inpos_S16_p15) (base_word L) (total_word v C hC r.1 hr.1) (extractAt ![15] (k1_pay34 r.2) inpos_S16_p15)
      (first_word L v C hC r.2 hr.2) fO fK fo (O := O) (W := W)) $$ [HV HS HP HD HC HX Hs9 HO HN HOb HK]
  · isplitl [HV HS HP HD HC HX Hs9 HO]
    · isplitr; · iexact Hmw
      isplitl [HV]; · iexact HV
      isplitl [HS]; · iexact HS
      isplitl [HP]; · iexact HP
      isplitl [HD]; · iexists _; iexact HD
      isplitl [HC]; · iexists _; iexact HC
      isplitl [HX]
      · iapply (Entails.of_eq (colsPts_congr d (reached_none L v (valueOf pr st) fo))) $$ HX
      isplitl [Hs9]; · iexact Hs9
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact .inl hp
    isplitl [HN]; · iexact HN
    isplitl [HOb]; · iexact HOb
    iexact HK
  iapply (wp_wand_r _ _ _)
  isplitl [H]; · iexact H
  iintro %_ ⟨⟨-, HV, HS, HP, ⟨%fD', HD⟩, ⟨%fC', HC⟩, HX, Hs9, %W₁, %hW₁, HO⟩, HN, HOb, HK⟩
  sl_exec
  sl_step
  isplitl [Hv' Hc' Hp' Hst' HX Ho' Hk']
  · isplitl [Hv']; · iapply (Entails.of_eq (pts_w1V (F := F) L d _ _)); iexact Hv'
    isplitl [Hc']
    · iapply (show ((cV).view.loc (thr1 d L) ↦[(cV).view.set]{q} cn : sProp 𝕄) ⊢ (cLoc d ↦{q} cn) from Entails.of_eq (by
        show ((cLoc d ↦[(View.whole main_v2_1_scv).set]{q} cn : sProp 𝕄)) = _
        rw [View.set_whole])) $$ Hc'
    isplitl [Hp']; · iapply (Entails.of_eq (pts_w1P (F := F) L d _ _)); iexact Hp'
    isplitl [Hst']; · iapply (Entails.of_eq (pts_w1S (F := F) L d _ _)); iexact Hst'
    isplitl [HX]
    · iapply (Entails.of_eq (colsPts_congr d (reached_all L v (valueOf pr st) fo))) $$ HX
    isplitl [Ho']
    · ihave Ho' := (Entails.of_eq (pts_w1O (F := F) L d _ _)) $$ Ho'
      iapply (Entails.of_eq (pointsTo_congr (ℓ := offLoc d) (I := blk 8192 256 (cL1 L) (jL1 L))
        (out_off L os (tile_body2.sl.dma0_4 L d v) (fun i => before v (128 * i)) (fun y => by unfold tile_body2.sl.dma0_4; exact row_offset (F := F) L v y)))) $$ Ho'
    · ihave Hk' := (Entails.of_eq (pts_w1K (F := F) L d _ _)) $$ Hk'
      iapply (Entails.of_eq (pointsTo_congr (ℓ := cntLoc d) (I := blk 8192 256 (cL1 L) (jL1 L))
        (out_cnt L ks (tile_body2.sl.dma0_5 L d C) C (fun y => by unfold tile_body2.sl.dma0_5; exact row_count (F := F) L C y)))) $$ Hk'
  isplitl [HN HV HS HP HC HD HOb HK Hbufs]
  · isplitl [HN]; · iexists _; iexact HN
    isplitl [HV]; · iexists _; iexact HV
    isplitl [HS]; · iexists _; iexact HS
    isplitl [HP]; · iexists _; iexact HP
    isplitl [HC]; · iexists _; iexact HC
    isplitl [HD]; · iexists _; iexact HD
    isplitl [HOb]; · iexists _; iexact HOb
    isplitl [HK]; · iexists _; iexact HK
    iexact Hbufs
  isplitl [Hs9 HsA HsB HsC HsD HsE HsF Hsems]
  · isplitl [Hs9]; · iexact Hs9
    isplitl [HsA]; · iexact HsA
    isplitl [HsB]; · iexact HsB
    isplitl [HsC]; · iexact HsC
    isplitl [HsD]; · iexact HsD
    isplitl [HsE]; · iexact HsE
    isplitl [HsF]; · iexact HsF
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW₁ p hp

end Body

end Cert.Proof.Lookup

end
-- ==== Proof.Launch.lean ====
/-
  The launch of the two calls. Each array goes out in 32 parts, a tile's samples and rays to each tile; the densities and the counts
  go out in shares, one to every tile; of the columns a tile takes the places its samples go to.
-/
module

public import proofs.«01_k».proof.Proof.Tile2

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.StreamBatch

variable {F : FTy → Type}

local notation "𝕄" => MT nD τ sig (HIx 2) (Elt F) ℕ UU ℕ

local notation "iV" => (Memref.whole Cert.KernelIdeal.main_v0_scv : Memref Cert.KernelIdeal.sig Kind.scVector Space.hbm Cert.KernelIdeal.S1048576 EltTy.i32)
local notation "tV" => (Memref.whole Cert.KernelIdeal.main_v1_scv : Memref Cert.KernelIdeal.sig Kind.scVector Space.hbm Cert.KernelIdeal.S1048576 EltTy.f32)
local notation "gV" => (Memref.whole Cert.KernelIdeal.main_arg2_scv : Memref Cert.KernelIdeal.sig Kind.scVector Space.hbm Cert.KernelIdeal.S2097152 EltTy.f32)
local notation "vV" => (Memref.whole Cert.KernelIdeal.main_v2_0_scv : Memref Cert.KernelIdeal.sig Kind.scVector Space.hbm Cert.KernelIdeal.S1048576 EltTy.i32)
local notation "cV" => (Memref.whole Cert.KernelIdeal.main_v2_1_scv : Memref Cert.KernelIdeal.sig Kind.scVector Space.hbm Cert.KernelIdeal.S8192 EltTy.i32)
local notation "sI" => (Memref.whole Cert.KernelIdeal.cc0_scratch0 : Memref Cert.KernelIdeal.sig Kind.scVector Space.vmem Cert.KernelIdeal.S32768 EltTy.i32)
local notation "sT" => (Memref.whole Cert.KernelIdeal.cc0_scratch1 : Memref Cert.KernelIdeal.sig Kind.scVector Space.vmem Cert.KernelIdeal.S32768 EltTy.f32)
local notation "sD" => (Memref.whole Cert.KernelIdeal.cc0_scratch2 : Memref Cert.KernelIdeal.sig Kind.scVector Space.vmem Cert.KernelIdeal.S32768 EltTy.f32)
local notation "sC" => (Memref.whole Cert.KernelIdeal.cc0_scratch3 : Memref Cert.KernelIdeal.sig Kind.scVector Space.vmem Cert.KernelIdeal.S256 EltTy.i32)
local notation "pV" => (Memref.whole Cert.KernelIdeal.main_v3_scv : Memref Cert.KernelIdeal.sig Kind.scVector Space.hbm Cert.KernelIdeal.S65536 EltTy.f32)
local notation "stV" => (Memref.whole Cert.KernelIdeal.main_v4_scv : Memref Cert.KernelIdeal.sig Kind.scVector Space.hbm Cert.KernelIdeal.S1048576 EltTy.f32)
local notation "o0" => (Memref.whole Cert.KernelIdeal.main_v5_0_scv : Memref Cert.KernelIdeal.sig Kind.scVector Space.hbm Cert.KernelIdeal.S1048576 EltTy.f32)
local notation "o1" => (Memref.whole Cert.KernelIdeal.main_v5_1_scv : Memref Cert.KernelIdeal.sig Kind.scVector Space.hbm Cert.KernelIdeal.S1048576 EltTy.f32)
local notation "o2" => (Memref.whole Cert.KernelIdeal.main_v5_2_scv : Memref Cert.KernelIdeal.sig Kind.scVector Space.hbm Cert.KernelIdeal.S1048576 EltTy.f32)
local notation "o3" => (Memref.whole Cert.KernelIdeal.main_v5_3_scv : Memref Cert.KernelIdeal.sig Kind.scVector Space.hbm Cert.KernelIdeal.S1048576 EltTy.f32)
local notation "o4" => (Memref.whole Cert.KernelIdeal.main_v5_4_scv : Memref Cert.KernelIdeal.sig Kind.scVector Space.hbm Cert.KernelIdeal.S1048576 EltTy.f32)
local notation "o5" => (Memref.whole Cert.KernelIdeal.main_v5_5_scv : Memref Cert.KernelIdeal.sig Kind.scVector Space.hbm Cert.KernelIdeal.S1048576 EltTy.f32)
local notation "o6" => (Memref.whole Cert.KernelIdeal.main_v5_6_scv : Memref Cert.KernelIdeal.sig Kind.scVector Space.hbm Cert.KernelIdeal.S1048576 EltTy.f32)
local notation "o7" => (Memref.whole Cert.KernelIdeal.main_v5_7_scv : Memref Cert.KernelIdeal.sig Kind.scVector Space.hbm Cert.KernelIdeal.S1048576 EltTy.f32)
local notation "ioV" => (Memref.whole Cert.KernelIdeal.main_v5_8_scv : Memref Cert.KernelIdeal.sig Kind.scVector Space.hbm Cert.KernelIdeal.S8192 EltTy.i32)
local notation "icV" => (Memref.whole Cert.KernelIdeal.main_v5_9_scv : Memref Cert.KernelIdeal.sig Kind.scVector Space.hbm Cert.KernelIdeal.S8192 EltTy.i32)
local notation "bN" => (Memref.whole Cert.KernelIdeal.cc1_scratch0 : Memref Cert.KernelIdeal.sig Kind.scVector Space.vmem Cert.KernelIdeal.S8192 EltTy.i32)
local notation "bV" => (Memref.whole Cert.KernelIdeal.cc1_scratch1 : Memref Cert.KernelIdeal.sig Kind.scVector Space.vmem Cert.KernelIdeal.S32768 EltTy.i32)
local notation "bS" => (Memref.whole Cert.KernelIdeal.cc1_scratch2 : Memref Cert.KernelIdeal.sig Kind.scVector Space.vmem Cert.KernelIdeal.S32768 EltTy.f32)
local notation "bP" => (Memref.whole Cert.KernelIdeal.cc1_scratch3 : Memref Cert.KernelIdeal.sig Kind.scVector Space.vmem Cert.KernelIdeal.S2064 EltTy.f32)
local notation "bC" => (Memref.whole Cert.KernelIdeal.cc1_scratch4 : Memref Cert.KernelIdeal.sig Kind.scVector Space.vmem Cert.KernelIdeal.S1024 EltTy.f32)
local notation "bD" => (Memref.whole Cert.KernelIdeal.cc1_scratch5 : Memref Cert.KernelIdeal.sig Kind.scVector Space.vmem Cert.KernelIdeal.S1x128 EltTy.i32)
local notation "bO" => (Memref.whole Cert.KernelIdeal.cc1_scratch6 : Memref Cert.KernelIdeal.sig Kind.scVector Space.vmem Cert.KernelIdeal.S256 EltTy.i32)
local notation "bK" => (Memref.whole Cert.KernelIdeal.cc1_scratch7 : Memref Cert.KernelIdeal.sig Kind.scVector Space.vmem Cert.KernelIdeal.S256 EltTy.i32)

variable (m : (ℓ : Loc nD τ sig) → Buf (Elt F) ℓ) (ρ : Dev nD → PrngReg)

/-! ## The arrays split over the SparseCores and the tiles -/

abbrev coreN (c : Fin 2) := coreSet 1048576 32768 c
abbrev coreR (c : Fin 2) := coreSet 8192 256 c
abbrev blkN (c : Fin 2) (i : Fin 16) := blk 1048576 32768 c i
abbrev blkR (c : Fin 2) (i : Fin 16) := blk 8192 256 c i
/-- A SparseCore's share of the densities, and a tile's. -/
abbrev shC (c : Fin 2) : PosShare TreeShare := pieceOf fullShare 2 (by decide) c
abbrev shT (c : Fin 2) (i : Fin 16) : PosShare TreeShare := pieceOf (shC c) 16 (by decide) i

variable [FloatOps F]

/-- What the program leaves in the marks and the counts, from the launch memory. -/
abbrev marksOf (d : Dev nD) : S1048576.Idx → BitVec 32 := validF (F := F) (m (iLoc d)) (m (tLoc d)) (m (gLoc d))
abbrev countsOf (d : Dev nD) : S8192.Idx → BitVec 32 := counts (F := F) (m (iLoc d)) (m (tLoc d)) (m (gLoc d))

/-- The five arrays: whole, a SparseCore's part of them, a tile's. -/
abbrev allPts (d : Dev nD) (v : S1048576.Idx → BitVec 32) (c : S8192.Idx → BitVec 32) : sProp 𝕄 :=
  iprop((iLoc d ↦{fullShare} m (iLoc d)) ∗ (tLoc d ↦{fullShare} m (tLoc d)) ∗ (gLoc d ↦{fullShare} m (gLoc d)) ∗ (vLoc d ↦{fullShare} v) ∗ (cLoc d ↦{fullShare} c))
abbrev corePts (d : Dev nD) (v : S1048576.Idx → BitVec 32) (c : S8192.Idx → BitVec 32) (k : Fin 2) : sProp 𝕄 :=
  iprop((iLoc d ↦[coreN k]{fullShare} m (iLoc d)) ∗ (tLoc d ↦[coreN k]{fullShare} m (tLoc d)) ∗ (gLoc d ↦{shC k} m (gLoc d)) ∗ (vLoc d ↦[coreN k]{fullShare} v)
    ∗ (cLoc d ↦[coreR k]{fullShare} c))
abbrev tilePts (d : Dev nD) (v : S1048576.Idx → BitVec 32) (c : S8192.Idx → BitVec 32) (k : Fin 2) (i : Fin 16) : sProp 𝕄 :=
  iprop((iLoc d ↦[blkN k i]{fullShare} m (iLoc d)) ∗ (tLoc d ↦[blkN k i]{fullShare} m (tLoc d)) ∗ (gLoc d ↦{shT k i} m (gLoc d)) ∗ (vLoc d ↦[blkN k i]{fullShare} v)
    ∗ (cLoc d ↦[blkR k i]{fullShare} c))

omit [FloatOps F] in
theorem allPts_split (d : Dev nD) (v : S1048576.Idx → BitVec 32) (c : S8192.Idx → BitVec 32) :
    allPts m d v c = bigSep Finset.univ fun k : Fin 2 => corePts m d v c k := by
  rw [bigSep_sep', bigSep_sep', bigSep_sep', bigSep_sep']
  exact congrArg₂ _ (pointsTo_fiber (ℓ := iLoc d) Finset.univ (coreKey 32768) _ _)
    (congrArg₂ _ (pointsTo_fiber (ℓ := tLoc d) Finset.univ (coreKey 32768) _ _)
      (congrArg₂ _ (pointsTo_shares (ℓ := gLoc d) _ (o := 2) (by decide) fullShare)
        (congrArg₂ _ (pointsTo_fiber (ℓ := vLoc d) Finset.univ (coreKey 32768) _ _)
          (pointsTo_fiber (ℓ := cLoc d) Finset.univ (coreKey 256) _ _))))

omit [FloatOps F] in
theorem corePts_split (d : Dev nD) (v : S1048576.Idx → BitVec 32) (c : S8192.Idx → BitVec 32) (k : Fin 2) :
    corePts m d v c k = bigSep Finset.univ fun i : Fin 16 => tilePts m d v c k i := by
  rw [bigSep_sep', bigSep_sep', bigSep_sep', bigSep_sep']
  exact congrArg₂ _ (pointsTo_fiber (ℓ := iLoc d) (coreN k) (subKey 32768) _ _)
    (congrArg₂ _ (pointsTo_fiber (ℓ := tLoc d) (coreN k) (subKey 32768) _ _)
      (congrArg₂ _ (pointsTo_shares (ℓ := gLoc d) _ (o := 16) (by decide) (shC k))
        (congrArg₂ _ (pointsTo_fiber (ℓ := vLoc d) (coreN k) (subKey 32768) _ _)
          (pointsTo_fiber (ℓ := cLoc d) (coreR k) (subKey 256) _ _))))

/-! ## The arrays of the second call -/

abbrev coreP (c : Fin 2) := coreSet 65536 2048 c
abbrev blkP (c : Fin 2) (i : Fin 16) := blk 65536 2048 c i

/-- The marks and the counts at a sample's and a ray's number. -/
abbrev vOf (d : Dev nD) : ℕ → BitVec 32 := valid (F := F) (m (iLoc d)) (m (tLoc d)) (m (gLoc d))
abbrev nOf (d : Dev nD) : ℕ → BitVec 32 := count (F := F) (m (iLoc d)) (m (tLoc d)) (m (gLoc d))

theorem vOf_bit (d : Dev nD) (p : ℕ) : vOf m d p = 0#32 ∨ vOf m d p = 1#32 := by
  unfold vOf valid mark Scalar.select
  split
  · exact .inr rfl
  · exact .inl rfl

/-- The columns at the launch. -/
def colsAt (d : Dev nD) : Fin 8 → S1048576.Idx → F .f32
  | 0 => m ((SparseCore.T d).loc main_v5_0)
  | 1 => m ((SparseCore.T d).loc main_v5_1)
  | 2 => m ((SparseCore.T d).loc main_v5_2)
  | 3 => m ((SparseCore.T d).loc main_v5_3)
  | 4 => m ((SparseCore.T d).loc main_v5_4)
  | 5 => m ((SparseCore.T d).loc main_v5_5)
  | 6 => m ((SparseCore.T d).loc main_v5_6)
  | 7 => m ((SparseCore.T d).loc main_v5_7)
/-- What the program leaves in the columns, the offsets and the copied counts. -/
def colsOf (d : Dev nD) (c : Fin 8) (y : S1048576.Idx) : F .f32 := valueOf (m (pLoc d)) (m (sLoc d)) c (sampleAt (vOf m d) (y 0).val)
def offsOf (d : Dev nD) (x : S8192.Idx) : BitVec 32 := before (vOf m d) (128 * (x 0).val)
def rowsOf (d : Dev nD) (x : S8192.Idx) : BitVec 32 := nOf m d (x 0).val

/-- The tile a place's sample belongs to, and the places of a SparseCore and of a tile. -/
def placeCore (d : Dev nD) (y : S1048576.Idx) : Fin 2 := coreKey 32768 (ptN (sampleAt (vOf m d) (y 0).val))
def placeSub (d : Dev nD) (y : S1048576.Idx) : Fin 16 := subKey 32768 (ptN (sampleAt (vOf m d) (y 0).val))
def coreC (d : Dev nD) (k : Fin 2) : Finset S1048576.Idx := Finset.univ.filter fun y => placeCore m d y = k
def blkC (d : Dev nD) (k : Fin 2) (i : Fin 16) : Finset S1048576.Idx := (coreC m d k).filter fun y => placeSub m d y = i

theorem blkC_eq (d : Dev nD) (L : grid1.Coords) : blkC m d (cL1 L) (jL1 L) = tilePlaces L (vOf m d) := by
  ext y
  have hy : (y 0).val < NN := (y 0).isLt
  have hs := sampleAt_lt (vOf m d) (vOf_bit m d) hy
  have e : (ptN (sampleAt (vOf m d) (y 0).val) 0).val = sampleAt (vOf m d) (y 0).val := Nat.mod_eq_of_lt hs
  have h := mem_blk (N := 1048576) (b := 32768) (by decide) rfl (cL1 L) (jL1 L) (ptN (sampleAt (vOf m d) (y 0).val))
  rw [e] at h
  have h1 : y ∈ blkC m d (cL1 L) (jL1 L) ↔ ptN (sampleAt (vOf m d) (y 0).val) ∈ blk 1048576 32768 (cL1 L) (jL1 L) := by
    unfold blkC coreC blk coreSet placeCore placeSub
    rw [Finset.mem_filter, Finset.mem_filter, Finset.mem_filter, Finset.mem_filter]
    exact ⟨fun h => ⟨⟨Finset.mem_univ _, h.1.2⟩, h.2⟩, fun h => ⟨⟨Finset.mem_univ _, h.1.2⟩, h.2⟩⟩
  refine h1.trans (h.trans ?_)
  unfold tilePlaces
  rw [Finset.mem_filter]
  exact ⟨fun h => ⟨Finset.mem_univ _, h⟩, fun h => h.2⟩

omit [FloatOps F] in
/-- Columns on some places are those on the places of each class. -/
theorem colsPts_fiber {n : ℕ} (d : Dev nD) (S : Finset S1048576.Idx) (key : S1048576.Idx → Fin n) (f : Fin 8 → S1048576.Idx → F .f32) :
    (colsPts d S f : sProp 𝕄) = bigSep Finset.univ fun i : Fin n => colsPts d (S.filter fun x => key x = i) f := by
  have hS : S = Finset.univ.biUnion fun i : Fin n => S.filter fun x => key x = i := by
    ext x
    simp only [Finset.mem_biUnion, Finset.mem_univ, true_and, Finset.mem_filter, exists_and_left, exists_eq', and_true]
  have hD : ∀ i ∈ (Finset.univ : Finset (Fin n)), ∀ j ∈ (Finset.univ : Finset (Fin n)), i ≠ j →
      Disjoint (S.filter fun x => key x = i) (S.filter fun x => key x = j) := fun i _ j _ h =>
    Finset.disjoint_filter.mpr fun x _ h1 h2 => h (h1.symm.trans h2)
  unfold colsPts
  refine (congrArg (bigSep Finset.univ) (funext fun c => ?_)).trans (BI.bigSep_univ_comm _)
  exact (congrArg (fun I => colPts d c I (f c)) hS).trans (colPts_biUnion d c _ hD (f c))

/-- The arrays of the second call: whole, a SparseCore's part, a tile's. -/
abbrev allPts2 (d : Dev nD) (f : Fin 8 → S1048576.Idx → F .f32) (os ks : S8192.Idx → BitVec 32) : sProp 𝕄 :=
  iprop((vLoc d ↦{fullShare} marksOf m d) ∗ (cLoc d ↦{fullShare} countsOf m d) ∗ (pLoc d ↦{fullShare} m (pLoc d)) ∗ (sLoc d ↦{fullShare} m (sLoc d))
    ∗ colsPts d Finset.univ f ∗ (offLoc d ↦{fullShare} os) ∗ cntLoc d ↦{fullShare} ks)
abbrev corePts2 (d : Dev nD) (f : Fin 8 → S1048576.Idx → F .f32) (os ks : S8192.Idx → BitVec 32) (k : Fin 2) : sProp 𝕄 :=
  iprop((vLoc d ↦[coreN k]{fullShare} marksOf m d) ∗ (cLoc d ↦{shC k} countsOf m d) ∗ (pLoc d ↦[coreP k]{fullShare} m (pLoc d)) ∗ (sLoc d ↦[coreN k]{fullShare} m (sLoc d))
    ∗ colsPts d (coreC m d k) f ∗ (offLoc d ↦[coreR k]{fullShare} os) ∗ cntLoc d ↦[coreR k]{fullShare} ks)
abbrev tilePts2 (d : Dev nD) (f : Fin 8 → S1048576.Idx → F .f32) (os ks : S8192.Idx → BitVec 32) (k : Fin 2) (i : Fin 16) : sProp 𝕄 :=
  iprop((vLoc d ↦[blkN k i]{fullShare} marksOf m d) ∗ (cLoc d ↦{shT k i} countsOf m d) ∗ (pLoc d ↦[blkP k i]{fullShare} m (pLoc d)) ∗ (sLoc d ↦[blkN k i]{fullShare} m (sLoc d))
    ∗ colsPts d (blkC m d k i) f ∗ (offLoc d ↦[blkR k i]{fullShare} os) ∗ cntLoc d ↦[blkR k i]{fullShare} ks)

theorem allPts2_split (d : Dev nD) (f : Fin 8 → S1048576.Idx → F .f32) (os ks : S8192.Idx → BitVec 32) :
    allPts2 m d f os ks = bigSep Finset.univ fun k : Fin 2 => corePts2 m d f os ks k := by
  rw [bigSep_sep', bigSep_sep', bigSep_sep', bigSep_sep', bigSep_sep', bigSep_sep']
  exact congrArg₂ _ (pointsTo_fiber (ℓ := vLoc d) Finset.univ (coreKey 32768) _ _)
    (congrArg₂ _ (pointsTo_shares (ℓ := cLoc d) _ (o := 2) (by decide) fullShare)
      (congrArg₂ _ (pointsTo_fiber (ℓ := pLoc d) Finset.univ (coreKey 2048) _ _)
        (congrArg₂ _ (pointsTo_fiber (ℓ := sLoc d) Finset.univ (coreKey 32768) _ _)
          (congrArg₂ _ (colsPts_fiber d Finset.univ (placeCore m d) f)
            (congrArg₂ _ (pointsTo_fiber (ℓ := offLoc d) Finset.univ (coreKey 256) _ _)
              (pointsTo_fiber (ℓ := cntLoc d) Finset.univ (coreKey 256) _ _))))))

theorem corePts2_split (d : Dev nD) (f : Fin 8 → S1048576.Idx → F .f32) (os ks : S8192.Idx → BitVec 32) (k : Fin 2) :
    corePts2 m d f os ks k = bigSep Finset.univ fun i : Fin 16 => tilePts2 m d f os ks k i := by
  rw [bigSep_sep', bigSep_sep', bigSep_sep', bigSep_sep', bigSep_sep', bigSep_sep']
  exact congrArg₂ _ (pointsTo_fiber (ℓ := vLoc d) (coreN k) (subKey 32768) _ _)
    (congrArg₂ _ (pointsTo_shares (ℓ := cLoc d) _ (o := 16) (by decide) (shC k))
      (congrArg₂ _ (pointsTo_fiber (ℓ := pLoc d) (coreP k) (subKey 2048) _ _)
        (congrArg₂ _ (pointsTo_fiber (ℓ := sLoc d) (coreN k) (subKey 32768) _ _)
          (congrArg₂ _ (colsPts_fiber d (coreC m d k) (placeSub m d) f)
            (congrArg₂ _ (pointsTo_fiber (ℓ := offLoc d) (coreR k) (subKey 256) _ _)
              (pointsTo_fiber (ℓ := cntLoc d) (coreR k) (subKey 256) _ _))))))

/-- What the second call finds, and what it leaves. -/
abbrev tileIn (d : Dev nD) (k : Fin 2) (i : Fin 16) : sProp 𝕄 := tilePts2 m d (colsAt m d) (m (offLoc d)) (m (cntLoc d)) k i
abbrev tileOut (d : Dev nD) (k : Fin 2) (i : Fin 16) : sProp 𝕄 := tilePts2 m d (colsOf m d) (offsOf m d) (rowsOf m d) k i
abbrev coreIn (d : Dev nD) (k : Fin 2) : sProp 𝕄 := corePts2 m d (colsAt m d) (m (offLoc d)) (m (cntLoc d)) k
abbrev coreOut (d : Dev nD) (k : Fin 2) : sProp 𝕄 := corePts2 m d (colsOf m d) (offsOf m d) (rowsOf m d) k

/-! ## What the handshakes carry -/

def P : (K (F := F)).Pay (nD := nD) (Val := Elt F) (Name := ℕ) (U := UU) where
  st := fun q d c => match q with
    | 0 => corePts m d (m (vLoc d)) (m (cLoc d)) (Fin.cast nCore_zero c)
    | 1 => coreIn m d (Fin.cast nCore_one c)
  dn := fun q d c => match q with
    | 0 => corePts m d (marksOf m d) (countsOf m d) (Fin.cast nCore_zero c)
    | 1 => coreOut m d (Fin.cast nCore_one c)
  go := fun q d c i => match q with
    | 0 => tilePts m d (m (vLoc d)) (m (cLoc d)) (Fin.cast nCore_zero c) (Fin.cast nSub_zero i)
    | 1 => tileIn m d (Fin.cast nCore_one c) (Fin.cast nSub_one i)
  td := fun q d c i => match q with
    | 0 => tilePts m d (marksOf m d) (countsOf m d) (Fin.cast nCore_zero c) (Fin.cast nSub_zero i)
    | 1 => tileOut m d (Fin.cast nCore_one c) (Fin.cast nSub_one i)
  x := fun _ _ => iprop(emp)

instance colsPts_storable (d : Dev nD) (I : Finset S1048576.Idx) (f : Fin 8 → S1048576.Idx → F .f32) :
    BI.Storable (upEmb : UEmb _ 𝕄) (colsPts (F := F) d I f) := by
  unfold colsPts; infer_instance

instance P_storable : (P (F := F) m).IsStorable where
  st q d c := match q with
    | 0 => (inferInstance : BI.Storable (upEmb : UEmb _ 𝕄) (corePts m d (m (vLoc d)) (m (cLoc d)) (Fin.cast nCore_zero c)))
    | 1 => (inferInstance : BI.Storable (upEmb : UEmb _ 𝕄) (coreIn m d (Fin.cast nCore_one c)))
  dn q d c := match q with
    | 0 => (inferInstance : BI.Storable (upEmb : UEmb _ 𝕄) (corePts m d (marksOf m d) (countsOf m d) (Fin.cast nCore_zero c)))
    | 1 => (inferInstance : BI.Storable (upEmb : UEmb _ 𝕄) (coreOut m d (Fin.cast nCore_one c)))
  go q d c i := match q with
    | 0 => (inferInstance : BI.Storable (upEmb : UEmb _ 𝕄) (tilePts m d (m (vLoc d)) (m (cLoc d)) (Fin.cast nCore_zero c) (Fin.cast nSub_zero i)))
    | 1 => (inferInstance : BI.Storable (upEmb : UEmb _ 𝕄) (tileIn m d (Fin.cast nCore_one c) (Fin.cast nSub_one i)))
  td q d c i := match q with
    | 0 => (inferInstance : BI.Storable (upEmb : UEmb _ 𝕄) (tilePts m d (marksOf m d) (countsOf m d) (Fin.cast nCore_zero c) (Fin.cast nSub_zero i)))
    | 1 => (inferInstance : BI.Storable (upEmb : UEmb _ 𝕄) (tileOut m d (Fin.cast nCore_one c) (Fin.cast nSub_one i)))

/-- Every index names a cell of the grid. -/
def InGrid : Prop := ∀ (d : Dev nD) (x : S1048576.Idx), (m (iLoc d) x : BitVec 32).toNat < 2097152

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__sc_pass2_body (coordsV1 c s) vV (Memref.isWhole_whole _) cV (Memref.isWhole_whole _) pV (Memref.isWhole_whole _) stV (Memref.isWhole_whole _) o0 (Memref.isWhole_whole _) o1 (Memref.isWhole_whole _) o2 (Memref.isWhole_whole _) o3 (Memref.isWhole_whole _) o4 (Memref.isWhole_whole _) o5 (Memref.isWhole_whole _) o6 (Memref.isWhole_whole _) o7 (Memref.isWhole_whole _) ioV (Memref.isWhole_whole _) icV (Memref.isWhole_whole _) bN (Memref.isWhole_whole _) bV (Memref.isWhole_whole _) bS (Memref.isWhole_whole _) bP (Memref.isWhole_whole _) bC (Memref.isWhole_whole _) bD (Memref.isWhole_whole _) bO (Memref.isWhole_whole _) bK (Memref.isWhole_whole _)
            cc1_scratch8 cc1_scratch9 cc1_scoped0 cc1_scoped1 cc1_scoped2 cc1_scoped3 cc1_scoped4 cc1_scoped5) ⟨⟩ c s := rfl

theorem defs₀_vector (c : Fin τ.nSC) (s : Fin τ.nSub) :
    defs₀ (F := F) (.scVector c s) 0 ()
      = SparseCore.onTile hcore0 hsub0 (fun c s => cc0__sc_pass1_body (coordsV c s)
          iV (Memref.isWhole_whole _) tV (Memref.isWhole_whole _) gV (Memref.isWhole_whole _) vV (Memref.isWhole_whole _) cV (Memref.isWhole_whole _)
            sI (Memref.isWhole_whole _) sT (Memref.isWhole_whole _) sD (Memref.isWhole_whole _) sC (Memref.isWhole_whole _)
            cc0_scratch4 cc0_scratch5 cc0_scoped0 cc0_scoped1 cc0_scoped2 cc0_scoped3) ⟨⟩ c s := rfl

omit [FloatOps F] in
/-- A task's waits are its own. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InGrid m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (coordsV ⟨_, hci.1⟩ ⟨_, hci.2⟩) d (m (iLoc d)) (m (tLoc d)) (m (gLoc d)) hF O W hO
    (shT (Fin.cast nCore_zero c) (Fin.cast nSub_zero i)) (hpre d) (m (vLoc d)) (m (cLoc d))).trans (wp_mono frame _ _ fun _ => obl_post)

set_option maxRecDepth 16384 in
theorem tileObl1 (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  have h := tile_body2 (coordsV1 ⟨_, hci.1⟩ ⟨_, hci.2⟩) d (vOf m d) (nOf m d) (vOf_bit m d) (fun _ => rfl) (marksOf m d) (fun _ => rfl) (countsOf m d) (fun _ => rfl)
    (m (pLoc d)) (m (sLoc d)) hF O W hO (shT (Fin.cast nCore_one c) (Fin.cast nSub_one i)) (colsAt m d) (m (offLoc d)) (m (cntLoc d))
  rw [← blkC_eq] at h
  exact h.trans (wp_mono frame _ _ fun _ => obl_post)

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem bigSep_tiles1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)
omit [FloatOps F] in
theorem bigSep_cores1 (Φ : Fin 2 → sProp 𝕄) :
    (bigSep Finset.univ fun i : Fin ((K (F := F)).nCore 1) => Φ (Fin.cast nCore_one i)) = bigSep Finset.univ Φ :=
  bigSep_congr fun _ _ => congrArg Φ (Fin.ext rfl)

theorem vecSplit1 : (K (F := F)).VecSplit' (P m) 1 := by
  intro d c
  show coreIn m d (Fin.cast nCore_one c) ⊢ |={Set.univ}=> iprop(
      (bigSep Finset.univ fun i : Fin ((K (F := F)).nSub 1) => tileIn m d (Fin.cast nCore_one c) (Fin.cast nSub_one i))
      ∗ ((bigSep Finset.univ fun i : Fin ((K (F := F)).nSub 1) => tileOut m d (Fin.cast nCore_one c) (Fin.cast nSub_one i))
          -∗ coreOut m d (Fin.cast nCore_one c)))
  rw [bigSep_tiles1 (F := F) (fun i => tileIn m d (Fin.cast nCore_one c) i),
    bigSep_tiles1 (F := F) (fun i => tileOut m d (Fin.cast nCore_one c) i), show coreIn m d (Fin.cast nCore_one c) = _ from corePts2_split m d _ _ _ _,
    show coreOut m d (Fin.cast nCore_one c) = _ from corePts2_split m d _ _ _ _]
  iintro H; imodintro
  isplitl [H]; · iexact H
  iintro H
  iexact H

theorem vecSplit : (K (F := F)).VecSplit' (P m) 0 := by
  intro d c
  show corePts m d (m (vLoc d)) (m (cLoc d)) (Fin.cast nCore_zero c) ⊢ |={Set.univ}=> iprop(
      (bigSep Finset.univ fun i : Fin ((K (F := F)).nSub 0) => tilePts m d (m (vLoc d)) (m (cLoc d)) (Fin.cast nCore_zero c) (Fin.cast nSub_zero i))
      ∗ ((bigSep Finset.univ fun i : Fin ((K (F := F)).nSub 0) => tilePts m d (marksOf m d) (countsOf m d) (Fin.cast nCore_zero c) (Fin.cast nSub_zero i))
          -∗ corePts m d (marksOf m d) (countsOf m d) (Fin.cast nCore_zero c)))
  rw [bigSep_tiles (F := F) (fun i => tilePts m d (m (vLoc d)) (m (cLoc d)) (Fin.cast nCore_zero c) i),
    bigSep_tiles (F := F) (fun i => tilePts m d (marksOf m d) (countsOf m d) (Fin.cast nCore_zero c) i), corePts_split, corePts_split]
  iintro H; imodintro
  isplitl [H]; · iexact H
  iintro H
  iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => (bigSep_emp' _), bigSep_emp']
  iempintro

/-! ## The host's part: the flat lists before, the pairs behind -/

open Idealize.ShloMosaic.StableHlo (wp_hlo_within)

abbrev opI : HloOp τ sig (Elt F) := StableHlo.reshape main_arg0 main_v0 (rfl : (.i32 : EltTy) = .i32) shapeCasts_S8192x128_S1048576
abbrev opT : HloOp τ sig (Elt F) := StableHlo.reshape main_arg1 main_v1 (rfl : (.f32 : EltTy) = .f32) shapeCasts_S8192x128_S1048576
abbrev opP : HloOp τ sig (Elt F) := StableHlo.reshape main_arg3 main_v3 (rfl : (.f32 : EltTy) = .f32) shapeCasts_S8192x8_S65536
abbrev opS : HloOp τ sig (Elt F) := StableHlo.reshape main_arg4 main_v4 (rfl : (.f32 : EltTy) = .f32) shapeCasts_S8192x128_S1048576
abbrev opO : HloOp τ sig (Elt F) := StableHlo.unary main_v5_8 main_v6 (broadcastInDim S8192x1 ![0] bcast_S8192_S8192x1_0 : (⟨S8192, .i32⟩ : BufTy).Contents (Elt F) → (⟨S8192x1, .i32⟩ : BufTy).Contents (Elt F))
abbrev opN : HloOp τ sig (Elt F) := StableHlo.unary main_v5_9 main_v7 (broadcastInDim S8192x1 ![0] bcast_S8192_S8192x1_0 : (⟨S8192, .i32⟩ : BufTy).Contents (Elt F) → (⟨S8192x1, .i32⟩ : BufTy).Contents (Elt F))
abbrev opK : HloOp τ sig (Elt F) := StableHlo.binary main_v6 main_v7 main_v8 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))

/-- The memory at launch, an array at a time. -/
abbrev V0 (d : Dev nD) : Valuation τ sig (Elt F) := fun b => m (d, b)

/-- The memory the calls work on: that at launch, and in it the flat lists. -/
def entered (ℓ : Loc nD τ sig) : Buf (Elt F) ℓ := (opS (F := F)).result ((opP (F := F)).result ((opT (F := F)).result ((opI (F := F)).result (V0 m ℓ.1)))) ℓ.2

omit [FloatOps F] in
theorem entered_ne (d : Dev nD) {r : Ref sig .tc} (h0 : r ≠ main_v0) (h1 : r ≠ main_v1) (h3 : r ≠ main_v3) (h4 : r ≠ main_v4) :
    entered m ((SparseCore.T d).loc r) = m ((SparseCore.T d).loc r) := by
  show (opS (F := F)).result ((opP (F := F)).result ((opT (F := F)).result ((opI (F := F)).result (V0 m d)))) (Proc.devRef .tc r) = _
  rw [StableHlo.reshape_result_ne _ _ _ _ _ _ _ h4, StableHlo.reshape_result_ne _ _ _ _ _ _ _ h3, StableHlo.reshape_result_ne _ _ _ _ _ _ _ h1, StableHlo.reshape_result_ne _ _ _ _ _ _ _ h0]

omit [FloatOps F] in
theorem entered_i' (d : Dev nD) : entered m (iLoc d) = (opI (F := F)).result (V0 m d) (Proc.devRef .tc main_v0) := by
  show (opS (F := F)).result ((opP (F := F)).result ((opT (F := F)).result ((opI (F := F)).result (V0 m d)))) (Proc.devRef .tc main_v0) = _
  rw [StableHlo.reshape_result_ne _ _ _ _ _ _ _ (by decide), StableHlo.reshape_result_ne _ _ _ _ _ _ _ (by decide), StableHlo.reshape_result_ne _ _ _ _ _ _ _ (by decide)]

omit [FloatOps F] in
theorem entered_t' (d : Dev nD) : entered m (tLoc d) = (opT (F := F)).result (V0 m d) (Proc.devRef .tc main_v1) := by
  show (opS (F := F)).result ((opP (F := F)).result ((opT (F := F)).result ((opI (F := F)).result (V0 m d)))) (Proc.devRef .tc main_v1) = _
  rw [StableHlo.reshape_result_ne _ _ _ _ _ _ _ (by decide), StableHlo.reshape_result_ne _ _ _ _ _ _ _ (by decide), StableHlo.reshape_result, StableHlo.reshape_result,
    StableHlo.reshape_result_ne _ _ _ _ _ _ _ (by decide)]

omit [FloatOps F] in
theorem entered_p' (d : Dev nD) : entered m (pLoc d) = (opP (F := F)).result (V0 m d) (Proc.devRef .tc main_v3) := by
  show (opS (F := F)).result ((opP (F := F)).result ((opT (F := F)).result ((opI (F := F)).result (V0 m d)))) (Proc.devRef .tc main_v3) = _
  rw [StableHlo.reshape_result_ne _ _ _ _ _ _ _ (by decide), StableHlo.reshape_result, StableHlo.reshape_result,
    StableHlo.reshape_result_ne _ _ _ _ _ _ _ (by decide), StableHlo.reshape_result_ne _ _ _ _ _ _ _ (by decide)]

omit [FloatOps F] in
theorem entered_s' (d : Dev nD) : entered m (sLoc d) = (opS (F := F)).result (V0 m d) (Proc.devRef .tc main_v4) := by
  show (opS (F := F)).result ((opP (F := F)).result ((opT (F := F)).result ((opI (F := F)).result (V0 m d)))) (Proc.devRef .tc main_v4) = _
  rw [StableHlo.reshape_result, StableHlo.reshape_result,
    StableHlo.reshape_result_ne _ _ _ _ _ _ _ (by decide), StableHlo.reshape_result_ne _ _ _ _ _ _ _ (by decide), StableHlo.reshape_result_ne _ _ _ _ _ _ _ (by decide)]

omit [FloatOps F] in
/-- The cells the calls read: the argument's, in a flat list. -/
theorem entered_i (d : Dev nD) : entered m (iLoc d) = shapeCast S1048576 (m ((SparseCore.T d).loc main_arg0)) shapeCasts_S8192x128_S1048576 :=
  (entered_i' m d).trans (StableHlo.reshape_result _ _ _ _ _ _ _)
omit [FloatOps F] in
theorem entered_t (d : Dev nD) : entered m (tLoc d) = shapeCast S1048576 (m ((SparseCore.T d).loc main_arg1)) shapeCasts_S8192x128_S1048576 :=
  (entered_t' m d).trans (StableHlo.reshape_result _ _ _ _ _ _ _)
omit [FloatOps F] in
theorem entered_p (d : Dev nD) : entered m (pLoc d) = shapeCast S65536 (m ((SparseCore.T d).loc main_arg3)) shapeCasts_S8192x8_S65536 :=
  (entered_p' m d).trans (StableHlo.reshape_result _ _ _ _ _ _ _)
omit [FloatOps F] in
theorem entered_s (d : Dev nD) : entered m (sLoc d) = shapeCast S1048576 (m ((SparseCore.T d).loc main_arg4)) shapeCasts_S8192x128_S1048576 :=
  (entered_s' m d).trans (StableHlo.reshape_result _ _ _ _ _ _ _)

/-- The pairs: a ray's offset and its count. -/
abbrev offsCounts (o n : S8192.Idx → BitVec 32) : S8192x2.Idx → BitVec 32 :=
  concatenate S8192x2 1 [⟨S8192x1, broadcastInDim S8192x1 ![0] bcast_S8192_S8192x1_0 o⟩, ⟨S8192x1, broadcastInDim S8192x1 ![0] bcast_S8192_S8192x1_0 n⟩]
    concatenates_S8192x1_S8192x1_S8192x2_d1

/-- A host operation that reads one array and writes another. -/
theorem wp_one (d : Dev nD) {x y : Ref sig .tc} (hxy : (Proc.devRef .tc x : DevRef τ sig) ∉ ({Proc.devRef .tc y} : Finset (DevRef τ sig))) {op : HloOp τ sig (Elt F)}
    (hb : op.bufs = {Proc.devRef .tc x, Proc.devRef .tc y}) (hw : op.writes = {Proc.devRef .tc y}) (hf : op.fresh = ∅) (V : Valuation τ sig (Elt F)) {Q : PUnit → sProp 𝕄} :
    iprop(boundary (SparseCore.T d) ∗ ((SparseCore.T d).loc x ↦{fullShare} V (Proc.devRef .tc x)) ∗ (SparseCore.T d).loc y ↦{fullShare} V (Proc.devRef .tc y))
      ⊢ iprop(((boundary (SparseCore.T d) ∗ ((SparseCore.T d).loc x ↦{fullShare} V (Proc.devRef .tc x)) ∗ (SparseCore.T d).loc y ↦{fullShare} op.result V (Proc.devRef .tc y)) -∗ Q ⟨⟩)
        -∗ wp frame (wpE ((K (F := F)).defs (D (F := F))) 𝒱 (SparseCore.T d) none) Set.univ (hlo rfl op (fun _ => .ret ⟨⟩)) Q) := by
  have e : ∀ W : Valuation τ sig (Elt F), (StableHlo.held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := fun W => by
    unfold StableHlo.held
    rw [SparseCore.bigSep_insert' hxy, bigSep_singleton]
  have hx : op.result V (Proc.devRef .tc x) = V (Proc.devRef .tc x) := op.result_of_not_mem V (by rw [hw]; exact hxy)
  rw [← e V]
  iintro ⟨Hb, Hh⟩ Hk
  iapply (wp_hlo_within 𝒱 (SparseCore.T d) none Set.univ (op := op) (S := {Proc.devRef .tc x, Proc.devRef .tc y}) (hb ▸ Finset.Subset.refl _) (V := V) hf) $$ [Hb Hh]
  · isplitl [Hb] <;> iassumption
  rw [e (op.result V), hx]
  iintro ⟨Hb, Hx, Hy⟩
  rw [wp_ret]; imodintro
  iapply Hk
  isplitl [Hb]; · iexact Hb
  isplitl [Hx]; · iexact Hx
  iexact Hy

/-- A host operation that reads two arrays and writes a third. -/
theorem wp_two (d : Dev nD) {x z y : Ref sig .tc} (hx : (Proc.devRef .tc x : DevRef τ sig) ∉ ({Proc.devRef .tc z, Proc.devRef .tc y} : Finset (DevRef τ sig)))
    (hz : (Proc.devRef .tc z : DevRef τ sig) ∉ ({Proc.devRef .tc y} : Finset (DevRef τ sig))) {op : HloOp τ sig (Elt F)}
    (hb : op.bufs = {Proc.devRef .tc x, Proc.devRef .tc z, Proc.devRef .tc y}) (hf : op.fresh = ∅) (V : Valuation τ sig (Elt F)) {Q : PUnit → sProp 𝕄} :
    iprop(boundary (SparseCore.T d) ∗ ((SparseCore.T d).loc x ↦{fullShare} V (Proc.devRef .tc x)) ∗ ((SparseCore.T d).loc z ↦{fullShare} V (Proc.devRef .tc z))
        ∗ (SparseCore.T d).loc y ↦{fullShare} V (Proc.devRef .tc y))
      ⊢ iprop(((boundary (SparseCore.T d) ∗ (SparseCore.T d).loc y ↦{fullShare} op.result V (Proc.devRef .tc y)) -∗ Q ⟨⟩)
        -∗ wp frame (wpE ((K (F := F)).defs (D (F := F))) 𝒱 (SparseCore.T d) none) Set.univ (hlo rfl op (fun _ => .ret ⟨⟩)) Q) := by
  have e : ∀ W : Valuation τ sig (Elt F), (StableHlo.held (SparseCore.T d) {Proc.devRef .tc x, Proc.devRef .tc z, Proc.devRef .tc y} W : sProp 𝕄)
      = iprop(((SparseCore.T d).loc x ↦{fullShare} W (Proc.devRef .tc x)) ∗ ((SparseCore.T d).loc z ↦{fullShare} W (Proc.devRef .tc z))
        ∗ (SparseCore.T d).loc y ↦{fullShare} W (Proc.devRef .tc y)) := fun W => by
    unfold StableHlo.held
    rw [SparseCore.bigSep_insert' hx, SparseCore.bigSep_insert' hz, bigSep_singleton]
  rw [← e V]
  iintro ⟨Hb, Hh⟩ Hk
  iapply (wp_hlo_within 𝒱 (SparseCore.T d) none Set.univ (op := op) (S := {Proc.devRef .tc x, Proc.devRef .tc z, Proc.devRef .tc y}) (hb ▸ Finset.Subset.refl _) (V := V) hf) $$ [Hb Hh]
  · isplitl [Hb] <;> iassumption
  rw [e (op.result V)]
  iintro ⟨Hb, Hx, Hz, Hy⟩
  rw [wp_ret]; imodintro
  iapply Hk
  isplitl [Hb]; · iexact Hb
  iexact Hy

/-! ## @main on the TensorCore -/

set_option maxHeartbeats 4000000 in
omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg3 ↦{fullShare} W main_arg3)
      ∗ ((SparseCore.T d).loc main_arg4 ↦{fullShare} W main_arg4)
      ∗ ((SparseCore.T d).loc main_v6 ↦{fullShare} W main_v6)
      ∗ ((SparseCore.T d).loc main_v7 ↦{fullShare} W main_v7)
      ∗ ((SparseCore.T d).loc main_v8 ↦{fullShare} W main_v8)
      ∗ ((SparseCore.T d).loc main_v0 ↦{fullShare} W main_v0)
      ∗ ((SparseCore.T d).loc main_v1 ↦{fullShare} W main_v1)
      ∗ ((SparseCore.T d).loc main_arg2 ↦{fullShare} W main_arg2)
      ∗ ((SparseCore.T d).loc main_v2_0 ↦{fullShare} W main_v2_0)
      ∗ ((SparseCore.T d).loc main_v2_1 ↦{fullShare} W main_v2_1)
      ∗ ((SparseCore.T d).loc main_v3 ↦{fullShare} W main_v3)
      ∗ ((SparseCore.T d).loc main_v4 ↦{fullShare} W main_v4)
      ∗ ((SparseCore.T d).loc main_v5_0 ↦{fullShare} W main_v5_0)
      ∗ ((SparseCore.T d).loc main_v5_1 ↦{fullShare} W main_v5_1)
      ∗ ((SparseCore.T d).loc main_v5_2 ↦{fullShare} W main_v5_2)
      ∗ ((SparseCore.T d).loc main_v5_3 ↦{fullShare} W main_v5_3)
      ∗ ((SparseCore.T d).loc main_v5_4 ↦{fullShare} W main_v5_4)
      ∗ ((SparseCore.T d).loc main_v5_5 ↦{fullShare} W main_v5_5)
      ∗ ((SparseCore.T d).loc main_v5_6 ↦{fullShare} W main_v5_6)
      ∗ ((SparseCore.T d).loc main_v5_7 ↦{fullShare} W main_v5_7)
      ∗ ((SparseCore.T d).loc main_v5_8 ↦{fullShare} W main_v5_8)
      ∗ ((SparseCore.T d).loc main_v5_9 ↦{fullShare} W main_v5_9)) := by
  unfold unscopedBufs
  rw [show (Finset.univ.filter fun b : Ref sig .tc => ¬ b.isScoped) = {main_arg0, main_arg1, main_arg3, main_arg4, main_v6, main_v7, main_v8, main_v0, main_v1, main_arg2, main_v2_0, main_v2_1, main_v3, main_v4, main_v5_0, main_v5_1, main_v5_2, main_v5_3, main_v5_4, main_v5_5, main_v5_6, main_v5_7, main_v5_8, main_v5_9} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide), bigSep_singleton]

omit [FloatOps F] in
/-- The arrays at launch, those the calls work on named by the memory they work on. -/
theorem launched (d : Dev nD) :
    (unscopedBufs d (fun b => m ((SparseCore.T d).loc b)) : sProp 𝕄) = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg3 ↦{fullShare} m ((SparseCore.T d).loc main_arg3))
      ∗ ((SparseCore.T d).loc main_arg4 ↦{fullShare} m ((SparseCore.T d).loc main_arg4))
      ∗ ((SparseCore.T d).loc main_v6 ↦{fullShare} m ((SparseCore.T d).loc main_v6))
      ∗ ((SparseCore.T d).loc main_v7 ↦{fullShare} m ((SparseCore.T d).loc main_v7))
      ∗ ((SparseCore.T d).loc main_v8 ↦{fullShare} m ((SparseCore.T d).loc main_v8))
      ∗ ((SparseCore.T d).loc main_v0 ↦{fullShare} m ((SparseCore.T d).loc main_v0))
      ∗ ((SparseCore.T d).loc main_v1 ↦{fullShare} m ((SparseCore.T d).loc main_v1))
      ∗ ((SparseCore.T d).loc main_arg2 ↦{fullShare} entered m ((SparseCore.T d).loc main_arg2))
      ∗ ((SparseCore.T d).loc main_v2_0 ↦{fullShare} entered m ((SparseCore.T d).loc main_v2_0))
      ∗ ((SparseCore.T d).loc main_v2_1 ↦{fullShare} entered m ((SparseCore.T d).loc main_v2_1))
      ∗ ((SparseCore.T d).loc main_v3 ↦{fullShare} m ((SparseCore.T d).loc main_v3))
      ∗ ((SparseCore.T d).loc main_v4 ↦{fullShare} m ((SparseCore.T d).loc main_v4))
      ∗ ((SparseCore.T d).loc main_v5_0 ↦{fullShare} entered m ((SparseCore.T d).loc main_v5_0))
      ∗ ((SparseCore.T d).loc main_v5_1 ↦{fullShare} entered m ((SparseCore.T d).loc main_v5_1))
      ∗ ((SparseCore.T d).loc main_v5_2 ↦{fullShare} entered m ((SparseCore.T d).loc main_v5_2))
      ∗ ((SparseCore.T d).loc main_v5_3 ↦{fullShare} entered m ((SparseCore.T d).loc main_v5_3))
      ∗ ((SparseCore.T d).loc main_v5_4 ↦{fullShare} entered m ((SparseCore.T d).loc main_v5_4))
      ∗ ((SparseCore.T d).loc main_v5_5 ↦{fullShare} entered m ((SparseCore.T d).loc main_v5_5))
      ∗ ((SparseCore.T d).loc main_v5_6 ↦{fullShare} entered m ((SparseCore.T d).loc main_v5_6))
      ∗ ((SparseCore.T d).loc main_v5_7 ↦{fullShare} entered m ((SparseCore.T d).loc main_v5_7))
      ∗ ((SparseCore.T d).loc main_v5_8 ↦{fullShare} entered m ((SparseCore.T d).loc main_v5_8))
      ∗ ((SparseCore.T d).loc main_v5_9 ↦{fullShare} entered m ((SparseCore.T d).loc main_v5_9))) := by
  rw [unscopedBufs_eq]
  rw [entered_ne m d (r := main_arg2) (by decide) (by decide) (by decide) (by decide)]
  rw [entered_ne m d (r := main_v2_0) (by decide) (by decide) (by decide) (by decide)]
  rw [entered_ne m d (r := main_v2_1) (by decide) (by decide) (by decide) (by decide)]
  rw [entered_ne m d (r := main_v5_0) (by decide) (by decide) (by decide) (by decide)]
  rw [entered_ne m d (r := main_v5_1) (by decide) (by decide) (by decide) (by decide)]
  rw [entered_ne m d (r := main_v5_2) (by decide) (by decide) (by decide) (by decide)]
  rw [entered_ne m d (r := main_v5_3) (by decide) (by decide) (by decide) (by decide)]
  rw [entered_ne m d (r := main_v5_4) (by decide) (by decide) (by decide) (by decide)]
  rw [entered_ne m d (r := main_v5_5) (by decide) (by decide) (by decide) (by decide)]
  rw [entered_ne m d (r := main_v5_6) (by decide) (by decide) (by decide) (by decide)]
  rw [entered_ne m d (r := main_v5_7) (by decide) (by decide) (by decide) (by decide)]
  rw [entered_ne m d (r := main_v5_8) (by decide) (by decide) (by decide) (by decide)]
  rw [entered_ne m d (r := main_v5_9) (by decide) (by decide) (by decide) (by decide)]

omit [FloatOps F] in
/-- The eight columns, one by one. -/
theorem colsPts_univ (d : Dev nD) (f : Fin 8 → S1048576.Idx → F .f32) :
    (colsPts d Finset.univ f : sProp 𝕄) = iprop(((SparseCore.T d).loc main_v5_0 ↦{fullShare} f 0)
      ∗ ((SparseCore.T d).loc main_v5_1 ↦{fullShare} f 1)
      ∗ ((SparseCore.T d).loc main_v5_2 ↦{fullShare} f 2)
      ∗ ((SparseCore.T d).loc main_v5_3 ↦{fullShare} f 3)
      ∗ ((SparseCore.T d).loc main_v5_4 ↦{fullShare} f 4)
      ∗ ((SparseCore.T d).loc main_v5_5 ↦{fullShare} f 5)
      ∗ ((SparseCore.T d).loc main_v5_6 ↦{fullShare} f 6)
      ∗ ((SparseCore.T d).loc main_v5_7 ↦{fullShare} f 7)) := by
  unfold colsPts
  rw [show (Finset.univ : Finset (Fin 8)) = {0, 1, 2, 3, 4, 5, 6, 7} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem st0_eq (d : Dev nD) : (bigSep Finset.univ fun c : Fin ((K (F := F)).nCore 0) => (P m).st 0 d c) = allPts m d (m (vLoc d)) (m (cLoc d)) :=
  (bigSep_cores (F := F) (fun c => corePts m d (m (vLoc d)) (m (cLoc d)) c)).trans (allPts_split m d _ _).symm
theorem dn0_eq (d : Dev nD) : (bigSep Finset.univ fun c : Fin ((K (F := F)).nCore 0) => (P m).dn 0 d c) = allPts m d (marksOf m d) (countsOf m d) :=
  (bigSep_cores (F := F) (fun c => corePts m d (marksOf m d) (countsOf m d) c)).trans (allPts_split m d _ _).symm
theorem st1_eq (d : Dev nD) : (bigSep Finset.univ fun c : Fin ((K (F := F)).nCore 1) => (P m).st 1 d c) = allPts2 m d (colsAt m d) (m (offLoc d)) (m (cntLoc d)) :=
  (bigSep_cores1 (F := F) (fun c => coreIn m d c)).trans (allPts2_split m d _ _ _).symm
theorem dn1_eq (d : Dev nD) : (bigSep Finset.univ fun c : Fin ((K (F := F)).nCore 1) => (P m).dn 1 d c) = allPts2 m d (colsOf m d) (offsOf m d) (rowsOf m d) :=
  (bigSep_cores1 (F := F) (fun c => coreOut m d c)).trans (allPts2_split m d _ _ _).symm

/-- What is held at the end. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (gLoc d ↦{fullShare} entered m (gLoc d)) ∗ ((SparseCore.T d).loc main_arg3 ↦{fullShare} m ((SparseCore.T d).loc main_arg3))
    ∗ ((SparseCore.T d).loc main_arg4 ↦{fullShare} m ((SparseCore.T d).loc main_arg4)) ∗ colsPts d Finset.univ (colsOf (entered m) d)
    ∗ ((SparseCore.T d).loc main_v8 ↦{fullShare} offsCounts (offsOf (entered m) d) (rowsOf (entered m) d)) ∗ cLoc d ↦{fullShare} countsOf (entered m) d)

/-- The offsets before they are paired with the counts. -/
def VO (d : Dev nD) : Valuation τ sig (Elt F) := Function.update (V0 m d) (Proc.devRef .tc main_v5_8) (offsOf (entered m) d)
/-- The counts before they are paired with the offsets. -/
def VN (d : Dev nD) : Valuation τ sig (Elt F) := Function.update (V0 m d) (Proc.devRef .tc main_v5_9) (rowsOf (entered m) d)
/-- The two columns before they are paired. -/
def VK (d : Dev nD) : Valuation τ sig (Elt F) :=
  Function.update (Function.update (V0 m d) (Proc.devRef .tc main_v6) ((opO (F := F)).result (VO m d) (Proc.devRef .tc main_v6)))
    (Proc.devRef .tc main_v7) ((opN (F := F)).result (VN m d) (Proc.devRef .tc main_v7))

theorem VO_x (d : Dev nD) : VO m d (Proc.devRef .tc main_v5_8) = offsOf (entered m) d := Function.update_self _ _ _
theorem VO_y (d : Dev nD) : VO m d (Proc.devRef .tc main_v6) = m ((SparseCore.T d).loc main_v6) := Function.update_of_ne (by decide) _ _
theorem VN_x (d : Dev nD) : VN m d (Proc.devRef .tc main_v5_9) = rowsOf (entered m) d := Function.update_self _ _ _
theorem VN_y (d : Dev nD) : VN m d (Proc.devRef .tc main_v7) = m ((SparseCore.T d).loc main_v7) := Function.update_of_ne (by decide) _ _
theorem VK_x (d : Dev nD) : VK m d (Proc.devRef .tc main_v6) = (opO (F := F)).result (VO m d) (Proc.devRef .tc main_v6) :=
  (Function.update_of_ne (by decide) _ _).trans (Function.update_self _ _ _)
theorem VK_z (d : Dev nD) : VK m d (Proc.devRef .tc main_v7) = (opN (F := F)).result (VN m d) (Proc.devRef .tc main_v7) := Function.update_self _ _ _
theorem VK_y (d : Dev nD) : VK m d (Proc.devRef .tc main_v8) = m ((SparseCore.T d).loc main_v8) :=
  (Function.update_of_ne (by decide) _ _).trans (Function.update_of_ne (by decide) _ _)
theorem paired (d : Dev nD) : (opK (F := F)).result (VK m d) (Proc.devRef .tc main_v8) = offsCounts (offsOf (entered m) d) (rowsOf (entered m) d) := by
  rw [StableHlo.binary_result, VK_x, VK_z, StableHlo.unary_result, StableHlo.unary_result, VO_x, VN_x]

theorem hmain (κ : GSem nD τ sig → ℕ) (d : Dev nD) :
    iprop((K (F := F)).ctx EH (P (entered m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [launched]
  simp only [main, wp_bind, wp_pure]
  iintro ⟨#Hctx, Hst, ⟨Hb, ⟨A0, A1, A3, A4, B6, B7, B8, Hi, Ht, Hg, Hv, Hc, Hp, Hs, H0, H1, H2, H3, H4, H5, H6, H7, Ho, Hk⟩, Hts, -⟩, -⟩
  iapply (wp_one d (x := main_arg0) (y := main_v0) (by decide) (op := opI) rfl rfl rfl (V0 m d)) $$ [Hb A0 Hi]
  · isplitl [Hb]; · iexact Hb
    isplitl [A0]; · iexact A0
    iexact Hi
  rw [← entered_i']
  iintro ⟨Hb, A0, Hi⟩
  iapply (wp_one d (x := main_arg1) (y := main_v1) (by decide) (op := opT) rfl rfl rfl (V0 m d)) $$ [Hb A1 Ht]
  · isplitl [Hb]; · iexact Hb
    isplitl [A1]; · iexact A1
    iexact Ht
  rw [← entered_t']
  iintro ⟨Hb, A1, Ht⟩
  iapply ((K (F := F)).wp_run (D (F := F)) 𝒱 (EH := EH) (P := P (entered m)) κ d 0) $$ [-]
  isplitr; · iexact Hctx
  isplitl [Hst]; · iexact Hst
  isplitl [Hi Ht Hg Hv Hc]
  · rw [st0_eq]
    isplitl [Hi]; · iexact Hi
    isplitl [Ht]; · iexact Ht
    isplitl [Hg]; · iexact Hg
    isplitl [Hv]; · iexact Hv
    iexact Hc
  iintro ⟨Hst, Hdn⟩
  ihave Hdn' := (Entails.of_eq (dn0_eq (entered m) d)) $$ Hdn
  icases Hdn' with ⟨Hi, Ht, Hg, Hv, Hc⟩
  iapply (wp_one d (x := main_arg3) (y := main_v3) (by decide) (op := opP) rfl rfl rfl (V0 m d)) $$ [Hb A3 Hp]
  · isplitl [Hb]; · iexact Hb
    isplitl [A3]; · iexact A3
    iexact Hp
  rw [← entered_p']
  iintro ⟨Hb, A3, Hp⟩
  iapply (wp_one d (x := main_arg4) (y := main_v4) (by decide) (op := opS) rfl rfl rfl (V0 m d)) $$ [Hb A4 Hs]
  · isplitl [Hb]; · iexact Hb
    isplitl [A4]; · iexact A4
    iexact Hs
  rw [← entered_s']
  iintro ⟨Hb, A4, Hs⟩
  iapply ((K (F := F)).wp_run (D (F := F)) 𝒱 (EH := EH) (P := P (entered m)) κ d 1) $$ [-]
  isplitr; · iexact Hctx
  isplitl [Hst]; · iexact Hst
  isplitl [Hv Hc Hp Hs H0 H1 H2 H3 H4 H5 H6 H7 Ho Hk]
  · rw [st1_eq]
    isplitl [Hv]; · iexact Hv
    isplitl [Hc]; · iexact Hc
    isplitl [Hp]; · iexact Hp
    isplitl [Hs]; · iexact Hs
    isplitl [H0 H1 H2 H3 H4 H5 H6 H7]
    · rw [colsPts_univ]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [Ho]; · iexact Ho
    iexact Hk
  iintro ⟨Hst, Hdn⟩
  ihave Hdn' := (Entails.of_eq (dn1_eq (entered m) d)) $$ Hdn
  icases Hdn' with ⟨Hv, Hc, Hp, Hs, HX, Ho, Hk⟩
  iapply (wp_one d (x := main_v5_8) (y := main_v6) (by decide) (op := opO) rfl rfl rfl (VO m d)) $$ [Hb Ho B6]
  · rw [VO_x, VO_y]
    isplitl [Hb]; · iexact Hb
    isplitl [Ho]; · iexact Ho
    iexact B6
  iintro ⟨Hb, Ho, B6⟩
  iapply (wp_one d (x := main_v5_9) (y := main_v7) (by decide) (op := opN) rfl rfl rfl (VN m d)) $$ [Hb Hk B7]
  · rw [VN_x, VN_y]
    isplitl [Hb]; · iexact Hb
    isplitl [Hk]; · iexact Hk
    iexact B7
  iintro ⟨Hb, Hk, B7⟩
  iapply (wp_two d (x := main_v6) (z := main_v7) (y := main_v8) (by decide) (by decide) (op := opK) rfl rfl (VK m d)) $$ [Hb B6 B7 B8]
  · rw [VK_x, VK_z, VK_y]
    isplitl [Hb]; · iexact Hb
    isplitl [B6]; · iexact B6
    isplitl [B7]; · iexact B7
    iexact B8
  rw [paired]
  iintro ⟨Hb, B8⟩
  imodintro
  isplitl [Hst]; · iexact Hst
  isplitl [A0 A1 Hg A3 A4 HX B8 Hc]
  · isplitl [A0]; · iexact A0
    isplitl [A1]; · iexact A1
    isplitl [Hg]; · iexact Hg
    isplitl [A3]; · iexact A3
    isplitl [A4]; · iexact A4
    isplitl [HX]; · iexact HX
    isplitl [B8]; · iexact B8
    iexact Hc
  isplitl [Hb] <;> iassumption

/-- The arrays at the end. -/
def memFacts (d : Dev nD) (M : (ℓ : Loc nD τ sig) → Buf (Elt F) ℓ) : Prop :=
  M ((SparseCore.T d).loc main_arg0) = m ((SparseCore.T d).loc main_arg0)
    ∧ M ((SparseCore.T d).loc main_arg1) = m ((SparseCore.T d).loc main_arg1)
    ∧ M ((SparseCore.T d).loc main_arg2) = m (gLoc d)
    ∧ M ((SparseCore.T d).loc main_arg3) = m ((SparseCore.T d).loc main_arg3)
    ∧ M ((SparseCore.T d).loc main_arg4) = m ((SparseCore.T d).loc main_arg4)
    ∧ M ((SparseCore.T d).loc main_v5_0) = colsOf (entered m) d 0
    ∧ M ((SparseCore.T d).loc main_v5_1) = colsOf (entered m) d 1
    ∧ M ((SparseCore.T d).loc main_v5_2) = colsOf (entered m) d 2
    ∧ M ((SparseCore.T d).loc main_v5_3) = colsOf (entered m) d 3
    ∧ M ((SparseCore.T d).loc main_v5_4) = colsOf (entered m) d 4
    ∧ M ((SparseCore.T d).loc main_v5_5) = colsOf (entered m) d 5
    ∧ M ((SparseCore.T d).loc main_v5_6) = colsOf (entered m) d 6
    ∧ M ((SparseCore.T d).loc main_v5_7) = colsOf (entered m) d 7
    ∧ M ((SparseCore.T d).loc main_v8) = offsCounts (offsOf (entered m) d) (rowsOf (entered m) d)
    ∧ M ((SparseCore.T d).loc main_v2_1) = countsOf (entered m) d

def fq (d : Dev nD) (s' : Phys nD τ sig (Elt F)) : Prop :=
  memFacts m d s'.mem.mem

omit [FloatOps F] in
/-- A whole array's points-to gives the memory's array. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨A0, A1, Hg, A3, A4, HX, B8, Hc⟩, HSI⟩
  ihave HX' := (Entails.of_eq (colsPts_univ d (colsOf (entered m) d))) $$ HX
  icases HX' with ⟨H0, H1, H2, H3, H4, H5, H6, H7⟩
  ihave H := (agree s' ((SparseCore.T d).loc main_arg0) (m ((SparseCore.T d).loc main_arg0))) $$ [A0 HSI]
  · isplitl [A0] <;> iassumption
  icases H with ⟨%h0, HSI⟩
  ihave H := (agree s' ((SparseCore.T d).loc main_arg1) (m ((SparseCore.T d).loc main_arg1))) $$ [A1 HSI]
  · isplitl [A1] <;> iassumption
  icases H with ⟨%h1, HSI⟩
  ihave H := (agree s' ((SparseCore.T d).loc main_arg2) (entered m (gLoc d))) $$ [Hg HSI]
  · isplitl [Hg] <;> iassumption
  icases H with ⟨%h2, HSI⟩
  ihave H := (agree s' ((SparseCore.T d).loc main_arg3) (m ((SparseCore.T d).loc main_arg3))) $$ [A3 HSI]
  · isplitl [A3] <;> iassumption
  icases H with ⟨%h3, HSI⟩
  ihave H := (agree s' ((SparseCore.T d).loc main_arg4) (m ((SparseCore.T d).loc main_arg4))) $$ [A4 HSI]
  · isplitl [A4] <;> iassumption
  icases H with ⟨%h4, HSI⟩
  ihave H := (agree s' ((SparseCore.T d).loc main_v5_0) (colsOf (entered m) d 0)) $$ [H0 HSI]
  · isplitl [H0] <;> iassumption
  icases H with ⟨%h5, HSI⟩
  ihave H := (agree s' ((SparseCore.T d).loc main_v5_1) (colsOf (entered m) d 1)) $$ [H1 HSI]
  · isplitl [H1] <;> iassumption
  icases H with ⟨%h6, HSI⟩
  ihave H := (agree s' ((SparseCore.T d).loc main_v5_2) (colsOf (entered m) d 2)) $$ [H2 HSI]
  · isplitl [H2] <;> iassumption
  icases H with ⟨%h7, HSI⟩
  ihave H := (agree s' ((SparseCore.T d).loc main_v5_3) (colsOf (entered m) d 3)) $$ [H3 HSI]
  · isplitl [H3] <;> iassumption
  icases H with ⟨%h8, HSI⟩
  ihave H := (agree s' ((SparseCore.T d).loc main_v5_4) (colsOf (entered m) d 4)) $$ [H4 HSI]
  · isplitl [H4] <;> iassumption
  icases H with ⟨%h9, HSI⟩
  ihave H := (agree s' ((SparseCore.T d).loc main_v5_5) (colsOf (entered m) d 5)) $$ [H5 HSI]
  · isplitl [H5] <;> iassumption
  icases H with ⟨%h10, HSI⟩
  ihave H := (agree s' ((SparseCore.T d).loc main_v5_6) (colsOf (entered m) d 6)) $$ [H6 HSI]
  · isplitl [H6] <;> iassumption
  icases H with ⟨%h11, HSI⟩
  ihave H := (agree s' ((SparseCore.T d).loc main_v5_7) (colsOf (entered m) d 7)) $$ [H7 HSI]
  · isplitl [H7] <;> iassumption
  icases H with ⟨%h12, HSI⟩
  ihave H := (agree s' ((SparseCore.T d).loc main_v8) (offsCounts (offsOf (entered m) d) (rowsOf (entered m) d))) $$ [B8 HSI]
  · isplitl [B8] <;> iassumption
  icases H with ⟨%h13, HSI⟩
  ihave H := (agree s' ((SparseCore.T d).loc main_v2_1) (countsOf (entered m) d)) $$ [Hc HSI]
  · isplitl [Hc] <;> iassumption
  icases H with ⟨%h14, HSI⟩
  ipureintro; exact ⟨h0, h1, h2.trans (entered_ne m d (r := main_arg2) (by decide) (by decide) (by decide) (by decide)), h3, h4, h5, h6, h7, h8, h9, h10, h11, h12, h13, h14⟩

/-! ## The run -/

def QC : PUnit × MemSt nD τ sig (Elt F) → Prop := fun r => (∀ d : Dev nD, memFacts m d r.2.mem) ∧ r.2.sem = fun _ => 0

theorem run_main [∀ e, Nonempty (Elt F e)] (hpre : InGrid (entered m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (entered m)) (A := ∅) facts v₀
    (fun q hq => match q with | 0 => nomatch hq | 1 => nomatch hq)
    (fun q _ => match q with | 0 => tileObl (entered m) facts hpre | 1 => tileObl1 (entered m) facts)
    (fun q _ => match q with | 0 => SparseCore.Cfg.VecSplit.of_plain (vecSplit (entered m)) | 1 => SparseCore.Cfg.VecSplit.of_plain (vecSplit1 (entered m)))
    m ρ main (fun _ => iprop(emp)) (FIN m) (u₀ (F := F)) (sep_elim_left.trans (hu₀ (entered m))) (hmain m ρ) (fq m) (hfin m) (QC m) (fun _ h hz => ⟨h, hz⟩)

end Cert.Proof.Lookup

end
-- ==== Proof.RefValue.lean ====
/-
  The reference's ten results. The reference sorts the samples' numbers by a key: a sample's number where it is marked, its number
  plus the number of samples where it is not. The keys are pairwise different, so the sorted list names at place `y` the sample
  `sampleAt v y`; each of the eight columns is a flat array read there. A ray's count is the sum of its marks, and a ray's
  offset the sum of the counts before it.
-/
module

public import proofs.«01_k».proof.Proof.Launch
public import Idealize.ShloMosaic.Lib.SortNet.HostSort
public import Idealize.ShloMosaic.Lib.Routing.OpsOne
public import Idealize.ShloMosaic.Lib.Pipeline.Value
public import Idealize.ShloMosaic.Lib.ValueIdxCore
public import Idealize.ShloMosaic.PureOps.Reduce
public import proofs.«01_k».proof.Proof.Gen.ReferenceIdeal.Run

@[expose] public section

noncomputable section

namespace Cert.Proof.RefValue

open Cert.ReferenceIdeal Cert.ReferenceIdeal.Gen
open Idealize.ShloMosaic Idealize.ShloMosaic.ValueIdx
open Cert.Proof.Lookup (NN pt ptN ptP mark dens valid count key sampleAt before valueOf colv sampleAt_lt key_sampleAt_lt rows_sum)

variable {F : FTy → Type} [FloatOps F]

/-- The start index of a result's element. -/
abbrev colIdx {N : ℕ} (y : (⟨1, ![N]⟩ : Shape).Idx) : (⟨2, ![N, 1]⟩ : Shape).Idx :=
  fun a => match a with | ⟨0, _⟩ => ⟨(y 0).val, (y 0).isLt⟩ | ⟨1, _⟩ => ⟨0, Nat.one_pos⟩

/-- A flat array taken at a flat list of indices: the index read as a signed number and clamped. -/
theorem gather_flat {α : Type} {M N w : ℕ} (hM : 0 < M) (d : GatherDims ⟨1, ![M]⟩ ⟨2, ![N, 1]⟩ ⟨1, ![N]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![M]⟩ : Shape).Idx → α) (idx : IVec ⟨2, ![N, 1]⟩ w) (y : (⟨1, ![N]⟩ : Shape).Idx) :
    Host.gather d x idx y = x (fun _ => ⟨min (idx (colIdx y)).toInt.toNat (M - 1), by
      show _ < ![M] _
      rename_i a
      obtain rfl : a = 0 := Subsingleton.elim _ _
      show _ < M
      omega⟩) := by
  obtain ⟨_, _, _, _, _, _, _, wf⟩ := d
  subst h1 h2 h3 h4 h5 h6 h7
  unfold Host.gather
  congr 1
  funext a
  obtain rfl : a = 0 := Subsingleton.elim _ _
  refine Fin.ext ?_
  show GatherDims.start _ y idx 0 + GatherDims.batchCoord _ y 0 + GatherDims.offCoord _ y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p : Fin 1, GatherDims.siIdx (⟨[], [0], [], [], [0], 1, ![1], wf⟩ : GatherDims ⟨1, ![M]⟩ ⟨2, ![N, 1]⟩ ⟨1, ![N]⟩) y p = colIdx y := by
    intro p
    funext b; refine Fin.ext ?_
    match b with
    | ⟨0, _⟩ => rfl
    | ⟨1, _⟩ =>
      have hp : p = ⟨0, Nat.one_pos⟩ := Subsingleton.elim (α := Fin 1) _ _
      subst hp; rfl
  rw [hsi]
  rfl

/-- … which is the named element where the index names one. -/
theorem gather_named {α : Type} {M N : ℕ} (hM : ∀ a, 0 < (⟨1, ![M]⟩ : Shape).size a) (hM' : M ≤ 2147483648) (d : GatherDims ⟨1, ![M]⟩ ⟨2, ![N, 1]⟩ ⟨1, ![N]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![M]⟩ : Shape).Idx → α) (idx : IVec ⟨2, ![N, 1]⟩ 32) (y : (⟨1, ![N]⟩ : Shape).Idx) (v : BitVec 32) (hv : idx (colIdx y) = v) (hlt : v.toNat < M) :
    Host.gather d x idx y = x (pt hM v.toNat) := by
  refine (gather_flat (show 0 < M from hM 0) d h1 h2 h3 h4 h5 h6 h7 x idx y).trans (congrArg x ?_)
  funext a
  obtain rfl : a = 0 := Subsingleton.elim (α := Fin 1) _ _
  refine Fin.ext ?_
  show min (idx (colIdx y)).toInt.toNat (M - 1) = v.toNat % M
  rw [hv, BitVec.toInt_eq_toNat_cond, Nat.mod_eq_of_lt hlt]
  generalize v.toNat = n at *
  omega

/-- A place counted round is itself. -/
theorem pt_self {N : ℕ} (hN : ∀ a, 0 < (⟨1, ![N]⟩ : Shape).size a) (x : (⟨1, ![N]⟩ : Shape).Idx) : pt (s := ⟨1, ![N]⟩) hN (x 0).val = x := by
  funext a
  obtain rfl : a = 0 := Subsingleton.elim (α := Fin 1) _ _
  exact Fin.ext (Nat.mod_eq_of_lt (x 0).isLt)

/-- A flat list made a column is read at its row. -/
theorem column_apply {α : Type} {N : ℕ} (h : (⟨1, ![N]⟩ : Shape).BroadcastsInDim ⟨2, ![N, 1]⟩ ![0]) (f : (⟨1, ![N]⟩ : Shape).Idx → α) (x : (⟨1, ![N]⟩ : Shape).Idx) :
    broadcastInDim (⟨2, ![N, 1]⟩ : Shape) ![0] h f (colIdx x) = f x := by
  unfold broadcastInDim
  refine congrArg f ?_
  funext a
  obtain rfl : a = 0 := Subsingleton.elim (α := Fin 1) _ _
  refine Fin.ext ?_
  have hx : (x 0).val < N := (x 0).isLt
  by_cases h1 : N = 1
  · rw [dif_pos (show (⟨1, ![N]⟩ : Shape).size 0 = 1 from h1)]
    show 0 = (x 0).val
    omega
  · rw [dif_neg (show ¬ (⟨1, ![N]⟩ : Shape).size 0 = 1 from h1)]
    rfl

/-- A word that names a cell is not negative: the wrapped index is the index. -/
theorem wrapped (v : BitVec 32) (hv : v.toNat < 2097152) : Scalar.select (IntOp.cmpi .slt v 0#32) (IntOp.addi v 2097152#32) v = v := by
  have h0 : v.slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  show Scalar.select (BitVec.ofBool (v.slt 0#32)) _ v = v
  rw [h0]
  rfl

/-- The widened comparison is the mark. -/
theorem widen (x t : F .f32) : BitVec.setWidth 32 (FloatOps.cmpf .ogt x t) = mark x t := by
  unfold mark
  generalize (FloatOps.cmpf .ogt x t : BitVec 1) = b
  revert b
  decide

/-! ## The order -/

/-- A sort of numbered words by their signed order, read: where every key is a small number and the keys ascend along `σ`, place `r`
    of the second operand comes from position `σ r`. -/
theorem sort_read {n : ℕ} {β : Type} (x : IVec ⟨1, ![n]⟩ 32) (y : (⟨1, ![n]⟩ : Shape).Idx → β) (K : Fin n → ℕ)
    (hx : ∀ a, (x (.ofFin a)).toNat = K a) (hK : ∀ a, K a < 2147483648) (σ : Fin n → Fin n)
    (hs : ∀ a b, a < b → K (σ a) < K (σ b)) (r : Fin n) :
    (Host.sort2 ⟨1, ![n]⟩ 0 (fun l r : BitVec 32 × β => IntOp.cmpi .slt l.1 r.1) x y).2 (.ofFin r) = y (.ofFin (σ r)) := by
  have hinj : Function.Injective σ := by
    intro a b h
    rcases Nat.lt_trichotomy a.val b.val with h' | h' | h'
    · exact absurd (congrArg K h) (Nat.ne_of_lt (hs a b h'))
    · exact Fin.ext h'
    · exact absurd (congrArg K h).symm (Nat.ne_of_lt (hs b a h'))
  have hperm : (List.ofFn σ).Perm (List.finRange n) := by
    have := Equiv.Perm.ofFn_comp_perm (Equiv.ofBijective σ (Finite.injective_iff_bijective.mp hinj)) (fun i : Fin n => i)
    rwa [show List.ofFn (fun i : Fin n => i) = List.finRange n from List.ofFn_id n] at this
  have hpw : (List.ofFn σ).Pairwise fun a b => K a < K b := List.pairwise_ofFn.mpr fun a b h => hs a b h
  have hd : 0 < (⟨1, ![n]⟩ : Shape).rank := Nat.zero_lt_one
  have e : ∀ (j : (⟨1, ![n]⟩ : Shape).Idx) (c : Fin n), j.along (⟨0, hd⟩ : Fin (⟨1, ![n]⟩ : Shape).rank) c = .ofFin c :=
    fun j c => Shape.Idx.along_rank1 j c
  have hcmp : ∀ a b : Fin n, (IntOp.cmpi .slt (x ((Shape.Idx.ofFin r).along ⟨0, hd⟩ a)) (x ((Shape.Idx.ofFin r).along ⟨0, hd⟩ b)) == 1#1) = decide (K a < K b) := by
    intro a b
    rw [e (.ofFin r) a, e (.ofFin r) b]
    have h1 := hx a
    have h2 := hx b
    have h3 := hK a
    have h4 := hK b
    generalize x (.ofFin a) = u at h1 ⊢
    generalize x (.ofFin b) = w at h2 ⊢
    show (BitVec.ofBool (u.slt w) == 1#1) = _
    have hsl : u.slt w = decide (K a < K b) := by
      rw [BitVec.slt_eq_decide, decide_eq_decide, BitVec.toInt_eq_toNat_cond, BitVec.toInt_eq_toNat_cond, h1, h2]
      omega
    rw [hsl]
    cases decide (K a < K b) <;> rfl
  have hsrc : sortedFrom (n := n) (fun a b : Fin n => IntOp.cmpi .slt (x ((Shape.Idx.ofFin r).along ⟨0, hd⟩ a)) (x ((Shape.Idx.ofFin r).along ⟨0, hd⟩ b)) == 1#1) r = σ r := by
    rw [show (fun a b : Fin n => IntOp.cmpi .slt (x ((Shape.Idx.ofFin r).along ⟨0, hd⟩ a)) (x ((Shape.Idx.ofFin r).along ⟨0, hd⟩ b)) == 1#1)
      = fun a b => decide (K a < K b) from funext fun a => funext fun b => hcmp a b]
    have hlen : r.val < (List.ofFn σ).length := by rw [List.length_ofFn]; exact r.isLt
    refine (SortNet.sortedFrom_eq_getElem_of_pairwise_lt K (List.ofFn σ) hperm hpw r hlen).trans ?_
    rw [List.getElem_ofFn]
  unfold Host.sort2
  rw [dif_pos hd]
  show y ((Shape.Idx.ofFin r).along ⟨0, hd⟩ (sortedFrom (n := n) _ ((Shape.Idx.ofFin r) (⟨0, hd⟩ : Fin (⟨1, ![n]⟩ : Shape).rank)))) = _
  refine congrArg y ((congrArg (fun c : Fin n => (Shape.Idx.ofFin r).along (⟨0, hd⟩ : Fin (⟨1, ![n]⟩ : Shape).rank) c) hsrc).trans (e _ _))

/-- A bit chosen between two numbers, as the key. -/
theorem key_word (v : ℕ → BitVec 32) (b : BitVec 1) (p : ℕ) (hp : p < NN) (hb : v p = Scalar.select b 1#32 0#32) :
    (Scalar.select b (BitVec.ofNat 32 p) (IntOp.addi (BitVec.ofNat 32 p) 1048576#32)).toNat = key v p := by
  have hN : NN = 1048576 := rfl
  unfold key
  unfold Scalar.select at hb ⊢
  by_cases h : b = 1
  · rw [if_pos h] at hb
    rw [if_pos h, if_pos hb, BitVec.toNat_ofNat]
    omega
  · rw [if_neg h] at hb
    rw [if_neg h, if_neg (by rw [hb]; decide)]
    show (BitVec.ofNat 32 p + 1048576#32).toNat = _
    rw [BitVec.toNat_add, BitVec.toNat_ofNat, BitVec.toNat_ofNat]
    omega

theorem key_small (v : ℕ → BitVec 32) (p : ℕ) (hp : p < NN) : key v p < 2147483648 := by
  have hN : NN = 1048576 := rfl
  unfold key
  split <;> omega

/-- The samples in sorted order, for any length. -/
theorem order_read {n : ℕ} (hn : n = NN) (v : ℕ → BitVec 32) (hv : ∀ p, v p = 0#32 ∨ v p = 1#32) (b : (⟨1, ![n]⟩ : Shape).Idx → BitVec 1)
    (o : (⟨1, ![n]⟩ : Shape).Idx → BitVec 32) (ho : ∀ x, o x = 1048576#32) (hb : ∀ x, v (x 0).val = Scalar.select (b x) 1#32 0#32) (y : (⟨1, ![n]⟩ : Shape).Idx) :
    (Host.sort2 ⟨1, ![n]⟩ 0 (fun l r : BitVec 32 × BitVec 32 => IntOp.cmpi .slt l.1 r.1)
      (select b (iotaInDim ⟨1, ![n]⟩ 32 0) (addi (iotaInDim ⟨1, ![n]⟩ 32 0) o)) (iotaInDim ⟨1, ![n]⟩ 32 0)).2 y = BitVec.ofNat 32 (sampleAt v (y 0).val) := by
  have hy : y = Shape.Idx.ofFin (⟨(y 0).val, (y 0).isLt⟩ : Fin n) := by
    funext a
    obtain rfl : a = 0 := Subsingleton.elim (α := Fin 1) _ _
    rfl
  rw [hy]
  have hlt : ∀ a : Fin n, a.val < NN := fun a => lt_of_lt_of_eq a.isLt hn
  have hs : ∀ a c : Fin n, a.val < c.val → key v (sampleAt v a.val) < key v (sampleAt v c.val) := fun a c h => key_sampleAt_lt v hv (hlt a) (hlt c) h
  have hS : ∀ a : Fin n, sampleAt v a.val < n := fun a => lt_of_lt_of_eq (sampleAt_lt v hv (hlt a)) hn.symm
  obtain ⟨σ, hσ⟩ : ∃ σ : Fin n → Fin n, ∀ a, (σ a).val = sampleAt v a.val := ⟨fun a => Fin.mk (sampleAt v a.val) (hS a), fun a => Fin.val_mk (hS a)⟩
  have hs' : ∀ a c : Fin n, a < c → key v (σ a).val < key v (σ c).val := by
    intro a c h
    rw [hσ, hσ]
    exact hs a c (Fin.lt_def.mp h)
  refine (sort_read (n := n) _ (iotaInDim ⟨1, ![n]⟩ 32 0) (fun a => key v a.val) (fun a => ?_) (fun a => key_small v a.val (hlt a))
    σ hs' ⟨(y 0).val, (y 0).isLt⟩).trans (congrArg (BitVec.ofNat 32) (hσ _))
  have := hb (Shape.Idx.ofFin a)
  refine (congrArg BitVec.toNat (?_ : _ = Scalar.select (b (Shape.Idx.ofFin a)) (BitVec.ofNat 32 a.val) (IntOp.addi (BitVec.ofNat 32 a.val) 1048576#32))).trans
    (key_word v (b (Shape.Idx.ofFin a)) a.val (hlt a) this)
  show Scalar.select _ _ (IntOp.addi _ (o (Shape.Idx.ofFin a))) = _
  rw [ho]
  rfl

/-! ## The marks and the order, from the cells -/

variable (ix : S1048576.Idx → BitVec 32) (th : S1048576.Idx → F .f32) (g : S2097152.Idx → F .f32)

/-- The reference's comparisons. -/
abbrev bitsR : S1048576.Idx → BitVec 1 :=
  cmpf .ogt (Host.gather gather_S2097152_S1048576x1_S1048576_n_0_n_n_0_1_1 g (broadcastInDim S1048576x1 ![0] bcast_S1048576_S1048576x1_0
    (select (cmpi .slt ix (broadcastInDim S1048576 ![] bcast_S_S1048576 (constantI S_ 32 0#32))) (addi ix (broadcastInDim S1048576 ![] bcast_S_S1048576 (constantI S_ 32 2097152#32))) ix))) th

theorem bitsR_eq (hix : ∀ x, (ix x).toNat < 2097152) (x : S1048576.Idx) :
    bitsR ix th g x = FloatOps.cmpf .ogt (dens ix g (x 0).val) (th (ptN (x 0).val)) := by
  have hx : ptN (x 0).val = x := pt_self (N := 1048576) _ x
  have hc := column_apply bcast_S1048576_S1048576x1_0 (select (cmpi .slt ix (broadcastInDim S1048576 ![] bcast_S_S1048576 (constantI S_ 32 0#32))) (addi ix (broadcastInDim S1048576 ![] bcast_S_S1048576 (constantI S_ 32 2097152#32))) ix) x
  have hg := gather_named (by decide) (by decide) gather_S2097152_S1048576x1_S1048576_n_0_n_n_0_1_1 rfl rfl rfl rfl rfl rfl rfl g _ x (ix x) (hc.trans (wrapped (ix x) (hix x))) (hix x)
  unfold dens
  rw [hx]
  exact congrArg (fun z => FloatOps.cmpf .ogt z (th x)) hg

theorem valid_bits (hix : ∀ x, (ix x).toNat < 2097152) (x : S1048576.Idx) :
    valid ix th g (x 0).val = Scalar.select (bitsR ix th g x) 1#32 0#32 := by
  rw [bitsR_eq ix th g hix]
  rfl

theorem valid_bit (p : ℕ) : valid ix th g p = 0#32 ∨ valid ix th g p = 1#32 := by
  unfold valid mark Scalar.select
  split
  · exact .inr rfl
  · exact .inl rfl

/-- The reference's order. -/
abbrev orderR : S1048576.Idx → BitVec 32 :=
  (Host.sort2 S1048576 0 comparator_i32_i32_d0 (select (bitsR ix th g) (iotaInDim S1048576 32 0)
    (addi (iotaInDim S1048576 32 0) (broadcastInDim S1048576 ![] bcast_S_S1048576 (constantI S_ 32 1048576#32)))) (iotaInDim S1048576 32 0)).2

theorem orderR_eq (hix : ∀ x, (ix x).toNat < 2097152) (y : S1048576.Idx) : orderR ix th g y = BitVec.ofNat 32 (sampleAt (valid ix th g) (y 0).val) :=
  order_read (n := 1048576) rfl (valid ix th g) (valid_bit ix th g) (bitsR ix th g) (broadcastInDim S1048576 ![] bcast_S_S1048576 (constantI S_ 32 1048576#32))
    (fun _ => rfl) (valid_bits ix th g hix) y

/-- A flat array taken in the reference's order. -/
theorem taken {α : Type} (hix : ∀ x, (ix x).toNat < 2097152) (x : S1048576.Idx → α) (y : S1048576.Idx) :
    Host.gather gather_S1048576_S1048576x1_S1048576_n_0_n_n_0_1_1 x (broadcastInDim S1048576x1 ![0] bcast_S1048576_S1048576x1_0 (orderR ix th g)) y
      = x (ptN (sampleAt (valid ix th g) (y 0).val)) := by
  have hN : NN = 1048576 := rfl
  have hlt := sampleAt_lt (valid ix th g) (valid_bit ix th g) (y := (y 0).val) (y 0).isLt
  have hn : (BitVec.ofNat 32 (sampleAt (valid ix th g) (y 0).val)).toNat = sampleAt (valid ix th g) (y 0).val := by
    rw [BitVec.toNat_ofNat]
    exact Nat.mod_eq_of_lt (by omega)
  have hc := column_apply bcast_S1048576_S1048576x1_0 (orderR ix th g) y
  have hg := gather_named (by decide) (by decide) gather_S1048576_S1048576x1_S1048576_n_0_n_n_0_1_1 rfl rfl rfl rfl rfl rfl rfl x _ y
    (BitVec.ofNat 32 (sampleAt (valid ix th g) (y 0).val)) (hc.trans (orderR_eq ix th g hix y)) (by rw [hn]; exact hlt)
  rw [hn] at hg
  exact hg

/-! ## The columns -/

/-- A ray's parameter, one copy for each of its samples. -/
theorem spread {α : Type} (c : ℕ) (hc : c < 8) (hs : S8192x8.Slices ![0, c] S8192x1) (q : S8192x8.Idx → α) (h8 : S8192x8.ShapeCasts Cert.KernelIdeal.S65536) (p : ℕ) (hp : p < NN) :
    shapeCast S1048576 (broadcastInDim S8192x128 ![0, 1] bcast_S8192x1_S8192x128_0_1 (extractStridedSlice S8192x1 ![0, c] q hs))
      shapeCasts_S8192x128_S1048576 (ptN p) = shapeCast Cert.KernelIdeal.S65536 q h8 (ptP (8 * (p / 128) + c)) := by
  have hN : NN = 1048576 := rfl
  have hr : p / 128 < 8192 := by omega
  have hk : p % 128 < 128 := Nat.mod_lt _ (by decide)
  refine (shapeCast_apply _ _ _ (ix2 (⟨p / 128, hr⟩ : Fin 8192) (⟨p % 128, hk⟩ : Fin 128)) ?_).trans ?_
  · rw [Shape.rowMajor_val_one, Shape.rowMajor_val_two]
    show p / 128 * 128 + p % 128 = p % 1048576
    omega
  refine Eq.trans ?_ (shapeCast_apply q h8 (ptP (8 * (p / 128) + c)) (ix2 (⟨p / 128, hr⟩ : Fin 8192) (⟨c, hc⟩ : Fin 8)) ?_).symm
  · refine congrArg q (funext fun a => Fin.ext ?_)
    match a with
    | ⟨0, _⟩ => exact Nat.zero_add _
    | ⟨1, _⟩ => rfl
  · rw [Shape.rowMajor_val_one, Shape.rowMajor_val_two]
    show p / 128 * 8 + c = (8 * (p / 128) + c) % 65536
    omega

variable (q : S8192x8.Idx → F .f32) (h8 : S8192x8.ShapeCasts Cert.KernelIdeal.S65536) (pr : Cert.KernelIdeal.S65536.Idx → F .f32) (st : S1048576.Idx → F .f32)

/-- A column of one of the first six parameters. -/
theorem paramR_eq (hix : ∀ x, (ix x).toNat < 2097152) (c : Fin 8) (h6 : c.val < 6) (hs : S8192x8.Slices ![0, c.val] S8192x1) :
    Host.gather gather_S1048576_S1048576x1_S1048576_n_0_n_n_0_1_1
      (shapeCast S1048576 (broadcastInDim S8192x128 ![0, 1] bcast_S8192x1_S8192x128_0_1 (extractStridedSlice S8192x1 ![0, c.val] q hs))
        shapeCasts_S8192x128_S1048576)
      (broadcastInDim S1048576x1 ![0] bcast_S1048576_S1048576x1_0 (orderR ix th g))
      = fun y : S1048576.Idx => valueOf (shapeCast Cert.KernelIdeal.S65536 q h8) st c (sampleAt (valid ix th g) (y 0).val) := by
  funext y
  have hlt := sampleAt_lt (valid ix th g) (valid_bit ix th g) (y := (y 0).val) (y 0).isLt
  refine (taken ix th g hix _ y).trans ((spread c.val c.isLt hs q h8 _ hlt).trans ?_)
  unfold valueOf colv
  rw [if_pos h6]

/-- The column of the starts. -/
theorem startR_eq (hix : ∀ x, (ix x).toNat < 2097152) :
    Host.gather gather_S1048576_S1048576x1_S1048576_n_0_n_n_0_1_1 st (broadcastInDim S1048576x1 ![0] bcast_S1048576_S1048576x1_0 (orderR ix th g))
      = fun y : S1048576.Idx => valueOf pr st 6 (sampleAt (valid ix th g) (y 0).val) := by
  funext y
  exact (taken ix th g hix _ y).trans rfl

/-- The column of the ends: the starts and the step. -/
theorem endR_eq (hix : ∀ x, (ix x).toNat < 2097152) (hs : S8192x8.Slices ![0, 6] S8192x1) :
    Host.gather gather_S1048576_S1048576x1_S1048576_n_0_n_n_0_1_1
      (addf st (shapeCast S1048576 (broadcastInDim S8192x128 ![0, 1] bcast_S8192x1_S8192x128_0_1 (extractStridedSlice S8192x1 ![0, 6] q hs))
        shapeCasts_S8192x128_S1048576))
      (broadcastInDim S1048576x1 ![0] bcast_S1048576_S1048576x1_0 (orderR ix th g))
      = fun y : S1048576.Idx => valueOf (shapeCast Cert.KernelIdeal.S65536 q h8) st 7 (sampleAt (valid ix th g) (y 0).val) := by
  funext y
  have hlt := sampleAt_lt (valid ix th g) (valid_bit ix th g) (y := (y 0).val) (y 0).isLt
  refine (taken ix th g hix _ y).trans ?_
  exact congrArg (fun z => FloatOps.addf (st (ptN (sampleAt (valid ix th g) (y 0).val))) z) (spread 6 (by decide) hs q h8 _ hlt)

/-! ## The counts and the offsets -/

/-- The reference's counts. -/
abbrev countsR : S8192.Idx → BitVec 32 :=
  Host.reduce IntOp.addi (extui 32 (shapeCast S8192x128 (bitsR ix th g) shapeCasts_S1048576_S8192x128) natLt_1_32) (constantI S_ 32 0#32) reducesTo_S8192x128_S8192_d1 h_S_

theorem countsR_eq (hix : ∀ x, (ix x).toNat < 2097152) : countsR ix th g = fun x => count ix th g (x 0).val := by
  funext j
  have hR : S8192x128.Reduces [1] S8192 := by decide
  refine (Host.reduce_eq_fold_single IntOp.addi _ _ reducesTo_S8192x128_S8192_d1 hR h_S_ j).trans ?_
  have hv : ∀ k : Fin 128, (extui 32 (shapeCast S8192x128 (bitsR ix th g) shapeCasts_S1048576_S8192x128) natLt_1_32 ∘ hR.lift j) k = valid ix th g (128 * (j 0).val + k.val) := by
    intro k
    have hj : (j 0).val < 8192 := (j 0).isLt
    have hk : k.val < 128 := k.isLt
    have hs := shapeCast_apply (bitsR ix th g) shapeCasts_S1048576_S8192x128 (hR.lift j k) (ptN (128 * (j 0).val + k.val)) (by
      rw [Shape.rowMajor_val_one, Shape.rowMajor_val_two]
      show (128 * (j 0).val + k.val) % 1048576 = (j 0).val * 128 + k.val
      omega)
    have hb := bitsR_eq ix th g hix (ptN (128 * (j 0).val + k.val))
    have hp : (ptN (128 * (j 0).val + k.val) 0).val = 128 * (j 0).val + k.val := Nat.mod_eq_of_lt (show _ < 1048576 by omega)
    rw [hp] at hb
    exact (congrArg (BitVec.setWidth 32) (hs.trans hb)).trans (widen _ _)
  show (Finset.univ : Finset (Fin 128)).fold IntOp.addi 0#32 _ = ∑ k ∈ Finset.range 128, valid ix th g (128 * (j 0).val + k)
  rw [← Fin.sum_univ_eq_sum_range (fun k => valid ix th g (128 * (j 0).val + k)) 128, ← Finset.sum_congr rfl (fun k _ => hv k)]
  rfl

/-- A sum cut off behind `j`. -/
theorem sum_upto {N : ℕ} (f : ℕ → BitVec 32) (j : Fin N) : (∑ i : Fin N, if i ≤ j then f i.val else 0) = ∑ i ∈ Finset.range (j.val + 1), f i := by
  refine (Fin.sum_univ_eq_sum_range (fun i => if i ≤ j.val then f i else 0) N).trans ?_
  rw [← Finset.sum_filter]
  refine Finset.sum_congr (Finset.ext fun i => ?_) fun _ _ => rfl
  have := j.isLt
  rw [Finset.mem_filter, Finset.mem_range, Finset.mem_range]
  omega

/-- A running sum, read. -/
theorem summed {N Nm1 : ℕ} (hN : Nm1 + 1 = N) (f : ℕ → BitVec 32) (z : IVec Routing.shape0 32) (hz : ∀ i, z i = 0#32)
    (h : (Routing.shape1 N).ReduceWindows (![N] : Fin 1 → ℕ) ![1] ![Nm1] ![0] (Routing.shape1 N)) (hu : 0 < Routing.shape0.numel) (j : Fin N) :
    Host.reduceWindow IntOp.addi ![N] ![1] ![Nm1] ![0] (fun x : (Routing.shape1 N).Idx => f (x 0).val) z h hu (ix1 j) = ∑ i ∈ Finset.range (j.val + 1), f i :=
  (Routing.cumsum_vec hN (fun x : (Routing.shape1 N).Idx => f (x 0).val) z (hz _) h hu j).trans (sum_upto f j)

/-- The reference's offsets. -/
theorem offsetsR_eq (hix : ∀ x, (ix x).toNat < 2097152) :
    concatenate S8192 0 [⟨S1, (broadcastInDim S1 ![] bcast_S_S1 (constantI S_ 32 0#32))⟩, ⟨S8191, (extractStridedSlice S8191 ![0] (Host.reduceWindow IntOp.addi ![8192] ![1] ![8191] ![0]
      (countsR ix th g) (broadcastInDim S_ ![] bcast_S_S_ (constantI S_ 32 0#32)) reduceWindows_S8192_S8192_w8192s1p8191_0 h_S_) slices_S8192_S8191_0)⟩] concatenates_S1_S8191_S8192_d0
      = fun x : S8192.Idx => before (valid ix th g) (128 * (x 0).val) := by
  rw [countsR_eq ix th g hix]
  funext x
  have hx : (x 0).val < 8192 := (x 0).isLt
  by_cases h0 : (x 0).val = 0
  · refine (concatenate_pair_apply_left (t := S8192) (s₁ := S1) (s₂ := S8191) 0 _ _ concatenates_S1_S8191_S8192_d0 x rfl (ix1 (0 : Fin 1)) (fun b => ?_)).trans ?_
    · obtain rfl : b = 0 := Subsingleton.elim (α := Fin 1) _ _
      exact h0.symm
    · show (0#32 : BitVec 32) = before _ _
      rw [h0]
      rfl
  · have hlt : (x 0).val - 1 < 8191 := by omega
    have hlt' : (x 0).val - 1 < 8192 := by omega
    refine (concatenate_pair_apply_right (t := S8192) (s₁ := S1) (s₂ := S8191) 0 _ _ concatenates_S1_S8191_S8192_d0 x rfl rfl (ix1 (⟨(x 0).val - 1, hlt⟩ : Fin 8191)) (fun b hb => ?_) ?_).trans ?_
    · exact absurd (Subsingleton.elim (α := Fin 1) _ _) hb
    · show (x 0).val - 1 + 1 = (x 0).val
      omega
    have e : extractStridedSlice S8191 ![0] (Host.reduceWindow IntOp.addi ![8192] ![1] ![8191] ![0]
        (fun x : S8192.Idx => count ix th g (x 0).val) (broadcastInDim S_ ![] bcast_S_S_ (constantI S_ 32 0#32)) reduceWindows_S8192_S8192_w8192s1p8191_0 h_S_) slices_S8192_S8191_0 (ix1 (⟨(x 0).val - 1, hlt⟩ : Fin 8191))
        = Host.reduceWindow IntOp.addi ![8192] ![1] ![8191] ![0]
        (fun x : S8192.Idx => count ix th g (x 0).val) (broadcastInDim S_ ![] bcast_S_S_ (constantI S_ 32 0#32)) reduceWindows_S8192_S8192_w8192s1p8191_0 h_S_ (ix1 (⟨(x 0).val - 1, hlt'⟩ : Fin 8192)) := by
      unfold extractStridedSlice
      refine congrArg _ ?_
      funext a
      obtain rfl : a = 0 := Subsingleton.elim (α := Fin 1) _ _
      exact Fin.ext (Nat.zero_add _)
    refine e.trans ((summed (N := 8192) (Nm1 := 8191) rfl (fun r => count ix th g r) (broadcastInDim S_ ![] bcast_S_S_ (constantI S_ 32 0#32)) (fun _ => rfl)
      reduceWindows_S8192_S8192_w8192s1p8191_0 h_S_ ⟨(x 0).val - 1, hlt'⟩).trans ?_)
    refine (rows_sum (valid ix th g) (fun r => count ix th g r) (fun _ => rfl) _).trans ?_
    show before _ (128 * ((x 0).val - 1 + 1)) = _
    rw [Nat.sub_add_cancel (by omega)]

/-- The pairs: a ray's offset and its count. -/
theorem pairsR_eq (o n : S8192.Idx → BitVec 32) (ho : o = fun x => before (valid ix th g) (128 * (x 0).val)) (hn : n = fun x => count ix th g (x 0).val) :
    concatenate S8192x2 1 [⟨S8192x1, broadcastInDim S8192x1 ![0] bcast_S8192_S8192x1_0 o⟩, ⟨S8192x1, broadcastInDim S8192x1 ![0] bcast_S8192_S8192x1_0 n⟩]
        concatenates_S8192x1_S8192x1_S8192x2_d1
      = Cert.Proof.Lookup.offsCounts (fun x => before (valid ix th g) (128 * (x 0).val)) (fun x => count ix th g (x 0).val) := by
  subst ho hn
  rfl

end Cert.Proof.RefValue

end
-- ==== Proof.Ray.lean ====
/- One ray of the march, number by number: where it enters and leaves the box, where its samples start and end, the cell
   and the threshold of each. The reference's arrays are these numbers at every index. -/
module

public import proofs.«01_k».proof.Proof.Gen.MarchIdeal.Run
public import Idealize.ShloMosaic.Lib.Pointwise

@[expose] public section

set_option maxRecDepth 8192

noncomputable section

namespace Cert.Proof.Ray

open Cert.MarchIdeal Cert.MarchIdeal.Gen Idealize.ShloMosaic Idealize.ShloMosaic.TcCoe

/-- A number of the ideal programs. -/
abbrev Num : Type := Ideal .f32

/-- The number a literal names. -/
abbrev lit (b : BitVec 32) : Num := FloatOps.ofBits .f32 b

/-! ## One ray -/

section Scalars

variable (o d lo hi : Fin 3 → Num)

/-- One over a direction's component, a tiny one replaced. -/
def inv (v : Num) : Num :=
  FloatOps.divf (lit 0x3F800000#32) (Scalar.select (FloatOps.cmpf .olt (FloatOps.absf v) (lit 0x2EDBE6FF#32)) (lit 0x2EDBE6FF#32) v)

/-- When the ray passes the plane at `e` across axis `a`. -/
def passes (e : Fin 3 → Num) (a : Fin 3) : Num := FloatOps.mulf (FloatOps.subf (e a) (o a)) (inv (d a))

/-- When the ray is inside all three pairs of planes, -/
def first : Num :=
  FloatOps.maximumf (FloatOps.maximumf (FloatOps.minimumf (passes o d lo 0) (passes o d hi 0)) (FloatOps.minimumf (passes o d lo 1) (passes o d hi 1)))
    (FloatOps.minimumf (passes o d lo 2) (passes o d hi 2))

/-- and until when. -/
def last : Num :=
  FloatOps.minimumf (FloatOps.minimumf (FloatOps.maximumf (passes o d lo 0) (passes o d hi 0)) (FloatOps.maximumf (passes o d lo 1) (passes o d hi 1)))
    (FloatOps.maximumf (passes o d lo 2) (passes o d hi 2))

/-- Whether the ray meets the box ahead of its origin. -/
def hit : BitVec 1 := FloatOps.cmpf .ogt (last o d lo hi) (FloatOps.maximumf (first o d lo hi) (lit 0#32))

def tlo : Num := FloatOps.minimumf (FloatOps.maximumf (first o d lo hi) (lit 0#32)) (lit 0x501502F9#32)
def thi : Num := FloatOps.minimumf (last o d lo hi) (lit 0x501502F9#32)
def span : Num := FloatOps.subf (thi o d lo hi) (tlo o d lo hi)
def step : Num := FloatOps.divf (span o d lo hi) (lit 0x43000000#32)

/-- Where sample `j` starts, -/
def start (j : Fin 128) : Num :=
  FloatOps.addf (tlo o d lo hi) (FloatOps.mulf (span o d lo hi) (FloatOps.divf (FloatOps.sitofp .f32 (BitVec.ofNat 32 j.val)) (lit 0x43000000#32)))
/-- where it ends, -/
def stop (j : Fin 128) : Num := FloatOps.addf (start o d lo hi j) (step o d lo hi)
/-- and its middle. -/
def mid (j : Fin 128) : Num := FloatOps.mulf (lit 0x3F000000#32) (FloatOps.addf (start o d lo hi j) (stop o d lo hi j))

/-- The middle's place along axis `a`, in cells of the grid. -/
def cell (j : Fin 128) (a : Fin 3) : BitVec 32 :=
  IntOp.minsi 127#32 (IntOp.maxsi 0#32 (FloatOps.fptosi 32 (FloatOps.mulf (FloatOps.divf
    (FloatOps.subf (FloatOps.addf (o a) (FloatOps.mulf (d a) (mid o d lo hi j))) (lo a)) (FloatOps.subf (hi a) (lo a))) (lit 0x43000000#32))))

/-- The cell's number. -/
def number (j : Fin 128) : BitVec 32 :=
  IntOp.addi (IntOp.muli (IntOp.addi (IntOp.muli (cell o d lo hi j 0) 128#32) (cell o d lo hi j 1)) 128#32) (cell o d lo hi j 2)

/-- The density a sample has to exceed. -/
def bound (mean : Num) (j : Fin 128) : Num :=
  Scalar.select (IntOp.andi (hit o d lo hi) (FloatOps.cmpf .ogt (step o d lo hi) (lit 0#32)))
    (FloatOps.minimumf (FloatOps.divf (lit 0x3C23D70A#32) (FloatOps.maximumf (FloatOps.subf (stop o d lo hi j) (start o d lo hi j)) (lit 0x2EDBE6FF#32))) mean)
    (lit 0x7F800000#32)

/-- What the second call reads of a ray: its origin, its direction, its step, and whether it hits. -/
def param (k : Fin 8) : Num :=
  match k with
  | ⟨0, _⟩ => o 0 | ⟨1, _⟩ => o 1 | ⟨2, _⟩ => o 2
  | ⟨3, _⟩ => d 0 | ⟨4, _⟩ => d 1 | ⟨5, _⟩ => d 2
  | ⟨6, _⟩ => step o d lo hi
  | ⟨_ + 7, _⟩ => Scalar.select (hit o d lo hi) (lit 0x3F800000#32) (lit 0#32)

end Scalars

/-! ## The reference's arrays -/

/-- Row `r` of an array of three columns. -/
abbrev row3 {n : ℕ} (x : (⟨2, ![n, 3]⟩ : Shape).Idx → Num) (r : Fin n) : Fin 3 → Num := fun a => x (ix2 r a)

section Arrays

variable (o dn : FVec Ideal S8192x3 .f32) (ab : FVec Ideal S2x3 .f32)

/-- The directions at length one. -/
def unitR (d : FVec Ideal S8192x3 .f32) : FVec Ideal S8192x3 .f32 :=
  Host.divf d (broadcastInDim S8192x3 ![0, 1] bcast_S8192x1_S8192x3_0_1 (Host.sqrt (broadcastInDim S8192x1 ![0] bcast_S8192_S8192x1_0
    (Host.reduceAdd (mulf d d) (constant S_ .f32 0x00000000#32) reducesTo_S8192x3_S8192_d1 h_S_))))

/-- The grid's mean density. -/
def meanR (g : FVec Ideal S2097152 .f32) : FVec Ideal S_ .f32 :=
  Host.divf (Host.reduceAdd g (constant S_ .f32 0x00000000#32) reducesTo_S2097152_S_d0 h_S_) (constant S_ .f32 0x4A000000#32)

def loR : FVec Ideal S3 .f32 := shapeCast S3 (extractStridedSlice S1x3 ![0, 0] ab slices_S2x3_S1x3_0_0) shapeCasts_S1x3_S3
def hiR : FVec Ideal S3 .f32 := shapeCast S3 (extractStridedSlice S1x3 ![1, 0] ab slices_S2x3_S1x3_1_0) shapeCasts_S1x3_S3

def invR : FVec Ideal S8192x3 .f32 :=
  Host.divf (broadcastInDim S8192x3 ![] bcast_S_S8192x3 (constant S_ .f32 0x3F800000#32))
    (select (cmpf .olt (Host.absf dn) (broadcastInDim S8192x3 ![] bcast_S_S8192x3 (constant S_ .f32 0x2EDBE6FF#32)))
      (broadcastInDim S8192x3 ![] bcast_S_S8192x3 (id (constant S_ .f32 0x2EDBE6FF#32))) dn)

def planeR (e : FVec Ideal S3 .f32) : FVec Ideal S8192x3 .f32 :=
  mulf (subf (broadcastInDim S8192x3 ![0, 1] bcast_S1x3_S8192x3_0_1 (broadcastInDim S1x3 ![1] bcast_S3_S1x3_1 e)) o) (invR dn)

def firstR : FVec Ideal S8192 .f32 :=
  Host.reduce FloatOps.maximumf (minimumf (planeR o dn (loR ab)) (planeR o dn (hiR ab))) (constant S_ .f32 0xFF800000#32) reducesTo_S8192x3_S8192_d1 h_S_
def lastR : FVec Ideal S8192 .f32 :=
  Host.reduce FloatOps.minimumf (maximumf (planeR o dn (loR ab)) (planeR o dn (hiR ab))) (constant S_ .f32 0x7F800000#32) reducesTo_S8192x3_S8192_d1 h_S_
def hitR : IVec S8192 1 :=
  cmpf .ogt (lastR o dn ab) (maximumf (firstR o dn ab) (broadcastInDim S8192 ![] bcast_S_S8192 (constant S_ .f32 0x00000000#32)))
def tloR : FVec Ideal S8192 .f32 :=
  minimumf (maximumf (firstR o dn ab) (broadcastInDim S8192 ![] bcast_S_S8192 (constant S_ .f32 0x00000000#32))) (broadcastInDim S8192 ![] bcast_S_S8192 (constant S_ .f32 0x501502F9#32))
def thiR : FVec Ideal S8192 .f32 := minimumf (lastR o dn ab) (broadcastInDim S8192 ![] bcast_S_S8192 (constant S_ .f32 0x501502F9#32))
def spanR : FVec Ideal S8192x1 .f32 := broadcastInDim S8192x1 ![0] bcast_S8192_S8192x1_0 (subf (thiR o dn ab) (tloR o dn ab))
def stepR : FVec Ideal S8192x1 .f32 := Host.divf (spanR o dn ab) (broadcastInDim S8192x1 ![] bcast_S_S8192x1 (constant S_ .f32 0x43000000#32))
def startR : FVec Ideal S8192x128 .f32 :=
  addf (broadcastInDim S8192x128 ![0, 1] bcast_S8192x1_S8192x128_0_1 (broadcastInDim S8192x1 ![0] bcast_S8192_S8192x1_0 (tloR o dn ab)))
    (mulf (broadcastInDim S8192x128 ![0, 1] bcast_S8192x1_S8192x128_0_1 (spanR o dn ab))
      (broadcastInDim S8192x128 ![0, 1] bcast_S1x128_S8192x128_0_1 (broadcastInDim S1x128 ![1] bcast_S128_S1x128_1
        (Host.divf (sitofp .f32 (iotaInDim S128 32 0)) (broadcastInDim S128 ![] bcast_S_S128 (constant S_ .f32 0x43000000#32))))))
def stopR : FVec Ideal S8192x128 .f32 := addf (startR o dn ab) (broadcastInDim S8192x128 ![0, 1] bcast_S8192x1_S8192x128_0_1 (stepR o dn ab))
def midR : FVec Ideal S8192x128 .f32 := mulf (broadcastInDim S8192x128 ![] bcast_S_S8192x128 (constant S_ .f32 0x3F000000#32)) (addf (startR o dn ab) (stopR o dn ab))

/-- The places of the samples' middles. -/
def placeR : FVec Ideal S8192x128x3 .f32 :=
  addf (broadcastInDim S8192x128x3 ![0, 1, 2] bcast_S8192x1x3_S8192x128x3_0_1_2 (broadcastInDim S8192x1x3 ![0, 2] bcast_S8192x3_S8192x1x3_0_2 o))
    (mulf (broadcastInDim S8192x128x3 ![0, 1, 2] bcast_S8192x1x3_S8192x128x3_0_1_2 (broadcastInDim S8192x1x3 ![0, 2] bcast_S8192x3_S8192x1x3_0_2 dn))
      (broadcastInDim S8192x128x3 ![0, 1, 2] bcast_S8192x128x1_S8192x128x3_0_1_2 (broadcastInDim S8192x128x1 ![0, 1] bcast_S8192x128_S8192x128x1_0_1 (midR o dn ab))))

def cellR : IVec S8192x128x3 32 :=
  minsi (broadcastInDim S8192x128x3 ![] bcast_S_S8192x128x3 (id (constantI S_ 32 127#32)))
    (maxsi (broadcastInDim S8192x128x3 ![] bcast_S_S8192x128x3 (id (constantI S_ 32 0#32)))
      (fptosi 32 (mulf (Host.divf
        (subf (placeR o dn ab) (broadcastInDim S8192x128x3 ![0, 1, 2] bcast_S1x1x3_S8192x128x3_0_1_2 (broadcastInDim S1x1x3 ![2] bcast_S3_S1x1x3_2 (loR ab))))
        (broadcastInDim S8192x128x3 ![0, 1, 2] bcast_S1x1x3_S8192x128x3_0_1_2 (broadcastInDim S1x1x3 ![2] bcast_S3_S1x1x3_2 (subf (hiR ab) (loR ab)))))
        (broadcastInDim S8192x128x3 ![] bcast_S_S8192x128x3 (constant S_ .f32 0x43000000#32)))))

def numberR : IVec S8192x128 32 :=
  addi (muli (addi (muli
      (shapeCast S8192x128 (extractStridedSlice S8192x128x1 ![0, 0, 0] (cellR o dn ab) slices_S8192x128x3_S8192x128x1_0_0_0) shapeCasts_S8192x128x1_S8192x128)
      (broadcastInDim S8192x128 ![] bcast_S_S8192x128 (constantI S_ 32 128#32)))
      (shapeCast S8192x128 (extractStridedSlice S8192x128x1 ![0, 0, 1] (cellR o dn ab) slices_S8192x128x3_S8192x128x1_0_0_1) shapeCasts_S8192x128x1_S8192x128))
      (broadcastInDim S8192x128 ![] bcast_S_S8192x128 (constantI S_ 32 128#32)))
    (shapeCast S8192x128 (extractStridedSlice S8192x128x1 ![0, 0, 2] (cellR o dn ab) slices_S8192x128x3_S8192x128x1_0_0_2) shapeCasts_S8192x128x1_S8192x128)

def boundR (mean : FVec Ideal S_ .f32) : FVec Ideal S8192x128 .f32 :=
  select (broadcastInDim S8192x128 ![0, 1] bcast_S8192x1_S8192x128_0_1 (andi (broadcastInDim S8192x1 ![0] bcast_S8192_S8192x1_0 (hitR o dn ab))
      (cmpf .ogt (stepR o dn ab) (broadcastInDim S8192x1 ![] bcast_S_S8192x1 (constant S_ .f32 0x00000000#32)))))
    (minimumf (Host.divf (broadcastInDim S8192x128 ![] bcast_S_S8192x128 (constant S_ .f32 0x3C23D70A#32))
      (maximumf (subf (stopR o dn ab) (startR o dn ab)) (broadcastInDim S8192x128 ![] bcast_S_S8192x128 (constant S_ .f32 0x2EDBE6FF#32))))
      (broadcastInDim S8192x128 ![] bcast_S_S8192x128 mean))
    (broadcastInDim S8192x128 ![] bcast_S_S8192x128 (id (constant S_ .f32 0x7F800000#32)))

def paramR : FVec Ideal S8192x8 .f32 :=
  concatenate S8192x8 1 [⟨S8192x3, o⟩, ⟨S8192x3, dn⟩, ⟨S8192x1, stepR o dn ab⟩,
    ⟨S8192x1, uitofp .f32 (broadcastInDim S8192x1 ![0] bcast_S8192_S8192x1_0 (hitR o dn ab))⟩] concatenates_S8192x3_S8192x3_S8192x1_S8192x1_S8192x8_d1

end Arrays

/-! ## They are the ray's numbers -/

section Read

variable (o dn : FVec Ideal S8192x3 .f32) (ab : FVec Ideal S2x3 .f32) (r : Fin 8192) (j : Fin 128) (a : Fin 3)

theorem loR_apply : loR ab (ix1 a) = ab (ix2 0 a) := by pointwise [loR]
theorem hiR_apply : hiR ab (ix1 a) = ab (ix2 1 a) := by pointwise [hiR]

theorem planeR_apply (e : FVec Ideal S3 .f32) : planeR o dn e (ix2 r a) = passes (row3 o r) (row3 dn r) (fun b => e (ix1 b)) a := by
  pointwise [planeR, invR, passes, inv, id_eq]

theorem planes_lo : planeR o dn (loR ab) (ix2 r a) = passes (row3 o r) (row3 dn r) (row3 ab 0) a :=
  (planeR_apply o dn r a (loR ab)).trans (congrArg (fun e => passes (row3 o r) (row3 dn r) e a) (funext fun b => loR_apply ab b))
theorem planes_hi : planeR o dn (hiR ab) (ix2 r a) = passes (row3 o r) (row3 dn r) (row3 ab 1) a :=
  (planeR_apply o dn r a (hiR ab)).trans (congrArg (fun e => passes (row3 o r) (row3 dn r) e a) (funext fun b => hiR_apply ab b))

theorem fold_max (f : Fin 3 → EReal) : Finset.univ.fold max ⊥ f = max (max (f 0) (f 1)) (f 2) := by
  simp [Fin.univ_succ, max_assoc]
theorem fold_min (f : Fin 3 → EReal) : Finset.univ.fold min ⊤ f = min (min (f 0) (f 1)) (f 2) := by
  simp [Fin.univ_succ, min_assoc]

/-- What the two folds start from. -/
theorem below : Ideal.ofBits .f32 0xFF800000#32 = (⊥ : EReal) := by
  simp [Ideal.ofBits, Ideal.ieee]
theorem above : Ideal.ofBits .f32 0x7F800000#32 = (⊤ : EReal) := by simp [Ideal.ofBits, Ideal.ieee]

theorem firstR_apply : firstR o dn ab (ix1 r) = first (row3 o r) (row3 dn r) (row3 ab 0) (row3 ab 1) := by
  pointwise [firstR, planes_lo, planes_hi, first]
  rw [below, fold_max]

theorem lastR_apply : lastR o dn ab (ix1 r) = last (row3 o r) (row3 dn r) (row3 ab 0) (row3 ab 1) := by
  pointwise [lastR, planes_lo, planes_hi, last]
  rw [above, fold_min]

theorem hitR_apply : hitR o dn ab (ix1 r) = hit (row3 o r) (row3 dn r) (row3 ab 0) (row3 ab 1) := by
  have h1 := firstR_apply o dn ab r
  have h2 := lastR_apply o dn ab r
  pointwise [hitR, hit, h1, h2]

theorem tloR_apply : tloR o dn ab (ix1 r) = tlo (row3 o r) (row3 dn r) (row3 ab 0) (row3 ab 1) := by
  have h1 := firstR_apply o dn ab r
  pointwise [tloR, tlo, h1]

theorem thiR_apply : thiR o dn ab (ix1 r) = thi (row3 o r) (row3 dn r) (row3 ab 0) (row3 ab 1) := by
  have h2 := lastR_apply o dn ab r
  pointwise [thiR, thi, h2]

theorem spanR_apply : spanR o dn ab (ix2 r 0) = span (row3 o r) (row3 dn r) (row3 ab 0) (row3 ab 1) := by
  pointwise [spanR, span, tloR_apply, thiR_apply]

theorem stepR_apply : stepR o dn ab (ix2 r 0) = step (row3 o r) (row3 dn r) (row3 ab 0) (row3 ab 1) := by
  pointwise [stepR, step, spanR_apply]

theorem startR_apply : startR o dn ab (ix2 r j) = start (row3 o r) (row3 dn r) (row3 ab 0) (row3 ab 1) j := by
  pointwise [startR, start, tloR_apply, spanR_apply]

theorem stopR_apply : stopR o dn ab (ix2 r j) = stop (row3 o r) (row3 dn r) (row3 ab 0) (row3 ab 1) j := by
  pointwise [stopR, stop, startR_apply, stepR_apply]

theorem midR_apply : midR o dn ab (ix2 r j) = mid (row3 o r) (row3 dn r) (row3 ab 0) (row3 ab 1) j := by
  pointwise [midR, mid, startR_apply, stopR_apply]

theorem placeR_apply : placeR o dn ab (ix3 r j a) = row3 o r a + row3 dn r a * mid (row3 o r) (row3 dn r) (row3 ab 0) (row3 ab 1) j := by
  pointwise [placeR, midR_apply]

theorem cellR_apply : cellR o dn ab (ix3 r j a) = cell (row3 o r) (row3 dn r) (row3 ab 0) (row3 ab 1) j a := by
  pointwise [cellR, cell, placeR_apply, loR_apply, hiR_apply, id_eq]

theorem numberR_apply : numberR o dn ab (ix2 r j) = number (row3 o r) (row3 dn r) (row3 ab 0) (row3 ab 1) j := by
  pointwise [numberR, number, cellR_apply]

theorem boundR_apply (mean : FVec Ideal S_ .f32) :
    boundR o dn ab mean (ix2 r j) = bound (row3 o r) (row3 dn r) (row3 ab 0) (row3 ab 1) (mean ix0) j := by
  pointwise [boundR, bound, stopR_apply, startR_apply, stepR_apply, hitR_apply, id_eq]

theorem flag (b : BitVec 1) : (FloatOps.uitofp .f32 b : Num) = Scalar.select b (lit 0x3F800000#32) (lit 0#32) := by
  by_cases h : b = 1
  · subst h
    pointwise
    show (((1#1 : BitVec 1).toNat : ℝ) : EReal) = 1
    simp
  · have h0 : b = 0#1 := ValueIdx.eq_zero_of_ne_one h
    subst h0
    pointwise
    show (((0#1 : BitVec 1).toNat : ℝ) : EReal) = 0
    simp

theorem paramR_apply (k : Fin 8) : paramR o dn ab (ix2 r k) = param (row3 o r) (row3 dn r) (row3 ab 0) (row3 ab 1) k := by
  fin_cases k
  all_goals pointwise [paramR, param, stepR_apply, hitR_apply, flag]

end Read

/-! ## The reference's results are those arrays -/

section Results

open Idealize.SL.Sem

variable (m : (ℓ : Loc nD τ sig) → Buf (Elt Ideal) ℓ) (c : Dev nD)

theorem res5 : Cert.MarchIdeal.Value.res_out5 m c = startR (m ((c.tc : Thread nD τ).loc main_arg0)) (unitR (m ((c.tc : Thread nD τ).loc main_arg1))) (m ((c.tc : Thread nD τ).loc main_arg2)) := rfl
theorem res4 : Cert.MarchIdeal.Value.res_out4 m c = boundR (m ((c.tc : Thread nD τ).loc main_arg0)) (unitR (m ((c.tc : Thread nD τ).loc main_arg1))) (m ((c.tc : Thread nD τ).loc main_arg2)) (meanR (m ((c.tc : Thread nD τ).loc main_arg3))) := rfl
theorem res3 : Cert.MarchIdeal.Value.res_out3 m c = numberR (m ((c.tc : Thread nD τ).loc main_arg0)) (unitR (m ((c.tc : Thread nD τ).loc main_arg1))) (m ((c.tc : Thread nD τ).loc main_arg2)) := rfl
theorem res2 : Cert.MarchIdeal.Value.res_out2 m c = paramR (m ((c.tc : Thread nD τ).loc main_arg0)) (unitR (m ((c.tc : Thread nD τ).loc main_arg1))) (m ((c.tc : Thread nD τ).loc main_arg2)) := rfl

end Results

end Cert.Proof.Ray

end
-- ==== Proof.March.lean ====
/- The first TensorCore call, block by block: what its body leaves of a block of rays is each ray's numbers. -/
module

public import proofs.«01_k».proof.Proof.Gen.PrecomputeIdeal.Value
public import proofs.«01_k».proof.Proof.Ray

@[expose] public section

set_option maxRecDepth 8192

noncomputable section

namespace Cert.Proof.March

open Cert.PrecomputeIdeal Cert.PrecomputeIdeal.Gen Cert.PrecomputeIdeal.Value Idealize.ShloMosaic Idealize.ShloMosaic.TcCoe Idealize.SL.Sem
open Cert.Proof.Ray (row3 tlo thi start bound number param lit Num)

section Body

variable (c : Dev nD) (i : grid0.Coords)
  (arg1 : Memref sig .tc .vmem S1024x3 .f32) (harg1 : arg1.IsWhole) (arg2 : Memref sig .tc .vmem S1024x3 .f32) (harg2 : arg2.IsWhole)
  (arg3 : Memref sig .tc .smem S2x3 .f32) (harg3 : arg3.IsWhole) (arg4 : Memref sig .tc .smem S1x1 .f32) (harg4 : arg4.IsWhole)
  (arg5 : Memref sig .tc .vmem S1024x1 .f32) (harg5 : arg5.IsWhole) (arg6 : Memref sig .tc .vmem S1024x1 .f32) (harg6 : arg6.IsWhole)
  (arg7 : Memref sig .tc .vmem S1024x8 .f32) (harg7 : arg7.IsWhole) (arg8 : Memref sig .tc .vmem S1024x128 .i32) (harg8 : arg8.IsWhole)
  (arg9 : Memref sig .tc .vmem S1024x128 .f32) (harg9 : arg9.IsWhole) (arg10 : Memref sig .tc .vmem S1024x128 .f32) (harg10 : arg10.IsWhole)
  (x0 x1 : Vec Ideal S1024x3 .f32) (x2 : Vec Ideal S2x3 .f32) (x3 : Vec Ideal S1x1 .f32) (r : Fin 1024) (j : Fin 128)

/-! ## What the body loads -/

/-- A column of a block of rays. -/
theorem column (arg : Memref sig .tc .vmem S1024x3 .f32) (harg : arg.IsWhole) (x : Vec Ideal S1024x3 .f32) (k : Fin 3)
    (inb : ∀ a, (![0, k.val] : Fin 2 → ℕ) a + S1024x1.size a ≤ S1024x3.size a) :
    View.readAt (Elt Ideal) arg.view (Rect.unit (s := S1024x3) ![0, k.val] S1024x1.size inb).toLoadRect (harg.unread x) (ix2 r 0 : S1024x1.Idx)
      = row3 x r k := by
  rw [View.readAt_eq_ld, harg.read_unread, View.ld_unit]
  pointwise

theorem word (arg : Memref sig .tc .smem S2x3 .f32) (harg : arg.IsWhole) (x : Vec Ideal S2x3 .f32) (b : Fin 2) (k : Fin 3)
    (inb : ∀ a, (![b.val, k.val] : Fin 2 → ℕ) a + S1x1.size a ≤ S2x3.size a) (y : S1x1.Idx) :
    View.readAt (Elt Ideal) arg.view (Rect.unit (s := S2x3) ![b.val, k.val] S1x1.size inb).toLoadRect (harg.unread x) y
      = row3 x b k := by
  rw [View.readAt_eq_ld, harg.read_unread, View.ld_unit]
  pointwise

theorem o0 : kernelRun0_A.sl.r_7 c arg1 harg1 x0 (ix2 r 0) = row3 x0 r 0 := column r arg1 harg1 x0 0 inb_S1024x3_S1024x1_0_0
theorem o1 : kernelRun0_A.sl.r_8 c arg1 harg1 x0 (ix2 r 0) = row3 x0 r 1 := column r arg1 harg1 x0 1 inb_S1024x3_S1024x1_0_1
theorem o2 : kernelRun0_A.sl.r_9 c arg1 harg1 x0 (ix2 r 0) = row3 x0 r 2 := column r arg1 harg1 x0 2 inb_S1024x3_S1024x1_0_2
theorem lo0 : kernelRun0_A.sl.r c arg3 harg3 x2 = row3 x2 0 0 := word arg3 harg3 x2 0 0 inb_S2x3_S1x1_0_0 _
theorem lo1 : kernelRun0_A.sl.r_1 c arg3 harg3 x2 = row3 x2 0 1 := word arg3 harg3 x2 0 1 inb_S2x3_S1x1_0_1 _
theorem lo2 : kernelRun0_A.sl.r_2 c arg3 harg3 x2 = row3 x2 0 2 := word arg3 harg3 x2 0 2 inb_S2x3_S1x1_0_2 _
theorem hi0 : kernelRun0_A.sl.r_3 c arg3 harg3 x2 = row3 x2 1 0 := word arg3 harg3 x2 1 0 inb_S2x3_S1x1_1_0 _
theorem hi1 : kernelRun0_A.sl.r_4 c arg3 harg3 x2 = row3 x2 1 1 := word arg3 harg3 x2 1 1 inb_S2x3_S1x1_1_1 _
theorem hi2 : kernelRun0_A.sl.r_5 c arg3 harg3 x2 = row3 x2 1 2 := word arg3 harg3 x2 1 2 inb_S2x3_S1x1_1_2 _
theorem mean0 : kernelRun0_A.sl.r_6 c arg4 harg4 x3 = x3 (ix2 0 0) := by
  unfold kernelRun0_A.sl.r_6
  rw [View.readAt_eq_ld, harg4.read_unread, View.ld_unit]
  pointwise

theorem d0 : kernelRun0_A.sl.r_10 c arg2 harg2 x1 (ix2 r 0) = row3 x1 r 0 := by
  have h := column r arg2 harg2 x1 0 inb_S1024x3_S1024x1_0_0
  pointwise [kernelRun0_A.sl.r_10, k0_pay3]
  exact h
theorem d1 : kernelRun0_A.sl.r_11 c arg2 harg2 x1 (ix2 r 0) = row3 x1 r 1 := by
  have h := column r arg2 harg2 x1 1 inb_S1024x3_S1024x1_0_1
  pointwise [kernelRun0_A.sl.r_11, k0_pay4]
  exact h
theorem d2 : kernelRun0_A.sl.r_12 c arg2 harg2 x1 (ix2 r 0) = row3 x1 r 2 := by
  have h := column r arg2 harg2 x1 2 inb_S1024x3_S1024x1_0_2
  pointwise [kernelRun0_A.sl.r_12, k0_pay5]
  exact h

theorem inv0 : kernelRun0_A.sl.r_13 c arg2 harg2 x1 (ix2 r 0) = Ray.inv (row3 x1 r 0) := by
  rw [← column r arg2 harg2 x1 0 inb_S1024x3_S1024x1_0_0]
  pointwise [kernelRun0_A.sl.r_13, k0_pay6, k0_pay3, Ray.inv]

theorem inv1 : k0_pay8 (kernelRun0_A.sl.r_14 c arg2 harg2 x1) (ix2 r 0) = Ray.inv (row3 x1 r 1) := by
  rw [← column r arg2 harg2 x1 1 inb_S1024x3_S1024x1_0_1]
  pointwise [kernelRun0_A.sl.r_14, k0_pay8, k0_pay7, k0_pay4, Ray.inv]

theorem inv2 : k0_pay9 (kernelRun0_A.sl.r_12 c arg2 harg2 x1) (ix2 r 0) = Ray.inv (row3 x1 r 2) := by
  rw [← column r arg2 harg2 x1 2 inb_S1024x3_S1024x1_0_2]
  pointwise [kernelRun0_A.sl.r_12, k0_pay9, k0_pay5, Ray.inv]

/-! ## Where a ray is inside the box -/

theorem first_eq :
    k0_pay16 (kernelRun0_A.sl.r_7 c arg1 harg1 x0) (kernelRun0_A.sl.r_8 c arg1 harg1 x0) (kernelRun0_A.sl.r_9 c arg1 harg1 x0) (kernelRun0_A.sl.r_12 c arg2 harg2 x1)
      (kernelRun0_A.sl.r c arg3 harg3 x2) (kernelRun0_A.sl.r_1 c arg3 harg3 x2) (kernelRun0_A.sl.r_2 c arg3 harg3 x2) (kernelRun0_A.sl.r_3 c arg3 harg3 x2) (kernelRun0_A.sl.r_4 c arg3 harg3 x2) (kernelRun0_A.sl.r_5 c arg3 harg3 x2)
      (kernelRun0_A.sl.r_13 c arg2 harg2 x1) (kernelRun0_A.sl.r_14 c arg2 harg2 x1) (ix2 r 0) = Ray.first (row3 x0 r) (row3 x1 r) (row3 x2 0) (row3 x2 1) := by
  unfold k0_pay16
  pointwise [k0_pay10, k0_pay11, k0_pay12, k0_pay13, k0_pay14, k0_pay15, o0, o1, o2, lo0, lo1, lo2, hi0, hi1, hi2, inv0, inv1, inv2, Ray.first, Ray.passes]

theorem last_eq :
    k0_pay17 (kernelRun0_A.sl.r_7 c arg1 harg1 x0) (kernelRun0_A.sl.r_8 c arg1 harg1 x0) (kernelRun0_A.sl.r_9 c arg1 harg1 x0) (kernelRun0_A.sl.r_12 c arg2 harg2 x1)
      (kernelRun0_A.sl.r c arg3 harg3 x2) (kernelRun0_A.sl.r_1 c arg3 harg3 x2) (kernelRun0_A.sl.r_2 c arg3 harg3 x2) (kernelRun0_A.sl.r_3 c arg3 harg3 x2) (kernelRun0_A.sl.r_4 c arg3 harg3 x2) (kernelRun0_A.sl.r_5 c arg3 harg3 x2)
      (kernelRun0_A.sl.r_13 c arg2 harg2 x1) (kernelRun0_A.sl.r_14 c arg2 harg2 x1) (ix2 r 0) = Ray.last (row3 x0 r) (row3 x1 r) (row3 x2 0) (row3 x2 1) := by
  unfold k0_pay17
  pointwise [k0_pay10, k0_pay11, k0_pay12, k0_pay13, k0_pay14, k0_pay15, o0, o1, o2, lo0, lo1, lo2, hi0, hi1, hi2, inv0, inv1, inv2, Ray.last, Ray.passes]

theorem hit_eq : kernelRun0_A.sl.r_15 c arg1 harg1 arg2 harg2 arg3 harg3 x0 x1 x2 (ix2 r 0) = Ray.hit (row3 x0 r) (row3 x1 r) (row3 x2 0) (row3 x2 1) := by
  unfold kernelRun0_A.sl.r_15
  pointwise [k0_pay18, first_eq, last_eq, Ray.hit]

theorem tlo_eq : kernelRun0_A.sl.r_16 c arg1 harg1 arg2 harg2 arg3 harg3 x0 x1 x2 (ix2 r 0) = tlo (row3 x0 r) (row3 x1 r) (row3 x2 0) (row3 x2 1) := by
  unfold kernelRun0_A.sl.r_16
  pointwise [k0_pay19, first_eq, tlo]

theorem thi_eq : kernelRun0_A.sl.r_17 c arg1 harg1 arg2 harg2 arg3 harg3 x0 x1 x2 (ix2 r 0) = thi (row3 x0 r) (row3 x1 r) (row3 x2 0) (row3 x2 1) := by
  unfold kernelRun0_A.sl.r_17
  pointwise [k0_pay20, last_eq, thi]

/-! ## A ray's samples -/

theorem step_eq : kernelRun0_A.sl.r_18 c arg1 harg1 arg2 harg2 arg3 harg3 x0 x1 x2 (ix2 r 0) = Ray.step (row3 x0 r) (row3 x1 r) (row3 x2 0) (row3 x2 1) := by
  unfold kernelRun0_A.sl.r_18
  pointwise [k0_pay22, k0_pay21, tlo_eq, thi_eq, Ray.step, Ray.span]

theorem start_eq : kernelRun0_A.sl.r_19 c arg1 harg1 arg2 harg2 arg3 harg3 x0 x1 x2 (ix2 r j) = start (row3 x0 r) (row3 x1 r) (row3 x2 0) (row3 x2 1) j := by
  unfold kernelRun0_A.sl.r_19
  pointwise [k0_pay24, k0_pay21, tlo_eq, thi_eq, start, Ray.span]

theorem stop_eq : kernelRun0_A.sl.r_20 c arg1 harg1 arg2 harg2 arg3 harg3 x0 x1 x2 (ix2 r j) = Ray.stop (row3 x0 r) (row3 x1 r) (row3 x2 0) (row3 x2 1) j := by
  unfold kernelRun0_A.sl.r_20
  pointwise [k0_pay25, k0_pay24, k0_pay22, k0_pay21, tlo_eq, thi_eq, Ray.stop, start, Ray.step, Ray.span]

theorem mid_eq : kernelRun0_A.sl.r_21 c arg1 harg1 arg2 harg2 arg3 harg3 x0 x1 x2 (ix2 r j) = Ray.mid (row3 x0 r) (row3 x1 r) (row3 x2 0) (row3 x2 1) j := by
  unfold kernelRun0_A.sl.r_21
  pointwise [k0_pay26, k0_pay25, k0_pay24, k0_pay22, k0_pay21, tlo_eq, thi_eq, Ray.mid, Ray.stop, start, Ray.step, Ray.span]

theorem cell0 : kernelRun0_A.sl.r_22 c arg1 harg1 arg2 harg2 arg3 harg3 x0 x1 x2 (ix2 r j) = Ray.cell (row3 x0 r) (row3 x1 r) (row3 x2 0) (row3 x2 1) j 0 := by
  unfold kernelRun0_A.sl.r_22
  pointwise [k0_pay27, o0, d0, lo0, hi0, mid_eq, Ray.cell]

theorem cell1 : kernelRun0_A.sl.r_23 c arg1 harg1 arg2 harg2 arg3 harg3 x0 x1 x2 (ix2 r j) = Ray.cell (row3 x0 r) (row3 x1 r) (row3 x2 0) (row3 x2 1) j 1 := by
  unfold kernelRun0_A.sl.r_23
  pointwise [k0_pay28, o1, d1, lo1, hi1, mid_eq, Ray.cell]

theorem cell2 : kernelRun0_A.sl.r_24 c arg1 harg1 arg2 harg2 arg3 harg3 x0 x1 x2 (ix2 r j) = Ray.cell (row3 x0 r) (row3 x1 r) (row3 x2 0) (row3 x2 1) j 2 := by
  unfold kernelRun0_A.sl.r_24
  pointwise [k0_pay29, o2, d2, lo2, hi2, mid_eq, Ray.cell]

/-! ## What a grid point leaves of each result -/

theorem hz : (![0, 0] : Fin 2 → ℕ) = fun _ => 0 := funext fun a => by fin_cases a <;> rfl

theorem out4 : out0_A_4 c i arg1 harg1 arg2 harg2 arg3 harg3 arg4 harg4 arg5 harg5 arg6 harg6 arg7 harg7 arg8 harg8 arg9 harg9 arg10 harg10 x0 x1 x2 x3 (ix2 r 0) = tlo (row3 x0 r) (row3 x1 r) (row3 x2 0) (row3 x2 1) := by
  unfold out0_A_4
  rw [View.read_writes_junk_eq_canon]
  dsimp only [kernelRun0_A]
  rw [View.canon_unit_zero hz]
  exact tlo_eq c arg1 harg1 arg2 harg2 arg3 harg3 x0 x1 x2 r

theorem out5 : out0_A_5 c i arg1 harg1 arg2 harg2 arg3 harg3 arg4 harg4 arg5 harg5 arg6 harg6 arg7 harg7 arg8 harg8 arg9 harg9 arg10 harg10 x0 x1 x2 x3 (ix2 r 0) = thi (row3 x0 r) (row3 x1 r) (row3 x2 0) (row3 x2 1) := by
  unfold out0_A_5
  rw [View.read_writes_junk_eq_canon]
  dsimp only [kernelRun0_A]
  rw [View.canon_unit_zero hz]
  exact thi_eq c arg1 harg1 arg2 harg2 arg3 harg3 x0 x1 x2 r

theorem out7 : out0_A_7 c i arg1 harg1 arg2 harg2 arg3 harg3 arg4 harg4 arg5 harg5 arg6 harg6 arg7 harg7 arg8 harg8 arg9 harg9 arg10 harg10 x0 x1 x2 x3 (ix2 r j) = number (row3 x0 r) (row3 x1 r) (row3 x2 0) (row3 x2 1) j := by
  unfold out0_A_7
  rw [View.read_writes_junk_eq_canon]
  dsimp only [kernelRun0_A]
  rw [View.canon_unit_zero hz]
  pointwise [k0_pay1, cell0, cell1, cell2, number]

theorem out8 : out0_A_8 c i arg1 harg1 arg2 harg2 arg3 harg3 arg4 harg4 arg5 harg5 arg6 harg6 arg7 harg7 arg8 harg8 arg9 harg9 arg10 harg10 x0 x1 x2 x3 (ix2 r j) = bound (row3 x0 r) (row3 x1 r) (row3 x2 0) (row3 x2 1) (x3 (ix2 0 0)) j := by
  unfold out0_A_8
  rw [View.read_writes_junk_eq_canon]
  dsimp only [kernelRun0_A]
  rw [View.canon_unit_zero hz]
  pointwise [k0_pay2, hit_eq, step_eq, start_eq, stop_eq, mean0, bound]

theorem out9 : out0_A_9 c i arg1 harg1 arg2 harg2 arg3 harg3 arg4 harg4 arg5 harg5 arg6 harg6 arg7 harg7 arg8 harg8 arg9 harg9 arg10 harg10 x0 x1 x2 x3 (ix2 r j) = start (row3 x0 r) (row3 x1 r) (row3 x2 0) (row3 x2 1) j := by
  unfold out0_A_9
  rw [View.read_writes_junk_eq_canon]
  dsimp only [kernelRun0_A]
  rw [View.canon_unit_zero hz]
  exact start_eq c arg1 harg1 arg2 harg2 arg3 harg3 x0 x1 x2 r j

theorem at_column (k : Fin 8) (inb : ∀ a, (![0, k.val] : Fin 2 → ℕ) a + (![1024, 1] : Fin 2 → ℕ) a ≤ S1024x8.size a) (q : Fin 1024) :
    (Rect.unit (s := S1024x8) ![0, k.val] ![1024, 1] inb).emb (ix2 q 0 : S1024x1.Idx) = (ix2 q k : S1024x8.Idx) := by
  funext a; apply Fin.ext
  match a with
  | ⟨0, _⟩ => show 0 + 1 * q.val = q.val; omega
  | ⟨1, _⟩ => show k.val + 1 * 0 = k.val; omega

/-- A store of a column reads back in its column. -/
theorem stored (k : Fin 8) (inb : ∀ a, (![0, k.val] : Fin 2 → ℕ) a + (![1024, 1] : Fin 2 → ℕ) a ≤ S1024x8.size a)
    (w : FVec Ideal S1024x1 .f32) (G : S1024x8.Idx → Num) (h : ∀ q, w (ix2 q 0) = G (ix2 q k)) (y : S1024x1.Idx) :
    w y = G ((Rect.unit (s := S1024x8) ![0, k.val] ![1024, 1] inb).emb y) := by
  obtain ⟨q, hq⟩ : ∃ q : Fin 1024, y = ix2 q 0 := ⟨y 0, by
    funext a
    match a with
    | ⟨0, _⟩ => rfl
    | ⟨1, _⟩ => exact Subsingleton.elim (α := Fin 1) _ _⟩
  subst hq
  exact (h q).trans (congrArg G (at_column k inb q).symm)

theorem in_column (k : Fin 8) (inb : ∀ a, (![0, k.val] : Fin 2 → ℕ) a + (![1024, 1] : Fin 2 → ℕ) a ≤ S1024x8.size a) :
    (ix2 r k : S1024x8.Idx) ∈ (Rect.unit (s := S1024x8) ![0, k.val] ![1024, 1] inb).set := by
  exact at_column k inb r ▸ (Rect.unit (s := S1024x8) ![0, k.val] ![1024, 1] inb).idx_mem (ix2 r 0 : S1024x1.Idx)

/-- The rays' parameters, from a block of rays. -/
def params : S1024x8.Idx → Num := fun y => param (row3 x0 (y 0)) (row3 x1 (y 0)) (row3 x2 0) (row3 x2 1) (y 1)

theorem hits (q : Fin 1024) : k0_pay23 (kernelRun0_A.sl.r_15 c arg1 harg1 arg2 harg2 arg3 harg3 x0 x1 x2) (ix2 q 0) = params x0 x1 x2 (ix2 q 7) := by
  have h := hit_eq c arg1 harg1 arg2 harg2 arg3 harg3 x0 x1 x2 q
  show _ = Scalar.select (Ray.hit (row3 x0 q) (row3 x1 q) (row3 x2 0) (row3 x2 1)) (lit 0x3F800000#32) (lit 0#32)
  rw [← h]
  pointwise [k0_pay23]

theorem out6 (k : Fin 8) : out0_A_6 c i arg1 harg1 arg2 harg2 arg3 harg3 arg4 harg4 arg5 harg5 arg6 harg6 arg7 harg7 arg8 harg8 arg9 harg9 arg10 harg10 x0 x1 x2 x3 (ix2 r k) = param (row3 x0 r) (row3 x1 r) (row3 x2 0) (row3 x2 1) k := by
  unfold out0_A_6
  rw [View.read_writes_junk_eq_canon]
  dsimp only [kernelRun0_A]
  refine View.canon_apply_of_pieces (Val := Elt Ideal) (S := S1024x8) (e := .f32) (params x0 x1 x2) _ ?_ _ ?_
  · simp only [List.forall_mem_cons]
    refine ⟨?_, ?_, ?_, ?_, ?_, ?_, ?_, ?_, fun p hp => absurd hp (List.not_mem_nil)⟩
    · exact stored 7 _ _ (params x0 x1 x2) fun q => hits c arg1 harg1 arg2 harg2 arg3 harg3 x0 x1 x2 q
    · exact stored 6 _ _ (params x0 x1 x2) fun q => step_eq c arg1 harg1 arg2 harg2 arg3 harg3 x0 x1 x2 q
    · exact stored 5 _ _ (params x0 x1 x2) fun q => d2 c arg2 harg2 x1 q
    · exact stored 4 _ _ (params x0 x1 x2) fun q => d1 c arg2 harg2 x1 q
    · exact stored 3 _ _ (params x0 x1 x2) fun q => d0 c arg2 harg2 x1 q
    · exact stored 2 _ _ (params x0 x1 x2) fun q => o2 c arg1 harg1 x0 q
    · exact stored 1 _ _ (params x0 x1 x2) fun q => o1 c arg1 harg1 x0 q
    · exact stored 0 _ _ (params x0 x1 x2) fun q => o0 c arg1 harg1 x0 q
  · simp only [List.exists_mem_cons_iff]
    match k with
    | 7 => exact .inl (in_column r 7 _)
    | 6 => exact .inr (.inl (in_column r 6 _))
    | 5 => exact .inr (.inr (.inl (in_column r 5 _)))
    | 4 => exact .inr (.inr (.inr (.inl (in_column r 4 _))))
    | 3 => exact .inr (.inr (.inr (.inr (.inl (in_column r 3 _)))))
    | 2 => exact .inr (.inr (.inr (.inr (.inr (.inl (in_column r 2 _))))))
    | 1 => exact .inr (.inr (.inr (.inr (.inr (.inr (.inl (in_column r 1 _)))))))
    | 0 => exact .inr (.inr (.inr (.inr (.inr (.inr (.inr (.inl (in_column r 0 _))))))))

end Body

/-! ## The blocks are rows of the arrays -/

section Arrays

variable (m : (ℓ : Loc nD τ sig) → Buf (Elt Ideal) ℓ) (ρ : Dev nD → PrngReg) (c : Dev nD) (t : Fin cfg0.N)

/-- The ray that row `r` of grid point `t` is. -/
def ray (r : Fin 1024) : Fin 8192 := ⟨t.val * 1024 + r.val, by
  have h : t.val < 8 := lt_of_lt_of_le t.isLt (by decide)
  have := r.isLt; omega⟩

theorem in0 : ∀ t : Fin cfg0.N, win0_0.index t (0 : Fin 2) = t.val ∧ win0_0.index t (1 : Fin 2) = 0 := (by decide +kernel : ∀ t : Fin grid0.N, _)
theorem in1 : ∀ t : Fin cfg0.N, win0_1.index t (0 : Fin 2) = t.val ∧ win0_1.index t (1 : Fin 2) = 0 := (by decide +kernel : ∀ t : Fin grid0.N, _)
theorem in2 : ∀ t : Fin cfg0.N, win0_2.index t (0 : Fin 2) = 0 ∧ win0_2.index t (1 : Fin 2) = 0 := (by decide +kernel : ∀ t : Fin grid0.N, _)
theorem in3 : ∀ t : Fin cfg0.N, win0_3.index t (0 : Fin 2) = 0 ∧ win0_3.index t (1 : Fin 2) = 0 := (by decide +kernel : ∀ t : Fin grid0.N, _)

theorem row0 (r : Fin 1024) : row3 (iblk m c 0 t) r = row3 (V m c main_arg0) (ray t r) := by
  obtain ⟨e0, e1⟩ := in0 t
  funext k
  refine congrArg (V m c main_arg0) (funext fun a => Fin.ext ?_)
  match a with
  | ⟨0, _⟩ => show win0_0.index t (0 : Fin 2) * 1024 + 1 * r.val = t.val * 1024 + r.val; omega
  | ⟨1, _⟩ => show win0_0.index t (1 : Fin 2) * 3 + 1 * k.val = k.val; omega

theorem row1 (r : Fin 1024) : row3 (iblk m c 1 t) r = row3 (V m c main_v5) (ray t r) := by
  obtain ⟨e0, e1⟩ := in1 t
  funext k
  refine congrArg (V m c main_v5) (funext fun a => Fin.ext ?_)
  match a with
  | ⟨0, _⟩ => show win0_1.index t (0 : Fin 2) * 1024 + 1 * r.val = t.val * 1024 + r.val; omega
  | ⟨1, _⟩ => show win0_1.index t (1 : Fin 2) * 3 + 1 * k.val = k.val; omega

theorem row2 (b : Fin 2) : row3 (iblk m c 2 t) b = row3 (V m c main_arg2) b := by
  obtain ⟨e0, e1⟩ := in2 t
  funext k
  refine congrArg (V m c main_arg2) (funext fun a => Fin.ext ?_)
  match a with
  | ⟨0, _⟩ => show win0_2.index t (0 : Fin 2) * 2 + 1 * b.val = b.val; omega
  | ⟨1, _⟩ => show win0_2.index t (1 : Fin 2) * 3 + 1 * k.val = k.val; omega

theorem row3' : iblk m c 3 t (ix2 0 0 : S1x1.Idx) = V m c main_v2 (ix2 0 0 : S1x1.Idx) := by
  obtain ⟨e0, e1⟩ := in3 t
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-! ## What the host makes before the region -/

theorem unit_eq : V m c main_v5 = Ray.unitR (m ((c : Thread nD τ).loc main_arg1)) := by
  simp only [V, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

theorem mean_eq : V m c main_v2 (ix2 0 0 : S1x1.Idx) = Ray.meanR (m ((c : Thread nD τ).loc main_arg3)) ix0 := by
  simp only [V, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  show shapeCast S1x1 (Ray.meanR (m ((c : Thread nD τ).loc main_arg3))) shapeCasts_S_S1x1 (ix2 0 0) = _
  pointwise

/-! ## The results, whole -/

/-- Every ray is a row of some grid point. -/
theorem is_row {n : ℕ} (x : (⟨2, ![8192, n]⟩ : Shape).Idx) : ∃ (t : Fin cfg0.N) (r : Fin 1024), (ix2 (ray t r) (x 1) : (⟨2, ![8192, n]⟩ : Shape).Idx) = x := by
  have h0 : (x 0).val < 8192 := (x 0).isLt
  refine ⟨⟨(x 0).val / 1024, lt_of_lt_of_le (b := 8) (by omega) (by decide)⟩, ⟨(x 0).val % 1024, Nat.mod_lt _ (by decide)⟩, funext fun a => Fin.ext ?_⟩
  match a with
  | ⟨0, _⟩ => show (x 0).val / 1024 * 1024 + (x 0).val % 1024 = (x 0).val; omega
  | ⟨1, _⟩ => rfl

/-- An index of a column. -/
theorem is_entry {n k : ℕ} (y : (⟨2, ![n, k]⟩ : Shape).Idx) : y = ix2 (y 0) (y 1) := funext fun a => by
  match a with
  | ⟨0, _⟩ => rfl
  | ⟨1, _⟩ => rfl

/-- The arrays the rays are read from: origins, directions at length one, the box, and the mean density. -/
abbrev O : FVec Ideal S8192x3 .f32 := m ((c : Thread nD τ).loc main_arg0)
abbrev D : FVec Ideal S8192x3 .f32 := Ray.unitR (m ((c : Thread nD τ).loc main_arg1))
abbrev B : FVec Ideal S2x3 .f32 := m ((c : Thread nD τ).loc main_arg2)
abbrev M : FVec Ideal S_ .f32 := Ray.meanR (m ((c : Thread nD τ).loc main_arg3))

theorem at4 : ∀ t : Fin cfg0.N, win0_4.index t (0 : Fin 2) = t.val ∧ win0_4.index t (1 : Fin 2) = 0 := (by decide +kernel : ∀ t : Fin grid0.N, _)

theorem emb4 (r : Fin 1024) (j : Fin 1) : ((cfg0.win 4).blk t).view.emb (ix2 r j) = (ix2 (ray t r) j : S8192x1.Idx) := by
  obtain ⟨e0, e1⟩ := at4 t
  funext a; apply Fin.ext
  match a with
  | ⟨0, _⟩ => show win0_4.index t (0 : Fin 2) * 1024 + 1 * r.val = t.val * 1024 + r.val; omega
  | ⟨1, _⟩ => show win0_4.index t (1 : Fin 2) * 1 + 1 * j.val = j.val; omega

theorem final4 : (dats m 0 c).arrAt 4 cfg0.N = (fun x => tlo (row3 (O m c) (x 0)) (row3 (D m c) (x 0)) (row3 (B m c) 0) (row3 (B m c) 1) : S8192x1.Idx → _) := by
  refine (dats m 0 c).arrAt_eq_of_cover 4 _ (fun t _ => ?_) fun x => ?_
  · rw [flushed4_A]
    funext y
    obtain ⟨r, j, rfl⟩ : ∃ (r : Fin 1024) (j : Fin 1), y = ix2 r j := ⟨y 0, y 1, is_entry y⟩
    obtain rfl : j = 0 := Subsingleton.elim _ _
    refine (out4 _ _ _ _ _ _ _ _ _ _ _ _ _ _ _ _ _ _ _ _ _ _ _ _ _ _ r).trans ?_
    rw [row0, row1, row2, row2, V_main_arg0, V_main_arg2, unit_eq]
    exact (congrArg (fun x => tlo (row3 (O m c) (x 0)) (row3 (D m c) (x 0)) (row3 (B m c) 0) (row3 (B m c) 1) : S8192x1.Idx → _) (emb4 t r 0)).symm
  · obtain ⟨t, r, e⟩ := is_row x
    exact ⟨t, flush0_4 t, ((emb4 t r (x 1)).trans e) ▸ View.emb_mem_set _ _⟩

theorem at5 : ∀ t : Fin cfg0.N, win0_5.index t (0 : Fin 2) = t.val ∧ win0_5.index t (1 : Fin 2) = 0 := (by decide +kernel : ∀ t : Fin grid0.N, _)

theorem emb5 (r : Fin 1024) (j : Fin 1) : ((cfg0.win 5).blk t).view.emb (ix2 r j) = (ix2 (ray t r) j : S8192x1.Idx) := by
  obtain ⟨e0, e1⟩ := at5 t
  funext a; apply Fin.ext
  match a with
  | ⟨0, _⟩ => show win0_5.index t (0 : Fin 2) * 1024 + 1 * r.val = t.val * 1024 + r.val; omega
  | ⟨1, _⟩ => show win0_5.index t (1 : Fin 2) * 1 + 1 * j.val = j.val; omega

theorem final5 : (dats m 0 c).arrAt 5 cfg0.N = (fun x => thi (row3 (O m c) (x 0)) (row3 (D m c) (x 0)) (row3 (B m c) 0) (row3 (B m c) 1) : S8192x1.Idx → _) := by
  refine (dats m 0 c).arrAt_eq_of_cover 5 _ (fun t _ => ?_) fun x => ?_
  · rw [flushed5_A]
    funext y
    obtain ⟨r, j, rfl⟩ : ∃ (r : Fin 1024) (j : Fin 1), y = ix2 r j := ⟨y 0, y 1, is_entry y⟩
    obtain rfl : j = 0 := Subsingleton.elim _ _
    refine (out5 _ _ _ _ _ _ _ _ _ _ _ _ _ _ _ _ _ _ _ _ _ _ _ _ _ _ r).trans ?_
    rw [row0, row1, row2, row2, V_main_arg0, V_main_arg2, unit_eq]
    exact (congrArg (fun x => thi (row3 (O m c) (x 0)) (row3 (D m c) (x 0)) (row3 (B m c) 0) (row3 (B m c) 1) : S8192x1.Idx → _) (emb5 t r 0)).symm
  · obtain ⟨t, r, e⟩ := is_row x
    exact ⟨t, flush0_5 t, ((emb5 t r (x 1)).trans e) ▸ View.emb_mem_set _ _⟩

theorem at6 : ∀ t : Fin cfg0.N, win0_6.index t (0 : Fin 2) = t.val ∧ win0_6.index t (1 : Fin 2) = 0 := (by decide +kernel : ∀ t : Fin grid0.N, _)

theorem emb6 (r : Fin 1024) (j : Fin 8) : ((cfg0.win 6).blk t).view.emb (ix2 r j) = (ix2 (ray t r) j : S8192x8.Idx) := by
  obtain ⟨e0, e1⟩ := at6 t
  funext a; apply Fin.ext
  match a with
  | ⟨0, _⟩ => show win0_6.index t (0 : Fin 2) * 1024 + 1 * r.val = t.val * 1024 + r.val; omega
  | ⟨1, _⟩ => show win0_6.index t (1 : Fin 2) * 8 + 1 * j.val = j.val; omega

theorem final6 : (dats m 0 c).arrAt 6 cfg0.N = (Ray.paramR (O m c) (D m c) (B m c) : S8192x8.Idx → _) := by
  refine (dats m 0 c).arrAt_eq_of_cover 6 _ (fun t _ => ?_) fun x => ?_
  · rw [flushed6_A]
    funext y
    obtain ⟨r, j, rfl⟩ : ∃ (r : Fin 1024) (j : Fin 8), y = ix2 r j := ⟨y 0, y 1, is_entry y⟩
    refine (out6 _ _ _ _ _ _ _ _ _ _ _ _ _ _ _ _ _ _ _ _ _ _ _ _ _ _ r j).trans ?_
    rw [row0, row1, row2, row2, V_main_arg0, V_main_arg2, unit_eq]
    exact ((Ray.paramR_apply (O m c) (D m c) (B m c) (ray t r) j).symm).trans (congrArg (Ray.paramR (O m c) (D m c) (B m c)) (emb6 t r j)).symm
  · obtain ⟨t, r, e⟩ := is_row x
    exact ⟨t, flush0_6 t, ((emb6 t r (x 1)).trans e) ▸ View.emb_mem_set _ _⟩

theorem at7 : ∀ t : Fin cfg0.N, win0_7.index t (0 : Fin 2) = t.val ∧ win0_7.index t (1 : Fin 2) = 0 := (by decide +kernel : ∀ t : Fin grid0.N, _)

theorem emb7 (r : Fin 1024) (j : Fin 128) : ((cfg0.win 7).blk t).view.emb (ix2 r j) = (ix2 (ray t r) j : S8192x128.Idx) := by
  obtain ⟨e0, e1⟩ := at7 t
  funext a; apply Fin.ext
  match a with
  | ⟨0, _⟩ => show win0_7.index t (0 : Fin 2) * 1024 + 1 * r.val = t.val * 1024 + r.val; omega
  | ⟨1, _⟩ => show win0_7.index t (1 : Fin 2) * 128 + 1 * j.val = j.val; omega

theorem final7 : (dats m 0 c).arrAt 7 cfg0.N = (Ray.numberR (O m c) (D m c) (B m c) : S8192x128.Idx → _) := by
  refine (dats m 0 c).arrAt_eq_of_cover 7 _ (fun t _ => ?_) fun x => ?_
  · rw [flushed7_A]
    funext y
    obtain ⟨r, j, rfl⟩ : ∃ (r : Fin 1024) (j : Fin 128), y = ix2 r j := ⟨y 0, y 1, is_entry y⟩
    refine (out7 _ _ _ _ _ _ _ _ _ _ _ _ _ _ _ _ _ _ _ _ _ _ _ _ _ _ r j).trans ?_
    rw [row0, row1, row2, row2, V_main_arg0, V_main_arg2, unit_eq]
    exact ((Ray.numberR_apply (O m c) (D m c) (B m c) (ray t r) j).symm).trans (congrArg (Ray.numberR (O m c) (D m c) (B m c)) (emb7 t r j)).symm
  · obtain ⟨t, r, e⟩ := is_row x
    exact ⟨t, flush0_7 t, ((emb7 t r (x 1)).trans e) ▸ View.emb_mem_set _ _⟩

theorem at8 : ∀ t : Fin cfg0.N, win0_8.index t (0 : Fin 2) = t.val ∧ win0_8.index t (1 : Fin 2) = 0 := (by decide +kernel : ∀ t : Fin grid0.N, _)

theorem emb8 (r : Fin 1024) (j : Fin 128) : ((cfg0.win 8).blk t).view.emb (ix2 r j) = (ix2 (ray t r) j : S8192x128.Idx) := by
  obtain ⟨e0, e1⟩ := at8 t
  funext a; apply Fin.ext
  match a with
  | ⟨0, _⟩ => show win0_8.index t (0 : Fin 2) * 1024 + 1 * r.val = t.val * 1024 + r.val; omega
  | ⟨1, _⟩ => show win0_8.index t (1 : Fin 2) * 128 + 1 * j.val = j.val; omega

theorem final8 : (dats m 0 c).arrAt 8 cfg0.N = (Ray.boundR (O m c) (D m c) (B m c) (M m c) : S8192x128.Idx → _) := by
  refine (dats m 0 c).arrAt_eq_of_cover 8 _ (fun t _ => ?_) fun x => ?_
  · rw [flushed8_A]
    funext y
    obtain ⟨r, j, rfl⟩ : ∃ (r : Fin 1024) (j : Fin 128), y = ix2 r j := ⟨y 0, y 1, is_entry y⟩
    refine (out8 _ _ _ _ _ _ _ _ _ _ _ _ _ _ _ _ _ _ _ _ _ _ _ _ _ _ r j).trans ?_
    rw [row0, row1, row2, row2, V_main_arg0, V_main_arg2, unit_eq, row3', mean_eq]
    exact ((Ray.boundR_apply (O m c) (D m c) (B m c) (ray t r) j (M m c)).symm).trans (congrArg (Ray.boundR (O m c) (D m c) (B m c) (M m c)) (emb8 t r j)).symm
  · obtain ⟨t, r, e⟩ := is_row x
    exact ⟨t, flush0_8 t, ((emb8 t r (x 1)).trans e) ▸ View.emb_mem_set _ _⟩

theorem at9 : ∀ t : Fin cfg0.N, win0_9.index t (0 : Fin 2) = t.val ∧ win0_9.index t (1 : Fin 2) = 0 := (by decide +kernel : ∀ t : Fin grid0.N, _)

theorem emb9 (r : Fin 1024) (j : Fin 128) : ((cfg0.win 9).blk t).view.emb (ix2 r j) = (ix2 (ray t r) j : S8192x128.Idx) := by
  obtain ⟨e0, e1⟩ := at9 t
  funext a; apply Fin.ext
  match a with
  | ⟨0, _⟩ => show win0_9.index t (0 : Fin 2) * 1024 + 1 * r.val = t.val * 1024 + r.val; omega
  | ⟨1, _⟩ => show win0_9.index t (1 : Fin 2) * 128 + 1 * j.val = j.val; omega

theorem final9 : (dats m 0 c).arrAt 9 cfg0.N = (Ray.startR (O m c) (D m c) (B m c) : S8192x128.Idx → _) := by
  refine (dats m 0 c).arrAt_eq_of_cover 9 _ (fun t _ => ?_) fun x => ?_
  · rw [flushed9_A]
    funext y
    obtain ⟨r, j, rfl⟩ : ∃ (r : Fin 1024) (j : Fin 128), y = ix2 r j := ⟨y 0, y 1, is_entry y⟩
    refine (out9 _ _ _ _ _ _ _ _ _ _ _ _ _ _ _ _ _ _ _ _ _ _ _ _ _ _ r j).trans ?_
    rw [row0, row1, row2, row2, V_main_arg0, V_main_arg2, unit_eq]
    exact ((Ray.startR_apply (O m c) (D m c) (B m c) (ray t r) j).symm).trans (congrArg (Ray.startR (O m c) (D m c) (B m c)) (emb9 t r j)).symm
  · obtain ⟨t, r, e⟩ := is_row x
    exact ⟨t, flush0_9 t, ((emb9 t r (x 1)).trans e) ▸ View.emb_mem_set _ _⟩

end Arrays

end Cert.Proof.March

end
-- ==== Proof.Pack.lean ====
/- The last TensorCore call: the eight columns side by side, a row for each sample, and zero behind the samples counted. -/
module

public import proofs.«01_k».proof.Proof.Gen.InterleaveIdeal.Value
public import proofs.«01_k».proof.Proof.Gen.PackIdeal.Run
public import Idealize.ShloMosaic.Lib.Pointwise

@[expose] public section

set_option maxRecDepth 8192

noncomputable section

namespace Cert.Proof.Pack

open Idealize.ShloMosaic Idealize.ShloMosaic.TcCoe Idealize.SL.Sem

/-- A number of the ideal programs. -/
abbrev Num : Type := Ideal .f32

/-- How many samples there are: the rays' counts, added. -/
def total (n : Fin 8192 → BitVec 32) : BitVec 32 := Finset.univ.fold IntOp.addi 0#32 n

/-- What row `r` has in a column: the column's entry, or zero behind the last sample. -/
def entry (n : Fin 8192 → BitVec 32) (x : Num) (r : BitVec 32) : Num :=
  Scalar.select (IntOp.cmpi .slt r (total n)) x (FloatOps.ofBits .f32 0#32)

/-! ## The reference -/

section Reference

open Cert.PackIdeal Cert.PackIdeal.Gen

/-- The result, index by index. -/
def packed (x : Fin 8 → FVec Ideal S1048576 .f32) (n : IVec S8192 32) : FVec Ideal S1048576x8 .f32 :=
  fun y => entry (fun j => n (ix1 j)) (x (y 1) (ix1 (y 0))) (BitVec.ofNat 32 (y 0).val)

variable (x : Fin 8 → FVec Ideal S1048576 .f32) (n : IVec S8192 32)

def sideR : FVec Ideal S1048576x8 .f32 :=
  concatenate S1048576x8 1 [⟨S1048576x1, broadcastInDim S1048576x1 ![0] bcast_S1048576_S1048576x1_0 (x 0)⟩, ⟨S1048576x1, broadcastInDim S1048576x1 ![0] bcast_S1048576_S1048576x1_0 (x 1)⟩,
    ⟨S1048576x1, broadcastInDim S1048576x1 ![0] bcast_S1048576_S1048576x1_0 (x 2)⟩, ⟨S1048576x1, broadcastInDim S1048576x1 ![0] bcast_S1048576_S1048576x1_0 (x 3)⟩,
    ⟨S1048576x1, broadcastInDim S1048576x1 ![0] bcast_S1048576_S1048576x1_0 (x 4)⟩, ⟨S1048576x1, broadcastInDim S1048576x1 ![0] bcast_S1048576_S1048576x1_0 (x 5)⟩,
    ⟨S1048576x1, broadcastInDim S1048576x1 ![0] bcast_S1048576_S1048576x1_0 (x 6)⟩, ⟨S1048576x1, broadcastInDim S1048576x1 ![0] bcast_S1048576_S1048576x1_0 (x 7)⟩]
    concatenates_S1048576x1_S1048576x1_S1048576x1_S1048576x1_S1048576x1_S1048576x1_S1048576x1_S1048576x1_S1048576x8_d1

def totalR : IVec S_ 32 := Host.reduce IntOp.addi n (constantI S_ 32 0#32) reducesTo_S8192_S_d0 h_S_

def packR : FVec Ideal S1048576x8 .f32 :=
  select (broadcastInDim S1048576x8 ![0, 1] bcast_S1048576x1_S1048576x8_0_1 (broadcastInDim S1048576x1 ![0] bcast_S1048576_S1048576x1_0
      (cmpi .slt (iotaInDim S1048576 32 0) (broadcastInDim S1048576 ![] bcast_S_S1048576 (totalR n)))))
    (sideR x) (broadcastInDim S1048576x8 ![] bcast_S_S1048576x8 (id (constant S_ .f32 0x00000000#32)))

theorem totalR_eq : totalR n ix0 = total fun j => n (ix1 j) := by pointwise [totalR, total]

theorem sideR_eq (r : Fin 1048576) (k : Fin 8) : sideR x (ix2 r k) = x k (ix1 r) := by
  fin_cases k
  all_goals pointwise [sideR]

theorem packed_at (r : Fin 1048576) (k : Fin 8) : packed x n (ix2 r k) = entry (fun j => n (ix1 j)) (x k (ix1 r)) (BitVec.ofNat 32 r.val) := rfl

theorem packR_eq : packR x n = packed x n := by
  funext y
  obtain ⟨r, k, rfl⟩ : ∃ (r : Fin 1048576) (k : Fin 8), y = ix2 r k := ⟨y 0, y 1, funext fun a => by
    match a with
    | ⟨0, _⟩ => rfl
    | ⟨1, _⟩ => rfl⟩
  show _ = entry (fun j => n (ix1 j)) (x k (ix1 r)) (BitVec.ofNat 32 r.val)
  pointwise [packR, sideR_eq, totalR_eq, entry, id_eq]

end Reference

/-! ## The kernel's blocks -/

section Kernel

open Cert.InterleaveIdeal Cert.InterleaveIdeal.Gen Cert.InterleaveIdeal.Value

/-- Adding up one row of an array is adding up its entries. -/
theorem one_row {n : ℕ} (f : Fin n → BitVec 32) :
    (Finset.univ : Finset (Fin 1 × Fin n)).fold IntOp.addi 0#32 (fun x => f x.2) = Finset.univ.fold IntOp.addi 0#32 f := by
  rw [← Finset.univ_map_equiv_to_embedding (Equiv.uniqueProd (Fin n) (Fin 1)).symm, Finset.fold_map]
  rfl

section Body

variable (i : grid0.Coords) (x : Fin 8 → Vec Ideal S1x8192 .f32) (n : Vec Ideal S1x8192 .i32) (r : Fin 8192) (k : Fin 8)

theorem hz : (![0, 0] : Fin 2 → ℕ) = fun _ => 0 := funext fun a => by fin_cases a <;> rfl

theorem out_eq :
    out0_9 i (x 0) (x 1) (x 2) (x 3) (x 4) (x 5) (x 6) (x 7) n (ix2 r k)
      = entry (fun j => n (ix2 0 j)) (x k (ix2 0 r)) (IntOp.addi (BitVec.ofNat 32 r.val) (IntOp.muli (BitVec.ofNat 32 (i 0).val) 8192#32)) := by
  unfold out0_9
  rw [View.canon_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz]
  fin_cases k
  all_goals
    pointwise [k0_pay1, entry, total]
    rw [one_row fun j => n (ix2 0 j)]
    rfl

end Body

/-! ## The blocks are rows of the array -/

section Arrays

variable (m : (ℓ : Loc nD τ sig) → Buf (Elt Ideal) ℓ) (c : Dev nD) (t : Fin cfg0.N)

/-- The sample that row `r` of grid point `t` is. -/
def sample (r : Fin 8192) : Fin 1048576 := ⟨t.val * 8192 + r.val, by
  have h : t.val < 128 := lt_of_lt_of_le t.isLt (by decide)
  have := r.isLt; omega⟩

/-- Column `k`, as the region finds it. -/
def laid (k : Fin 8) : Vec Ideal S1x1048576 .f32 :=
  match k with
  | 0 => V m c main_v0 | 1 => V m c main_v1 | 2 => V m c main_v2 | 3 => V m c main_v3
  | 4 => V m c main_v4 | 5 => V m c main_v5 | 6 => V m c main_v6 | 7 => V m c main_v7

/-- Column `k`, as launched. -/
def column (k : Fin 8) : FVec Ideal S1048576 .f32 :=
  match k with
  | 0 => m ((c : Thread nD τ).loc main_arg0) | 1 => m ((c : Thread nD τ).loc main_arg1) | 2 => m ((c : Thread nD τ).loc main_arg2)
  | 3 => m ((c : Thread nD τ).loc main_arg3) | 4 => m ((c : Thread nD τ).loc main_arg4) | 5 => m ((c : Thread nD τ).loc main_arg5)
  | 6 => m ((c : Thread nD τ).loc main_arg6) | 7 => m ((c : Thread nD τ).loc main_arg7)

/-- The block of column `k` that grid point `t` reads. -/
def part (k : Fin 8) : Vec Ideal S1x8192 .f32 :=
  match k with
  | 0 => iblk m c 0 t | 1 => iblk m c 1 t | 2 => iblk m c 2 t | 3 => iblk m c 3 t
  | 4 => iblk m c 4 t | 5 => iblk m c 5 t | 6 => iblk m c 6 t | 7 => iblk m c 7 t

/-- Where the blocks lie, each window's index read at every grid point. -/
theorem along : ∀ t : Fin cfg0.N,
    (win0_0.index t (0 : Fin 2) = 0 ∧ win0_0.index t (1 : Fin 2) = t.val) ∧ (win0_1.index t (0 : Fin 2) = 0 ∧ win0_1.index t (1 : Fin 2) = t.val)
      ∧ (win0_2.index t (0 : Fin 2) = 0 ∧ win0_2.index t (1 : Fin 2) = t.val) ∧ (win0_3.index t (0 : Fin 2) = 0 ∧ win0_3.index t (1 : Fin 2) = t.val)
      ∧ (win0_4.index t (0 : Fin 2) = 0 ∧ win0_4.index t (1 : Fin 2) = t.val) ∧ (win0_5.index t (0 : Fin 2) = 0 ∧ win0_5.index t (1 : Fin 2) = t.val)
      ∧ (win0_6.index t (0 : Fin 2) = 0 ∧ win0_6.index t (1 : Fin 2) = t.val) ∧ (win0_7.index t (0 : Fin 2) = 0 ∧ win0_7.index t (1 : Fin 2) = t.val) :=
  (by decide +kernel : ∀ t : Fin grid0.N, _)

theorem still : ∀ t : Fin cfg0.N, win0_8.index t (0 : Fin 2) = 0 ∧ win0_8.index t (1 : Fin 2) = 0 := (by decide +kernel : ∀ t : Fin grid0.N, _)
theorem down : ∀ t : Fin cfg0.N, win0_9.index t (0 : Fin 2) = t.val ∧ win0_9.index t (1 : Fin 2) = 0 := (by decide +kernel : ∀ t : Fin grid0.N, _)
theorem point : ∀ t : Fin cfg0.N, (grid0.coords t 0).val = t.val := (by decide +kernel : ∀ t : Fin grid0.N, _)

/-- Place `r` of block `b` of a row cut into blocks. -/
theorem place {a b : ℕ} (h0 : a = 0) (h1 : b = t.val) (r : Fin 8192) (y : S1x1048576.Idx) (e0 : (y 0).val = a * 1 + 1 * 0) (e1 : (y 1).val = b * 8192 + 1 * r.val) :
    y = ix2 0 (sample t r) := funext fun d => Fin.ext (by
  match d with
  | ⟨0, _⟩ => exact e0.trans (by rw [h0]; rfl)
  | ⟨1, _⟩ => exact e1.trans (by rw [h1, one_mul]; rfl))

theorem part_eq (k : Fin 8) (r : Fin 8192) : part m c t k (ix2 0 r) = laid m c k (ix2 0 (sample t r)) := by
  obtain ⟨a0, a1, a2, a3, a4, a5, a6, a7⟩ := along t
  match k with
  | 0 => exact congrArg (V m c main_v0) (place t a0.1 a0.2 r _ rfl rfl)
  | 1 => exact congrArg (V m c main_v1) (place t a1.1 a1.2 r _ rfl rfl)
  | 2 => exact congrArg (V m c main_v2) (place t a2.1 a2.2 r _ rfl rfl)
  | 3 => exact congrArg (V m c main_v3) (place t a3.1 a3.2 r _ rfl rfl)
  | 4 => exact congrArg (V m c main_v4) (place t a4.1 a4.2 r _ rfl rfl)
  | 5 => exact congrArg (V m c main_v5) (place t a5.1 a5.2 r _ rfl rfl)
  | 6 => exact congrArg (V m c main_v6) (place t a6.1 a6.2 r _ rfl rfl)
  | 7 => exact congrArg (V m c main_v7) (place t a7.1 a7.2 r _ rfl rfl)

theorem counts_eq (j : Fin 8192) : iblk m c 8 t (ix2 0 j : S1x8192.Idx) = V m c main_v8 (ix2 0 j : S1x8192.Idx) := by
  obtain ⟨e0, e1⟩ := still t
  refine congrArg (V m c main_v8) (funext fun a => Fin.ext ?_)
  match a with
  | ⟨0, _⟩ => show win0_8.index t (0 : Fin 2) * 1 + 1 * 0 = 0; omega
  | ⟨1, _⟩ => show win0_8.index t (1 : Fin 2) * 8192 + 1 * j.val = j.val; omega

/-! ## What the host lays out before the region -/

/-- A list laid out as one row. -/
theorem row_eq (x : FVec Ideal S1048576 .f32) (p : Fin 1048576) : shapeCast S1x1048576 x shapeCasts_S1048576_S1x1048576 (ix2 0 p) = x (ix1 p) := by
  pointwise

theorem row_counts (x : IVec S8192 32) (j : Fin 8192) : shapeCast S1x8192 x shapeCasts_S8192_S1x8192 (ix2 0 j) = x (ix1 j) := by
  pointwise

theorem laid_eq (k : Fin 8) (p : Fin 1048576) : laid m c k (ix2 0 p) = column m c k (ix1 p) := by
  refine Eq.trans ?_ (row_eq (column m c k) p)
  match k with
  | 0 | 1 | 2 | 3 | 4 | 5 | 6 | 7 =>
    simp only [laid, column, V]
    after_results
    rfl

theorem counted (j : Fin 8192) : V m c main_v8 (ix2 0 j : S1x8192.Idx) = m ((c : Thread nD τ).loc main_arg8) (ix1 j : S8192.Idx) := by
  have h : V m c main_v8 = shapeCast S1x8192 (m ((c : Thread nD τ).loc main_arg8)) shapeCasts_S8192_S1x8192 := by
    simp only [V]
    after_results
    rfl
  rw [h]
  exact row_counts _ j

/-! ## The result, whole -/

/-- A row's number, from its grid point and its place there. -/
theorem row_number (r : Fin 8192) :
    IntOp.addi (BitVec.ofNat 32 r.val) (IntOp.muli (BitVec.ofNat 32 (grid0.coords t 0).val) 8192#32) = BitVec.ofNat 32 (sample t r).val := by
  rw [point t]
  show BitVec.ofNat 32 r.val + BitVec.ofNat 32 t.val * BitVec.ofNat 32 8192 = BitVec.ofNat 32 (t.val * 8192 + r.val)
  rw [← BitVec.ofNat_mul, ← BitVec.ofNat_add, Nat.add_comm]

theorem emb9 (r : Fin 8192) (k : Fin 8) : ((cfg0.win 9).blk t).view.emb (ix2 r k) = (ix2 (sample t r) k : S1048576x8.Idx) := by
  obtain ⟨e0, e1⟩ := down t
  funext a; apply Fin.ext
  match a with
  | ⟨0, _⟩ => exact (show _ = win0_9.index t (0 : Fin 2) * 8192 + 1 * r.val from rfl).trans (by rw [e0, one_mul]; rfl)
  | ⟨1, _⟩ => show win0_9.index t (1 : Fin 2) * 8 + 1 * k.val = k.val; omega

theorem block9 (r : Fin 8192) (k : Fin 8) (X : Vec Ideal S1048576x8 .f32) :
    ((cfg0.win 9).blk t).view.read (Elt Ideal) X (ix2 r k) = X (ix2 (sample t r) k) :=
  congrArg X (emb9 t r k)

theorem is_row (x : S1048576x8.Idx) : ∃ (t : Fin cfg0.N) (r : Fin 8192), (ix2 (sample t r) (x 1) : S1048576x8.Idx) = x := by
  have h0 : (x 0).val < 1048576 := (x 0).isLt
  refine ⟨⟨(x 0).val / 8192, lt_of_lt_of_le (b := 128) (by omega) (by decide)⟩, ⟨(x 0).val % 8192, Nat.mod_lt _ (by decide)⟩, funext fun a => Fin.ext ?_⟩
  match a with
  | ⟨0, _⟩ => exact Nat.div_add_mod' (x 0).val 8192
  | ⟨1, _⟩ => rfl

theorem final9 : (dats m 0 c).arrAt 9 cfg0.N = packed (column m c) (m ((c : Thread nD τ).loc main_arg8)) := by
  refine (dats m 0 c).arrAt_eq_of_cover 9 _ (fun t _ => ?_) fun x => ?_
  · rw [flushed9]
    funext y
    obtain ⟨r, k, rfl⟩ : ∃ (r : Fin 8192) (k : Fin 8), y = ix2 r k := ⟨y 0, y 1, funext fun a => by
      match a with
      | ⟨0, _⟩ => rfl
      | ⟨1, _⟩ => rfl⟩
    refine (out_eq (grid0.coords t) (part m c t) (iblk m c 8 t) r k).trans ?_
    rw [part_eq, laid_eq, row_number, show (fun j => iblk m c 8 t (ix2 0 j : S1x8192.Idx)) = fun j => m ((c : Thread nD τ).loc main_arg8) (ix1 j : S8192.Idx) from
      funext fun j => (counts_eq m c t j).trans (counted m c j)]
    exact (packed_at (column m c) (m ((c : Thread nD τ).loc main_arg8)) (sample t r) k).symm.trans (block9 t r k _).symm
  · obtain ⟨t, r, e⟩ := is_row x
    exact ⟨t, flush0_9 t, ((emb9 t r (x 1)).trans e) ▸ View.emb_mem_set _ _⟩

end Arrays

end Kernel

end Cert.Proof.Pack

end
-- ==== Proof.Tables.lean ====
module

public import proofs.«01_k».proof.Defs
public import proofs.«01_k».proof.Proof.Gen.Precompute
public import proofs.«01_k».proof.Proof.Gen.Interleave
public import proofs.«01_k».proof.Proof.Gen.PrecomputeIdeal.Frame
public import proofs.«01_k».proof.Proof.Gen.InterleaveIdeal.Frame

/- The frames of the two TensorCore calls read over bits. Each call is printed twice, once for bits and once for the extended
   reals; the second printing taken at bits is the first, its body table label by label, so the frame of the second, proved
   at any float values, is the frame of the first. -/

@[expose] public section

open Idealize Idealize.ShloMosaic

namespace Cert.Proof.Tables

/-- A run, of an equal table of bodies and an equal entry. -/
theorem run_of_eq {nD : Nat} {τ sig} {Val : EltTy → Type} {Λ} {D D' : Defs nD τ sig Val Λ} (h : D = D') {t t'} (ht : t = t') {s Q}
    (x : θ_run D' (onTc t') s Q) : θ_run D (onTc t) s Q := h ▸ ht ▸ x

/-! ## The call before -/

theorem precompute_bodies : Cert.Precompute.defs₀ (F := Bits) = Cert.PrecomputeIdeal.defs₀ (F := Bits) := by
  refine congrArg Defs.onTc ?_
  funext l x
  match l, x with
  | ⟨0, _⟩, (t, s) => rfl

theorem precompute_defs : Cert.Precompute.defs (F := Bits) = Cert.PrecomputeIdeal.defs (F := Bits) :=
  congrArg (Pipeline.defs (Cert.PrecomputeIdeal.pcfgs (F := Bits))) precompute_bodies

set_option maxHeartbeats 4000000 in
theorem precompute_main : Cert.Precompute.main (F := Bits) = Cert.PrecomputeIdeal.main (F := Bits) := (rfl)

theorem frame_precompute : Cert.quiescent_Precompute := fun m ρ _ =>
  run_of_eq precompute_defs precompute_main (Cert.PrecomputeIdeal.Gen.frame (F := Bits) m ρ)

/-! ## The call behind -/

theorem interleave_bodies : Cert.Interleave.defs₀ (F := Bits) = Cert.InterleaveIdeal.defs₀ (F := Bits) := by
  refine congrArg Defs.onTc ?_
  funext l x
  match l, x with
  | ⟨0, _⟩, (t, s) => rfl

theorem interleave_defs : Cert.Interleave.defs (F := Bits) = Cert.InterleaveIdeal.defs (F := Bits) :=
  congrArg (Pipeline.defs (Cert.InterleaveIdeal.pcfgs (F := Bits))) interleave_bodies

theorem interleave_main : Cert.Interleave.main (F := Bits) = Cert.InterleaveIdeal.main (F := Bits) := (rfl)

theorem frame_interleave : Cert.quiescent_Interleave := fun m ρ _ =>
  run_of_eq interleave_defs interleave_main (Cert.InterleaveIdeal.Gen.frame (F := Bits) m ρ)

end Cert.Proof.Tables

end
-- ==== Proof.lean ====
module

public import proofs.«01_k».proof.Defs
public import proofs.«01_k».proof.Proof.Gen.Kernel

public import proofs.«01_k».proof.Proof.Gen.KernelIdeal

public import proofs.«01_k».proof.Proof.Gen.KernelIdeal.Skeleton
public import proofs.«01_k».proof.Proof.Gen.ReferenceIdeal.Run
public import proofs.«01_k».proof.Proof.Gen.Pre_idx_in_grid
public import proofs.«01_k».proof.Proof.Gen.Precompute
public import proofs.«01_k».proof.Proof.Gen.Interleave
public import proofs.«01_k».proof.Proof.Gen.PrecomputeIdeal.Value
public import proofs.«01_k».proof.Proof.Gen.InterleaveIdeal.Value
public import proofs.«01_k».proof.Proof.Gen.MarchIdeal.Run
public import proofs.«01_k».proof.Proof.Gen.PackIdeal.Run
public import proofs.«01_k».proof.Proof.Launch
public import proofs.«01_k».proof.Proof.RefValue
public import proofs.«01_k».proof.Proof.March
public import proofs.«01_k».proof.Proof.Pack
public import proofs.«01_k».proof.Proof.Tables
public import Idealize.ShloMosaic.Adequacy
public import Idealize.ShloMosaic.Init

@[expose] public section

noncomputable section

namespace Cert.Proof

open Idealize.ShloMosaic Idealize.SL.Sem

open Cert.Proof.Lookup (QC InGrid run_main memFacts colsOf offsOf rowsOf countsOf offsCounts entered iLoc tLoc gLoc pLoc sLoc NN valid count before sampleAt valueOf)

/-- The index range, from the precondition's array of ones. -/
theorem in_grid_of_ones {F : FTy → Type} [FloatOps F] (ix : Cert.Pre_idx_in_grid.S8192x128.Idx → BitVec 32) (th : Cert.Pre_idx_in_grid.S8192x128.Idx → F .f32)
    (g : Cert.Pre_idx_in_grid.S2097152.Idx → F .f32) (pr : Cert.Pre_idx_in_grid.S8192x8.Idx → F .f32) (st : Cert.Pre_idx_in_grid.S8192x128.Idx → F .f32)
    (h : Cert.Pre_idx_in_grid.fn (F := F) ix th g pr st = fun _ => 1#1) (x : Cert.Pre_idx_in_grid.S8192x128.Idx) : (ix x).toNat < 2097152 := by
  have key : ∀ v : BitVec 32, IntOp.andi (IntOp.cmpi .sge v 0#32) (IntOp.cmpi .slt v 2097152#32) = 1#1 → v.toNat < 2097152 := by
    intro v e
    have hb : (BitVec.ofBool ((0#32).sle v) &&& BitVec.ofBool (v.slt 2097152#32)) = 1#1 := e
    have hc : (0#32).sle v = true ∧ v.slt 2097152#32 = true := by
      revert hb
      generalize (0#32).sle v = p
      generalize v.slt 2097152#32 = q
      revert p q
      decide
    rw [BitVec.sle_eq_decide, BitVec.slt_eq_decide, decide_eq_true_eq, decide_eq_true_eq, BitVec.toInt_eq_toNat_cond, BitVec.toInt_eq_toNat_cond, BitVec.toInt_eq_toNat_cond] at hc
    simp only [BitVec.toNat_ofNat, Nat.reducePow, Nat.reduceMod] at hc
    omega
  exact key _ (congrFun h x)

section Facts

variable {F : FTy → Type} [FloatOps F] (m : (ℓ : Loc Cert.KernelIdeal.nD Cert.KernelIdeal.τ Cert.KernelIdeal.sig) → Buf (Elt F) ℓ) (d : Dev Cert.KernelIdeal.nD)
  (M : (ℓ : Loc Cert.KernelIdeal.nD Cert.KernelIdeal.τ Cert.KernelIdeal.sig) → Buf (Elt F) ℓ)

open Cert.KernelIdeal in
/-- The five arguments end unchanged. -/
theorem args_kept (h : memFacts m d M) :
    M ((SparseCore.T d).loc main_arg0) = m ((SparseCore.T d).loc main_arg0) ∧ M ((SparseCore.T d).loc main_arg1) = m ((SparseCore.T d).loc main_arg1)
      ∧ M ((SparseCore.T d).loc main_arg2) = m ((SparseCore.T d).loc main_arg2)
      ∧ M ((SparseCore.T d).loc main_arg3) = m ((SparseCore.T d).loc main_arg3) ∧ M ((SparseCore.T d).loc main_arg4) = m ((SparseCore.T d).loc main_arg4) := by
  obtain ⟨h0, h1, h2, h3, h4, -⟩ := h
  exact ⟨h0, h1, h2, h3, h4⟩

open Cert.KernelIdeal in
/-- The ten results and the five arguments at the end. -/
theorem results (h : memFacts m d M) :
    M ((SparseCore.T d).loc main_v5_0) = colsOf (entered m) d 0 ∧ M ((SparseCore.T d).loc main_v5_1) = colsOf (entered m) d 1
      ∧ M ((SparseCore.T d).loc main_v5_2) = colsOf (entered m) d 2 ∧ M ((SparseCore.T d).loc main_v5_3) = colsOf (entered m) d 3
      ∧ M ((SparseCore.T d).loc main_v5_4) = colsOf (entered m) d 4 ∧ M ((SparseCore.T d).loc main_v5_5) = colsOf (entered m) d 5
      ∧ M ((SparseCore.T d).loc main_v5_6) = colsOf (entered m) d 6 ∧ M ((SparseCore.T d).loc main_v5_7) = colsOf (entered m) d 7
      ∧ M ((SparseCore.T d).loc main_v8) = offsCounts (offsOf (entered m) d) (rowsOf (entered m) d) ∧ M ((SparseCore.T d).loc main_v2_1) = countsOf (entered m) d
      ∧ M ((SparseCore.T d).loc main_arg0) = m ((SparseCore.T d).loc main_arg0) ∧ M ((SparseCore.T d).loc main_arg1) = m ((SparseCore.T d).loc main_arg1)
      ∧ M ((SparseCore.T d).loc main_arg2) = m ((SparseCore.T d).loc main_arg2)
      ∧ M ((SparseCore.T d).loc main_arg3) = m ((SparseCore.T d).loc main_arg3) ∧ M ((SparseCore.T d).loc main_arg4) = m ((SparseCore.T d).loc main_arg4) := by
  obtain ⟨h0, h1, h2, h3, h4, c0, c1, c2, c3, c4, c5, c6, c7, p, n⟩ := h
  exact ⟨c0, c1, c2, c3, c4, c5, c6, c7, p, n, h0, h1, h2, h3, h4⟩

open Cert.KernelIdeal Cert.KernelIdeal.Gen

/-- The arguments as the flat lists the calls work on: cells, thresholds, parameters and starts. -/
abbrev flatI : S1048576.Idx → BitVec 32 := shapeCast S1048576 (m ((SparseCore.T d).loc main_arg0)) shapeCasts_S8192x128_S1048576
abbrev flatT : S1048576.Idx → F .f32 := shapeCast S1048576 (m ((SparseCore.T d).loc main_arg1)) shapeCasts_S8192x128_S1048576
abbrev flatP : S65536.Idx → F .f32 := shapeCast S65536 (m ((SparseCore.T d).loc main_arg3)) shapeCasts_S8192x8_S65536
abbrev flatS : S1048576.Idx → F .f32 := shapeCast S1048576 (m ((SparseCore.T d).loc main_arg4)) shapeCasts_S8192x128_S1048576
abbrev grid : S2097152.Idx → F .f32 := m (gLoc d)

theorem entered_g : entered m (gLoc d) = m (gLoc d) := Lookup.entered_ne m d (by decide) (by decide) (by decide) (by decide)

/-- The marks and the counts, from the arguments. -/
theorem valid_flat : valid (F := F) (entered m (iLoc d)) (entered m (tLoc d)) (entered m (gLoc d)) = valid (flatI m d) (flatT m d) (grid m d) := by
  rw [Lookup.entered_i, Lookup.entered_t, entered_g]
theorem count_flat : count (F := F) (entered m (iLoc d)) (entered m (tLoc d)) (entered m (gLoc d)) = count (flatI m d) (flatT m d) (grid m d) := by
  rw [Lookup.entered_i, Lookup.entered_t, entered_g]

theorem cols_flat (k : Fin 8) : colsOf (entered m) d k
    = fun y : S1048576.Idx => valueOf (flatP m d) (flatS m d) k (sampleAt (valid (flatI m d) (flatT m d) (grid m d)) (y 0).val) := by
  have e : colsOf (entered m) d k = fun y : S1048576.Idx => valueOf (entered m (pLoc d)) (entered m (sLoc d)) k
      (sampleAt (valid (F := F) (entered m (iLoc d)) (entered m (tLoc d)) (entered m (gLoc d))) (y 0).val) := rfl
  rw [e, valid_flat, Lookup.entered_p, Lookup.entered_s]
theorem offs_flat : offsOf (entered m) d = fun x : S8192.Idx => before (valid (flatI m d) (flatT m d) (grid m d)) (128 * (x 0).val) := by
  have e : offsOf (entered m) d = fun x : S8192.Idx => before (valid (F := F) (entered m (iLoc d)) (entered m (tLoc d)) (entered m (gLoc d))) (128 * (x 0).val) := rfl
  rw [e, valid_flat]
theorem rows_flat : rowsOf (entered m) d = fun x : S8192.Idx => count (flatI m d) (flatT m d) (grid m d) (x 0).val := by
  have e : rowsOf (entered m) d = fun x : S8192.Idx => count (F := F) (entered m (iLoc d)) (entered m (tLoc d)) (entered m (gLoc d)) (x 0).val := rfl
  rw [e, count_flat]
theorem counts_flat : countsOf (entered m) d = fun x : S8192.Idx => count (flatI m d) (flatT m d) (grid m d) (x 0).val := by
  have e : countsOf (entered m) d = fun x : S8192.Idx => count (F := F) (entered m (iLoc d)) (entered m (tLoc d)) (entered m (gLoc d)) (x 0).val := rfl
  rw [e, count_flat]

/-- The flat cells are in range where the argument's are. -/
theorem flat_in_grid (h : ∀ x : S8192x128.Idx, (m ((SparseCore.T d).loc main_arg0) x : BitVec 32).toNat < 2097152) (x : S1048576.Idx) : (flatI m d x).toNat < 2097152 :=
  h _

theorem entered_in_grid (h : ∀ (d : Dev nD) (x : S8192x128.Idx), (m ((SparseCore.T d).loc main_arg0) x : BitVec 32).toNat < 2097152) : InGrid (entered m) := fun d x => by
  rw [Lookup.entered_i]
  exact flat_in_grid m d (h d) x

end Facts

/-- The kernel, read over bits. -/
theorem frame_kernel : Cert.quiescent_Kernel := fun m ρ hp =>
  (θ_run (Cert.KernelIdeal.defs (F := Bits)) _ _).mono (fun _ h => ⟨fun c => args_kept m c _ (h.1 c), h.2⟩)
    (run_main (F := Bits) m ρ (entered_in_grid m fun d x => in_grid_of_ones _ _ _ _ _ (hp d) x))

/-- The kernel, read over the extended reals. -/
theorem frame_ideal : Cert.quiescent_KernelIdeal := fun m ρ hp =>
  (θ_run (Cert.KernelIdeal.defs (F := Ideal)) _ _).mono (fun _ h => ⟨fun c => args_kept m c _ (h.1 c), h.2⟩)
    (run_main (F := Ideal) m ρ (entered_in_grid m fun d x => in_grid_of_ones _ _ _ _ _ (hp d) x))

/-- The reference. -/
theorem frame_reference : Cert.quiescent_ReferenceIdeal := fun m ρ _ =>
  (θ_run Cert.ReferenceIdeal.defs _ _).mono (fun r h => ⟨fun c => (h c).2.2.2.2.2.2.2.2.2.2, sem_eq_zero_of_no_sems (by decide) r.2⟩)
    (Cert.ReferenceIdeal.Value.run (F := Ideal) m ρ)

/-- The reference, from arguments in range. -/
theorem frame_reference_pre : Cert.quiescent_ReferenceIdeal_pre_idx_in_grid := fun m ρ _ => frame_reference m ρ trivial

/-- Equal columns, pairs and counts. -/
theorem algebraic : Cert.algebraic_KernelIdeal_ReferenceIdeal := by
  intro m ρ m' ρ' hp hagree
  have hx : ∀ (d : Dev Cert.KernelIdeal.nD) (x : Cert.KernelIdeal.S8192x128.Idx), (m ((SparseCore.T d).loc Cert.KernelIdeal.main_arg0) x : BitVec 32).toNat < 2097152 :=
    fun d x => in_grid_of_ones _ _ _ _ _ (hp d) x
  refine ⟨fun c => colsOf (entered m) c 0, fun c => colsOf (entered m) c 1, fun c => colsOf (entered m) c 2, fun c => colsOf (entered m) c 3, fun c => colsOf (entered m) c 4,
    fun c => colsOf (entered m) c 5, fun c => colsOf (entered m) c 6, fun c => colsOf (entered m) c 7, fun c => offsCounts (offsOf (entered m) c) (rowsOf (entered m) c),
    fun c => countsOf (entered m) c,
    (θ_run Cert.KernelIdeal.defs _ _).mono (fun _ h c => results m c _ (h.1 c)) (run_main (F := Ideal) m ρ (entered_in_grid m hx)), ?_⟩
  refine (θ_run Cert.ReferenceIdeal.defs _ _).mono (fun _ h c => ?_) (Cert.ReferenceIdeal.Value.run (F := Ideal) m' ρ')
  obtain ⟨c0, c1, c2, c3, c4, c5, c6, c7, o, n, hargs⟩ := h c
  obtain ⟨a0, a1, a2, a3, a4⟩ := hagree c
  rw [a0, a1, a2, a3] at c0 c1 c2 c3 c4 c5
  rw [a0, a1, a2, a4] at c6
  rw [a0, a1, a2, a3, a4] at c7
  rw [a0, a1, a2] at o n
  have hi := flat_in_grid m c (hx c)
  have h8 := Cert.KernelIdeal.Gen.shapeCasts_S8192x8_S65536
  have e0 := c0.trans ((RefValue.paramR_eq (flatI m c) (flatT m c) (grid m c) _ h8 (flatS m c) hi 0 (by decide) _).trans (cols_flat m c 0).symm)
  have e1 := c1.trans ((RefValue.paramR_eq (flatI m c) (flatT m c) (grid m c) _ h8 (flatS m c) hi 1 (by decide) _).trans (cols_flat m c 1).symm)
  have e2 := c2.trans ((RefValue.paramR_eq (flatI m c) (flatT m c) (grid m c) _ h8 (flatS m c) hi 2 (by decide) _).trans (cols_flat m c 2).symm)
  have e3 := c3.trans ((RefValue.paramR_eq (flatI m c) (flatT m c) (grid m c) _ h8 (flatS m c) hi 3 (by decide) _).trans (cols_flat m c 3).symm)
  have e4 := c4.trans ((RefValue.paramR_eq (flatI m c) (flatT m c) (grid m c) _ h8 (flatS m c) hi 4 (by decide) _).trans (cols_flat m c 4).symm)
  have e5 := c5.trans ((RefValue.paramR_eq (flatI m c) (flatT m c) (grid m c) _ h8 (flatS m c) hi 5 (by decide) _).trans (cols_flat m c 5).symm)
  have e6 := c6.trans ((RefValue.startR_eq (flatI m c) (flatT m c) (grid m c) (flatP m c) _ hi).trans (cols_flat m c 6).symm)
  have e7 := c7.trans ((RefValue.endR_eq (flatI m c) (flatT m c) (grid m c) _ h8 (flatS m c) hi _).trans (cols_flat m c 7).symm)
  have eo := o.trans (RefValue.pairsR_eq (flatI m c) (flatT m c) (grid m c) _ _ (RefValue.offsetsR_eq _ _ _ hi) (RefValue.countsR_eq _ _ _ hi))
  rw [← offs_flat m c, ← rows_flat m c] at eo
  have en := n.trans ((RefValue.countsR_eq _ _ _ hi).trans (counts_flat m c).symm)
  exact ⟨e0, e1, e2, e3, e4, e5, e6, e7, eo, en, hargs⟩

/-! ## The call before -/

theorem frame_precompute : Cert.quiescent_Precompute := Tables.frame_precompute

theorem frame_precompute_ideal : Cert.quiescent_PrecomputeIdeal := fun m ρ _ => Cert.PrecomputeIdeal.Gen.frame (F := Ideal) m ρ

theorem frame_march : Cert.quiescent_MarchIdeal := fun m ρ _ =>
  (θ_run Cert.MarchIdeal.defs _ _).mono (fun r h => ⟨fun c => (h c).2.2.2.2.2.2, sem_eq_zero_of_no_sems (by decide) r.2⟩)
    (Cert.MarchIdeal.Value.run (F := Ideal) m ρ)

/-- A column, from the number of each ray. -/
theorem column_eq (x : FVec Ideal Cert.MarchIdeal.S8192 .f32) (f : Fin 8192 → Ideal .f32) (h : ∀ r, x (ix1 r) = f r) :
    broadcastInDim Cert.MarchIdeal.S8192x1 ![0] Cert.MarchIdeal.Gen.bcast_S8192_S8192x1_0 x = fun y => f (y 0) := by
  funext y
  refine Eq.trans ?_ (h (y 0))
  exact congrArg x (funext fun a => by match a with | ⟨0, _⟩ => rfl)

/-- Equal entries, exits, parameters, cells, thresholds and starts. -/
theorem algebraic_march : Cert.algebraic_PrecomputeIdeal_MarchIdeal := by
  intro m ρ m' ρ' _ hagree
  refine ⟨fun c x => Ray.tlo (Ray.row3 (March.O m c) (x 0)) (Ray.row3 (March.D m c) (x 0)) (Ray.row3 (March.B m c) 0) (Ray.row3 (March.B m c) 1),
    fun c x => Ray.thi (Ray.row3 (March.O m c) (x 0)) (Ray.row3 (March.D m c) (x 0)) (Ray.row3 (March.B m c) 0) (Ray.row3 (March.B m c) 1),
    fun c => Ray.paramR (March.O m c) (March.D m c) (March.B m c), fun c => Ray.numberR (March.O m c) (March.D m c) (March.B m c),
    fun c => Ray.boundR (March.O m c) (March.D m c) (March.B m c) (March.M m c), fun c => Ray.startR (March.O m c) (March.D m c) (March.B m c),
    (θ_run Cert.PrecomputeIdeal.defs _ _).mono (fun _ h c => ?_) (Cert.PrecomputeIdeal.Value.run_blocks (F := Ideal) m ρ), ?_⟩
  · obtain ⟨h4, h5, h6, h7, h8, h9, hargs⟩ := h c
    exact ⟨h4.trans (March.final4 m c), h5.trans (March.final5 m c), h6.trans (March.final6 m c), h7.trans (March.final7 m c),
      h8.trans (March.final8 m c), h9.trans (March.final9 m c), hargs⟩
  refine (θ_run Cert.MarchIdeal.defs _ _).mono (fun _ h c => ?_) (Cert.MarchIdeal.Value.run (F := Ideal) m' ρ')
  obtain ⟨c0, c1, c2, c3, c4, c5, hargs⟩ := h c
  obtain ⟨a0, a1, a2, a3⟩ := hagree c
  refine ⟨c0.trans ?_, c1.trans ?_, c2.trans ((Ray.res2 m' c).trans ?_), c3.trans ((Ray.res3 m' c).trans ?_), c4.trans ((Ray.res4 m' c).trans ?_),
    c5.trans ((Ray.res5 m' c).trans ?_), hargs⟩
  · rw [a0, a1, a2]
    exact column_eq _ _ (Ray.tloR_apply (March.O m c) (March.D m c) (March.B m c))
  · rw [a0, a1, a2]
    exact column_eq _ _ (Ray.thiR_apply (March.O m c) (March.D m c) (March.B m c))
  · rw [a0, a1, a2]
  · rw [a0, a1, a2]
  · rw [a0, a1, a2, a3]
  · rw [a0, a1, a2]

/-! ## The call behind -/

theorem frame_interleave : Cert.quiescent_Interleave := Tables.frame_interleave

theorem frame_interleave_ideal : Cert.quiescent_InterleaveIdeal := fun m ρ _ => Cert.InterleaveIdeal.Gen.frame (F := Ideal) m ρ

theorem frame_pack : Cert.quiescent_PackIdeal := fun m ρ _ =>
  (θ_run Cert.PackIdeal.defs _ _).mono (fun r h => ⟨fun c => (h c).2, sem_eq_zero_of_no_sems (by decide) r.2⟩)
    (Cert.PackIdeal.Value.run (F := Ideal) m ρ)

/-- Equal rows of samples. -/
theorem algebraic_pack : Cert.algebraic_InterleaveIdeal_PackIdeal := by
  intro m ρ m' ρ' _ hagree
  refine ⟨fun c => Pack.packed (Pack.column m c) (m ((c.tc : Thread Cert.InterleaveIdeal.nD Cert.InterleaveIdeal.τ).loc Cert.InterleaveIdeal.main_arg8)),
    (θ_run Cert.InterleaveIdeal.defs _ _).mono (fun _ h c => ⟨(h c).1.trans (Pack.final9 m c), (h c).2⟩) (Cert.InterleaveIdeal.Value.run_blocks (F := Ideal) m ρ), ?_⟩
  refine (θ_run Cert.PackIdeal.defs _ _).mono (fun _ h c => ?_) (Cert.PackIdeal.Value.run (F := Ideal) m' ρ')
  obtain ⟨e, hargs⟩ := h c
  obtain ⟨a0, a1, a2, a3, a4, a5, a6, a7, a8⟩ := hagree c
  refine ⟨e.trans ?_, hargs⟩
  rw [a0, a1, a2, a3, a4, a5, a6, a7, a8]
  exact Pack.packR_eq (Pack.column m c) (m ((c.tc : Thread Cert.InterleaveIdeal.nD Cert.InterleaveIdeal.τ).loc Cert.InterleaveIdeal.main_arg8))

theorem claim : Cert.Claim := ⟨Cert.Kernel.Gen.facts, Cert.KernelIdeal.Gen.facts, Cert.ReferenceIdeal.Gen.facts, Cert.Precompute.Gen.facts,
  Cert.PrecomputeIdeal.Gen.facts, Cert.MarchIdeal.Gen.facts, Cert.Interleave.Gen.facts, Cert.InterleaveIdeal.Gen.facts, Cert.PackIdeal.Gen.facts, Cert.Pre_idx_in_grid.Gen.facts,
  frame_kernel, frame_ideal, frame_reference, frame_reference_pre, frame_precompute, frame_precompute_ideal, frame_march, frame_interleave, frame_interleave_ideal, frame_pack,
  trivial, algebraic, trivial, algebraic_march, trivial, algebraic_pack⟩

end Cert.Proof

end
